-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5x384x32x128 : Shape := ⟨4, ![5, 384, 32, 128]⟩
abbrev S5x384x768 : Shape := ⟨3, ![5, 384, 768]⟩
abbrev S5x384x6 : Shape := ⟨3, ![5, 384, 6]⟩
abbrev S768x32x128 : Shape := ⟨3, ![768, 32, 128]⟩
abbrev S6x32 : Shape := ⟨2, ![6, 32]⟩
abbrev S5x6x384 : Shape := ⟨3, ![5, 6, 384]⟩
abbrev S2x384x32x128 : Shape := ⟨4, ![2, 384, 32, 128]⟩
abbrev S384x32x128 : Shape := ⟨3, ![384, 32, 128]⟩
abbrev S5x32x384x128 : Shape := ⟨4, ![5, 32, 384, 128]⟩
abbrev S2x6x32 : Shape := ⟨3, ![2, 6, 32]⟩
abbrev S2x6x32x128 : Shape := ⟨4, ![2, 6, 32, 128]⟩
abbrev S192x32x128 : Shape := ⟨3, ![192, 32, 128]⟩
abbrev S32x768x128 : Shape := ⟨3, ![32, 768, 128]⟩
abbrev S15x768x128 : Shape := ⟨3, ![15, 768, 128]⟩
abbrev S2x384x768 : Shape := ⟨3, ![2, 384, 768]⟩
abbrev S2x768x8x128 : Shape := ⟨4, ![2, 768, 8, 128]⟩
abbrev S2 : Shape := ⟨1, ![2]⟩
abbrev S_ : Shape := ⟨0, ![]⟩
abbrev S1 : Shape := ⟨1, ![1]⟩
abbrev S1x384x32x128 : Shape := ⟨4, ![1, 384, 32, 128]⟩
abbrev S1x6x32 : Shape := ⟨3, ![1, 6, 32]⟩
abbrev S32x32 : Shape := ⟨2, ![32, 32]⟩
abbrev S1x1x32 : Shape := ⟨3, ![1, 1, 32]⟩
abbrev S1x32 : Shape := ⟨2, ![1, 32]⟩
abbrev S32 : Shape := ⟨1, ![32]⟩
abbrev S32x1 : Shape := ⟨2, ![32, 1]⟩
abbrev S32x128 : Shape := ⟨2, ![32, 128]⟩
abbrev S1x1x32x128 : Shape := ⟨4, ![1, 1, 32, 128]⟩
abbrev S64x32x128 : Shape := ⟨3, ![64, 32, 128]⟩
abbrev S1x32x128 : Shape := ⟨3, ![1, 32, 128]⟩
abbrev S64x1x128 : Shape := ⟨3, ![64, 1, 128]⟩
abbrev S64x128 : Shape := ⟨2, ![64, 128]⟩
abbrev S1x64x128 : Shape := ⟨3, ![1, 64, 128]⟩
abbrev S384x1x128 : Shape := ⟨3, ![384, 1, 128]⟩
abbrev S384x128 : Shape := ⟨2, ![384, 128]⟩
abbrev S1x1x384x128 : Shape := ⟨4, ![1, 1, 384, 128]⟩
abbrev S384x4096 : Shape := ⟨2, ![384, 4096]⟩
abbrev S1x768x128 : Shape := ⟨3, ![1, 768, 128]⟩
abbrev S768x128 : Shape := ⟨2, ![768, 128]⟩
abbrev S768x4096 : Shape := ⟨2, ![768, 4096]⟩
abbrev S384x768 : Shape := ⟨2, ![384, 768]⟩
abbrev S1x384x768 : Shape := ⟨3, ![1, 384, 768]⟩
abbrev S1x128x768 : Shape := ⟨3, ![1, 128, 768]⟩
abbrev S128x768 : Shape := ⟨2, ![128, 768]⟩
abbrev S1x1x128 : Shape := ⟨3, ![1, 1, 128]⟩
abbrev S1x128 : Shape := ⟨2, ![1, 128]⟩
abbrev S128x128 : Shape := ⟨2, ![128, 128]⟩
abbrev S1x128x128 : Shape := ⟨3, ![1, 128, 128]⟩
abbrev S768x8x128 : Shape := ⟨3, ![768, 8, 128]⟩
abbrev S1x768x8x128 : Shape := ⟨4, ![1, 768, 8, 128]⟩
abbrev S768x1920 : Shape := ⟨2, ![768, 1920]⟩
abbrev S384x256 : Shape := ⟨2, ![384, 256]⟩
abbrev S1920x256 : Shape := ⟨2, ![1920, 256]⟩
abbrev S768x256 : Shape := ⟨2, ![768, 256]⟩
abbrev S6144x128 : Shape := ⟨2, ![6144, 128]⟩

abbrev nBuf : Space → Nat
  | .hbm => 12
  | .vmem => 14
  | .smem => 0
  | _ => 0

abbrev bufTy : (tb : Table) → Fin (tcTables nBuf tb) → BufTy
  | .hbm, ⟨0, _⟩ => ⟨S5x384x32x128, .bf16⟩
  | .hbm, ⟨1, _⟩ => ⟨S5x384x32x128, .bf16⟩
  | .hbm, ⟨2, _⟩ => ⟨S5x384x768, .fp8e4m3⟩
  | .hbm, ⟨3, _⟩ => ⟨S5x384x6, .f32⟩
  | .hbm, ⟨4, _⟩ => ⟨S768x32x128, .fp8e4m3⟩
  | .hbm, ⟨5, _⟩ => ⟨S6x32, .f32⟩
  | .hbm, ⟨6, _⟩ => ⟨S768x32x128, .fp8e4m3⟩
  | .hbm, ⟨7, _⟩ => ⟨S6x32, .f32⟩
  | .hbm, ⟨8, _⟩ => ⟨S5x6x384, .f32⟩
  | .hbm, ⟨9, _⟩ => ⟨S5x384x768, .bf16⟩
  | .hbm, ⟨10, _⟩ => ⟨S768x32x128, .f32⟩
  | .hbm, ⟨11, _⟩ => ⟨S768x32x128, .f32⟩
  | .local _ .vmem, ⟨0, _⟩ => ⟨S2x384x32x128, .bf16⟩
  | .local _ .vmem, ⟨1, _⟩ => ⟨S384x32x128, .bf16⟩
  | .local _ .vmem, ⟨2, _⟩ => ⟨S5x32x384x128, .bf16⟩
  | .local _ .vmem, ⟨3, _⟩ => ⟨S768x32x128, .fp8e4m3⟩
  | .local _ .vmem, ⟨4, _⟩ => ⟨S2x6x32, .f32⟩
  | .local _ .vmem, ⟨5, _⟩ => ⟨S2x6x32x128, .bf16⟩
  | .local _ .vmem, ⟨6, _⟩ => ⟨S192x32x128, .bf16⟩
  | .local _ .vmem, ⟨7, _⟩ => ⟨S32x768x128, .bf16⟩
  | .local _ .vmem, ⟨8, _⟩ => ⟨S5x384x768, .fp8e4m3⟩
  | .local _ .vmem, ⟨9, _⟩ => ⟨S5x6x384, .f32⟩
  | .local _ .vmem, ⟨10, _⟩ => ⟨S15x768x128, .bf16⟩
  | .local _ .vmem, ⟨11, _⟩ => ⟨S5x384x768, .f32⟩
  | .local _ .vmem, ⟨12, _⟩ => ⟨S2x384x768, .bf16⟩
  | .local _ .vmem, ⟨13, _⟩ => ⟨S2x768x8x128, .f32⟩
  | _, _ => ⟨S5x384x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩

abbrev nD : Nat := 1
abbrev τ : Topo := Topo.v7x

variable {F : FTy → Type} [FloatOps F]

abbrev grid0 : Pipeline.Grid := .none

@[reducible] def k0_t1_loop : Scf.Loop 32 :=
  let c0_i32_159 : BitVec 32 := 0#32
  let c12_i32 : BitVec 32 := 12#32
  let v233 : BitVec 32 := Scalar.addi c0_i32_159 c12_i32
  let c1_i32_160 : BitVec 32 := 1#32
  ⟨c0_i32_159, v233, c1_i32_160⟩
def k0_off1 (k0_t1 : Fin k0_t1_loop.trips) : Fin 4 → Nat :=
  let c0_216 : Index := 0#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let c0_i32_210 : BitVec 32 := 0#32
  let v268 : BitVec 1 := Scalar.cmpi .sgt v266 c0_i32_210
  let v269 : BitVec 32 := Scalar.extui v268
  let c0_i32_211 : BitVec 32 := 0#32
  let v270 : BitVec 1 := Scalar.cmpi .slt v266 c0_i32_211
  let v271 : BitVec 32 := Scalar.extui v270
  let v272 : BitVec 32 := Scalar.subi v269 v271
  let c128_i32 : BitVec 32 := 128#32
  let c0_i32_212 : BitVec 32 := 0#32
  let v273 : BitVec 1 := Scalar.cmpi .sgt c128_i32 c0_i32_212
  let v274 : BitVec 32 := Scalar.extui v273
  let c0_i32_213 : BitVec 32 := 0#32
  let v275 : BitVec 1 := Scalar.cmpi .slt c128_i32 c0_i32_213
  let v276 : BitVec 32 := Scalar.extui v275
  let v277 : BitVec 32 := Scalar.subi v274 v276
  let v278 : BitVec 1 := Scalar.cmpi .ne v272 v277
  let v279 : BitVec 32 := Scalar.remsi v266 c128_i32
  let c0_i32_214 : BitVec 32 := 0#32
  let v280 : BitVec 1 := Scalar.cmpi .ne v279 c0_i32_214
  let v281 : BitVec 1 := Scalar.andi v278 v280
  let v267 : BitVec 32 := Scalar.divsi v266 c128_i32
  let c1_i32_215 : BitVec 32 := 1#32
  let v282 : BitVec 32 := Scalar.subi v267 c1_i32_215
  let v283 : BitVec 32 := Scalar.select v281 v282 v267
  let v284 : Index := Scalar.indexCast v283
  let c0_217 : Index := 0#32
  let c0_218 : Index := 0#32
  ![0, v284.toNat, 0, 0]
def k0_off2 (k0_t1 : Fin k0_t1_loop.trips) : Fin 3 → Nat :=
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v287 : Index := Scalar.indexCast v266
  let c0_219 : Index := 0#32
  let c0_220 : Index := 0#32
  ![v287.toNat, 0, 0]
def k0_off3 (k0_t1 : Fin k0_t1_loop.trips) : Fin 3 → Nat :=
  let c0_230 : Index := 0#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v299 : Index := Scalar.indexCast v266
  let c0_231 : Index := 0#32
  ![0, v299.toNat, 0]
def k0_off4 (k0_t1 : Fin k0_t1_loop.trips) : Fin 3 → Nat :=
  let c1_238 : Index := 1#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v306 : Index := Scalar.indexCast v266
  let c0_239 : Index := 0#32
  ![1, v306.toNat, 0]
def k0_off5 (k0_t1 : Fin k0_t1_loop.trips) : Fin 3 → Nat :=
  let c2_246 : Index := 2#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v313 : Index := Scalar.indexCast v266
  let c0_247 : Index := 0#32
  ![2, v313.toNat, 0]
def k0_off6 (k0_t1 : Fin k0_t1_loop.trips) : Fin 3 → Nat :=
  let c3_254 : Index := 3#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v320 : Index := Scalar.indexCast v266
  let c0_255 : Index := 0#32
  ![3, v320.toNat, 0]
def k0_off7 (k0_t1 : Fin k0_t1_loop.trips) : Fin 3 → Nat :=
  let c4_262 : Index := 4#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v327 : Index := Scalar.indexCast v266
  let c0_263 : Index := 0#32
  ![4, v327.toNat, 0]
def k0_off8 (k0_t1 : Fin k0_t1_loop.trips) : Fin 3 → Nat :=
  let c5_270 : Index := 5#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v334 : Index := Scalar.indexCast v266
  let c0_271 : Index := 0#32
  ![5, v334.toNat, 0]
def k0_off9 (k0_t1 : Fin k0_t1_loop.trips) : Fin 3 → Nat :=
  let c6_277 : Index := 6#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v341 : Index := Scalar.indexCast v266
  let c0_278 : Index := 0#32
  ![6, v341.toNat, 0]
def k0_off10 (k0_t1 : Fin k0_t1_loop.trips) : Fin 3 → Nat :=
  let c7_284 : Index := 7#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v348 : Index := Scalar.indexCast v266
  let c0_285 : Index := 0#32
  ![7, v348.toNat, 0]
def k0_off11 (k0_t1 : Fin k0_t1_loop.trips) : Fin 3 → Nat :=
  let c8_291 : Index := 8#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v355 : Index := Scalar.indexCast v266
  let c0_292 : Index := 0#32
  ![8, v355.toNat, 0]
def k0_off12 (k0_t1 : Fin k0_t1_loop.trips) : Fin 3 → Nat :=
  let c9_298 : Index := 9#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v362 : Index := Scalar.indexCast v266
  let c0_299 : Index := 0#32
  ![9, v362.toNat, 0]
def k0_off13 (k0_t1 : Fin k0_t1_loop.trips) : Fin 3 → Nat :=
  let c10_305 : Index := 10#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v369 : Index := Scalar.indexCast v266
  let c0_306 : Index := 0#32
  ![10, v369.toNat, 0]
def k0_off14 (k0_t1 : Fin k0_t1_loop.trips) : Fin 3 → Nat :=
  let c11_312 : Index := 11#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v376 : Index := Scalar.indexCast v266
  let c0_313 : Index := 0#32
  ![11, v376.toNat, 0]
def k0_off15 (k0_t1 : Fin k0_t1_loop.trips) : Fin 3 → Nat :=
  let c12_319 : Index := 12#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v383 : Index := Scalar.indexCast v266
  let c0_320 : Index := 0#32
  ![12, v383.toNat, 0]
def k0_off16 (k0_t1 : Fin k0_t1_loop.trips) : Fin 3 → Nat :=
  let c13_326 : Index := 13#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v390 : Index := Scalar.indexCast v266
  let c0_327 : Index := 0#32
  ![13, v390.toNat, 0]
def k0_off17 (k0_t1 : Fin k0_t1_loop.trips) : Fin 3 → Nat :=
  let c14_333 : Index := 14#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v397 : Index := Scalar.indexCast v266
  let c0_334 : Index := 0#32
  ![14, v397.toNat, 0]
def k0_off18 (k0_t1 : Fin k0_t1_loop.trips) : Fin 3 → Nat :=
  let c15_340 : Index := 15#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v404 : Index := Scalar.indexCast v266
  let c0_341 : Index := 0#32
  ![15, v404.toNat, 0]
def k0_off19 (k0_t1 : Fin k0_t1_loop.trips) : Fin 3 → Nat :=
  let c16_347 : Index := 16#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v411 : Index := Scalar.indexCast v266
  let c0_348 : Index := 0#32
  ![16, v411.toNat, 0]
def k0_off20 (k0_t1 : Fin k0_t1_loop.trips) : Fin 3 → Nat :=
  let c17_354 : Index := 17#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v418 : Index := Scalar.indexCast v266
  let c0_355 : Index := 0#32
  ![17, v418.toNat, 0]
def k0_off21 (k0_t1 : Fin k0_t1_loop.trips) : Fin 3 → Nat :=
  let c18_361 : Index := 18#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v425 : Index := Scalar.indexCast v266
  let c0_362 : Index := 0#32
  ![18, v425.toNat, 0]
def k0_off22 (k0_t1 : Fin k0_t1_loop.trips) : Fin 3 → Nat :=
  let c19_368 : Index := 19#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v432 : Index := Scalar.indexCast v266
  let c0_369 : Index := 0#32
  ![19, v432.toNat, 0]
def k0_off23 (k0_t1 : Fin k0_t1_loop.trips) : Fin 3 → Nat :=
  let c20_375 : Index := 20#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v439 : Index := Scalar.indexCast v266
  let c0_376 : Index := 0#32
  ![20, v439.toNat, 0]
def k0_off24 (k0_t1 : Fin k0_t1_loop.trips) : Fin 3 → Nat :=
  let c21_382 : Index := 21#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v446 : Index := Scalar.indexCast v266
  let c0_383 : Index := 0#32
  ![21, v446.toNat, 0]
def k0_off25 (k0_t1 : Fin k0_t1_loop.trips) : Fin 3 → Nat :=
  let c22_389 : Index := 22#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v453 : Index := Scalar.indexCast v266
  let c0_390 : Index := 0#32
  ![22, v453.toNat, 0]
def k0_off26 (k0_t1 : Fin k0_t1_loop.trips) : Fin 3 → Nat :=
  let c23_396 : Index := 23#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v460 : Index := Scalar.indexCast v266
  let c0_397 : Index := 0#32
  ![23, v460.toNat, 0]
def k0_off27 (k0_t1 : Fin k0_t1_loop.trips) : Fin 3 → Nat :=
  let c24_403 : Index := 24#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v467 : Index := Scalar.indexCast v266
  let c0_404 : Index := 0#32
  ![24, v467.toNat, 0]
def k0_off28 (k0_t1 : Fin k0_t1_loop.trips) : Fin 3 → Nat :=
  let c25_410 : Index := 25#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v474 : Index := Scalar.indexCast v266
  let c0_411 : Index := 0#32
  ![25, v474.toNat, 0]
def k0_off29 (k0_t1 : Fin k0_t1_loop.trips) : Fin 3 → Nat :=
  let c26_417 : Index := 26#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v481 : Index := Scalar.indexCast v266
  let c0_418 : Index := 0#32
  ![26, v481.toNat, 0]
def k0_off30 (k0_t1 : Fin k0_t1_loop.trips) : Fin 3 → Nat :=
  let c27_424 : Index := 27#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v488 : Index := Scalar.indexCast v266
  let c0_425 : Index := 0#32
  ![27, v488.toNat, 0]
def k0_off31 (k0_t1 : Fin k0_t1_loop.trips) : Fin 3 → Nat :=
  let c28_431 : Index := 28#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v495 : Index := Scalar.indexCast v266
  let c0_432 : Index := 0#32
  ![28, v495.toNat, 0]
def k0_off32 (k0_t1 : Fin k0_t1_loop.trips) : Fin 3 → Nat :=
  let c29_438 : Index := 29#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v502 : Index := Scalar.indexCast v266
  let c0_439 : Index := 0#32
  ![29, v502.toNat, 0]
def k0_off33 (k0_t1 : Fin k0_t1_loop.trips) : Fin 3 → Nat :=
  let c30_445 : Index := 30#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v509 : Index := Scalar.indexCast v266
  let c0_446 : Index := 0#32
  ![30, v509.toNat, 0]
def k0_off34 (k0_t1 : Fin k0_t1_loop.trips) : Fin 3 → Nat :=
  let c31_452 : Index := 31#32
  let c0_i32_209 : BitVec 32 := 0#32
  let c0_i32_159 : BitVec 32 := 0#32
  let c1_i32_160 : BitVec 32 := 1#32
  let arg31 : BitVec 32 := Scf.iv c0_i32_159 c1_i32_160 k0_t1
  let c1_i32_208 : BitVec 32 := 1#32
  let v264 : BitVec 32 := Scalar.muli arg31 c1_i32_208
  let v265 : BitVec 32 := Scalar.addi c0_i32_209 v264
  let c64_i32 : BitVec 32 := 64#32
  let v266 : BitVec 32 := Scalar.muli v265 c64_i32
  let v516 : Index := Scalar.indexCast v266
  let c0_453 : Index := 0#32
  ![31, v516.toNat, 0]
@[reducible] def k0_t2_loop : Scf.Loop 32 :=
  let c0_i32_164 : BitVec 32 := 0#32
  let c5_i32 : BitVec 32 := 5#32
  let v238 : BitVec 32 := Scalar.addi c0_i32_164 c5_i32
  let c1_i32_165 : BitVec 32 := 1#32
  ⟨c0_i32_164, v238, c1_i32_165⟩
def k0_off35 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v280 : Index := Scalar.indexCast v265
  let c0_221 : Index := 0#32
  let c0_222 : Index := 0#32
  let c0_223 : Index := 0#32
  ![v280.toNat, 0, 0, 0]
def k0_off36 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v286 : Index := Scalar.indexCast v265
  let c1_227 : Index := 1#32
  let c0_228 : Index := 0#32
  let c0_229 : Index := 0#32
  ![v286.toNat, 1, 0, 0]
def k0_off37 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v292 : Index := Scalar.indexCast v265
  let c2_233 : Index := 2#32
  let c0_234 : Index := 0#32
  let c0_235 : Index := 0#32
  ![v292.toNat, 2, 0, 0]
def k0_off38 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v298 : Index := Scalar.indexCast v265
  let c3_239 : Index := 3#32
  let c0_240 : Index := 0#32
  let c0_241 : Index := 0#32
  ![v298.toNat, 3, 0, 0]
def k0_off39 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v304 : Index := Scalar.indexCast v265
  let c4_245 : Index := 4#32
  let c0_246 : Index := 0#32
  let c0_247 : Index := 0#32
  ![v304.toNat, 4, 0, 0]
def k0_off40 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v310 : Index := Scalar.indexCast v265
  let c5_251 : Index := 5#32
  let c0_252 : Index := 0#32
  let c0_253 : Index := 0#32
  ![v310.toNat, 5, 0, 0]
def k0_off41 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v316 : Index := Scalar.indexCast v265
  let c6_256 : Index := 6#32
  let c0_257 : Index := 0#32
  let c0_258 : Index := 0#32
  ![v316.toNat, 6, 0, 0]
def k0_off42 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v322 : Index := Scalar.indexCast v265
  let c7_261 : Index := 7#32
  let c0_262 : Index := 0#32
  let c0_263 : Index := 0#32
  ![v322.toNat, 7, 0, 0]
def k0_off43 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v328 : Index := Scalar.indexCast v265
  let c8_266 : Index := 8#32
  let c0_267 : Index := 0#32
  let c0_268 : Index := 0#32
  ![v328.toNat, 8, 0, 0]
def k0_off44 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v334 : Index := Scalar.indexCast v265
  let c9_271 : Index := 9#32
  let c0_272 : Index := 0#32
  let c0_273 : Index := 0#32
  ![v334.toNat, 9, 0, 0]
def k0_off45 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v340 : Index := Scalar.indexCast v265
  let c10_276 : Index := 10#32
  let c0_277 : Index := 0#32
  let c0_278 : Index := 0#32
  ![v340.toNat, 10, 0, 0]
def k0_off46 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v346 : Index := Scalar.indexCast v265
  let c11_281 : Index := 11#32
  let c0_282 : Index := 0#32
  let c0_283 : Index := 0#32
  ![v346.toNat, 11, 0, 0]
def k0_off47 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v352 : Index := Scalar.indexCast v265
  let c12_286 : Index := 12#32
  let c0_287 : Index := 0#32
  let c0_288 : Index := 0#32
  ![v352.toNat, 12, 0, 0]
def k0_off48 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v358 : Index := Scalar.indexCast v265
  let c13_291 : Index := 13#32
  let c0_292 : Index := 0#32
  let c0_293 : Index := 0#32
  ![v358.toNat, 13, 0, 0]
def k0_off49 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v364 : Index := Scalar.indexCast v265
  let c14_296 : Index := 14#32
  let c0_297 : Index := 0#32
  let c0_298 : Index := 0#32
  ![v364.toNat, 14, 0, 0]
def k0_off50 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v370 : Index := Scalar.indexCast v265
  let c15_301 : Index := 15#32
  let c0_302 : Index := 0#32
  let c0_303 : Index := 0#32
  ![v370.toNat, 15, 0, 0]
def k0_off51 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v376 : Index := Scalar.indexCast v265
  let c16_306 : Index := 16#32
  let c0_307 : Index := 0#32
  let c0_308 : Index := 0#32
  ![v376.toNat, 16, 0, 0]
def k0_off52 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v382 : Index := Scalar.indexCast v265
  let c17_311 : Index := 17#32
  let c0_312 : Index := 0#32
  let c0_313 : Index := 0#32
  ![v382.toNat, 17, 0, 0]
def k0_off53 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v388 : Index := Scalar.indexCast v265
  let c18_316 : Index := 18#32
  let c0_317 : Index := 0#32
  let c0_318 : Index := 0#32
  ![v388.toNat, 18, 0, 0]
def k0_off54 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v394 : Index := Scalar.indexCast v265
  let c19_321 : Index := 19#32
  let c0_322 : Index := 0#32
  let c0_323 : Index := 0#32
  ![v394.toNat, 19, 0, 0]
def k0_off55 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v400 : Index := Scalar.indexCast v265
  let c20_326 : Index := 20#32
  let c0_327 : Index := 0#32
  let c0_328 : Index := 0#32
  ![v400.toNat, 20, 0, 0]
def k0_off56 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v406 : Index := Scalar.indexCast v265
  let c21_331 : Index := 21#32
  let c0_332 : Index := 0#32
  let c0_333 : Index := 0#32
  ![v406.toNat, 21, 0, 0]
def k0_off57 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v412 : Index := Scalar.indexCast v265
  let c22_336 : Index := 22#32
  let c0_337 : Index := 0#32
  let c0_338 : Index := 0#32
  ![v412.toNat, 22, 0, 0]
def k0_off58 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v418 : Index := Scalar.indexCast v265
  let c23_341 : Index := 23#32
  let c0_342 : Index := 0#32
  let c0_343 : Index := 0#32
  ![v418.toNat, 23, 0, 0]
def k0_off59 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v424 : Index := Scalar.indexCast v265
  let c24_346 : Index := 24#32
  let c0_347 : Index := 0#32
  let c0_348 : Index := 0#32
  ![v424.toNat, 24, 0, 0]
def k0_off60 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v430 : Index := Scalar.indexCast v265
  let c25_351 : Index := 25#32
  let c0_352 : Index := 0#32
  let c0_353 : Index := 0#32
  ![v430.toNat, 25, 0, 0]
def k0_off61 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v436 : Index := Scalar.indexCast v265
  let c26_356 : Index := 26#32
  let c0_357 : Index := 0#32
  let c0_358 : Index := 0#32
  ![v436.toNat, 26, 0, 0]
def k0_off62 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v442 : Index := Scalar.indexCast v265
  let c27_361 : Index := 27#32
  let c0_362 : Index := 0#32
  let c0_363 : Index := 0#32
  ![v442.toNat, 27, 0, 0]
def k0_off63 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v448 : Index := Scalar.indexCast v265
  let c28_366 : Index := 28#32
  let c0_367 : Index := 0#32
  let c0_368 : Index := 0#32
  ![v448.toNat, 28, 0, 0]
def k0_off64 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v454 : Index := Scalar.indexCast v265
  let c29_371 : Index := 29#32
  let c0_372 : Index := 0#32
  let c0_373 : Index := 0#32
  ![v454.toNat, 29, 0, 0]
def k0_off65 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v460 : Index := Scalar.indexCast v265
  let c30_376 : Index := 30#32
  let c0_377 : Index := 0#32
  let c0_378 : Index := 0#32
  ![v460.toNat, 30, 0, 0]
def k0_off66 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v466 : Index := Scalar.indexCast v265
  let c31_381 : Index := 31#32
  let c0_382 : Index := 0#32
  let c0_383 : Index := 0#32
  ![v466.toNat, 31, 0, 0]
def k0_off67 (k0_t2 : Fin k0_t2_loop.trips) : Fin 1 → Nat :=
  let c0_i32_210 : BitVec 32 := 0#32
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v266 : BitVec 32 := Scalar.addi c0_i32_210 v265
  let c1_i32_211 : BitVec 32 := 1#32
  let v267 : BitVec 32 := Scalar.addi v266 c1_i32_211
  let c2_i32_212 : BitVec 32 := 2#32
  let c0_i32_213 : BitVec 32 := 0#32
  let v268 : BitVec 1 := Scalar.cmpi .eq c2_i32_212 c0_i32_213
  let c1_i32_214 : BitVec 32 := 1#32
  let v269 : BitVec 32 := Scalar.select v268 c1_i32_214 c2_i32_212
  let v270 : BitVec 32 := Scalar.remsi v267 v269
  let c0_i32_216 : BitVec 32 := 0#32
  let v272 : BitVec 1 := Scalar.cmpi .slt v270 c0_i32_216
  let c0_i32_217 : BitVec 32 := 0#32
  let v273 : BitVec 1 := Scalar.cmpi .slt v269 c0_i32_217
  let v274 : BitVec 1 := Scalar.xori v272 v273
  let c0_i32_215 : BitVec 32 := 0#32
  let v271 : BitVec 1 := Scalar.cmpi .ne v270 c0_i32_215
  let v275 : BitVec 1 := Scalar.andi v274 v271
  let v276 : BitVec 32 := Scalar.addi v270 v269
  let v277 : BitVec 32 := Scalar.select v275 v276 v270
  ![v277.toNat]
def k0_off68 (k0_t2 : Fin k0_t2_loop.trips) : Fin 4 → Nat :=
  let c0_i32_210 : BitVec 32 := 0#32
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v266 : BitVec 32 := Scalar.addi c0_i32_210 v265
  let c1_i32_211 : BitVec 32 := 1#32
  let v267 : BitVec 32 := Scalar.addi v266 c1_i32_211
  let c2_i32_212 : BitVec 32 := 2#32
  let c0_i32_213 : BitVec 32 := 0#32
  let v268 : BitVec 1 := Scalar.cmpi .eq c2_i32_212 c0_i32_213
  let c1_i32_214 : BitVec 32 := 1#32
  let v269 : BitVec 32 := Scalar.select v268 c1_i32_214 c2_i32_212
  let v270 : BitVec 32 := Scalar.remsi v267 v269
  let c0_i32_216 : BitVec 32 := 0#32
  let v272 : BitVec 1 := Scalar.cmpi .slt v270 c0_i32_216
  let c0_i32_217 : BitVec 32 := 0#32
  let v273 : BitVec 1 := Scalar.cmpi .slt v269 c0_i32_217
  let v274 : BitVec 1 := Scalar.xori v272 v273
  let c0_i32_215 : BitVec 32 := 0#32
  let v271 : BitVec 1 := Scalar.cmpi .ne v270 c0_i32_215
  let v275 : BitVec 1 := Scalar.andi v274 v271
  let v276 : BitVec 32 := Scalar.addi v270 v269
  let v277 : BitVec 32 := Scalar.select v275 v276 v270
  let c0_i32_385 : BitVec 32 := 0#32
  let c0_i32_386 : BitVec 32 := 0#32
  let c0_i32_387 : BitVec 32 := 0#32
  ![v277.toNat, 0, 0, 0]
def k0_off69 (k0_t2 : Fin k0_t2_loop.trips) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v639 : Index := Scalar.indexCast v265
  let c0_584 : Index := 0#32
  let c0_585 : Index := 0#32
  ![v639.toNat, 0, 0]
def k0_off70 (k0_t2 : Fin k0_t2_loop.trips) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v643 : Index := Scalar.indexCast v265
  let c0_586 : Index := 0#32
  let c0_587 : Index := 0#32
  ![v643.toNat, 0, 0]
def k0_off71 (k0_t2 : Fin k0_t2_loop.trips) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v648 : Index := Scalar.indexCast v265
  let c0_588 : Index := 0#32
  let c0_589 : Index := 0#32
  ![v648.toNat, 0, 0]
def k0_off72 (k0_t2 : Fin k0_t2_loop.trips) (c0_i32_590 : BitVec 32) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let c3_i32 : BitVec 32 := 3#32
  let v655 : BitVec 32 := Scalar.muli v265 c3_i32
  let v656 : BitVec 32 := Scalar.addi v655 c0_i32_590
  let v657 : Index := Scalar.indexCast v656
  let c0_591 : Index := 0#32
  let c0_592 : Index := 0#32
  ![v657.toNat, 0, 0]
def k0_off73 (k0_t2 : Fin k0_t2_loop.trips) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v661 : Index := Scalar.indexCast v265
  let c1_593 : Index := 1#32
  let c0_594 : Index := 0#32
  ![v661.toNat, 1, 0]
def k0_off74 (k0_t2 : Fin k0_t2_loop.trips) (c0_i32_596 : BitVec 32) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let c3_i32_595 : BitVec 32 := 3#32
  let v668 : BitVec 32 := Scalar.muli v265 c3_i32_595
  let v669 : BitVec 32 := Scalar.addi v668 c0_i32_596
  let v670 : Index := Scalar.indexCast v669
  let c128 : Index := 128#32
  let c0_597 : Index := 0#32
  ![v670.toNat, 128, 0]
def k0_off75 (k0_t2 : Fin k0_t2_loop.trips) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v674 : Index := Scalar.indexCast v265
  let c2_598 : Index := 2#32
  let c0_599 : Index := 0#32
  ![v674.toNat, 2, 0]
def k0_off76 (k0_t2 : Fin k0_t2_loop.trips) (c0_i32_601 : BitVec 32) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let c3_i32_600 : BitVec 32 := 3#32
  let v681 : BitVec 32 := Scalar.muli v265 c3_i32_600
  let v682 : BitVec 32 := Scalar.addi v681 c0_i32_601
  let v683 : Index := Scalar.indexCast v682
  let c256 : Index := 256#32
  let c0_602 : Index := 0#32
  ![v683.toNat, 256, 0]
def k0_off77 (k0_t2 : Fin k0_t2_loop.trips) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v687 : Index := Scalar.indexCast v265
  let c3_603 : Index := 3#32
  let c0_604 : Index := 0#32
  ![v687.toNat, 3, 0]
def k0_off78 (k0_t2 : Fin k0_t2_loop.trips) (c0_i32_606 : BitVec 32) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let c3_i32_605 : BitVec 32 := 3#32
  let v694 : BitVec 32 := Scalar.muli v265 c3_i32_605
  let v695 : BitVec 32 := Scalar.addi v694 c0_i32_606
  let v696 : Index := Scalar.indexCast v695
  let c384 : Index := 384#32
  let c0_607 : Index := 0#32
  ![v696.toNat, 384, 0]
def k0_off79 (k0_t2 : Fin k0_t2_loop.trips) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v700 : Index := Scalar.indexCast v265
  let c4_608 : Index := 4#32
  let c0_609 : Index := 0#32
  ![v700.toNat, 4, 0]
def k0_off80 (k0_t2 : Fin k0_t2_loop.trips) (c0_i32_611 : BitVec 32) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let c3_i32_610 : BitVec 32 := 3#32
  let v707 : BitVec 32 := Scalar.muli v265 c3_i32_610
  let v708 : BitVec 32 := Scalar.addi v707 c0_i32_611
  let v709 : Index := Scalar.indexCast v708
  let c512 : Index := 512#32
  let c0_612 : Index := 0#32
  ![v709.toNat, 512, 0]
def k0_off81 (k0_t2 : Fin k0_t2_loop.trips) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v713 : Index := Scalar.indexCast v265
  let c5_613 : Index := 5#32
  let c0_614 : Index := 0#32
  ![v713.toNat, 5, 0]
def k0_off82 (k0_t2 : Fin k0_t2_loop.trips) (c0_i32_616 : BitVec 32) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let c3_i32_615 : BitVec 32 := 3#32
  let v720 : BitVec 32 := Scalar.muli v265 c3_i32_615
  let v721 : BitVec 32 := Scalar.addi v720 c0_i32_616
  let v722 : Index := Scalar.indexCast v721
  let c640 : Index := 640#32
  let c0_617 : Index := 0#32
  ![v722.toNat, 640, 0]
def k0_off83 (k0_t2 : Fin k0_t2_loop.trips) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v726 : Index := Scalar.indexCast v265
  let c128_618 : Index := 128#32
  let c0_619 : Index := 0#32
  ![v726.toNat, 128, 0]
def k0_off84 (k0_t2 : Fin k0_t2_loop.trips) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v731 : Index := Scalar.indexCast v265
  let c0_620 : Index := 0#32
  let c128_621 : Index := 128#32
  ![v731.toNat, 0, 128]
def k0_off85 (k0_t2 : Fin k0_t2_loop.trips) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v744 : Index := Scalar.indexCast v265
  let c1_626 : Index := 1#32
  let c128_627 : Index := 128#32
  ![v744.toNat, 1, 128]
def k0_off86 (k0_t2 : Fin k0_t2_loop.trips) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v757 : Index := Scalar.indexCast v265
  let c2_632 : Index := 2#32
  let c128_633 : Index := 128#32
  ![v757.toNat, 2, 128]
def k0_off87 (k0_t2 : Fin k0_t2_loop.trips) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v770 : Index := Scalar.indexCast v265
  let c3_638 : Index := 3#32
  let c128_639 : Index := 128#32
  ![v770.toNat, 3, 128]
def k0_off88 (k0_t2 : Fin k0_t2_loop.trips) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v783 : Index := Scalar.indexCast v265
  let c4_644 : Index := 4#32
  let c128_645 : Index := 128#32
  ![v783.toNat, 4, 128]
def k0_off89 (k0_t2 : Fin k0_t2_loop.trips) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v796 : Index := Scalar.indexCast v265
  let c5_650 : Index := 5#32
  let c128_651 : Index := 128#32
  ![v796.toNat, 5, 128]
def k0_off90 (k0_t2 : Fin k0_t2_loop.trips) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v809 : Index := Scalar.indexCast v265
  let c256_656 : Index := 256#32
  let c0_657 : Index := 0#32
  ![v809.toNat, 256, 0]
def k0_off91 (k0_t2 : Fin k0_t2_loop.trips) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v814 : Index := Scalar.indexCast v265
  let c0_658 : Index := 0#32
  let c256_659 : Index := 256#32
  ![v814.toNat, 0, 256]
def k0_off92 (k0_t2 : Fin k0_t2_loop.trips) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v827 : Index := Scalar.indexCast v265
  let c1_664 : Index := 1#32
  let c256_665 : Index := 256#32
  ![v827.toNat, 1, 256]
def k0_off93 (k0_t2 : Fin k0_t2_loop.trips) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v840 : Index := Scalar.indexCast v265
  let c2_670 : Index := 2#32
  let c256_671 : Index := 256#32
  ![v840.toNat, 2, 256]
def k0_off94 (k0_t2 : Fin k0_t2_loop.trips) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v853 : Index := Scalar.indexCast v265
  let c3_676 : Index := 3#32
  let c256_677 : Index := 256#32
  ![v853.toNat, 3, 256]
def k0_off95 (k0_t2 : Fin k0_t2_loop.trips) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v866 : Index := Scalar.indexCast v265
  let c4_682 : Index := 4#32
  let c256_683 : Index := 256#32
  ![v866.toNat, 4, 256]
def k0_off96 (k0_t2 : Fin k0_t2_loop.trips) : Fin 3 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v879 : Index := Scalar.indexCast v265
  let c5_688 : Index := 5#32
  let c256_689 : Index := 256#32
  ![v879.toNat, 5, 256]
def k0_off97 (k0_t2 : Fin k0_t2_loop.trips) : Fin 4 → Nat :=
  let c0_i32_210 : BitVec 32 := 0#32
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v266 : BitVec 32 := Scalar.addi c0_i32_210 v265
  let c1_i32_211 : BitVec 32 := 1#32
  let v267 : BitVec 32 := Scalar.addi v266 c1_i32_211
  let c2_i32_212 : BitVec 32 := 2#32
  let c0_i32_213 : BitVec 32 := 0#32
  let v268 : BitVec 1 := Scalar.cmpi .eq c2_i32_212 c0_i32_213
  let c1_i32_214 : BitVec 32 := 1#32
  let v269 : BitVec 32 := Scalar.select v268 c1_i32_214 c2_i32_212
  let v270 : BitVec 32 := Scalar.remsi v267 v269
  let c0_i32_216 : BitVec 32 := 0#32
  let v272 : BitVec 1 := Scalar.cmpi .slt v270 c0_i32_216
  let c0_i32_217 : BitVec 32 := 0#32
  let v273 : BitVec 1 := Scalar.cmpi .slt v269 c0_i32_217
  let v274 : BitVec 1 := Scalar.xori v272 v273
  let c0_i32_215 : BitVec 32 := 0#32
  let v271 : BitVec 1 := Scalar.cmpi .ne v270 c0_i32_215
  let v275 : BitVec 1 := Scalar.andi v274 v271
  let v276 : BitVec 32 := Scalar.addi v270 v269
  let v277 : BitVec 32 := Scalar.select v275 v276 v270
  let v892 : Index := Scalar.indexCast v277
  let c0_694 : Index := 0#32
  let c0_695 : Index := 0#32
  let c0_696 : Index := 0#32
  ![v892.toNat, 0, 0, 0]
def k0_cond1 (k0_t2 : Fin k0_t2_loop.trips) : BitVec 1 :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let c3_i32_700 : BitVec 32 := 3#32
  let v898 : BitVec 32 := Scalar.addi v265 c3_i32_700
  let c5_i32_701 : BitVec 32 := 5#32
  let v899 : BitVec 1 := Scalar.cmpi .slt v898 c5_i32_701
  let v900 : BitVec 32 := Scalar.extui v899
  let c0_i32_702 : BitVec 32 := 0#32
  let v901 : BitVec 1 := Scalar.cmpi .ne v900 c0_i32_702
  v901

def k0_off98 (k0_t2 : Fin k0_t2_loop.trips) : Fin 1 → Nat :=
  let c0_i32_210 : BitVec 32 := 0#32
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v266 : BitVec 32 := Scalar.addi c0_i32_210 v265
  let c1_i32_211 : BitVec 32 := 1#32
  let v267 : BitVec 32 := Scalar.addi v266 c1_i32_211
  let c2_i32_212 : BitVec 32 := 2#32
  let c0_i32_213 : BitVec 32 := 0#32
  let v268 : BitVec 1 := Scalar.cmpi .eq c2_i32_212 c0_i32_213
  let c1_i32_214 : BitVec 32 := 1#32
  let v269 : BitVec 32 := Scalar.select v268 c1_i32_214 c2_i32_212
  let v270 : BitVec 32 := Scalar.remsi v267 v269
  let c0_i32_216 : BitVec 32 := 0#32
  let v272 : BitVec 1 := Scalar.cmpi .slt v270 c0_i32_216
  let c0_i32_217 : BitVec 32 := 0#32
  let v273 : BitVec 1 := Scalar.cmpi .slt v269 c0_i32_217
  let v274 : BitVec 1 := Scalar.xori v272 v273
  let c0_i32_215 : BitVec 32 := 0#32
  let v271 : BitVec 1 := Scalar.cmpi .ne v270 c0_i32_215
  let v275 : BitVec 1 := Scalar.andi v274 v271
  let v276 : BitVec 32 := Scalar.addi v270 v269
  let v277 : BitVec 32 := Scalar.select v275 v276 v270
  ![v277.toNat]
def k0_off99 (k0_t2 : Fin k0_t2_loop.trips) : Fin 4 → Nat :=
  let c0_i32_210 : BitVec 32 := 0#32
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v266 : BitVec 32 := Scalar.addi c0_i32_210 v265
  let c1_i32_211 : BitVec 32 := 1#32
  let v267 : BitVec 32 := Scalar.addi v266 c1_i32_211
  let c2_i32_212 : BitVec 32 := 2#32
  let c0_i32_213 : BitVec 32 := 0#32
  let v268 : BitVec 1 := Scalar.cmpi .eq c2_i32_212 c0_i32_213
  let c1_i32_214 : BitVec 32 := 1#32
  let v269 : BitVec 32 := Scalar.select v268 c1_i32_214 c2_i32_212
  let v270 : BitVec 32 := Scalar.remsi v267 v269
  let c0_i32_216 : BitVec 32 := 0#32
  let v272 : BitVec 1 := Scalar.cmpi .slt v270 c0_i32_216
  let c0_i32_217 : BitVec 32 := 0#32
  let v273 : BitVec 1 := Scalar.cmpi .slt v269 c0_i32_217
  let v274 : BitVec 1 := Scalar.xori v272 v273
  let c0_i32_215 : BitVec 32 := 0#32
  let v271 : BitVec 1 := Scalar.cmpi .ne v270 c0_i32_215
  let v275 : BitVec 1 := Scalar.andi v274 v271
  let v276 : BitVec 32 := Scalar.addi v270 v269
  let v277 : BitVec 32 := Scalar.select v275 v276 v270
  let c0_i32_705 : BitVec 32 := 0#32
  let c0_i32_706 : BitVec 32 := 0#32
  let c0_i32_707 : BitVec 32 := 0#32
  ![v277.toNat, 0, 0, 0]
def k0_off100 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let c3_i32_700 : BitVec 32 := 3#32
  let v898 : BitVec 32 := Scalar.addi v265 c3_i32_700
  let c0_i32_708 : BitVec 32 := 0#32
  let c0_i32_709 : BitVec 32 := 0#32
  let c0_i32_710 : BitVec 32 := 0#32
  ![v898.toNat, 0, 0, 0]
def k0_cond2 (k0_t2 : Fin k0_t2_loop.trips) : BitVec 1 :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let c3_i32_700 : BitVec 32 := 3#32
  let v898 : BitVec 32 := Scalar.addi v265 c3_i32_700
  let c5_i32_703 : BitVec 32 := 5#32
  let v902 : BitVec 1 := Scalar.cmpi .sge v898 c5_i32_703
  let v903 : BitVec 32 := Scalar.extui v902
  let c0_i32_704 : BitVec 32 := 0#32
  let v904 : BitVec 1 := Scalar.cmpi .ne v903 c0_i32_704
  v904

def k0_off101 (k0_t2 : Fin k0_t2_loop.trips) : Fin 1 → Nat :=
  let c0_i32_210 : BitVec 32 := 0#32
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v266 : BitVec 32 := Scalar.addi c0_i32_210 v265
  let c1_i32_211 : BitVec 32 := 1#32
  let v267 : BitVec 32 := Scalar.addi v266 c1_i32_211
  let c2_i32_212 : BitVec 32 := 2#32
  let c0_i32_213 : BitVec 32 := 0#32
  let v268 : BitVec 1 := Scalar.cmpi .eq c2_i32_212 c0_i32_213
  let c1_i32_214 : BitVec 32 := 1#32
  let v269 : BitVec 32 := Scalar.select v268 c1_i32_214 c2_i32_212
  let v270 : BitVec 32 := Scalar.remsi v267 v269
  let c0_i32_216 : BitVec 32 := 0#32
  let v272 : BitVec 1 := Scalar.cmpi .slt v270 c0_i32_216
  let c0_i32_217 : BitVec 32 := 0#32
  let v273 : BitVec 1 := Scalar.cmpi .slt v269 c0_i32_217
  let v274 : BitVec 1 := Scalar.xori v272 v273
  let c0_i32_215 : BitVec 32 := 0#32
  let v271 : BitVec 1 := Scalar.cmpi .ne v270 c0_i32_215
  let v275 : BitVec 1 := Scalar.andi v274 v271
  let v276 : BitVec 32 := Scalar.addi v270 v269
  let v277 : BitVec 32 := Scalar.select v275 v276 v270
  ![v277.toNat]
def k0_off102 (k0_t2 : Fin k0_t2_loop.trips) : Fin 4 → Nat :=
  let c0_i32_210 : BitVec 32 := 0#32
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let v266 : BitVec 32 := Scalar.addi c0_i32_210 v265
  let c1_i32_211 : BitVec 32 := 1#32
  let v267 : BitVec 32 := Scalar.addi v266 c1_i32_211
  let c2_i32_212 : BitVec 32 := 2#32
  let c0_i32_213 : BitVec 32 := 0#32
  let v268 : BitVec 1 := Scalar.cmpi .eq c2_i32_212 c0_i32_213
  let c1_i32_214 : BitVec 32 := 1#32
  let v269 : BitVec 32 := Scalar.select v268 c1_i32_214 c2_i32_212
  let v270 : BitVec 32 := Scalar.remsi v267 v269
  let c0_i32_216 : BitVec 32 := 0#32
  let v272 : BitVec 1 := Scalar.cmpi .slt v270 c0_i32_216
  let c0_i32_217 : BitVec 32 := 0#32
  let v273 : BitVec 1 := Scalar.cmpi .slt v269 c0_i32_217
  let v274 : BitVec 1 := Scalar.xori v272 v273
  let c0_i32_215 : BitVec 32 := 0#32
  let v271 : BitVec 1 := Scalar.cmpi .ne v270 c0_i32_215
  let v275 : BitVec 1 := Scalar.andi v274 v271
  let v276 : BitVec 32 := Scalar.addi v270 v269
  let v277 : BitVec 32 := Scalar.select v275 v276 v270
  let c0_i32_706 : BitVec 32 := 0#32
  let c0_i32_707 : BitVec 32 := 0#32
  let c0_i32_708 : BitVec 32 := 0#32
  ![v277.toNat, 0, 0, 0]
def k0_off103 (k0_t2 : Fin k0_t2_loop.trips) : Fin 4 → Nat :=
  let c0_i32_209 : BitVec 32 := 0#32
  let c0_i32_164 : BitVec 32 := 0#32
  let c1_i32_165 : BitVec 32 := 1#32
  let arg31 : BitVec 32 := Scf.iv c0_i32_164 c1_i32_165 k0_t2
  let c1_i32_208 : BitVec 32 := 1#32
  let v264 : BitVec 32 := Scalar.muli arg31 c1_i32_208
  let v265 : BitVec 32 := Scalar.addi c0_i32_209 v264
  let c3_i32_700 : BitVec 32 := 3#32
  let v898 : BitVec 32 := Scalar.addi v265 c3_i32_700
  let c5_i32_705 : BitVec 32 := 5#32
  let v905 : BitVec 32 := Scalar.subi v898 c5_i32_705
  let c0_i32_709 : BitVec 32 := 0#32
  let c0_i32_710 : BitVec 32 := 0#32
  let c0_i32_711 : BitVec 32 := 0#32
  ![v905.toNat, 0, 0, 0]
@[reducible] def k0_t3_loop : Scf.Loop 32 :=
  let c0_i32_167 : BitVec 32 := 0#32
  let c4_i32 : BitVec 32 := 4#32
  let v239 : BitVec 32 := Scalar.addi c0_i32_167 c4_i32
  let c1_i32_168 : BitVec 32 := 1#32
  ⟨c0_i32_167, v239, c1_i32_168⟩
def k0_cond3 (k0_t3 : Fin k0_t3_loop.trips) : BitVec 1 :=
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c2_i32_216 : BitVec 32 := 2#32
  let v276 : BitVec 1 := Scalar.cmpi .sge v265 c2_i32_216
  let v277 : BitVec 32 := Scalar.extui v276
  let c0_i32_217 : BitVec 32 := 0#32
  let v278 : BitVec 1 := Scalar.cmpi .ne v277 c0_i32_217
  v278

def k0_off104 (k0_t3 : Fin k0_t3_loop.trips) : Fin 1 → Nat :=
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c2_i32_210 : BitVec 32 := 2#32
  let c0_i32_211 : BitVec 32 := 0#32
  let v266 : BitVec 1 := Scalar.cmpi .eq c2_i32_210 c0_i32_211
  let c1_i32_212 : BitVec 32 := 1#32
  let v267 : BitVec 32 := Scalar.select v266 c1_i32_212 c2_i32_210
  let v268 : BitVec 32 := Scalar.remsi v265 v267
  let c0_i32_214 : BitVec 32 := 0#32
  let v270 : BitVec 1 := Scalar.cmpi .slt v268 c0_i32_214
  let c0_i32_215 : BitVec 32 := 0#32
  let v271 : BitVec 1 := Scalar.cmpi .slt v267 c0_i32_215
  let v272 : BitVec 1 := Scalar.xori v270 v271
  let c0_i32_213 : BitVec 32 := 0#32
  let v269 : BitVec 1 := Scalar.cmpi .ne v268 c0_i32_213
  let v273 : BitVec 1 := Scalar.andi v272 v269
  let v274 : BitVec 32 := Scalar.addi v268 v267
  let v275 : BitVec 32 := Scalar.select v273 v274 v268
  ![v275.toNat]
def k0_off105 (k0_t3 : Fin k0_t3_loop.trips) : Fin 4 → Nat :=
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c2_i32_210 : BitVec 32 := 2#32
  let c0_i32_211 : BitVec 32 := 0#32
  let v266 : BitVec 1 := Scalar.cmpi .eq c2_i32_210 c0_i32_211
  let c1_i32_212 : BitVec 32 := 1#32
  let v267 : BitVec 32 := Scalar.select v266 c1_i32_212 c2_i32_210
  let v268 : BitVec 32 := Scalar.remsi v265 v267
  let c0_i32_214 : BitVec 32 := 0#32
  let v270 : BitVec 1 := Scalar.cmpi .slt v268 c0_i32_214
  let c0_i32_215 : BitVec 32 := 0#32
  let v271 : BitVec 1 := Scalar.cmpi .slt v267 c0_i32_215
  let v272 : BitVec 1 := Scalar.xori v270 v271
  let c0_i32_213 : BitVec 32 := 0#32
  let v269 : BitVec 1 := Scalar.cmpi .ne v268 c0_i32_213
  let v273 : BitVec 1 := Scalar.andi v272 v269
  let v274 : BitVec 32 := Scalar.addi v268 v267
  let v275 : BitVec 32 := Scalar.select v273 v274 v268
  let c0_i32_1250 : BitVec 32 := 0#32
  let c0_i32_1251 : BitVec 32 := 0#32
  let c0_i32_1252 : BitVec 32 := 0#32
  ![v275.toNat, 0, 0, 0]
def k0_off106 (k0_t3 : Fin k0_t3_loop.trips) (c0_i32_218 : BitVec 32) : Fin 4 → Nat :=
  let c1_225 : Index := 1#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let c0_i32_219 : BitVec 32 := 0#32
  let v282 : BitVec 1 := Scalar.cmpi .sgt v280 c0_i32_219
  let v283 : BitVec 32 := Scalar.extui v282
  let c0_i32_220 : BitVec 32 := 0#32
  let v284 : BitVec 1 := Scalar.cmpi .slt v280 c0_i32_220
  let v285 : BitVec 32 := Scalar.extui v284
  let v286 : BitVec 32 := Scalar.subi v283 v285
  let c128_i32 : BitVec 32 := 128#32
  let c0_i32_221 : BitVec 32 := 0#32
  let v287 : BitVec 1 := Scalar.cmpi .sgt c128_i32 c0_i32_221
  let v288 : BitVec 32 := Scalar.extui v287
  let c0_i32_222 : BitVec 32 := 0#32
  let v289 : BitVec 1 := Scalar.cmpi .slt c128_i32 c0_i32_222
  let v290 : BitVec 32 := Scalar.extui v289
  let v291 : BitVec 32 := Scalar.subi v288 v290
  let v292 : BitVec 1 := Scalar.cmpi .ne v286 v291
  let v293 : BitVec 32 := Scalar.remsi v280 c128_i32
  let c0_i32_223 : BitVec 32 := 0#32
  let v294 : BitVec 1 := Scalar.cmpi .ne v293 c0_i32_223
  let v295 : BitVec 1 := Scalar.andi v292 v294
  let v281 : BitVec 32 := Scalar.divsi v280 c128_i32
  let c1_i32_224 : BitVec 32 := 1#32
  let v296 : BitVec 32 := Scalar.subi v281 c1_i32_224
  let v297 : BitVec 32 := Scalar.select v295 v296 v281
  let v298 : Index := Scalar.indexCast v297
  let c0_226 : Index := 0#32
  let c0_227 : Index := 0#32
  ![1, v298.toNat, 0, 0]
def k0_off107 (k0_t3 : Fin k0_t3_loop.trips) (c0_i32_218 : BitVec 32) : Fin 3 → Nat :=
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v301 : Index := Scalar.indexCast v280
  let c0_228 : Index := 0#32
  let c0_229 : Index := 0#32
  ![v301.toNat, 0, 0]
def k0_off108 (k0_t3 : Fin k0_t3_loop.trips) (c0_i32_218 : BitVec 32) : Fin 3 → Nat :=
  let c0_239 : Index := 0#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v313 : Index := Scalar.indexCast v280
  let c0_240 : Index := 0#32
  ![0, v313.toNat, 0]
def k0_off109 (k0_t3 : Fin k0_t3_loop.trips) (c0_i32_218 : BitVec 32) : Fin 3 → Nat :=
  let c1_247 : Index := 1#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v320 : Index := Scalar.indexCast v280
  let c0_248 : Index := 0#32
  ![1, v320.toNat, 0]
def k0_off110 (k0_t3 : Fin k0_t3_loop.trips) (c0_i32_218 : BitVec 32) : Fin 3 → Nat :=
  let c2_255 : Index := 2#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v327 : Index := Scalar.indexCast v280
  let c0_256 : Index := 0#32
  ![2, v327.toNat, 0]
def k0_off111 (k0_t3 : Fin k0_t3_loop.trips) (c0_i32_218 : BitVec 32) : Fin 3 → Nat :=
  let c3_263 : Index := 3#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v334 : Index := Scalar.indexCast v280
  let c0_264 : Index := 0#32
  ![3, v334.toNat, 0]
def k0_off112 (k0_t3 : Fin k0_t3_loop.trips) (c0_i32_218 : BitVec 32) : Fin 3 → Nat :=
  let c4_271 : Index := 4#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v341 : Index := Scalar.indexCast v280
  let c0_272 : Index := 0#32
  ![4, v341.toNat, 0]
def k0_off113 (k0_t3 : Fin k0_t3_loop.trips) (c0_i32_218 : BitVec 32) : Fin 3 → Nat :=
  let c5_279 : Index := 5#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v348 : Index := Scalar.indexCast v280
  let c0_280 : Index := 0#32
  ![5, v348.toNat, 0]
def k0_off114 (k0_t3 : Fin k0_t3_loop.trips) (c0_i32_218 : BitVec 32) : Fin 3 → Nat :=
  let c6_286 : Index := 6#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v355 : Index := Scalar.indexCast v280
  let c0_287 : Index := 0#32
  ![6, v355.toNat, 0]
def k0_off115 (k0_t3 : Fin k0_t3_loop.trips) (c0_i32_218 : BitVec 32) : Fin 3 → Nat :=
  let c7_293 : Index := 7#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v362 : Index := Scalar.indexCast v280
  let c0_294 : Index := 0#32
  ![7, v362.toNat, 0]
def k0_off116 (k0_t3 : Fin k0_t3_loop.trips) (c0_i32_218 : BitVec 32) : Fin 3 → Nat :=
  let c8_300 : Index := 8#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v369 : Index := Scalar.indexCast v280
  let c0_301 : Index := 0#32
  ![8, v369.toNat, 0]
def k0_off117 (k0_t3 : Fin k0_t3_loop.trips) (c0_i32_218 : BitVec 32) : Fin 3 → Nat :=
  let c9_307 : Index := 9#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v376 : Index := Scalar.indexCast v280
  let c0_308 : Index := 0#32
  ![9, v376.toNat, 0]
def k0_off118 (k0_t3 : Fin k0_t3_loop.trips) (c0_i32_218 : BitVec 32) : Fin 3 → Nat :=
  let c10_314 : Index := 10#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v383 : Index := Scalar.indexCast v280
  let c0_315 : Index := 0#32
  ![10, v383.toNat, 0]
def k0_off119 (k0_t3 : Fin k0_t3_loop.trips) (c0_i32_218 : BitVec 32) : Fin 3 → Nat :=
  let c11_321 : Index := 11#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v390 : Index := Scalar.indexCast v280
  let c0_322 : Index := 0#32
  ![11, v390.toNat, 0]
def k0_off120 (k0_t3 : Fin k0_t3_loop.trips) (c0_i32_218 : BitVec 32) : Fin 3 → Nat :=
  let c12_328 : Index := 12#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v397 : Index := Scalar.indexCast v280
  let c0_329 : Index := 0#32
  ![12, v397.toNat, 0]
def k0_off121 (k0_t3 : Fin k0_t3_loop.trips) (c0_i32_218 : BitVec 32) : Fin 3 → Nat :=
  let c13_335 : Index := 13#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v404 : Index := Scalar.indexCast v280
  let c0_336 : Index := 0#32
  ![13, v404.toNat, 0]
def k0_off122 (k0_t3 : Fin k0_t3_loop.trips) (c0_i32_218 : BitVec 32) : Fin 3 → Nat :=
  let c14_342 : Index := 14#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v411 : Index := Scalar.indexCast v280
  let c0_343 : Index := 0#32
  ![14, v411.toNat, 0]
def k0_off123 (k0_t3 : Fin k0_t3_loop.trips) (c0_i32_218 : BitVec 32) : Fin 3 → Nat :=
  let c15_349 : Index := 15#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v418 : Index := Scalar.indexCast v280
  let c0_350 : Index := 0#32
  ![15, v418.toNat, 0]
def k0_off124 (k0_t3 : Fin k0_t3_loop.trips) (c0_i32_218 : BitVec 32) : Fin 3 → Nat :=
  let c16_356 : Index := 16#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v425 : Index := Scalar.indexCast v280
  let c0_357 : Index := 0#32
  ![16, v425.toNat, 0]
def k0_off125 (k0_t3 : Fin k0_t3_loop.trips) (c0_i32_218 : BitVec 32) : Fin 3 → Nat :=
  let c17_363 : Index := 17#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v432 : Index := Scalar.indexCast v280
  let c0_364 : Index := 0#32
  ![17, v432.toNat, 0]
def k0_off126 (k0_t3 : Fin k0_t3_loop.trips) (c0_i32_218 : BitVec 32) : Fin 3 → Nat :=
  let c18_370 : Index := 18#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v439 : Index := Scalar.indexCast v280
  let c0_371 : Index := 0#32
  ![18, v439.toNat, 0]
def k0_off127 (k0_t3 : Fin k0_t3_loop.trips) (c0_i32_218 : BitVec 32) : Fin 3 → Nat :=
  let c19_377 : Index := 19#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v446 : Index := Scalar.indexCast v280
  let c0_378 : Index := 0#32
  ![19, v446.toNat, 0]
def k0_off128 (k0_t3 : Fin k0_t3_loop.trips) (c0_i32_218 : BitVec 32) : Fin 3 → Nat :=
  let c20_384 : Index := 20#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v453 : Index := Scalar.indexCast v280
  let c0_385 : Index := 0#32
  ![20, v453.toNat, 0]
def k0_off129 (k0_t3 : Fin k0_t3_loop.trips) (c0_i32_218 : BitVec 32) : Fin 3 → Nat :=
  let c21_391 : Index := 21#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v460 : Index := Scalar.indexCast v280
  let c0_392 : Index := 0#32
  ![21, v460.toNat, 0]
def k0_off130 (k0_t3 : Fin k0_t3_loop.trips) (c0_i32_218 : BitVec 32) : Fin 3 → Nat :=
  let c22_398 : Index := 22#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v467 : Index := Scalar.indexCast v280
  let c0_399 : Index := 0#32
  ![22, v467.toNat, 0]
def k0_off131 (k0_t3 : Fin k0_t3_loop.trips) (c0_i32_218 : BitVec 32) : Fin 3 → Nat :=
  let c23_405 : Index := 23#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v474 : Index := Scalar.indexCast v280
  let c0_406 : Index := 0#32
  ![23, v474.toNat, 0]
def k0_off132 (k0_t3 : Fin k0_t3_loop.trips) (c0_i32_218 : BitVec 32) : Fin 3 → Nat :=
  let c24_412 : Index := 24#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v481 : Index := Scalar.indexCast v280
  let c0_413 : Index := 0#32
  ![24, v481.toNat, 0]
def k0_off133 (k0_t3 : Fin k0_t3_loop.trips) (c0_i32_218 : BitVec 32) : Fin 3 → Nat :=
  let c25_419 : Index := 25#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v488 : Index := Scalar.indexCast v280
  let c0_420 : Index := 0#32
  ![25, v488.toNat, 0]
def k0_off134 (k0_t3 : Fin k0_t3_loop.trips) (c0_i32_218 : BitVec 32) : Fin 3 → Nat :=
  let c26_426 : Index := 26#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v495 : Index := Scalar.indexCast v280
  let c0_427 : Index := 0#32
  ![26, v495.toNat, 0]
def k0_off135 (k0_t3 : Fin k0_t3_loop.trips) (c0_i32_218 : BitVec 32) : Fin 3 → Nat :=
  let c27_433 : Index := 27#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v502 : Index := Scalar.indexCast v280
  let c0_434 : Index := 0#32
  ![27, v502.toNat, 0]
def k0_off136 (k0_t3 : Fin k0_t3_loop.trips) (c0_i32_218 : BitVec 32) : Fin 3 → Nat :=
  let c28_440 : Index := 28#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v509 : Index := Scalar.indexCast v280
  let c0_441 : Index := 0#32
  ![28, v509.toNat, 0]
def k0_off137 (k0_t3 : Fin k0_t3_loop.trips) (c0_i32_218 : BitVec 32) : Fin 3 → Nat :=
  let c29_447 : Index := 29#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v516 : Index := Scalar.indexCast v280
  let c0_448 : Index := 0#32
  ![29, v516.toNat, 0]
def k0_off138 (k0_t3 : Fin k0_t3_loop.trips) (c0_i32_218 : BitVec 32) : Fin 3 → Nat :=
  let c30_454 : Index := 30#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v523 : Index := Scalar.indexCast v280
  let c0_455 : Index := 0#32
  ![30, v523.toNat, 0]
def k0_off139 (k0_t3 : Fin k0_t3_loop.trips) (c0_i32_218 : BitVec 32) : Fin 3 → Nat :=
  let c31_461 : Index := 31#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c192_i32 : BitVec 32 := 192#32
  let v279 : BitVec 32 := Scalar.muli v265 c192_i32
  let v280 : BitVec 32 := Scalar.addi v279 c0_i32_218
  let v530 : Index := Scalar.indexCast v280
  let c0_462 : Index := 0#32
  ![31, v530.toNat, 0]
def k0_off140 (k0_t3 : Fin k0_t3_loop.trips) (c0_i32_1051 : BitVec 32) : Fin 4 → Nat :=
  let c0_1052 : Index := 0#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c8_i32 : BitVec 32 := 8#32
  let v1075 : BitVec 32 := Scalar.muli v265 c8_i32
  let v1076 : BitVec 32 := Scalar.addi v1075 c0_i32_1051
  let v1077 : Index := Scalar.indexCast v1076
  let c0_1053 : Index := 0#32
  let c0_1054 : Index := 0#32
  ![0, v1077.toNat, 0, 0]
def k0_off141 (k0_t3 : Fin k0_t3_loop.trips) (c0_i32_1051 : BitVec 32) : Fin 4 → Nat :=
  let c0_1056 : Index := 0#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c8_i32 : BitVec 32 := 8#32
  let v1075 : BitVec 32 := Scalar.muli v265 c8_i32
  let v1076 : BitVec 32 := Scalar.addi v1075 c0_i32_1051
  let c1_i32_1055 : BitVec 32 := 1#32
  let v1080 : BitVec 32 := Scalar.addi v1076 c1_i32_1055
  let v1081 : Index := Scalar.indexCast v1080
  let c0_1057 : Index := 0#32
  let c0_1058 : Index := 0#32
  ![0, v1081.toNat, 0, 0]
def k0_off142 (k0_t3 : Fin k0_t3_loop.trips) (c0_i32_1051 : BitVec 32) : Fin 4 → Nat :=
  let c1_1059 : Index := 1#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c8_i32 : BitVec 32 := 8#32
  let v1075 : BitVec 32 := Scalar.muli v265 c8_i32
  let v1076 : BitVec 32 := Scalar.addi v1075 c0_i32_1051
  let v1085 : Index := Scalar.indexCast v1076
  let c0_1060 : Index := 0#32
  let c0_1061 : Index := 0#32
  ![1, v1085.toNat, 0, 0]
def k0_off143 (k0_t3 : Fin k0_t3_loop.trips) (c0_i32_1051 : BitVec 32) : Fin 4 → Nat :=
  let c1_1063 : Index := 1#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c8_i32 : BitVec 32 := 8#32
  let v1075 : BitVec 32 := Scalar.muli v265 c8_i32
  let v1076 : BitVec 32 := Scalar.addi v1075 c0_i32_1051
  let c1_i32_1062 : BitVec 32 := 1#32
  let v1088 : BitVec 32 := Scalar.addi v1076 c1_i32_1062
  let v1089 : Index := Scalar.indexCast v1088
  let c0_1064 : Index := 0#32
  let c0_1065 : Index := 0#32
  ![1, v1089.toNat, 0, 0]
def k0_off144 (k0_t3 : Fin k0_t3_loop.trips) (c0_i32_1051 : BitVec 32) : Fin 4 → Nat :=
  let c2_1066 : Index := 2#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c8_i32 : BitVec 32 := 8#32
  let v1075 : BitVec 32 := Scalar.muli v265 c8_i32
  let v1076 : BitVec 32 := Scalar.addi v1075 c0_i32_1051
  let v1093 : Index := Scalar.indexCast v1076
  let c0_1067 : Index := 0#32
  let c0_1068 : Index := 0#32
  ![2, v1093.toNat, 0, 0]
def k0_off145 (k0_t3 : Fin k0_t3_loop.trips) (c0_i32_1051 : BitVec 32) : Fin 4 → Nat :=
  let c2_1070 : Index := 2#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c8_i32 : BitVec 32 := 8#32
  let v1075 : BitVec 32 := Scalar.muli v265 c8_i32
  let v1076 : BitVec 32 := Scalar.addi v1075 c0_i32_1051
  let c1_i32_1069 : BitVec 32 := 1#32
  let v1096 : BitVec 32 := Scalar.addi v1076 c1_i32_1069
  let v1097 : Index := Scalar.indexCast v1096
  let c0_1071 : Index := 0#32
  let c0_1072 : Index := 0#32
  ![2, v1097.toNat, 0, 0]
def k0_off146 (k0_t3 : Fin k0_t3_loop.trips) (c0_i32_1051 : BitVec 32) : Fin 4 → Nat :=
  let c3_1073 : Index := 3#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c8_i32 : BitVec 32 := 8#32
  let v1075 : BitVec 32 := Scalar.muli v265 c8_i32
  let v1076 : BitVec 32 := Scalar.addi v1075 c0_i32_1051
  let v1101 : Index := Scalar.indexCast v1076
  let c0_1074 : Index := 0#32
  let c0_1075 : Index := 0#32
  ![3, v1101.toNat, 0, 0]
def k0_off147 (k0_t3 : Fin k0_t3_loop.trips) (c0_i32_1051 : BitVec 32) : Fin 4 → Nat :=
  let c3_1077 : Index := 3#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c8_i32 : BitVec 32 := 8#32
  let v1075 : BitVec 32 := Scalar.muli v265 c8_i32
  let v1076 : BitVec 32 := Scalar.addi v1075 c0_i32_1051
  let c1_i32_1076 : BitVec 32 := 1#32
  let v1104 : BitVec 32 := Scalar.addi v1076 c1_i32_1076
  let v1105 : Index := Scalar.indexCast v1104
  let c0_1078 : Index := 0#32
  let c0_1079 : Index := 0#32
  ![3, v1105.toNat, 0, 0]
def k0_off148 (k0_t3 : Fin k0_t3_loop.trips) (c0_i32_1051 : BitVec 32) : Fin 4 → Nat :=
  let c4_1080 : Index := 4#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c8_i32 : BitVec 32 := 8#32
  let v1075 : BitVec 32 := Scalar.muli v265 c8_i32
  let v1076 : BitVec 32 := Scalar.addi v1075 c0_i32_1051
  let v1109 : Index := Scalar.indexCast v1076
  let c0_1081 : Index := 0#32
  let c0_1082 : Index := 0#32
  ![4, v1109.toNat, 0, 0]
def k0_off149 (k0_t3 : Fin k0_t3_loop.trips) (c0_i32_1051 : BitVec 32) : Fin 4 → Nat :=
  let c4_1084 : Index := 4#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c8_i32 : BitVec 32 := 8#32
  let v1075 : BitVec 32 := Scalar.muli v265 c8_i32
  let v1076 : BitVec 32 := Scalar.addi v1075 c0_i32_1051
  let c1_i32_1083 : BitVec 32 := 1#32
  let v1112 : BitVec 32 := Scalar.addi v1076 c1_i32_1083
  let v1113 : Index := Scalar.indexCast v1112
  let c0_1085 : Index := 0#32
  let c0_1086 : Index := 0#32
  ![4, v1113.toNat, 0, 0]
def k0_off150 (k0_t3 : Fin k0_t3_loop.trips) : Fin 4 → Nat :=
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c2_i32_210 : BitVec 32 := 2#32
  let c0_i32_211 : BitVec 32 := 0#32
  let v266 : BitVec 1 := Scalar.cmpi .eq c2_i32_210 c0_i32_211
  let c1_i32_212 : BitVec 32 := 1#32
  let v267 : BitVec 32 := Scalar.select v266 c1_i32_212 c2_i32_210
  let v268 : BitVec 32 := Scalar.remsi v265 v267
  let c0_i32_214 : BitVec 32 := 0#32
  let v270 : BitVec 1 := Scalar.cmpi .slt v268 c0_i32_214
  let c0_i32_215 : BitVec 32 := 0#32
  let v271 : BitVec 1 := Scalar.cmpi .slt v267 c0_i32_215
  let v272 : BitVec 1 := Scalar.xori v270 v271
  let c0_i32_213 : BitVec 32 := 0#32
  let v269 : BitVec 1 := Scalar.cmpi .ne v268 c0_i32_213
  let v273 : BitVec 1 := Scalar.andi v272 v269
  let v274 : BitVec 32 := Scalar.addi v268 v267
  let v275 : BitVec 32 := Scalar.select v273 v274 v268
  let c0_i32_1088 : BitVec 32 := 0#32
  let c0_i32_1089 : BitVec 32 := 0#32
  let c0_i32_1090 : BitVec 32 := 0#32
  ![v275.toNat, 0, 0, 0]
def k0_off151 (k0_t3 : Fin k0_t3_loop.trips) : Fin 1 → Nat :=
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c2_i32_210 : BitVec 32 := 2#32
  let c0_i32_211 : BitVec 32 := 0#32
  let v266 : BitVec 1 := Scalar.cmpi .eq c2_i32_210 c0_i32_211
  let c1_i32_212 : BitVec 32 := 1#32
  let v267 : BitVec 32 := Scalar.select v266 c1_i32_212 c2_i32_210
  let v268 : BitVec 32 := Scalar.remsi v265 v267
  let c0_i32_214 : BitVec 32 := 0#32
  let v270 : BitVec 1 := Scalar.cmpi .slt v268 c0_i32_214
  let c0_i32_215 : BitVec 32 := 0#32
  let v271 : BitVec 1 := Scalar.cmpi .slt v267 c0_i32_215
  let v272 : BitVec 1 := Scalar.xori v270 v271
  let c0_i32_213 : BitVec 32 := 0#32
  let v269 : BitVec 1 := Scalar.cmpi .ne v268 c0_i32_213
  let v273 : BitVec 1 := Scalar.andi v272 v269
  let v274 : BitVec 32 := Scalar.addi v268 v267
  let v275 : BitVec 32 := Scalar.select v273 v274 v268
  ![v275.toNat]
def k0_off152 (k0_t3 : Fin k0_t3_loop.trips) : Fin 3 → Nat :=
  let c0_i32_1242 : BitVec 32 := 0#32
  let c0_i32_209 : BitVec 32 := 0#32
  let c0_i32_167 : BitVec 32 := 0#32
  let c1_i32_168 : BitVec 32 := 1#32
  let arg31 : BitVec 32 := Scf.iv c0_i32_167 c1_i32_168 k0_t3
  let c1_i32_208 : BitVec 32 := 1#32
  let v264 : BitVec 32 := Scalar.muli arg31 c1_i32_208
  let v265 : BitVec 32 := Scalar.addi c0_i32_209 v264
  let c8_i32_1241 : BitVec 32 := 8#32
  let v1307 : BitVec 32 := Scalar.muli v265 c8_i32_1241
  let c0_i32_1243 : BitVec 32 := 0#32
  ![0, v1307.toNat, 0]
@[reducible] def k0_t4_loop : Scf.Loop 32 :=
  let c0_i32_170 : BitVec 32 := 0#32
  let c5_i32_171 : BitVec 32 := 5#32
  let v240 : BitVec 32 := Scalar.addi c0_i32_170 c5_i32_171
  let c1_i32_172 : BitVec 32 := 1#32
  ⟨c0_i32_170, v240, c1_i32_172⟩
def k0_off153 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v280 : Index := Scalar.indexCast v265
  let c0_221 : Index := 0#32
  let c0_222 : Index := 0#32
  let c0_223 : Index := 0#32
  ![v280.toNat, 0, 0, 0]
def k0_off154 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v286 : Index := Scalar.indexCast v265
  let c1_227 : Index := 1#32
  let c0_228 : Index := 0#32
  let c0_229 : Index := 0#32
  ![v286.toNat, 1, 0, 0]
def k0_off155 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v292 : Index := Scalar.indexCast v265
  let c2_233 : Index := 2#32
  let c0_234 : Index := 0#32
  let c0_235 : Index := 0#32
  ![v292.toNat, 2, 0, 0]
def k0_off156 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v298 : Index := Scalar.indexCast v265
  let c3_239 : Index := 3#32
  let c0_240 : Index := 0#32
  let c0_241 : Index := 0#32
  ![v298.toNat, 3, 0, 0]
def k0_off157 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v304 : Index := Scalar.indexCast v265
  let c4_245 : Index := 4#32
  let c0_246 : Index := 0#32
  let c0_247 : Index := 0#32
  ![v304.toNat, 4, 0, 0]
def k0_off158 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v310 : Index := Scalar.indexCast v265
  let c5_251 : Index := 5#32
  let c0_252 : Index := 0#32
  let c0_253 : Index := 0#32
  ![v310.toNat, 5, 0, 0]
def k0_off159 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v316 : Index := Scalar.indexCast v265
  let c6_256 : Index := 6#32
  let c0_257 : Index := 0#32
  let c0_258 : Index := 0#32
  ![v316.toNat, 6, 0, 0]
def k0_off160 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v322 : Index := Scalar.indexCast v265
  let c7_261 : Index := 7#32
  let c0_262 : Index := 0#32
  let c0_263 : Index := 0#32
  ![v322.toNat, 7, 0, 0]
def k0_off161 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v328 : Index := Scalar.indexCast v265
  let c8_266 : Index := 8#32
  let c0_267 : Index := 0#32
  let c0_268 : Index := 0#32
  ![v328.toNat, 8, 0, 0]
def k0_off162 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v334 : Index := Scalar.indexCast v265
  let c9_271 : Index := 9#32
  let c0_272 : Index := 0#32
  let c0_273 : Index := 0#32
  ![v334.toNat, 9, 0, 0]
def k0_off163 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v340 : Index := Scalar.indexCast v265
  let c10_276 : Index := 10#32
  let c0_277 : Index := 0#32
  let c0_278 : Index := 0#32
  ![v340.toNat, 10, 0, 0]
def k0_off164 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v346 : Index := Scalar.indexCast v265
  let c11_281 : Index := 11#32
  let c0_282 : Index := 0#32
  let c0_283 : Index := 0#32
  ![v346.toNat, 11, 0, 0]
def k0_off165 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v352 : Index := Scalar.indexCast v265
  let c12_286 : Index := 12#32
  let c0_287 : Index := 0#32
  let c0_288 : Index := 0#32
  ![v352.toNat, 12, 0, 0]
def k0_off166 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v358 : Index := Scalar.indexCast v265
  let c13_291 : Index := 13#32
  let c0_292 : Index := 0#32
  let c0_293 : Index := 0#32
  ![v358.toNat, 13, 0, 0]
def k0_off167 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v364 : Index := Scalar.indexCast v265
  let c14_296 : Index := 14#32
  let c0_297 : Index := 0#32
  let c0_298 : Index := 0#32
  ![v364.toNat, 14, 0, 0]
def k0_off168 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v370 : Index := Scalar.indexCast v265
  let c15_301 : Index := 15#32
  let c0_302 : Index := 0#32
  let c0_303 : Index := 0#32
  ![v370.toNat, 15, 0, 0]
def k0_off169 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v376 : Index := Scalar.indexCast v265
  let c16_306 : Index := 16#32
  let c0_307 : Index := 0#32
  let c0_308 : Index := 0#32
  ![v376.toNat, 16, 0, 0]
def k0_off170 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v382 : Index := Scalar.indexCast v265
  let c17_311 : Index := 17#32
  let c0_312 : Index := 0#32
  let c0_313 : Index := 0#32
  ![v382.toNat, 17, 0, 0]
def k0_off171 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v388 : Index := Scalar.indexCast v265
  let c18_316 : Index := 18#32
  let c0_317 : Index := 0#32
  let c0_318 : Index := 0#32
  ![v388.toNat, 18, 0, 0]
def k0_off172 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v394 : Index := Scalar.indexCast v265
  let c19_321 : Index := 19#32
  let c0_322 : Index := 0#32
  let c0_323 : Index := 0#32
  ![v394.toNat, 19, 0, 0]
def k0_off173 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v400 : Index := Scalar.indexCast v265
  let c20_326 : Index := 20#32
  let c0_327 : Index := 0#32
  let c0_328 : Index := 0#32
  ![v400.toNat, 20, 0, 0]
def k0_off174 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v406 : Index := Scalar.indexCast v265
  let c21_331 : Index := 21#32
  let c0_332 : Index := 0#32
  let c0_333 : Index := 0#32
  ![v406.toNat, 21, 0, 0]
def k0_off175 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v412 : Index := Scalar.indexCast v265
  let c22_336 : Index := 22#32
  let c0_337 : Index := 0#32
  let c0_338 : Index := 0#32
  ![v412.toNat, 22, 0, 0]
def k0_off176 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v418 : Index := Scalar.indexCast v265
  let c23_341 : Index := 23#32
  let c0_342 : Index := 0#32
  let c0_343 : Index := 0#32
  ![v418.toNat, 23, 0, 0]
def k0_off177 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v424 : Index := Scalar.indexCast v265
  let c24_346 : Index := 24#32
  let c0_347 : Index := 0#32
  let c0_348 : Index := 0#32
  ![v424.toNat, 24, 0, 0]
def k0_off178 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v430 : Index := Scalar.indexCast v265
  let c25_351 : Index := 25#32
  let c0_352 : Index := 0#32
  let c0_353 : Index := 0#32
  ![v430.toNat, 25, 0, 0]
def k0_off179 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v436 : Index := Scalar.indexCast v265
  let c26_356 : Index := 26#32
  let c0_357 : Index := 0#32
  let c0_358 : Index := 0#32
  ![v436.toNat, 26, 0, 0]
def k0_off180 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v442 : Index := Scalar.indexCast v265
  let c27_361 : Index := 27#32
  let c0_362 : Index := 0#32
  let c0_363 : Index := 0#32
  ![v442.toNat, 27, 0, 0]
def k0_off181 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v448 : Index := Scalar.indexCast v265
  let c28_366 : Index := 28#32
  let c0_367 : Index := 0#32
  let c0_368 : Index := 0#32
  ![v448.toNat, 28, 0, 0]
def k0_off182 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v454 : Index := Scalar.indexCast v265
  let c29_371 : Index := 29#32
  let c0_372 : Index := 0#32
  let c0_373 : Index := 0#32
  ![v454.toNat, 29, 0, 0]
def k0_off183 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v460 : Index := Scalar.indexCast v265
  let c30_376 : Index := 30#32
  let c0_377 : Index := 0#32
  let c0_378 : Index := 0#32
  ![v460.toNat, 30, 0, 0]
def k0_off184 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v466 : Index := Scalar.indexCast v265
  let c31_381 : Index := 31#32
  let c0_382 : Index := 0#32
  let c0_383 : Index := 0#32
  ![v466.toNat, 31, 0, 0]
def k0_cond4 (k0_t4 : Fin k0_t4_loop.trips) : BitVec 1 :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let c4_i32_384 : BitVec 32 := 4#32
  let v470 : BitVec 1 := Scalar.cmpi .slt v265 c4_i32_384
  let v471 : BitVec 32 := Scalar.extui v470
  let c0_i32_385 : BitVec 32 := 0#32
  let v472 : BitVec 1 := Scalar.cmpi .ne v471 c0_i32_385
  v472

def k0_off185 (k0_t4 : Fin k0_t4_loop.trips) : Fin 1 → Nat :=
  let c5_i32_210 : BitVec 32 := 5#32
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v266 : BitVec 32 := Scalar.addi c5_i32_210 v265
  let c1_i32_211 : BitVec 32 := 1#32
  let v267 : BitVec 32 := Scalar.addi v266 c1_i32_211
  let c2_i32_212 : BitVec 32 := 2#32
  let c0_i32_213 : BitVec 32 := 0#32
  let v268 : BitVec 1 := Scalar.cmpi .eq c2_i32_212 c0_i32_213
  let c1_i32_214 : BitVec 32 := 1#32
  let v269 : BitVec 32 := Scalar.select v268 c1_i32_214 c2_i32_212
  let v270 : BitVec 32 := Scalar.remsi v267 v269
  let c0_i32_216 : BitVec 32 := 0#32
  let v272 : BitVec 1 := Scalar.cmpi .slt v270 c0_i32_216
  let c0_i32_217 : BitVec 32 := 0#32
  let v273 : BitVec 1 := Scalar.cmpi .slt v269 c0_i32_217
  let v274 : BitVec 1 := Scalar.xori v272 v273
  let c0_i32_215 : BitVec 32 := 0#32
  let v271 : BitVec 1 := Scalar.cmpi .ne v270 c0_i32_215
  let v275 : BitVec 1 := Scalar.andi v274 v271
  let v276 : BitVec 32 := Scalar.addi v270 v269
  let v277 : BitVec 32 := Scalar.select v275 v276 v270
  ![v277.toNat]
def k0_off186 (k0_t4 : Fin k0_t4_loop.trips) : Fin 4 → Nat :=
  let c5_i32_210 : BitVec 32 := 5#32
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v266 : BitVec 32 := Scalar.addi c5_i32_210 v265
  let c1_i32_211 : BitVec 32 := 1#32
  let v267 : BitVec 32 := Scalar.addi v266 c1_i32_211
  let c2_i32_212 : BitVec 32 := 2#32
  let c0_i32_213 : BitVec 32 := 0#32
  let v268 : BitVec 1 := Scalar.cmpi .eq c2_i32_212 c0_i32_213
  let c1_i32_214 : BitVec 32 := 1#32
  let v269 : BitVec 32 := Scalar.select v268 c1_i32_214 c2_i32_212
  let v270 : BitVec 32 := Scalar.remsi v267 v269
  let c0_i32_216 : BitVec 32 := 0#32
  let v272 : BitVec 1 := Scalar.cmpi .slt v270 c0_i32_216
  let c0_i32_217 : BitVec 32 := 0#32
  let v273 : BitVec 1 := Scalar.cmpi .slt v269 c0_i32_217
  let v274 : BitVec 1 := Scalar.xori v272 v273
  let c0_i32_215 : BitVec 32 := 0#32
  let v271 : BitVec 1 := Scalar.cmpi .ne v270 c0_i32_215
  let v275 : BitVec 1 := Scalar.andi v274 v271
  let v276 : BitVec 32 := Scalar.addi v270 v269
  let v277 : BitVec 32 := Scalar.select v275 v276 v270
  let c0_i32_606 : BitVec 32 := 0#32
  let c0_i32_607 : BitVec 32 := 0#32
  let c0_i32_608 : BitVec 32 := 0#32
  ![v277.toNat, 0, 0, 0]
def k0_cond5 (k0_t4 : Fin k0_t4_loop.trips) : BitVec 1 :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let c2_i32_386 : BitVec 32 := 2#32
  let v473 : BitVec 1 := Scalar.cmpi .sge v265 c2_i32_386
  let v474 : BitVec 32 := Scalar.extui v473
  let c0_i32_387 : BitVec 32 := 0#32
  let v475 : BitVec 1 := Scalar.cmpi .ne v474 c0_i32_387
  v475

def k0_off187 (k0_t4 : Fin k0_t4_loop.trips) : Fin 1 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let c2_i32_605 : BitVec 32 := 2#32
  let c0_i32_606 : BitVec 32 := 0#32
  let v681 : BitVec 1 := Scalar.cmpi .eq c2_i32_605 c0_i32_606
  let c1_i32_607 : BitVec 32 := 1#32
  let v682 : BitVec 32 := Scalar.select v681 c1_i32_607 c2_i32_605
  let v683 : BitVec 32 := Scalar.remsi v265 v682
  let c0_i32_609 : BitVec 32 := 0#32
  let v685 : BitVec 1 := Scalar.cmpi .slt v683 c0_i32_609
  let c0_i32_610 : BitVec 32 := 0#32
  let v686 : BitVec 1 := Scalar.cmpi .slt v682 c0_i32_610
  let v687 : BitVec 1 := Scalar.xori v685 v686
  let c0_i32_608 : BitVec 32 := 0#32
  let v684 : BitVec 1 := Scalar.cmpi .ne v683 c0_i32_608
  let v688 : BitVec 1 := Scalar.andi v687 v684
  let v689 : BitVec 32 := Scalar.addi v683 v682
  let v690 : BitVec 32 := Scalar.select v688 v689 v683
  ![v690.toNat]
def k0_off188 (k0_t4 : Fin k0_t4_loop.trips) : Fin 3 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let c2_i32_605 : BitVec 32 := 2#32
  let c0_i32_606 : BitVec 32 := 0#32
  let v681 : BitVec 1 := Scalar.cmpi .eq c2_i32_605 c0_i32_606
  let c1_i32_607 : BitVec 32 := 1#32
  let v682 : BitVec 32 := Scalar.select v681 c1_i32_607 c2_i32_605
  let v683 : BitVec 32 := Scalar.remsi v265 v682
  let c0_i32_609 : BitVec 32 := 0#32
  let v685 : BitVec 1 := Scalar.cmpi .slt v683 c0_i32_609
  let c0_i32_610 : BitVec 32 := 0#32
  let v686 : BitVec 1 := Scalar.cmpi .slt v682 c0_i32_610
  let v687 : BitVec 1 := Scalar.xori v685 v686
  let c0_i32_608 : BitVec 32 := 0#32
  let v684 : BitVec 1 := Scalar.cmpi .ne v683 c0_i32_608
  let v688 : BitVec 1 := Scalar.andi v687 v684
  let v689 : BitVec 32 := Scalar.addi v683 v682
  let v690 : BitVec 32 := Scalar.select v688 v689 v683
  let c0_i32_614 : BitVec 32 := 0#32
  let c0_i32_615 : BitVec 32 := 0#32
  ![v690.toNat, 0, 0]
def k0_off189 (k0_t4 : Fin k0_t4_loop.trips) : Fin 3 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v639 : Index := Scalar.indexCast v265
  let c0_581 : Index := 0#32
  let c0_582 : Index := 0#32
  ![v639.toNat, 0, 0]
def k0_off190 (k0_t4 : Fin k0_t4_loop.trips) : Fin 3 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let c2_i32_583 : BitVec 32 := 2#32
  let c0_i32_584 : BitVec 32 := 0#32
  let v644 : BitVec 1 := Scalar.cmpi .eq c2_i32_583 c0_i32_584
  let c1_i32_585 : BitVec 32 := 1#32
  let v645 : BitVec 32 := Scalar.select v644 c1_i32_585 c2_i32_583
  let v646 : BitVec 32 := Scalar.remsi v265 v645
  let c0_i32_587 : BitVec 32 := 0#32
  let v648 : BitVec 1 := Scalar.cmpi .slt v646 c0_i32_587
  let c0_i32_588 : BitVec 32 := 0#32
  let v649 : BitVec 1 := Scalar.cmpi .slt v645 c0_i32_588
  let v650 : BitVec 1 := Scalar.xori v648 v649
  let c0_i32_586 : BitVec 32 := 0#32
  let v647 : BitVec 1 := Scalar.cmpi .ne v646 c0_i32_586
  let v651 : BitVec 1 := Scalar.andi v650 v647
  let v652 : BitVec 32 := Scalar.addi v646 v645
  let v653 : BitVec 32 := Scalar.select v651 v652 v646
  let v654 : Index := Scalar.indexCast v653
  let c0_589 : Index := 0#32
  let c0_590 : Index := 0#32
  ![v654.toNat, 0, 0]
def k0_off191 (k0_t4 : Fin k0_t4_loop.trips) : Fin 1 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let c2_i32_591 : BitVec 32 := 2#32
  let c0_i32_592 : BitVec 32 := 0#32
  let v658 : BitVec 1 := Scalar.cmpi .eq c2_i32_591 c0_i32_592
  let c1_i32_593 : BitVec 32 := 1#32
  let v659 : BitVec 32 := Scalar.select v658 c1_i32_593 c2_i32_591
  let v660 : BitVec 32 := Scalar.remsi v265 v659
  let c0_i32_595 : BitVec 32 := 0#32
  let v662 : BitVec 1 := Scalar.cmpi .slt v660 c0_i32_595
  let c0_i32_596 : BitVec 32 := 0#32
  let v663 : BitVec 1 := Scalar.cmpi .slt v659 c0_i32_596
  let v664 : BitVec 1 := Scalar.xori v662 v663
  let c0_i32_594 : BitVec 32 := 0#32
  let v661 : BitVec 1 := Scalar.cmpi .ne v660 c0_i32_594
  let v665 : BitVec 1 := Scalar.andi v664 v661
  let v666 : BitVec 32 := Scalar.addi v660 v659
  let v667 : BitVec 32 := Scalar.select v665 v666 v660
  ![v667.toNat]
def k0_off192 (k0_t4 : Fin k0_t4_loop.trips) : Fin 3 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let c0_i32_597 : BitVec 32 := 0#32
  let c0_i32_598 : BitVec 32 := 0#32
  ![v265.toNat, 0, 0]
def k0_off193 (k0_t4 : Fin k0_t4_loop.trips) : Fin 3 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let c2_i32_591 : BitVec 32 := 2#32
  let c0_i32_592 : BitVec 32 := 0#32
  let v658 : BitVec 1 := Scalar.cmpi .eq c2_i32_591 c0_i32_592
  let c1_i32_593 : BitVec 32 := 1#32
  let v659 : BitVec 32 := Scalar.select v658 c1_i32_593 c2_i32_591
  let v660 : BitVec 32 := Scalar.remsi v265 v659
  let c0_i32_595 : BitVec 32 := 0#32
  let v662 : BitVec 1 := Scalar.cmpi .slt v660 c0_i32_595
  let c0_i32_596 : BitVec 32 := 0#32
  let v663 : BitVec 1 := Scalar.cmpi .slt v659 c0_i32_596
  let v664 : BitVec 1 := Scalar.xori v662 v663
  let c0_i32_594 : BitVec 32 := 0#32
  let v661 : BitVec 1 := Scalar.cmpi .ne v660 c0_i32_594
  let v665 : BitVec 1 := Scalar.andi v664 v661
  let v666 : BitVec 32 := Scalar.addi v660 v659
  let v667 : BitVec 32 := Scalar.select v665 v666 v660
  let c0_i32_599 : BitVec 32 := 0#32
  let c0_i32_600 : BitVec 32 := 0#32
  ![v667.toNat, 0, 0]
def k0_cond6 (k0_t4 : Fin k0_t4_loop.trips) : BitVec 1 :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let c4_i32_601 : BitVec 32 := 4#32
  let v674 : BitVec 1 := Scalar.cmpi .slt v265 c4_i32_601
  let v675 : BitVec 32 := Scalar.extui v674
  let c0_i32_602 : BitVec 32 := 0#32
  let v676 : BitVec 1 := Scalar.cmpi .ne v675 c0_i32_602
  v676

def k0_off194 (k0_t4 : Fin k0_t4_loop.trips) : Fin 4 → Nat :=
  let c5_i32_210 : BitVec 32 := 5#32
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v266 : BitVec 32 := Scalar.addi c5_i32_210 v265
  let c1_i32_211 : BitVec 32 := 1#32
  let v267 : BitVec 32 := Scalar.addi v266 c1_i32_211
  let c2_i32_212 : BitVec 32 := 2#32
  let c0_i32_213 : BitVec 32 := 0#32
  let v268 : BitVec 1 := Scalar.cmpi .eq c2_i32_212 c0_i32_213
  let c1_i32_214 : BitVec 32 := 1#32
  let v269 : BitVec 32 := Scalar.select v268 c1_i32_214 c2_i32_212
  let v270 : BitVec 32 := Scalar.remsi v267 v269
  let c0_i32_216 : BitVec 32 := 0#32
  let v272 : BitVec 1 := Scalar.cmpi .slt v270 c0_i32_216
  let c0_i32_217 : BitVec 32 := 0#32
  let v273 : BitVec 1 := Scalar.cmpi .slt v269 c0_i32_217
  let v274 : BitVec 1 := Scalar.xori v272 v273
  let c0_i32_215 : BitVec 32 := 0#32
  let v271 : BitVec 1 := Scalar.cmpi .ne v270 c0_i32_215
  let v275 : BitVec 1 := Scalar.andi v274 v271
  let v276 : BitVec 32 := Scalar.addi v270 v269
  let v277 : BitVec 32 := Scalar.select v275 v276 v270
  let v681 : Index := Scalar.indexCast v277
  let c0_605 : Index := 0#32
  let c0_606 : Index := 0#32
  let c0_607 : Index := 0#32
  ![v681.toNat, 0, 0, 0]
def k0_cond7 (k0_t4 : Fin k0_t4_loop.trips) : BitVec 1 :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let c3_i32 : BitVec 32 := 3#32
  let v677 : BitVec 32 := Scalar.addi v265 c3_i32
  let c5_i32_603 : BitVec 32 := 5#32
  let v678 : BitVec 1 := Scalar.cmpi .slt v677 c5_i32_603
  let v679 : BitVec 32 := Scalar.extui v678
  let c0_i32_604 : BitVec 32 := 0#32
  let v680 : BitVec 1 := Scalar.cmpi .ne v679 c0_i32_604
  v680

def k0_off195 (k0_t4 : Fin k0_t4_loop.trips) : Fin 1 → Nat :=
  let c5_i32_210 : BitVec 32 := 5#32
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v266 : BitVec 32 := Scalar.addi c5_i32_210 v265
  let c1_i32_211 : BitVec 32 := 1#32
  let v267 : BitVec 32 := Scalar.addi v266 c1_i32_211
  let c2_i32_212 : BitVec 32 := 2#32
  let c0_i32_213 : BitVec 32 := 0#32
  let v268 : BitVec 1 := Scalar.cmpi .eq c2_i32_212 c0_i32_213
  let c1_i32_214 : BitVec 32 := 1#32
  let v269 : BitVec 32 := Scalar.select v268 c1_i32_214 c2_i32_212
  let v270 : BitVec 32 := Scalar.remsi v267 v269
  let c0_i32_216 : BitVec 32 := 0#32
  let v272 : BitVec 1 := Scalar.cmpi .slt v270 c0_i32_216
  let c0_i32_217 : BitVec 32 := 0#32
  let v273 : BitVec 1 := Scalar.cmpi .slt v269 c0_i32_217
  let v274 : BitVec 1 := Scalar.xori v272 v273
  let c0_i32_215 : BitVec 32 := 0#32
  let v271 : BitVec 1 := Scalar.cmpi .ne v270 c0_i32_215
  let v275 : BitVec 1 := Scalar.andi v274 v271
  let v276 : BitVec 32 := Scalar.addi v270 v269
  let v277 : BitVec 32 := Scalar.select v275 v276 v270
  ![v277.toNat]
def k0_off196 (k0_t4 : Fin k0_t4_loop.trips) : Fin 4 → Nat :=
  let c5_i32_210 : BitVec 32 := 5#32
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let v266 : BitVec 32 := Scalar.addi c5_i32_210 v265
  let c1_i32_211 : BitVec 32 := 1#32
  let v267 : BitVec 32 := Scalar.addi v266 c1_i32_211
  let c2_i32_212 : BitVec 32 := 2#32
  let c0_i32_213 : BitVec 32 := 0#32
  let v268 : BitVec 1 := Scalar.cmpi .eq c2_i32_212 c0_i32_213
  let c1_i32_214 : BitVec 32 := 1#32
  let v269 : BitVec 32 := Scalar.select v268 c1_i32_214 c2_i32_212
  let v270 : BitVec 32 := Scalar.remsi v267 v269
  let c0_i32_216 : BitVec 32 := 0#32
  let v272 : BitVec 1 := Scalar.cmpi .slt v270 c0_i32_216
  let c0_i32_217 : BitVec 32 := 0#32
  let v273 : BitVec 1 := Scalar.cmpi .slt v269 c0_i32_217
  let v274 : BitVec 1 := Scalar.xori v272 v273
  let c0_i32_215 : BitVec 32 := 0#32
  let v271 : BitVec 1 := Scalar.cmpi .ne v270 c0_i32_215
  let v275 : BitVec 1 := Scalar.andi v274 v271
  let v276 : BitVec 32 := Scalar.addi v270 v269
  let v277 : BitVec 32 := Scalar.select v275 v276 v270
  let c0_i32_605 : BitVec 32 := 0#32
  let c0_i32_606 : BitVec 32 := 0#32
  let c0_i32_607 : BitVec 32 := 0#32
  ![v277.toNat, 0, 0, 0]
def k0_off197 (k0_t4 : Fin k0_t4_loop.trips) : Fin 4 → Nat :=
  let c0_i32_209 : BitVec 32 := 0#32
  let c0_i32_170 : BitVec 32 := 0#32
  let c1_i32_172 : BitVec 32 := 1#32
  let arg31 : BitVec 32 := Scf.iv c0_i32_170 c1_i32_172 k0_t4
  let c1_i32_208 : BitVec 32 := 1#32
  let v264 : BitVec 32 := Scalar.muli arg31 c1_i32_208
  let v265 : BitVec 32 := Scalar.addi c0_i32_209 v264
  let c3_i32 : BitVec 32 := 3#32
  let v677 : BitVec 32 := Scalar.addi v265 c3_i32
  let c0_i32_608 : BitVec 32 := 0#32
  let c0_i32_609 : BitVec 32 := 0#32
  let c0_i32_610 : BitVec 32 := 0#32
  ![v677.toNat, 0, 0, 0]
@[reducible] def k0_t5_loop : Scf.Loop 32 :=
  let c0_i32_174 : BitVec 32 := 0#32
  let c4_i32_175 : BitVec 32 := 4#32
  let v241 : BitVec 32 := Scalar.addi c0_i32_174 c4_i32_175
  let c1_i32_176 : BitVec 32 := 1#32
  ⟨c0_i32_174, v241, c1_i32_176⟩
def k0_off198 (k0_t5 : Fin k0_t5_loop.trips) : Fin 1 → Nat :=
  let c0_i32_209 : BitVec 32 := 0#32
  let c0_i32_174 : BitVec 32 := 0#32
  let c1_i32_176 : BitVec 32 := 1#32
  let arg31 : BitVec 32 := Scf.iv c0_i32_174 c1_i32_176 k0_t5
  let c1_i32_208 : BitVec 32 := 1#32
  let v264 : BitVec 32 := Scalar.muli arg31 c1_i32_208
  let v265 : BitVec 32 := Scalar.addi c0_i32_209 v264
  let c2_i32_210 : BitVec 32 := 2#32
  let c0_i32_211 : BitVec 32 := 0#32
  let v266 : BitVec 1 := Scalar.cmpi .eq c2_i32_210 c0_i32_211
  let c1_i32_212 : BitVec 32 := 1#32
  let v267 : BitVec 32 := Scalar.select v266 c1_i32_212 c2_i32_210
  let v268 : BitVec 32 := Scalar.remsi v265 v267
  let c0_i32_214 : BitVec 32 := 0#32
  let v270 : BitVec 1 := Scalar.cmpi .slt v268 c0_i32_214
  let c0_i32_215 : BitVec 32 := 0#32
  let v271 : BitVec 1 := Scalar.cmpi .slt v267 c0_i32_215
  let v272 : BitVec 1 := Scalar.xori v270 v271
  let c0_i32_213 : BitVec 32 := 0#32
  let v269 : BitVec 1 := Scalar.cmpi .ne v268 c0_i32_213
  let v273 : BitVec 1 := Scalar.andi v272 v269
  let v274 : BitVec 32 := Scalar.addi v268 v267
  let v275 : BitVec 32 := Scalar.select v273 v274 v268
  ![v275.toNat]
def k0_off199 (k0_t5 : Fin k0_t5_loop.trips) : Fin 4 → Nat :=
  let c0_i32_209 : BitVec 32 := 0#32
  let c0_i32_174 : BitVec 32 := 0#32
  let c1_i32_176 : BitVec 32 := 1#32
  let arg31 : BitVec 32 := Scf.iv c0_i32_174 c1_i32_176 k0_t5
  let c1_i32_208 : BitVec 32 := 1#32
  let v264 : BitVec 32 := Scalar.muli arg31 c1_i32_208
  let v265 : BitVec 32 := Scalar.addi c0_i32_209 v264
  let c2_i32_210 : BitVec 32 := 2#32
  let c0_i32_211 : BitVec 32 := 0#32
  let v266 : BitVec 1 := Scalar.cmpi .eq c2_i32_210 c0_i32_211
  let c1_i32_212 : BitVec 32 := 1#32
  let v267 : BitVec 32 := Scalar.select v266 c1_i32_212 c2_i32_210
  let v268 : BitVec 32 := Scalar.remsi v265 v267
  let c0_i32_214 : BitVec 32 := 0#32
  let v270 : BitVec 1 := Scalar.cmpi .slt v268 c0_i32_214
  let c0_i32_215 : BitVec 32 := 0#32
  let v271 : BitVec 1 := Scalar.cmpi .slt v267 c0_i32_215
  let v272 : BitVec 1 := Scalar.xori v270 v271
  let c0_i32_213 : BitVec 32 := 0#32
  let v269 : BitVec 1 := Scalar.cmpi .ne v268 c0_i32_213
  let v273 : BitVec 1 := Scalar.andi v272 v269
  let v274 : BitVec 32 := Scalar.addi v268 v267
  let v275 : BitVec 32 := Scalar.select v273 v274 v268
  let c0_i32_219 : BitVec 32 := 0#32
  let c0_i32_220 : BitVec 32 := 0#32
  let c0_i32_221 : BitVec 32 := 0#32
  ![v275.toNat, 0, 0, 0]
def k0_off200 (k0_t5 : Fin k0_t5_loop.trips) (c0_i32_258 : BitVec 32) : Fin 4 → Nat :=
  let c0_259 : Index := 0#32
  let c0_i32_209 : BitVec 32 := 0#32
  let c0_i32_174 : BitVec 32 := 0#32
  let c1_i32_176 : BitVec 32 := 1#32
  let arg31 : BitVec 32 := Scf.iv c0_i32_174 c1_i32_176 k0_t5
  let c1_i32_208 : BitVec 32 := 1#32
  let v264 : BitVec 32 := Scalar.muli arg31 c1_i32_208
  let v265 : BitVec 32 := Scalar.addi c0_i32_209 v264
  let c8_i32 : BitVec 32 := 8#32
  let v312 : BitVec 32 := Scalar.muli v265 c8_i32
  let v313 : BitVec 32 := Scalar.addi v312 c0_i32_258
  let v314 : Index := Scalar.indexCast v313
  let c0_260 : Index := 0#32
  let c0_261 : Index := 0#32
  ![0, v314.toNat, 0, 0]
def k0_off201 (k0_t5 : Fin k0_t5_loop.trips) (c0_i32_258 : BitVec 32) : Fin 4 → Nat :=
  let c0_263 : Index := 0#32
  let c0_i32_209 : BitVec 32 := 0#32
  let c0_i32_174 : BitVec 32 := 0#32
  let c1_i32_176 : BitVec 32 := 1#32
  let arg31 : BitVec 32 := Scf.iv c0_i32_174 c1_i32_176 k0_t5
  let c1_i32_208 : BitVec 32 := 1#32
  let v264 : BitVec 32 := Scalar.muli arg31 c1_i32_208
  let v265 : BitVec 32 := Scalar.addi c0_i32_209 v264
  let c8_i32 : BitVec 32 := 8#32
  let v312 : BitVec 32 := Scalar.muli v265 c8_i32
  let v313 : BitVec 32 := Scalar.addi v312 c0_i32_258
  let c1_i32_262 : BitVec 32 := 1#32
  let v317 : BitVec 32 := Scalar.addi v313 c1_i32_262
  let v318 : Index := Scalar.indexCast v317
  let c0_264 : Index := 0#32
  let c0_265 : Index := 0#32
  ![0, v318.toNat, 0, 0]
def k0_off202 (k0_t5 : Fin k0_t5_loop.trips) (c0_i32_258 : BitVec 32) : Fin 4 → Nat :=
  let c1_266 : Index := 1#32
  let c0_i32_209 : BitVec 32 := 0#32
  let c0_i32_174 : BitVec 32 := 0#32
  let c1_i32_176 : BitVec 32 := 1#32
  let arg31 : BitVec 32 := Scf.iv c0_i32_174 c1_i32_176 k0_t5
  let c1_i32_208 : BitVec 32 := 1#32
  let v264 : BitVec 32 := Scalar.muli arg31 c1_i32_208
  let v265 : BitVec 32 := Scalar.addi c0_i32_209 v264
  let c8_i32 : BitVec 32 := 8#32
  let v312 : BitVec 32 := Scalar.muli v265 c8_i32
  let v313 : BitVec 32 := Scalar.addi v312 c0_i32_258
  let v322 : Index := Scalar.indexCast v313
  let c0_267 : Index := 0#32
  let c0_268 : Index := 0#32
  ![1, v322.toNat, 0, 0]
def k0_off203 (k0_t5 : Fin k0_t5_loop.trips) (c0_i32_258 : BitVec 32) : Fin 4 → Nat :=
  let c1_270 : Index := 1#32
  let c0_i32_209 : BitVec 32 := 0#32
  let c0_i32_174 : BitVec 32 := 0#32
  let c1_i32_176 : BitVec 32 := 1#32
  let arg31 : BitVec 32 := Scf.iv c0_i32_174 c1_i32_176 k0_t5
  let c1_i32_208 : BitVec 32 := 1#32
  let v264 : BitVec 32 := Scalar.muli arg31 c1_i32_208
  let v265 : BitVec 32 := Scalar.addi c0_i32_209 v264
  let c8_i32 : BitVec 32 := 8#32
  let v312 : BitVec 32 := Scalar.muli v265 c8_i32
  let v313 : BitVec 32 := Scalar.addi v312 c0_i32_258
  let c1_i32_269 : BitVec 32 := 1#32
  let v325 : BitVec 32 := Scalar.addi v313 c1_i32_269
  let v326 : Index := Scalar.indexCast v325
  let c0_271 : Index := 0#32
  let c0_272 : Index := 0#32
  ![1, v326.toNat, 0, 0]
def k0_off204 (k0_t5 : Fin k0_t5_loop.trips) (c0_i32_258 : BitVec 32) : Fin 4 → Nat :=
  let c2_273 : Index := 2#32
  let c0_i32_209 : BitVec 32 := 0#32
  let c0_i32_174 : BitVec 32 := 0#32
  let c1_i32_176 : BitVec 32 := 1#32
  let arg31 : BitVec 32 := Scf.iv c0_i32_174 c1_i32_176 k0_t5
  let c1_i32_208 : BitVec 32 := 1#32
  let v264 : BitVec 32 := Scalar.muli arg31 c1_i32_208
  let v265 : BitVec 32 := Scalar.addi c0_i32_209 v264
  let c8_i32 : BitVec 32 := 8#32
  let v312 : BitVec 32 := Scalar.muli v265 c8_i32
  let v313 : BitVec 32 := Scalar.addi v312 c0_i32_258
  let v330 : Index := Scalar.indexCast v313
  let c0_274 : Index := 0#32
  let c0_275 : Index := 0#32
  ![2, v330.toNat, 0, 0]
def k0_off205 (k0_t5 : Fin k0_t5_loop.trips) (c0_i32_258 : BitVec 32) : Fin 4 → Nat :=
  let c2_277 : Index := 2#32
  let c0_i32_209 : BitVec 32 := 0#32
  let c0_i32_174 : BitVec 32 := 0#32
  let c1_i32_176 : BitVec 32 := 1#32
  let arg31 : BitVec 32 := Scf.iv c0_i32_174 c1_i32_176 k0_t5
  let c1_i32_208 : BitVec 32 := 1#32
  let v264 : BitVec 32 := Scalar.muli arg31 c1_i32_208
  let v265 : BitVec 32 := Scalar.addi c0_i32_209 v264
  let c8_i32 : BitVec 32 := 8#32
  let v312 : BitVec 32 := Scalar.muli v265 c8_i32
  let v313 : BitVec 32 := Scalar.addi v312 c0_i32_258
  let c1_i32_276 : BitVec 32 := 1#32
  let v333 : BitVec 32 := Scalar.addi v313 c1_i32_276
  let v334 : Index := Scalar.indexCast v333
  let c0_278 : Index := 0#32
  let c0_279 : Index := 0#32
  ![2, v334.toNat, 0, 0]
def k0_off206 (k0_t5 : Fin k0_t5_loop.trips) (c0_i32_258 : BitVec 32) : Fin 4 → Nat :=
  let c3_280 : Index := 3#32
  let c0_i32_209 : BitVec 32 := 0#32
  let c0_i32_174 : BitVec 32 := 0#32
  let c1_i32_176 : BitVec 32 := 1#32
  let arg31 : BitVec 32 := Scf.iv c0_i32_174 c1_i32_176 k0_t5
  let c1_i32_208 : BitVec 32 := 1#32
  let v264 : BitVec 32 := Scalar.muli arg31 c1_i32_208
  let v265 : BitVec 32 := Scalar.addi c0_i32_209 v264
  let c8_i32 : BitVec 32 := 8#32
  let v312 : BitVec 32 := Scalar.muli v265 c8_i32
  let v313 : BitVec 32 := Scalar.addi v312 c0_i32_258
  let v338 : Index := Scalar.indexCast v313
  let c0_281 : Index := 0#32
  let c0_282 : Index := 0#32
  ![3, v338.toNat, 0, 0]
def k0_off207 (k0_t5 : Fin k0_t5_loop.trips) (c0_i32_258 : BitVec 32) : Fin 4 → Nat :=
  let c3_284 : Index := 3#32
  let c0_i32_209 : BitVec 32 := 0#32
  let c0_i32_174 : BitVec 32 := 0#32
  let c1_i32_176 : BitVec 32 := 1#32
  let arg31 : BitVec 32 := Scf.iv c0_i32_174 c1_i32_176 k0_t5
  let c1_i32_208 : BitVec 32 := 1#32
  let v264 : BitVec 32 := Scalar.muli arg31 c1_i32_208
  let v265 : BitVec 32 := Scalar.addi c0_i32_209 v264
  let c8_i32 : BitVec 32 := 8#32
  let v312 : BitVec 32 := Scalar.muli v265 c8_i32
  let v313 : BitVec 32 := Scalar.addi v312 c0_i32_258
  let c1_i32_283 : BitVec 32 := 1#32
  let v341 : BitVec 32 := Scalar.addi v313 c1_i32_283
  let v342 : Index := Scalar.indexCast v341
  let c0_285 : Index := 0#32
  let c0_286 : Index := 0#32
  ![3, v342.toNat, 0, 0]
def k0_off208 (k0_t5 : Fin k0_t5_loop.trips) (c0_i32_258 : BitVec 32) : Fin 4 → Nat :=
  let c4_287 : Index := 4#32
  let c0_i32_209 : BitVec 32 := 0#32
  let c0_i32_174 : BitVec 32 := 0#32
  let c1_i32_176 : BitVec 32 := 1#32
  let arg31 : BitVec 32 := Scf.iv c0_i32_174 c1_i32_176 k0_t5
  let c1_i32_208 : BitVec 32 := 1#32
  let v264 : BitVec 32 := Scalar.muli arg31 c1_i32_208
  let v265 : BitVec 32 := Scalar.addi c0_i32_209 v264
  let c8_i32 : BitVec 32 := 8#32
  let v312 : BitVec 32 := Scalar.muli v265 c8_i32
  let v313 : BitVec 32 := Scalar.addi v312 c0_i32_258
  let v346 : Index := Scalar.indexCast v313
  let c0_288 : Index := 0#32
  let c0_289 : Index := 0#32
  ![4, v346.toNat, 0, 0]
def k0_off209 (k0_t5 : Fin k0_t5_loop.trips) (c0_i32_258 : BitVec 32) : Fin 4 → Nat :=
  let c4_291 : Index := 4#32
  let c0_i32_209 : BitVec 32 := 0#32
  let c0_i32_174 : BitVec 32 := 0#32
  let c1_i32_176 : BitVec 32 := 1#32
  let arg31 : BitVec 32 := Scf.iv c0_i32_174 c1_i32_176 k0_t5
  let c1_i32_208 : BitVec 32 := 1#32
  let v264 : BitVec 32 := Scalar.muli arg31 c1_i32_208
  let v265 : BitVec 32 := Scalar.addi c0_i32_209 v264
  let c8_i32 : BitVec 32 := 8#32
  let v312 : BitVec 32 := Scalar.muli v265 c8_i32
  let v313 : BitVec 32 := Scalar.addi v312 c0_i32_258
  let c1_i32_290 : BitVec 32 := 1#32
  let v349 : BitVec 32 := Scalar.addi v313 c1_i32_290
  let v350 : Index := Scalar.indexCast v349
  let c0_292 : Index := 0#32
  let c0_293 : Index := 0#32
  ![4, v350.toNat, 0, 0]
def k0_off210 (k0_t5 : Fin k0_t5_loop.trips) : Fin 3 → Nat :=
  let c0_i32_449 : BitVec 32 := 0#32
  let c0_i32_209 : BitVec 32 := 0#32
  let c0_i32_174 : BitVec 32 := 0#32
  let c1_i32_176 : BitVec 32 := 1#32
  let arg31 : BitVec 32 := Scf.iv c0_i32_174 c1_i32_176 k0_t5
  let c1_i32_208 : BitVec 32 := 1#32
  let v264 : BitVec 32 := Scalar.muli arg31 c1_i32_208
  let v265 : BitVec 32 := Scalar.addi c0_i32_209 v264
  let c8_i32_448 : BitVec 32 := 8#32
  let v544 : BitVec 32 := Scalar.muli v265 c8_i32_448
  let c0_i32_450 : BitVec 32 := 0#32
  ![0, v544.toNat, 0]
-- ==== ReferenceIdeal.lean ====
abbrev S5x384x32x128 : Shape := ⟨4, ![5, 384, 32, 128]⟩
abbrev S5x384x768 : Shape := ⟨3, ![5, 384, 768]⟩
abbrev S5x384x6 : Shape := ⟨3, ![5, 384, 6]⟩
abbrev S768x32x128 : Shape := ⟨3, ![768, 32, 128]⟩
abbrev S6x32 : Shape := ⟨2, ![6, 32]⟩
abbrev S5x384x6x128 : Shape := ⟨4, ![5, 384, 6, 128]⟩
abbrev S5x384x6x1 : Shape := ⟨4, ![5, 384, 6, 1]⟩
abbrev S1920x768 : Shape := ⟨2, ![1920, 768]⟩
abbrev S1920x4096 : Shape := ⟨2, ![1920, 4096]⟩
abbrev S768x4096 : Shape := ⟨2, ![768, 4096]⟩
abbrev S6x128x32x128 : Shape := ⟨4, ![6, 128, 32, 128]⟩
abbrev S6x1x32x1 : Shape := ⟨4, ![6, 1, 32, 1]⟩

abbrev nBuf : Space → Nat
  | .hbm => 11
  | .vmem => 11
  | .smem => 0
  | _ => 0

abbrev bufTy : (tb : Table) → Fin (tcTables nBuf tb) → BufTy
  | .hbm, ⟨0, _⟩ => ⟨S5x384x32x128, .bf16⟩
  | .hbm, ⟨1, _⟩ => ⟨S5x384x32x128, .bf16⟩
  | .hbm, ⟨2, _⟩ => ⟨S5x384x768, .fp8e4m3⟩
  | .hbm, ⟨3, _⟩ => ⟨S5x384x6, .f32⟩
  | .hbm, ⟨4, _⟩ => ⟨S768x32x128, .fp8e4m3⟩
  | .hbm, ⟨5, _⟩ => ⟨S6x32, .f32⟩
  | .hbm, ⟨6, _⟩ => ⟨S768x32x128, .fp8e4m3⟩
  | .hbm, ⟨7, _⟩ => ⟨S6x32, .f32⟩
  | .hbm, ⟨8, _⟩ => ⟨S5x384x768, .bf16⟩
  | .hbm, ⟨9, _⟩ => ⟨S768x32x128, .f32⟩
  | .hbm, ⟨10, _⟩ => ⟨S768x32x128, .f32⟩
  | .local _ .vmem, ⟨0, _⟩ => ⟨S5x384x32x128, .bf16⟩
  | .local _ .vmem, ⟨1, _⟩ => ⟨S5x384x32x128, .bf16⟩
  | .local _ .vmem, ⟨2, _⟩ => ⟨S5x384x768, .fp8e4m3⟩
  | .local _ .vmem, ⟨3, _⟩ => ⟨S5x384x6, .f32⟩
  | .local _ .vmem, ⟨4, _⟩ => ⟨S768x32x128, .fp8e4m3⟩
  | .local _ .vmem, ⟨5, _⟩ => ⟨S6x32, .f32⟩
  | .local _ .vmem, ⟨6, _⟩ => ⟨S768x32x128, .fp8e4m3⟩
  | .local _ .vmem, ⟨7, _⟩ => ⟨S6x32, .f32⟩
  | .local _ .vmem, ⟨8, _⟩ => ⟨S5x384x768, .bf16⟩
  | .local _ .vmem, ⟨9, _⟩ => ⟨S768x32x128, .f32⟩
  | .local _ .vmem, ⟨10, _⟩ => ⟨S768x32x128, .f32⟩
  | _, _ => ⟨S5x384x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S5x384x32x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x384x32x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x384x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x384x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x32x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x32x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x384x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S768x32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S768x32x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Kernel.Names.lean ====
/-
  The kernel's hand-made transfers and buffers under canonical names: block `b` of each gradient in HBM, slot `s` of the
  two-slot gradient buffer, slot `s` of the two-slot result buffer, group `g` of eight heads of each result in HBM, and
  the semaphore cells; then the equations that turn the printed slices into them.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.KitQuiescent
public import Idealize.ShloMosaic.Lib.Ring
public import Idealize.ShloMosaic.Lib.Tactic

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## The whole buffers -/

abbrev dkM : Memref sig .tc .hbm S5x384x32x128 .bf16 := Memref.whole main_arg0
abbrev dvM : Memref sig .tc .hbm S5x384x32x128 .bf16 := Memref.whole main_arg1
abbrev ccM : Memref sig .tc .hbm S5x384x768 .fp8e4m3 := Memref.whole main_arg2
abbrev csM : Memref sig .tc .hbm S5x6x384 .f32 := Memref.whole main_v0
abbrev ukM : Memref sig .tc .hbm S768x32x128 .fp8e4m3 := Memref.whole main_arg4
abbrev usM : Memref sig .tc .hbm S6x32 .f32 := Memref.whole main_arg5
abbrev uvM : Memref sig .tc .hbm S768x32x128 .fp8e4m3 := Memref.whole main_arg6
abbrev vsM : Memref sig .tc .hbm S6x32 .f32 := Memref.whole main_arg7
abbrev dcM : Memref sig .tc .hbm S5x384x768 .bf16 := Memref.whole main_v1_0
abbrev wkM : Memref sig .tc .hbm S768x32x128 .f32 := Memref.whole main_v1_1
abbrev wvM : Memref sig .tc .hbm S768x32x128 .f32 := Memref.whole main_v1_2
abbrev xM : Memref sig .tc .vmem S2x384x32x128 .bf16 := Memref.whole cc0_scratch0
abbrev sM : Memref sig .tc .vmem S384x32x128 .bf16 := Memref.whole cc0_scratch1
abbrev gM : Memref sig .tc .vmem S5x32x384x128 .bf16 := Memref.whole cc0_scratch2
abbrev hM : Memref sig .tc .vmem S768x32x128 .fp8e4m3 := Memref.whole cc0_scratch3
abbrev iM : Memref sig .tc .vmem S2x6x32 .f32 := Memref.whole cc0_scratch4
abbrev nM : Memref sig .tc .vmem S2x6x32x128 .bf16 := Memref.whole cc0_scratch5
abbrev swM : Memref sig .tc .vmem S192x32x128 .bf16 := Memref.whole cc0_scratch6
abbrev wM : Memref sig .tc .vmem S32x768x128 .bf16 := Memref.whole cc0_scratch7
abbrev rM : Memref sig .tc .vmem S5x384x768 .fp8e4m3 := Memref.whole cc0_scratch8
abbrev lM : Memref sig .tc .vmem S5x6x384 .f32 := Memref.whole cc0_scratch9
abbrev tM : Memref sig .tc .vmem S15x768x128 .bf16 := Memref.whole cc0_scratch10
abbrev aM : Memref sig .tc .vmem S5x384x768 .f32 := Memref.whole cc0_scratch11
abbrev pM : Memref sig .tc .vmem S2x384x768 .bf16 := Memref.whole cc0_scratch12
abbrev oM : Memref sig .tc .vmem S2x768x8x128 .f32 := Memref.whole cc0_scratch13

/-! ## Offsets -/

abbrev blkOff (b : Fin 5) : Fin 4 → Nat := ![b.val, 0, 0, 0]
theorem blkOff_inb (b : Fin 5) : ∀ a, blkOff b a + S1x384x32x128.size a ≤ S5x384x32x128.size a := by
  revert b; decide +kernel
abbrev xOff (s : Fin 2) : Fin 4 → Nat := ![s.val, 0, 0, 0]
theorem xOff_inb (s : Fin 2) : ∀ a, xOff s a + S1x384x32x128.size a ≤ S2x384x32x128.size a := by
  revert s; decide +kernel
theorem oOff_inb (s : Fin 2) : ∀ a, xOff s a + S1x768x8x128.size a ≤ S2x768x8x128.size a := by
  revert s; decide +kernel
abbrev grpOff (g : Fin 4) : Fin 3 → Nat := ![0, 8 * g.val, 0]
theorem grpOff_inb (g : Fin 4) : ∀ a, grpOff g a + S768x8x128.size a ≤ S768x32x128.size a := by
  revert g; decide +kernel
abbrev semOff (s : Fin 2) : Fin 1 → Nat := ![s.val]
theorem semOff_inb (s : Fin 2) : ∀ a, semOff s a + S1.size a ≤ S2.size a := by
  revert s; decide +kernel

abbrev iOff (s : Fin 2) : Fin 3 → Nat := ![s.val, 0, 0]
theorem iOff_inb (s : Fin 2) : ∀ a, iOff s a + S1x6x32.size a ≤ S2x6x32.size a := by
  revert s; decide +kernel
theorem pOff_inb (s : Fin 2) : ∀ a, iOff s a + S1x384x768.size a ≤ S2x384x768.size a := by
  revert s; decide +kernel
abbrev dcOff (b : Fin 5) : Fin 3 → Nat := ![b.val, 0, 0]
theorem dcOff_inb (b : Fin 5) : ∀ a, dcOff b a + S1x384x768.size a ≤ S5x384x768.size a := by
  revert b; decide +kernel

instance (s : Fin 2) : ClosedOff (iOff s) := ⟨iOff s, rfl⟩
instance (b : Fin 5) : ClosedOff (dcOff b) := ⟨dcOff b, rfl⟩
instance (s : Fin 2) : ClosedOff (xOff s) := ⟨xOff s, rfl⟩
instance (b : Fin 5) : ClosedOff (blkOff b) := ⟨blkOff b, rfl⟩
instance (g : Fin 4) : ClosedOff (grpOff g) := ⟨grpOff g, rfl⟩

/-! ## The names -/

/-- Block `b` of the first gradient; -/
def dkB (b : Fin 5) : Memref sig .tc .hbm S384x32x128 .bf16 :=
  (dkM.slice (Rect.unit (s := S5x384x32x128) (blkOff b) S1x384x32x128.size (blkOff_inb b)) (fun _ => rfl)).squeeze S384x32x128 squeezes_S1x384x32x128_S384x32x128
/-- of the second. -/
def dvB (b : Fin 5) : Memref sig .tc .hbm S384x32x128 .bf16 :=
  (dvM.slice (Rect.unit (s := S5x384x32x128) (blkOff b) S1x384x32x128.size (blkOff_inb b)) (fun _ => rfl)).squeeze S384x32x128 squeezes_S1x384x32x128_S384x32x128
/-- Slot `s` of the gradient buffer; -/
def xS (s : Fin 2) : Memref sig .tc .vmem S384x32x128 .bf16 :=
  (xM.slice (Rect.unit (s := S2x384x32x128) (xOff s) S1x384x32x128.size (xOff_inb s)) (fun _ => rfl)).squeeze S384x32x128 squeezes_S1x384x32x128_S384x32x128
/-- of the result buffer. -/
def oS (s : Fin 2) : Memref sig .tc .vmem S768x8x128 .f32 :=
  (oM.slice (Rect.unit (s := S2x768x8x128) (xOff s) S1x768x8x128.size (oOff_inb s)) (fun _ => rfl)).squeeze S768x8x128 squeezes_S1x768x8x128_S768x8x128
/-- Group `g` of the first result; -/
def wkG (g : Fin 4) : Memref sig .tc .hbm S768x8x128 .f32 :=
  wkM.slice (Rect.unit (s := S768x32x128) (grpOff g) S768x8x128.size (grpOff_inb g)) (fun _ => rfl)
/-- of the second. -/
def wvG (g : Fin 4) : Memref sig .tc .hbm S768x8x128 .f32 :=
  wvM.slice (Rect.unit (s := S768x32x128) (grpOff g) S768x8x128.size (grpOff_inb g)) (fun _ => rfl)
/-- Slot `s` of the weight scales' buffer; -/
def iS (s : Fin 2) : Memref sig .tc .vmem S6x32 .f32 :=
  (iM.slice (Rect.unit (s := S2x6x32) (iOff s) S1x6x32.size (iOff_inb s)) (fun _ => rfl)).squeeze S6x32 squeezes_S1x6x32_S6x32
/-- of the latent gradient's buffer. -/
def pS (s : Fin 2) : Memref sig .tc .vmem S384x768 .bf16 :=
  (pM.slice (Rect.unit (s := S2x384x768) (iOff s) S1x384x768.size (pOff_inb s)) (fun _ => rfl)).squeeze S384x768 squeezes_S1x384x768_S384x768
/-- Block `b` of the latent gradient. -/
def dcB (b : Fin 5) : Memref sig .tc .hbm S384x768 .bf16 :=
  (dcM.slice (Rect.unit (s := S5x384x768) (dcOff b) S1x384x768.size (dcOff_inb b)) (fun _ => rfl)).squeeze S384x768 squeezes_S1x384x768_S384x768
/-- The weights' cell, the weight scales' cells, the latent gradient slots' cells. -/
abbrev hsm : DmaSems sig S_ := cc0_scratch15
def ism (s : Fin 2) : DmaSems sig S_ := (cc0_scratch16.slice (Rect.unit (s := S2) (semOff s) S1.size (semOff_inb s))).squeeze S_ squeezes_S1_S_
def psm (s : Fin 2) : DmaSems sig S_ := (cc0_scratch18.slice (Rect.unit (s := S2) (semOff s) S1.size (semOff_inb s))).squeeze S_ squeezes_S1_S_
/-- The gradient slots' cells, the latent operands' cells, the result slots' cells. -/
def xsm (s : Fin 2) : DmaSems sig S_ := (cc0_scratch14.slice (Rect.unit (s := S2) (semOff s) S1.size (semOff_inb s))).squeeze S_ squeezes_S1_S_
def csm (s : Fin 2) : DmaSems sig S_ := (cc0_scratch17.slice (Rect.unit (s := S2) (semOff s) S1.size (semOff_inb s))).squeeze S_ squeezes_S1_S_
def osm (s : Fin 2) : DmaSems sig S_ := (cc0_scratch19.slice (Rect.unit (s := S2) (semOff s) S1.size (semOff_inb s))).squeeze S_ squeezes_S1_S_

/-! ## The offsets that the loops compute -/

theorem off67_eq : ∀ k : Fin k0_t2_loop.trips, k0_off67 k = semOff (Ring.sl 2 (k.val + 1)) := by decide +kernel
theorem off68_eq : ∀ k : Fin k0_t2_loop.trips, k0_off68 k = xOff (Ring.sl 2 (k.val + 1)) := by decide +kernel
theorem off97_eq : ∀ k : Fin k0_t2_loop.trips, k0_off97 k = xOff (Ring.sl 2 (k.val + 1)) := by decide +kernel
theorem off98_eq : ∀ k : Fin k0_t2_loop.trips, k0_off98 k = semOff (Ring.sl 2 (k.val + 1)) := by decide +kernel
theorem off99_eq : ∀ k : Fin k0_t2_loop.trips, k0_off99 k = xOff (Ring.sl 2 (k.val + 1)) := by decide +kernel
theorem off100_eq : ∀ k : Fin k0_t2_loop.trips, k.val < 2 → k0_off100 k = blkOff (Ring.bk 5 (k.val + 3)) := by decide +kernel
theorem off101_eq : ∀ k : Fin k0_t2_loop.trips, k0_off101 k = semOff (Ring.sl 2 (k.val + 1)) := by decide +kernel
theorem off102_eq : ∀ k : Fin k0_t2_loop.trips, k0_off102 k = xOff (Ring.sl 2 (k.val + 1)) := by decide +kernel
theorem off103_eq : ∀ k : Fin k0_t2_loop.trips, 2 ≤ k.val → k0_off103 k = blkOff (Ring.bk 5 (k.val - 2)) := by decide +kernel
theorem off104_eq : ∀ k : Fin k0_t3_loop.trips, k0_off104 k = semOff (Ring.sl 2 k.val) := by decide +kernel
theorem off105_eq : ∀ k : Fin k0_t3_loop.trips, k0_off105 k = xOff (Ring.sl 2 k.val) := by decide +kernel
theorem off150_eq : ∀ k : Fin k0_t3_loop.trips, k0_off150 k = xOff (Ring.sl 2 k.val) := by decide +kernel
theorem off151_eq : ∀ k : Fin k0_t3_loop.trips, k0_off151 k = semOff (Ring.sl 2 k.val) := by decide +kernel
theorem off152_eq : ∀ k : Fin k0_t3_loop.trips, k0_off152 k = grpOff (Ring.bk 4 k.val) := by decide +kernel
theorem off185_eq : ∀ k : Fin k0_t4_loop.trips, k0_off185 k = semOff (Ring.sl 2 k.val) := by decide +kernel
theorem off186_eq : ∀ k : Fin k0_t4_loop.trips, k0_off186 k = xOff (Ring.sl 2 k.val) := by decide +kernel
theorem off194_eq : ∀ k : Fin k0_t4_loop.trips, k0_off194 k = xOff (Ring.sl 2 k.val) := by decide +kernel
theorem off195_eq : ∀ k : Fin k0_t4_loop.trips, k0_off195 k = semOff (Ring.sl 2 k.val) := by decide +kernel
theorem off196_eq : ∀ k : Fin k0_t4_loop.trips, k0_off196 k = xOff (Ring.sl 2 k.val) := by decide +kernel
theorem off197_eq : ∀ k : Fin k0_t4_loop.trips, k.val < 2 → k0_off197 k = blkOff (Ring.bk 5 (k.val + 3)) := by decide +kernel
theorem off198_eq : ∀ k : Fin k0_t5_loop.trips, k0_off198 k = semOff (Ring.sl 2 k.val) := by decide +kernel
theorem off199_eq : ∀ k : Fin k0_t5_loop.trips, k0_off199 k = xOff (Ring.sl 2 k.val) := by decide +kernel
theorem off210_eq : ∀ k : Fin k0_t5_loop.trips, k0_off210 k = grpOff (Ring.bk 4 k.val) := by decide +kernel
theorem off1_eq : ∀ k : Fin k0_t1_loop.trips, k0_off1 k = ![0, k.val / 2, 0, 0] := by decide +kernel
theorem off106_eq : ∀ k : Fin k0_t3_loop.trips, ∀ r : Fin 3, k0_off106 k (BitVec.ofNat 32 (64 * r.val)) = ![1, (192 * k.val + 64 * r.val) / 128, 0, 0] := by decide +kernel
theorem off187_eq : ∀ k : Fin k0_t4_loop.trips, k0_off187 k = semOff (Ring.sl 2 k.val) := by decide +kernel
theorem off188_eq : ∀ k : Fin k0_t4_loop.trips, k0_off188 k = iOff (Ring.sl 2 k.val) := by decide +kernel
theorem off190_eq : ∀ k : Fin k0_t4_loop.trips, k0_off190 k = iOff (Ring.sl 2 k.val) := by decide +kernel
theorem off191_eq : ∀ k : Fin k0_t4_loop.trips, k0_off191 k = semOff (Ring.sl 2 k.val) := by decide +kernel
theorem off192_eq : ∀ k : Fin k0_t4_loop.trips, k0_off192 k = dcOff (Ring.bk 5 k.val) := by decide +kernel
theorem off193_eq : ∀ k : Fin k0_t4_loop.trips, k0_off193 k = iOff (Ring.sl 2 k.val) := by decide +kernel

instance (k : Fin k0_t1_loop.trips) : ClosedOff (k0_off1 k) := ⟨![0, k.val / 2, 0, 0], off1_eq k⟩
instance (k : Fin k0_t4_loop.trips) : ClosedOff (k0_off190 k) := ⟨iOff (Ring.sl 2 k.val), off190_eq k⟩
instance (k : Fin k0_t2_loop.trips) : ClosedOff (k0_off97 k) := ⟨xOff (Ring.sl 2 (k.val + 1)), off97_eq k⟩
instance (k : Fin k0_t3_loop.trips) : ClosedOff (k0_off150 k) := ⟨xOff (Ring.sl 2 k.val), off150_eq k⟩
instance (k : Fin k0_t4_loop.trips) : ClosedOff (k0_off194 k) := ⟨xOff (Ring.sl 2 k.val), off194_eq k⟩
instance (k : Fin k0_t5_loop.trips) : ClosedOff (k0_off199 k) := ⟨xOff (Ring.sl 2 k.val), off199_eq k⟩

/-! ## The printed slices are the names -/

private theorem xsm_congr {off : Fin 1 → Nat} {s : Fin 2} (e : off = semOff s) (hh) :
    (cc0_scratch14.slice (Rect.unit (s := S2) off S1.size hh)).squeeze S_ squeezes_S1_S_ = xsm s :=
  congrArg (fun A : DmaSems sig S1 => A.squeeze S_ squeezes_S1_S_) (SemArray.slice_unit_congr _ e _ _)
private theorem csm_congr {off : Fin 1 → Nat} {s : Fin 2} (e : off = semOff s) (hh) :
    (cc0_scratch17.slice (Rect.unit (s := S2) off S1.size hh)).squeeze S_ squeezes_S1_S_ = csm s :=
  congrArg (fun A : DmaSems sig S1 => A.squeeze S_ squeezes_S1_S_) (SemArray.slice_unit_congr _ e _ _)
private theorem osm_congr {off : Fin 1 → Nat} {s : Fin 2} (e : off = semOff s) (hh) :
    (cc0_scratch19.slice (Rect.unit (s := S2) off S1.size hh)).squeeze S_ squeezes_S1_S_ = osm s :=
  congrArg (fun A : DmaSems sig S1 => A.squeeze S_ squeezes_S1_S_) (SemArray.slice_unit_congr _ e _ _)
private theorem xS_congr {off : Fin 4 → Nat} {s : Fin 2} (e : off = xOff s) (hh hs) :
    (xM.slice (Rect.unit (s := S2x384x32x128) off S1x384x32x128.size hh) hs).squeeze S384x32x128 squeezes_S1x384x32x128_S384x32x128 = xS s :=
  congrArg (fun M : Memref sig .tc .vmem S1x384x32x128 .bf16 => M.squeeze S384x32x128 squeezes_S1x384x32x128_S384x32x128) (Memref.slice_unit_congr _ e _ _ _ _)
private theorem oS_congr {off : Fin 4 → Nat} {s : Fin 2} (e : off = xOff s) (hh hs) :
    (oM.slice (Rect.unit (s := S2x768x8x128) off S1x768x8x128.size hh) hs).squeeze S768x8x128 squeezes_S1x768x8x128_S768x8x128 = oS s :=
  congrArg (fun M : Memref sig .tc .vmem S1x768x8x128 .f32 => M.squeeze S768x8x128 squeezes_S1x768x8x128_S768x8x128) (Memref.slice_unit_congr _ e _ _ _ _)
private theorem dkB_congr {off : Fin 4 → Nat} {b : Fin 5} (e : off = blkOff b) (hh hs) :
    (dkM.slice (Rect.unit (s := S5x384x32x128) off S1x384x32x128.size hh) hs).squeeze S384x32x128 squeezes_S1x384x32x128_S384x32x128 = dkB b :=
  congrArg (fun M : Memref sig .tc .hbm S1x384x32x128 .bf16 => M.squeeze S384x32x128 squeezes_S1x384x32x128_S384x32x128) (Memref.slice_unit_congr _ e _ _ _ _)
private theorem dvB_congr {off : Fin 4 → Nat} {b : Fin 5} (e : off = blkOff b) (hh hs) :
    (dvM.slice (Rect.unit (s := S5x384x32x128) off S1x384x32x128.size hh) hs).squeeze S384x32x128 squeezes_S1x384x32x128_S384x32x128 = dvB b :=
  congrArg (fun M : Memref sig .tc .hbm S1x384x32x128 .bf16 => M.squeeze S384x32x128 squeezes_S1x384x32x128_S384x32x128) (Memref.slice_unit_congr _ e _ _ _ _)

private theorem ism_congr {off : Fin 1 → Nat} {s : Fin 2} (e : off = semOff s) (hh) :
    (cc0_scratch16.slice (Rect.unit (s := S2) off S1.size hh)).squeeze S_ squeezes_S1_S_ = ism s :=
  congrArg (fun A : DmaSems sig S1 => A.squeeze S_ squeezes_S1_S_) (SemArray.slice_unit_congr _ e _ _)
private theorem psm_congr {off : Fin 1 → Nat} {s : Fin 2} (e : off = semOff s) (hh) :
    (cc0_scratch18.slice (Rect.unit (s := S2) off S1.size hh)).squeeze S_ squeezes_S1_S_ = psm s :=
  congrArg (fun A : DmaSems sig S1 => A.squeeze S_ squeezes_S1_S_) (SemArray.slice_unit_congr _ e _ _)
private theorem iS_congr {off : Fin 3 → Nat} {s : Fin 2} (e : off = iOff s) (hh hs) :
    (iM.slice (Rect.unit (s := S2x6x32) off S1x6x32.size hh) hs).squeeze S6x32 squeezes_S1x6x32_S6x32 = iS s :=
  congrArg (fun M : Memref sig .tc .vmem S1x6x32 .f32 => M.squeeze S6x32 squeezes_S1x6x32_S6x32) (Memref.slice_unit_congr _ e _ _ _ _)
private theorem pS_congr {off : Fin 3 → Nat} {s : Fin 2} (e : off = iOff s) (hh hs) :
    (pM.slice (Rect.unit (s := S2x384x768) off S1x384x768.size hh) hs).squeeze S384x768 squeezes_S1x384x768_S384x768 = pS s :=
  congrArg (fun M : Memref sig .tc .vmem S1x384x768 .bf16 => M.squeeze S384x768 squeezes_S1x384x768_S384x768) (Memref.slice_unit_congr _ e _ _ _ _)
private theorem dcB_congr {off : Fin 3 → Nat} {b : Fin 5} (e : off = dcOff b) (hh hs) :
    (dcM.slice (Rect.unit (s := S5x384x768) off S1x384x768.size hh) hs).squeeze S384x768 squeezes_S1x384x768_S384x768 = dcB b :=
  congrArg (fun M : Memref sig .tc .hbm S1x384x768 .bf16 => M.squeeze S384x768 squeezes_S1x384x768_S384x768) (Memref.slice_unit_congr _ e _ _ _ _)

@[sl_canon] theorem xsmL0 (hh) : (cc0_scratch14.slice (Rect.unit (s := S2) ![0] S1.size hh)).squeeze S_ squeezes_S1_S_ = xsm 0 := xsm_congr (by decide) _
@[sl_canon] theorem csmL0 (hh) : (cc0_scratch17.slice (Rect.unit (s := S2) ![0] S1.size hh)).squeeze S_ squeezes_S1_S_ = csm 0 := csm_congr (by decide) _
@[sl_canon] theorem osmL0 (hh) : (cc0_scratch19.slice (Rect.unit (s := S2) ![0] S1.size hh)).squeeze S_ squeezes_S1_S_ = osm 0 := osm_congr (by decide) _
@[sl_canon] theorem xSL0 (hh hs) : (xM.slice (Rect.unit (s := S2x384x32x128) ![0, 0, 0, 0] S1x384x32x128.size hh) hs).squeeze S384x32x128 squeezes_S1x384x32x128_S384x32x128 = xS 0 := xS_congr (by decide) _ _
@[sl_canon] theorem oSL0 (hh hs) : (oM.slice (Rect.unit (s := S2x768x8x128) ![0, 0, 0, 0] S1x768x8x128.size hh) hs).squeeze S768x8x128 squeezes_S1x768x8x128_S768x8x128 = oS 0 := oS_congr (by decide) _ _
@[sl_canon] theorem xsmL1 (hh) : (cc0_scratch14.slice (Rect.unit (s := S2) ![1] S1.size hh)).squeeze S_ squeezes_S1_S_ = xsm 1 := xsm_congr (by decide) _
@[sl_canon] theorem csmL1 (hh) : (cc0_scratch17.slice (Rect.unit (s := S2) ![1] S1.size hh)).squeeze S_ squeezes_S1_S_ = csm 1 := csm_congr (by decide) _
@[sl_canon] theorem osmL1 (hh) : (cc0_scratch19.slice (Rect.unit (s := S2) ![1] S1.size hh)).squeeze S_ squeezes_S1_S_ = osm 1 := osm_congr (by decide) _
@[sl_canon] theorem xSL1 (hh hs) : (xM.slice (Rect.unit (s := S2x384x32x128) ![1, 0, 0, 0] S1x384x32x128.size hh) hs).squeeze S384x32x128 squeezes_S1x384x32x128_S384x32x128 = xS 1 := xS_congr (by decide) _ _
@[sl_canon] theorem oSL1 (hh hs) : (oM.slice (Rect.unit (s := S2x768x8x128) ![1, 0, 0, 0] S1x768x8x128.size hh) hs).squeeze S768x8x128 squeezes_S1x768x8x128_S768x8x128 = oS 1 := oS_congr (by decide) _ _
@[sl_canon] theorem dkBL0 (hh hs) : (dkM.slice (Rect.unit (s := S5x384x32x128) ![0, 0, 0, 0] S1x384x32x128.size hh) hs).squeeze S384x32x128 squeezes_S1x384x32x128_S384x32x128 = dkB 0 := dkB_congr (by decide) _ _
@[sl_canon] theorem dkBL1 (hh hs) : (dkM.slice (Rect.unit (s := S5x384x32x128) ![1, 0, 0, 0] S1x384x32x128.size hh) hs).squeeze S384x32x128 squeezes_S1x384x32x128_S384x32x128 = dkB 1 := dkB_congr (by decide) _ _
@[sl_canon] theorem dkBL2 (hh hs) : (dkM.slice (Rect.unit (s := S5x384x32x128) ![2, 0, 0, 0] S1x384x32x128.size hh) hs).squeeze S384x32x128 squeezes_S1x384x32x128_S384x32x128 = dkB 2 := dkB_congr (by decide) _ _
@[sl_canon] theorem dvBL0 (hh hs) : (dvM.slice (Rect.unit (s := S5x384x32x128) ![0, 0, 0, 0] S1x384x32x128.size hh) hs).squeeze S384x32x128 squeezes_S1x384x32x128_S384x32x128 = dvB 0 := dvB_congr (by decide) _ _
@[sl_canon] theorem wkGL0 (hh hs) : wkM.slice (Rect.unit (s := S768x32x128) ![0, 0, 0] S768x8x128.size hh) hs = wkG 0 := Memref.slice_unit_congr _ (by decide) _ _ _ (fun _ => rfl)
@[sl_canon] theorem wvGL0 (hh hs) : wvM.slice (Rect.unit (s := S768x32x128) ![0, 0, 0] S768x8x128.size hh) hs = wvG 0 := Memref.slice_unit_congr _ (by decide) _ _ _ (fun _ => rfl)
@[sl_canon] theorem xsm67 (k : Fin k0_t2_loop.trips) (hh) : (cc0_scratch14.slice (Rect.unit (s := S2) (k0_off67 k) S1.size hh)).squeeze S_ squeezes_S1_S_ = xsm (Ring.sl 2 (k.val + 1)) := xsm_congr (off67_eq k) _
@[sl_canon] theorem xsm98 (k : Fin k0_t2_loop.trips) (hh) : (cc0_scratch14.slice (Rect.unit (s := S2) (k0_off98 k) S1.size hh)).squeeze S_ squeezes_S1_S_ = xsm (Ring.sl 2 (k.val + 1)) := xsm_congr (off98_eq k) _
@[sl_canon] theorem xsm101 (k : Fin k0_t2_loop.trips) (hh) : (cc0_scratch14.slice (Rect.unit (s := S2) (k0_off101 k) S1.size hh)).squeeze S_ squeezes_S1_S_ = xsm (Ring.sl 2 (k.val + 1)) := xsm_congr (off101_eq k) _
@[sl_canon] theorem xsm185 (k : Fin k0_t4_loop.trips) (hh) : (cc0_scratch14.slice (Rect.unit (s := S2) (k0_off185 k) S1.size hh)).squeeze S_ squeezes_S1_S_ = xsm (Ring.sl 2 k.val) := xsm_congr (off185_eq k) _
@[sl_canon] theorem xsm195 (k : Fin k0_t4_loop.trips) (hh) : (cc0_scratch14.slice (Rect.unit (s := S2) (k0_off195 k) S1.size hh)).squeeze S_ squeezes_S1_S_ = xsm (Ring.sl 2 k.val) := xsm_congr (off195_eq k) _
@[sl_canon] theorem osm104 (k : Fin k0_t3_loop.trips) (hh) : (cc0_scratch19.slice (Rect.unit (s := S2) (k0_off104 k) S1.size hh)).squeeze S_ squeezes_S1_S_ = osm (Ring.sl 2 k.val) := osm_congr (off104_eq k) _
@[sl_canon] theorem osm151 (k : Fin k0_t3_loop.trips) (hh) : (cc0_scratch19.slice (Rect.unit (s := S2) (k0_off151 k) S1.size hh)).squeeze S_ squeezes_S1_S_ = osm (Ring.sl 2 k.val) := osm_congr (off151_eq k) _
@[sl_canon] theorem osm198 (k : Fin k0_t5_loop.trips) (hh) : (cc0_scratch19.slice (Rect.unit (s := S2) (k0_off198 k) S1.size hh)).squeeze S_ squeezes_S1_S_ = osm (Ring.sl 2 k.val) := osm_congr (off198_eq k) _
@[sl_canon] theorem xS68 (k : Fin k0_t2_loop.trips) (hh hs) : (xM.slice (Rect.unit (s := S2x384x32x128) (k0_off68 k) S1x384x32x128.size hh) hs).squeeze S384x32x128 squeezes_S1x384x32x128_S384x32x128 = xS (Ring.sl 2 (k.val + 1)) := xS_congr (off68_eq k) _ _
@[sl_canon] theorem xS99 (k : Fin k0_t2_loop.trips) (hh hs) : (xM.slice (Rect.unit (s := S2x384x32x128) (k0_off99 k) S1x384x32x128.size hh) hs).squeeze S384x32x128 squeezes_S1x384x32x128_S384x32x128 = xS (Ring.sl 2 (k.val + 1)) := xS_congr (off99_eq k) _ _
@[sl_canon] theorem xS102 (k : Fin k0_t2_loop.trips) (hh hs) : (xM.slice (Rect.unit (s := S2x384x32x128) (k0_off102 k) S1x384x32x128.size hh) hs).squeeze S384x32x128 squeezes_S1x384x32x128_S384x32x128 = xS (Ring.sl 2 (k.val + 1)) := xS_congr (off102_eq k) _ _
@[sl_canon] theorem xS186 (k : Fin k0_t4_loop.trips) (hh hs) : (xM.slice (Rect.unit (s := S2x384x32x128) (k0_off186 k) S1x384x32x128.size hh) hs).squeeze S384x32x128 squeezes_S1x384x32x128_S384x32x128 = xS (Ring.sl 2 k.val) := xS_congr (off186_eq k) _ _
@[sl_canon] theorem xS196 (k : Fin k0_t4_loop.trips) (hh hs) : (xM.slice (Rect.unit (s := S2x384x32x128) (k0_off196 k) S1x384x32x128.size hh) hs).squeeze S384x32x128 squeezes_S1x384x32x128_S384x32x128 = xS (Ring.sl 2 k.val) := xS_congr (off196_eq k) _ _
@[sl_canon] theorem oS105 (k : Fin k0_t3_loop.trips) (hh hs) : (oM.slice (Rect.unit (s := S2x768x8x128) (k0_off105 k) S1x768x8x128.size hh) hs).squeeze S768x8x128 squeezes_S1x768x8x128_S768x8x128 = oS (Ring.sl 2 k.val) := oS_congr (off105_eq k) _ _
@[sl_canon] theorem oS150 (k : Fin k0_t3_loop.trips) (hh hs) : (oM.slice (Rect.unit (s := S2x768x8x128) (k0_off150 k) S1x768x8x128.size hh) hs).squeeze S768x8x128 squeezes_S1x768x8x128_S768x8x128 = oS (Ring.sl 2 k.val) := oS_congr (off150_eq k) _ _
@[sl_canon] theorem oS199 (k : Fin k0_t5_loop.trips) (hh hs) : (oM.slice (Rect.unit (s := S2x768x8x128) (k0_off199 k) S1x768x8x128.size hh) hs).squeeze S768x8x128 squeezes_S1x768x8x128_S768x8x128 = oS (Ring.sl 2 k.val) := oS_congr (off199_eq k) _ _
@[sl_canon] theorem dkB100 (k : Fin k0_t2_loop.trips) (h : k.val < 2) (hh hs) : (dkM.slice (Rect.unit (s := S5x384x32x128) (k0_off100 k) S1x384x32x128.size hh) hs).squeeze S384x32x128 squeezes_S1x384x32x128_S384x32x128 = dkB (Ring.bk 5 (k.val + 3)) := dkB_congr (off100_eq k h) _ _
@[sl_canon] theorem dvB103 (k : Fin k0_t2_loop.trips) (h : 2 ≤ k.val) (hh hs) : (dvM.slice (Rect.unit (s := S5x384x32x128) (k0_off103 k) S1x384x32x128.size hh) hs).squeeze S384x32x128 squeezes_S1x384x32x128_S384x32x128 = dvB (Ring.bk 5 (k.val - 2)) := dvB_congr (off103_eq k h) _ _
@[sl_canon] theorem dvB197 (k : Fin k0_t4_loop.trips) (h : k.val < 2) (hh hs) : (dvM.slice (Rect.unit (s := S5x384x32x128) (k0_off197 k) S1x384x32x128.size hh) hs).squeeze S384x32x128 squeezes_S1x384x32x128_S384x32x128 = dvB (Ring.bk 5 (k.val + 3)) := dvB_congr (off197_eq k h) _ _
@[sl_canon] theorem wkG152 (k : Fin k0_t3_loop.trips) (hh hs) : wkM.slice (Rect.unit (s := S768x32x128) (k0_off152 k) S768x8x128.size hh) hs = wkG (Ring.bk 4 k.val) := Memref.slice_unit_congr _ (off152_eq k) _ _ _ (fun _ => rfl)
@[sl_canon] theorem wvG210 (k : Fin k0_t5_loop.trips) (hh hs) : wvM.slice (Rect.unit (s := S768x32x128) (k0_off210 k) S768x8x128.size hh) hs = wvG (Ring.bk 4 k.val) := Memref.slice_unit_congr _ (off210_eq k) _ _ _ (fun _ => rfl)
@[sl_canon] theorem ismL0 (hh) : (cc0_scratch16.slice (Rect.unit (s := S2) ![0] S1.size hh)).squeeze S_ squeezes_S1_S_ = ism 0 := ism_congr (by decide) _
@[sl_canon] theorem psmL0 (hh) : (cc0_scratch18.slice (Rect.unit (s := S2) ![0] S1.size hh)).squeeze S_ squeezes_S1_S_ = psm 0 := psm_congr (by decide) _
@[sl_canon] theorem iSL0 (hh hs) : (iM.slice (Rect.unit (s := S2x6x32) ![0, 0, 0] S1x6x32.size hh) hs).squeeze S6x32 squeezes_S1x6x32_S6x32 = iS 0 := iS_congr (by decide) _ _
@[sl_canon] theorem pSL0 (hh hs) : (pM.slice (Rect.unit (s := S2x384x768) ![0, 0, 0] S1x384x768.size hh) hs).squeeze S384x768 squeezes_S1x384x768_S384x768 = pS 0 := pS_congr (by decide) _ _
@[sl_canon] theorem ismL1 (hh) : (cc0_scratch16.slice (Rect.unit (s := S2) ![1] S1.size hh)).squeeze S_ squeezes_S1_S_ = ism 1 := ism_congr (by decide) _
@[sl_canon] theorem psmL1 (hh) : (cc0_scratch18.slice (Rect.unit (s := S2) ![1] S1.size hh)).squeeze S_ squeezes_S1_S_ = psm 1 := psm_congr (by decide) _
@[sl_canon] theorem iSL1 (hh hs) : (iM.slice (Rect.unit (s := S2x6x32) ![1, 0, 0] S1x6x32.size hh) hs).squeeze S6x32 squeezes_S1x6x32_S6x32 = iS 1 := iS_congr (by decide) _ _
@[sl_canon] theorem pSL1 (hh hs) : (pM.slice (Rect.unit (s := S2x384x768) ![1, 0, 0] S1x384x768.size hh) hs).squeeze S384x768 squeezes_S1x384x768_S384x768 = pS 1 := pS_congr (by decide) _ _
@[sl_canon] theorem dcBL0 (hh hs) : (dcM.slice (Rect.unit (s := S5x384x768) ![0, 0, 0] S1x384x768.size hh) hs).squeeze S384x768 squeezes_S1x384x768_S384x768 = dcB 0 := dcB_congr (by decide) _ _
@[sl_canon] theorem psm187 (k : Fin k0_t4_loop.trips) (hh) : (cc0_scratch18.slice (Rect.unit (s := S2) (k0_off187 k) S1.size hh)).squeeze S_ squeezes_S1_S_ = psm (Ring.sl 2 k.val) := psm_congr (off187_eq k) _
@[sl_canon] theorem psm191 (k : Fin k0_t4_loop.trips) (hh) : (cc0_scratch18.slice (Rect.unit (s := S2) (k0_off191 k) S1.size hh)).squeeze S_ squeezes_S1_S_ = psm (Ring.sl 2 k.val) := psm_congr (off191_eq k) _
@[sl_canon] theorem pS188 (k : Fin k0_t4_loop.trips) (hh hs) : (pM.slice (Rect.unit (s := S2x384x768) (k0_off188 k) S1x384x768.size hh) hs).squeeze S384x768 squeezes_S1x384x768_S384x768 = pS (Ring.sl 2 k.val) := pS_congr (off188_eq k) _ _
@[sl_canon] theorem pS193 (k : Fin k0_t4_loop.trips) (hh hs) : (pM.slice (Rect.unit (s := S2x384x768) (k0_off193 k) S1x384x768.size hh) hs).squeeze S384x768 squeezes_S1x384x768_S384x768 = pS (Ring.sl 2 k.val) := pS_congr (off193_eq k) _ _
@[sl_canon] theorem dcB192 (k : Fin k0_t4_loop.trips) (hh hs) : (dcM.slice (Rect.unit (s := S5x384x768) (k0_off192 k) S1x384x768.size hh) hs).squeeze S384x768 squeezes_S1x384x768_S384x768 = dcB (Ring.bk 5 k.val) := dcB_congr (off192_eq k) _ _

/-! ## The branches' conditions -/

theorem cond1_iff : ∀ k : Fin k0_t2_loop.trips, (k0_cond1 k = 1#1) = (k.val < 2) := by
  have h : ∀ k : Fin k0_t2_loop.trips, decide (k0_cond1 k = 1#1) = decide (k.val < 2) := by decide +kernel
  intro k; simpa using h k
theorem cond2_iff : ∀ k : Fin k0_t2_loop.trips, (k0_cond2 k = 1#1) = (2 ≤ k.val) := by
  have h : ∀ k : Fin k0_t2_loop.trips, decide (k0_cond2 k = 1#1) = decide (2 ≤ k.val) := by decide +kernel
  intro k; simpa using h k
theorem cond3_iff : ∀ k : Fin k0_t3_loop.trips, (k0_cond3 k = 1#1) = (2 ≤ k.val) := by
  have h : ∀ k : Fin k0_t3_loop.trips, decide (k0_cond3 k = 1#1) = decide (2 ≤ k.val) := by decide +kernel
  intro k; simpa using h k
theorem cond4_iff : ∀ k : Fin k0_t4_loop.trips, (k0_cond4 k = 1#1) = (k.val < 4) := by
  have h : ∀ k : Fin k0_t4_loop.trips, decide (k0_cond4 k = 1#1) = decide (k.val < 4) := by decide +kernel
  intro k; simpa using h k
theorem cond5_iff : ∀ k : Fin k0_t4_loop.trips, (k0_cond5 k = 1#1) = (2 ≤ k.val) := by
  have h : ∀ k : Fin k0_t4_loop.trips, decide (k0_cond5 k = 1#1) = decide (2 ≤ k.val) := by decide +kernel
  intro k; simpa using h k
theorem cond6_iff : ∀ k : Fin k0_t4_loop.trips, (k0_cond6 k = 1#1) = (k.val < 4) := by
  have h : ∀ k : Fin k0_t4_loop.trips, decide (k0_cond6 k = 1#1) = decide (k.val < 4) := by decide +kernel
  intro k; simpa using h k
theorem cond7_iff : ∀ k : Fin k0_t4_loop.trips, (k0_cond7 k = 1#1) = (k.val < 2) := by
  have h : ∀ k : Fin k0_t4_loop.trips, decide (k0_cond7 k = 1#1) = decide (k.val < 2) := by decide +kernel
  intro k; simpa using h k

end Cert.Proof.Kernel

end
-- ==== Proof.Kernel.Res.lean ====
/-
  The pieces the loops pass along: a block of a gradient at home, a slot of the gradient buffer in flight or held.
-/
module

public import proofs.«01_k».proof.Proof.Kernel.Names

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Pieces
variable (c : Dev nD)
  (XK : Buf (Elt F) (dkM.view.loc (c : Thread nD τ))) (XV : Buf (Elt F) (dvM.view.loc (c : Thread nD τ)))

abbrev xP (s : Fin 2) (f : Buf (Elt F) ((xS s).view.loc (c : Thread nD τ))) : sProp 𝕄 :=
  (xS s).view.loc (c : Thread nD τ) ↦[(xS s).view.set]{fullShare} f
abbrev xC (s : Fin 2) : sProp 𝕄 := semVal ((c : Thread nD τ), SemLoc.dma (xsm s).sem) 0
abbrev dkH (b : Fin 5) : sProp 𝕄 := (dkB b).view.loc (c : Thread nD τ) ↦[(dkB b).view.set]{fullShare} XK
abbrev dvH (b : Fin 5) : sProp 𝕄 := (dvB b).view.loc (c : Thread nD τ) ↦[(dvB b).view.set]{fullShare} XV

/-- The ten blocks in the order in which the kernel streams them: the first gradient's five, then the second's. -/
def home (n : Fin 10) : sProp 𝕄 := if n.val < 5 then dkH c XK (Ring.bk 5 n.val) else dvH c XV (Ring.bk 5 (n.val - 5))
/-- The words of block `n` of the stream. -/
def blk (n : Fin 10) : S384x32x128.Idx → Elt F .bf16 :=
  if n.val < 5 then ReadAs.same.apply ((dkB (Ring.bk 5 n.val)).view.read (Elt F) XK)
  else ReadAs.same.apply ((dvB (Ring.bk 5 (n.val - 5))).view.read (Elt F) XV)

/-- What block `n`'s transfer leaves in slot `s` over `f`. -/
abbrev landed (s : Fin 2) (n : Fin 10) (f : Buf (Elt F) ((xS s).view.loc (c : Thread nD τ))) : Buf (Elt F) ((xS s).view.loc (c : Thread nD τ)) :=
  (xS s).view.writes (Elt F) f [⟨Rect.whole S384x32x128, blk c XK XV n⟩]
abbrev NN (s : Fin 2) : ℕ := 98304
abbrev flightP (s : Fin 2) (n : Fin 10) (f : Buf (Elt F) ((xS s).view.loc (c : Thread nD τ))) : sProp 𝕄 :=
  Transfers.Flight countersEmb (c : Thread nD τ) (SemLoc.dma (xsm s).sem) () (NN s) iprop(xP c s (landed c XK XV s n f) ∗ home c XK XV n)

abbrev sP (f : Buf (Elt F) (sM.view.loc (c : Thread nD τ))) : sProp 𝕄 := sM.view.loc (c : Thread nD τ) ↦[sM.view.set]{fullShare} f
abbrev gP (f : Buf (Elt F) (gM.view.loc (c : Thread nD τ))) : sProp 𝕄 := gM.view.loc (c : Thread nD τ) ↦[gM.view.set]{fullShare} f
abbrev rP (f : Buf (Elt F) (rM.view.loc (c : Thread nD τ))) : sProp 𝕄 := rM.view.loc (c : Thread nD τ) ↦[rM.view.set]{fullShare} f
abbrev lP (f : Buf (Elt F) (lM.view.loc (c : Thread nD τ))) : sProp 𝕄 := lM.view.loc (c : Thread nD τ) ↦[lM.view.set]{fullShare} f
abbrev tP (f : Buf (Elt F) (tM.view.loc (c : Thread nD τ))) : sProp 𝕄 := tM.view.loc (c : Thread nD τ) ↦[tM.view.set]{fullShare} f

abbrev hP (f : Buf (Elt F) (hM.view.loc (c : Thread nD τ))) : sProp 𝕄 := hM.view.loc (c : Thread nD τ) ↦[hM.view.set]{fullShare} f
abbrev iP (f : Buf (Elt F) (iM.view.loc (c : Thread nD τ))) : sProp 𝕄 := iM.view.loc (c : Thread nD τ) ↦[iM.view.set]{fullShare} f
abbrev nP (f : Buf (Elt F) (nM.view.loc (c : Thread nD τ))) : sProp 𝕄 := nM.view.loc (c : Thread nD τ) ↦[nM.view.set]{fullShare} f
abbrev swP (f : Buf (Elt F) (swM.view.loc (c : Thread nD τ))) : sProp 𝕄 := swM.view.loc (c : Thread nD τ) ↦[swM.view.set]{fullShare} f
abbrev wP (f : Buf (Elt F) (wM.view.loc (c : Thread nD τ))) : sProp 𝕄 := wM.view.loc (c : Thread nD τ) ↦[wM.view.set]{fullShare} f
abbrev aP (f : Buf (Elt F) (aM.view.loc (c : Thread nD τ))) : sProp 𝕄 := aM.view.loc (c : Thread nD τ) ↦[aM.view.set]{fullShare} f
abbrev isP (s : Fin 2) (f : Buf (Elt F) ((iS s).view.loc (c : Thread nD τ))) : sProp 𝕄 := (iS s).view.loc (c : Thread nD τ) ↦[(iS s).view.set]{fullShare} f
abbrev pP (s : Fin 2) (f : Buf (Elt F) ((pS s).view.loc (c : Thread nD τ))) : sProp 𝕄 := (pS s).view.loc (c : Thread nD τ) ↦[(pS s).view.set]{fullShare} f
abbrev pC (s : Fin 2) : sProp 𝕄 := semVal ((c : Thread nD τ), SemLoc.dma (psm s).sem) 0
abbrev dcP (b : Fin 5) (f : Buf (Elt F) ((dcB b).view.loc (c : Thread nD τ))) : sProp 𝕄 := (dcB b).view.loc (c : Thread nD τ) ↦[(dcB b).view.set]{fullShare} f

end Pieces

end Cert.Proof.Kernel

end
-- ==== Proof.Kernel.Facts.lean ====
/-
  What the stores of a streaming trip leave, element by element.
-/
module

public import proofs.«01_k».proof.Proof.Kernel.Res
public import Idealize.ShloMosaic.Lib.Pointwise
public import Idealize.ShloMosaic.Lib.VecWindow
public import Idealize.ShloMosaic.Lib.Pipeline.Value

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

set_option maxRecDepth 16384

section Facts
variable (c : Dev nD)

/-- The gradient buffer's words after the regrouping: element `(j, h, t, d)` of the regrouped buffer is `(t, h, d)` of block `j`. -/
def GG (fs : Buf (Elt F) (sM.view.loc (c : Thread nD τ))) (y : S5x32x384x128.Idx) : Elt F .bf16 :=
  sM.view.read (Elt F) fs (ix3 (y 2) (y 1) (y 3))

theorem sOff_inb (h : Fin 32) : ∀ a, (![0, h.val, 0] : Fin 3 → Nat) a + S384x1x128.size a ≤ S384x32x128.size a := by
  revert h; decide +kernel

/-- What the trip stores for head `h`. -/
abbrev gpay (fs : Buf (Elt F) (sM.view.loc (c : Thread nD τ))) (h : Fin 32) : S1x1x384x128.Idx → Elt F .bf16 :=
  shapeCast S1x1x384x128 (shapeCast S384x128
    (sM.view.readAt (Elt F) (Rect.unit (s := S384x32x128) ![0, h.val, 0] S384x1x128.size (sOff_inb h)).toLoadRect fs) shapeCasts_S384x1x128_S384x128) shapeCasts_S384x128_S1x1x384x128

theorem g_pure {α : Type} (v : S384x1x128.Idx → α) (a : Fin 1) (b : Fin 1) (t : Fin 384) (d : Fin 128) :
    shapeCast S1x1x384x128 (shapeCast S384x128 v shapeCasts_S384x1x128_S384x128) shapeCasts_S384x128_S1x1x384x128 (ix4 a b t d)
      = v (ix3 t 0 d) := by
  pointwise

theorem gpay_eq (fs : Buf (Elt F) (sM.view.loc (c : Thread nD τ))) (h : Fin 32) (k : ℕ) (off : Fin 4 → ℕ) (e : off = ![k, h.val, 0, 0]) (inb)
    (x : S1x1x384x128.Idx) : gpay c fs h x = GG c fs ((Rect.unit (s := S5x32x384x128) off S1x1x384x128.size inb).emb x) := by
  subst e
  idx_vars x
  unfold gpay GG
  rw [g_pure, View.readAt_apply]
  refine congrArg (sM.view.read (Elt F) fs) (funext fun a => Fin.ext ?_)
  have hx0 : x0.val = 0 := by omega
  have hx1 : x1.val = 0 := by omega
  fin_cases a
  · show 0 + 1 * x2.val = 0 + 1 * x2.val; rfl
  · show h.val + 1 * 0 = h.val + 1 * x1.val; rw [hx1]
  · show 0 + 1 * x3.val = 0 + 1 * x3.val; rfl

/-- The widened latent, transposed and cut in chunks of 128 tokens: element `(n, r, l)` is code times scale of token
    `128 (n % 3) + l` of batch `n / 3`, rank `r`. -/
def TT (fr : Buf (Elt F) (rM.view.loc (c : Thread nD τ))) (fl : Buf (Elt F) (lM.view.loc (c : Thread nD τ))) (y : S15x768x128.Idx) : Elt F .bf16 :=
  have h0 : (y 0).val < 15 := (y 0).isLt
  have h1 : (y 1).val < 768 := (y 1).isLt
  have h2 : (y 2).val < 128 := (y 2).isLt
  FloatOps.mulf (F := F) (φ := .bf16)
    (FloatOps.extf .bf16 bitsLt_fp8e4m3_bf16 (rM.view.read (Elt F) fr (ix3 ⟨(y 0).val / 3, by omega⟩ ⟨128 * ((y 0).val % 3) + (y 2).val, by omega⟩ (y 1))))
    (FloatOps.truncf .bf16 bitsLt_bf16_f32 (lM.view.read (Elt F) fl (ix3 ⟨(y 0).val / 3, by omega⟩ ⟨(y 1).val / 128, by omega⟩ ⟨128 * ((y 0).val % 3) + (y 2).val, by omega⟩)))

theorem tslice (rb : Fin 6) : S768x128.Slices ![128 * rb.val, 0] S128x128 := by
  revert rb; decide +kernel

/-- What the trip stores for 128 tokens and the scale block `rb`, from the codes and the scales it loads. -/
abbrev tpay (rb : Fin 6) (A : Vec F S1x128x768 .fp8e4m3) (B : Vec F S1x1x128 .f32) : FVec F S1x128x128 .bf16 :=
  shapeCast S1x128x128 (mulf
    (extractStridedSlice S128x128 ![128 * rb.val, 0]
      (transpose S768x128 [1, 0] (extf .bf16 (shapeCast S128x768 A shapeCasts_S1x128x768_S128x768) bitsLt_fp8e4m3_bf16) transposes_S128x768_p1_0_S768x128) (tslice rb))
    (broadcastTo S128x128 (truncf .bf16 (shapeCast S1x128 B shapeCasts_S1x1x128_S1x128) bitsLt_bf16_f32) broadcasts_S1x128_S128x128))
    shapeCasts_S128x128_S1x128x128

theorem t_pure (rb : Fin 6) (A : Vec F S1x128x768 .fp8e4m3) (B : Vec F S1x1x128 .f32) (a : Fin 1) (r : Fin 128) (l : Fin 128) :
    tpay rb A B (ix3 a r l) = FloatOps.mulf (F := F) (φ := .bf16)
      (FloatOps.extf .bf16 bitsLt_fp8e4m3_bf16 (A (ix3 0 l ⟨128 * rb.val + r.val, by omega⟩)))
      (FloatOps.truncf .bf16 bitsLt_bf16_f32 (B (ix3 0 0 l))) := by
  pointwise [tpay]

theorem tpay_eq (fr : Buf (Elt F) (rM.view.loc (c : Thread nD τ))) (fl : Buf (Elt F) (lM.view.loc (c : Thread nD τ)))
    (k : ℕ) (i : Fin 3) (rb : Fin 6) (off offr offl : Fin 3 → ℕ) (e : off = ![3 * k + i.val, 128 * rb.val, 0])
    (er : offr = ![k, 128 * i.val, 0]) (el : offl = ![k, rb.val, 128 * i.val]) (inb inbr inbl) (x : S1x128x128.Idx) :
    tpay rb (rM.view.readAt (Elt F) (Rect.unit (s := S5x384x768) offr S1x128x768.size inbr).toLoadRect fr)
        (lM.view.readAt (Elt F) (Rect.unit (s := S5x6x384) offl S1x1x128.size inbl).toLoadRect fl) x
      = TT c fr fl ((Rect.unit (s := S15x768x128) off S1x128x128.size inb).emb x) := by
  subst e er el
  idx_vars x
  rw [t_pure, View.readAt_apply, View.readAt_apply]
  unfold TT
  have hx0 : x0.val = 0 := by omega
  have hi := i.isLt
  have hrb := rb.isLt
  refine congrArg₂ (FloatOps.mulf (F := F) (φ := .bf16))
    (congrArg (FloatOps.extf .bf16 bitsLt_fp8e4m3_bf16) (congrArg (rM.view.read (Elt F) fr) (funext fun a => Fin.ext ?_)))
    (congrArg (FloatOps.truncf .bf16 bitsLt_bf16_f32) (congrArg (lM.view.read (Elt F) fl) (funext fun a => Fin.ext ?_)))
  · fin_cases a
    · show k + 1 * 0 = (3 * k + i.val + 1 * x0.val) / 3; omega
    · show 128 * i.val + 1 * x2.val = 128 * ((3 * k + i.val + 1 * x0.val) % 3) + (0 + 1 * x2.val); omega
    · show 0 + 1 * (128 * rb.val + x1.val) = 128 * rb.val + 1 * x1.val; omega
  · fin_cases a
    · show k + 1 * 0 = (3 * k + i.val + 1 * x0.val) / 3; omega
    · show rb.val + 1 * 0 = (128 * rb.val + 1 * x1.val) / 128; omega
    · show 128 * i.val + 1 * x2.val = 128 * ((3 * k + i.val + 1 * x0.val) % 3) + (0 + 1 * x2.val); omega

/-! ## A trip's stores as a list -/

/-- One store of the regrouping. -/
def IsG (fs : Buf (Elt F) (sM.view.loc (c : Thread nD τ))) (k : ℕ) (h : Fin 32) (p : View.Piece (Elt F) S5x32x384x128 .bf16) : Prop :=
  ∃ off inb, off = ![k, h.val, 0, 0] ∧ p = ⟨Rect.unit (s := S5x32x384x128) off S1x1x384x128.size inb, gpay c fs h⟩

/-- One store of the widened latent. -/
def IsT (fr : Buf (Elt F) (rM.view.loc (c : Thread nD τ))) (fl : Buf (Elt F) (lM.view.loc (c : Thread nD τ)))
    (k : ℕ) (ib : Fin 3 × Fin 6) (p : View.Piece (Elt F) S15x768x128 .bf16) : Prop :=
  ∃ off inb offr inbr offl inbl, off = ![3 * k + ib.1.val, 128 * ib.2.val, 0] ∧ offr = ![k, 128 * ib.1.val, 0] ∧ offl = ![k, ib.2.val, 128 * ib.1.val] ∧
    p = ⟨Rect.unit (s := S15x768x128) off S1x128x128.size inb,
      tpay ib.2 (rM.view.readAt (Elt F) (Rect.unit (s := S5x384x768) offr S1x128x768.size inbr).toLoadRect fr)
        (lM.view.readAt (Elt F) (Rect.unit (s := S5x6x384) offl S1x1x128.size inbl).toLoadRect fl)⟩

theorem forall₂_mem {α β : Type*} {R : α → β → Prop} {l : List α} {l' : List β} (h : List.Forall₂ R l l') :
    (∀ b ∈ l', ∃ a ∈ l, R a b) ∧ ∀ a ∈ l, ∃ b ∈ l', R a b := by
  induction h with
  | nil => simp
  | cons h _ ih =>
    refine ⟨fun b hb => ?_, fun a ha => ?_⟩
    · rcases List.mem_cons.1 hb with rfl | hb
      · exact ⟨_, List.mem_cons_self, h⟩
      · obtain ⟨a, ha, hr⟩ := ih.1 b hb; exact ⟨a, List.mem_cons_of_mem _ ha, hr⟩
    · rcases List.mem_cons.1 ha with rfl | ha
      · exact ⟨_, List.mem_cons_self, h⟩
      · obtain ⟨b, hb, hr⟩ := ih.2 a ha; exact ⟨b, List.mem_cons_of_mem _ hb, hr⟩

/-- The heads in the order in which a list of stores names them, the last first. -/
abbrev heads : List (Fin 32) := [31, 30, 29, 28, 27, 26, 25, 24, 23, 22, 21, 20, 19, 18, 17, 16, 15, 14, 13, 12, 11, 10, 9, 8, 7, 6, 5, 4, 3, 2, 1, 0]
abbrev chunks : List (Fin 3 × Fin 6) := [(2, 5), (2, 4), (2, 3), (2, 2), (2, 1), (2, 0), (1, 5), (1, 4), (1, 3), (1, 2), (1, 1), (1, 0), (0, 5), (0, 4), (0, 3), (0, 2), (0, 1), (0, 0)]
theorem mem_heads : ∀ h, h ∈ heads := by decide
theorem mem_chunks : ∀ i, i ∈ chunks := by decide

theorem mem_unit4 {off : Fin 4 → ℕ} (y : S5x32x384x128.Idx) (k h : ℕ) (e : off = ![k, h, 0, 0]) (inb) :
    y ∈ (Rect.unit (s := S5x32x384x128) off S1x1x384x128.size inb).set ↔ (y 0).val = k ∧ (y 1).val = h := by
  subst e
  rw [Rect.mem_set_unit]
  have h2 : (y 2).val < 384 := (y 2).isLt
  have h3 : (y 3).val < 128 := (y 3).isLt
  constructor
  · intro H
    have a0 : k ≤ (y 0).val ∧ (y 0).val < k + 1 := H 0
    have a1 : h ≤ (y 1).val ∧ (y 1).val < h + 1 := H 1
    omega
  · intro H i; fin_cases i
    · show k ≤ (y 0).val ∧ (y 0).val < k + 1; omega
    · show h ≤ (y 1).val ∧ (y 1).val < h + 1; omega
    · show 0 ≤ (y 2).val ∧ (y 2).val < 0 + 384; omega
    · show 0 ≤ (y 3).val ∧ (y 3).val < 0 + 128; omega

theorem mem_unit3 {off : Fin 3 → ℕ} (y : S15x768x128.Idx) (n b : ℕ) (e : off = ![n, 128 * b, 0]) (inb) :
    y ∈ (Rect.unit (s := S15x768x128) off S1x128x128.size inb).set ↔ (y 0).val = n ∧ (y 1).val / 128 = b := by
  subst e
  rw [Rect.mem_set_unit]
  have h2 : (y 2).val < 128 := (y 2).isLt
  constructor
  · intro H
    have a0 : n ≤ (y 0).val ∧ (y 0).val < n + 1 := H 0
    have a1 : 128 * b ≤ (y 1).val ∧ (y 1).val < 128 * b + 128 := H 1
    omega
  · intro H i; fin_cases i
    · show n ≤ (y 0).val ∧ (y 0).val < n + 1; omega
    · show 128 * b ≤ (y 1).val ∧ (y 1).val < 128 * b + 128; omega
    · show 0 ≤ (y 2).val ∧ (y 2).val < 0 + 128; omega

/-- The regrouped buffer after trip `k`: block `k` is the trip's, the others as before. -/
theorem g_after (fs : Buf (Elt F) (sM.view.loc (c : Thread nD τ))) (fg : Buf (Elt F) (gM.view.loc (c : Thread nD τ))) (k : ℕ)
    {L : List (View.Piece (Elt F) S5x32x384x128 .bf16)} (h : List.Forall₂ (IsG c fs k) heads L) (y : S5x32x384x128.Idx) :
    gM.view.read (Elt F) (gM.view.writes (Elt F) fg L) y = if (y 0).val = k then GG c fs y else gM.view.read (Elt F) fg y := by
  have h := forall₂_mem h
  by_cases hy : (y 0).val = k
  · rw [if_pos hy]
    refine View.read_writes_apply_of_pieces _ _ (GG c fs) L (fun p hp x => ?_) y ?_
    · obtain ⟨a, -, off, inb, e, rfl⟩ := h.1 p hp
      exact gpay_eq c fs a k off e inb x
    · obtain ⟨p, hp, off, inb, e, rfl⟩ := h.2 (y 1) (mem_heads _)
      exact ⟨_, hp, (mem_unit4 y k (y 1).val e inb).2 ⟨hy, rfl⟩⟩
  · rw [if_neg hy]
    refine View.read_writes_apply_of_forall_not_mem _ _ y L fun p hp => ?_
    obtain ⟨a, -, off, inb, e, rfl⟩ := h.1 p hp
    exact fun hm => hy ((mem_unit4 y k a.val e inb).1 hm).1

/-- The widened latent after trip `k`: the three chunks of batch `k` are the trip's, the others as before. -/
theorem t_after (fr : Buf (Elt F) (rM.view.loc (c : Thread nD τ))) (fl : Buf (Elt F) (lM.view.loc (c : Thread nD τ))) (ft : Buf (Elt F) (tM.view.loc (c : Thread nD τ))) (k : ℕ)
    {L : List (View.Piece (Elt F) S15x768x128 .bf16)} (h : List.Forall₂ (IsT c fr fl k) chunks L) (y : S15x768x128.Idx) :
    tM.view.read (Elt F) (tM.view.writes (Elt F) ft L) y = if (y 0).val / 3 = k then TT c fr fl y else tM.view.read (Elt F) ft y := by
  have h := forall₂_mem h
  have hy1 : (y 1).val < 768 := (y 1).isLt
  by_cases hy : (y 0).val / 3 = k
  · rw [if_pos hy]
    refine View.read_writes_apply_of_pieces _ _ (TT c fr fl) L (fun p hp x => ?_) y ?_
    · obtain ⟨a, -, off, inb, offr, inbr, offl, inbl, e, er, el, rfl⟩ := h.1 p hp
      exact tpay_eq c fr fl k a.1 a.2 off offr offl e er el inb inbr inbl x
    · obtain ⟨p, hp, off, inb, offr, inbr, offl, inbl, e, er, el, rfl⟩ := h.2 (⟨(y 0).val % 3, by omega⟩, ⟨(y 1).val / 128, by omega⟩) (mem_chunks _)
      exact ⟨_, hp, (mem_unit3 y (3 * k + (y 0).val % 3) ((y 1).val / 128) e inb).2 ⟨by omega, rfl⟩⟩
  · rw [if_neg hy]
    refine View.read_writes_apply_of_forall_not_mem _ _ y L fun p hp => ?_
    obtain ⟨a, -, off, inb, offr, inbr, offl, inbl, e, er, el, rfl⟩ := h.1 p hp
    intro hm
    have := (mem_unit3 y _ _ e inb).1 hm
    have := a.1.isLt
    omega

/-! ## The load of a delivered slot -/

/-- The block loaded from slot `s` is the block that was delivered there, whatever the slot held before. -/
theorem s_after (s : Fin 2) (off : Fin 4 → ℕ) (e : off = xOff s) (inb) (f : Buf (Elt F) ((xS s).view.loc (c : Thread nD τ))) (P : S384x32x128.Idx → Elt F .bf16)
    (fs : Buf (Elt F) (sM.view.loc (c : Thread nD τ))) :
    sM.view.read (Elt F) (sM.view.writes (Elt F) fs
      [⟨Rect.unit (s := S384x32x128) ![0, 0, 0] S384x32x128.size inb_S384x32x128_S384x32x128_0_0_0,
        k0_pay431 (xM.view.readAt (Elt F) (Rect.unit (s := S2x384x32x128) off S1x384x32x128.size inb).toLoadRect
          ((xS s).view.writes (Elt F) f [⟨Rect.whole S384x32x128, P⟩]))⟩]) = P := by
  subst e
  have h : k0_pay431 (xM.view.readAt (Elt F) (Rect.unit (s := S2x384x32x128) (xOff s) S1x384x32x128.size inb).toLoadRect
          ((xS s).view.writes (Elt F) f [⟨Rect.whole S384x32x128, P⟩])) = P := by
    have h1 := View.read_writes_whole (xS s).view f P
    refine Eq.trans ?_ h1
    generalize (xS s).view.writes (Elt F) f [⟨Rect.whole S384x32x128, P⟩] = C
    unfold k0_pay431
    dsimp only
    rw [shapeCast_self]
    exact (Memref.read_squeeze_slice xM (Rect.unit (s := S2x384x32x128) (xOff s) S1x384x32x128.size inb) (fun _ => rfl) squeezes_S1x384x32x128_S384x32x128 shapeCasts_S1x384x32x128_S384x32x128 C).symm
  rw [h]
  exact View.read_writes_full _ _ _ _ _

end Facts

end Cert.Proof.Kernel

end
-- ==== Proof.Kernel.Wide.lean ====
/-
  The widening of the weights: what a stretch of 64 rows leaves in the widened weights.
-/
module

public import proofs.«01_k».proof.Proof.Kernel.Facts

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

set_option maxRecDepth 16384

section Wide
variable (c : Dev nD)

/-- The widened weights, head first: element `(h, r, d)` is code `(r, h, d)` times the scale of rank block `r / 128`, head `h`. -/
def WW (fh : Buf (Elt F) (hM.view.loc (c : Thread nD τ))) (fn : Buf (Elt F) (nM.view.loc (c : Thread nD τ))) (kv : Fin 2) (y : S32x768x128.Idx) : Elt F .bf16 :=
  have h1 : (y 1).val < 768 := (y 1).isLt
  FloatOps.mulf (F := F) (φ := .bf16)
    (FloatOps.extf .bf16 bitsLt_fp8e4m3_bf16 (hM.view.read (Elt F) fh (ix3 (y 1) (y 0) (y 2))))
    (nM.view.read (Elt F) fn (ix4 kv ⟨(y 1).val / 128, by omega⟩ (y 0) (y 2)))

theorem wide_pure (A : Vec F S1x1x32x128 .bf16) (B : Vec F S64x32x128 .fp8e4m3) (r : Fin 64) (h : Fin 32) (d : Fin 128) :
    k0_pay1 A B (ix3 r h d) = FloatOps.mulf (F := F) (φ := .bf16) (FloatOps.extf .bf16 bitsLt_fp8e4m3_bf16 (B (ix3 r h d))) (A (ix4 0 0 h d)) := by
  unfold k0_pay1
  pointwise

theorem wrow_pure {α : Type} (v : S64x1x128.Idx → α) (a : Fin 1) (r : Fin 64) (d : Fin 128) :
    shapeCast S1x64x128 (shapeCast S64x128 v shapeCasts_S64x1x128_S64x128) shapeCasts_S64x128_S1x64x128 (ix3 a r d) = v (ix3 r 0 d) := by
  pointwise

/-- One store of the widening: head `h`, 64 rows from `r₀` on, taken out of the widened rows at `o`. -/
def IsW (fh : Buf (Elt F) (hM.view.loc (c : Thread nD τ))) (fn : Buf (Elt F) (nM.view.loc (c : Thread nD τ))) (kv : Fin 2)
    (p : ℕ × Fin 32) (q : View.Piece (Elt F) S32x768x128 .bf16) : Prop :=
  ∃ (off : Fin 3 → ℕ) (inb : _) (o : Fin 3 → ℕ) (inbo : _) (L : List (View.Piece (Elt F) S192x32x128 .bf16))
    (offn : Fin 4 → ℕ) (inbn : _) (offh : Fin 3 → ℕ) (inbh : _) (inbr : _) (hs : _),
    off = ![p.2.val, p.1, 0] ∧ offn = ![kv.val, p.1 / 128, 0, 0] ∧ offh = ![p.1, 0, 0] ∧ p.1 % 64 = 0 ∧
    q = ⟨Rect.unit (s := S32x768x128) off S1x64x128.size inb,
      shapeCast S1x64x128 (shapeCast S64x128 (swM.view.readCov
        (⟨Rect.unit (s := S192x32x128) o S64x32x128.size inbo,
          k0_pay1 (nM.view.readAt (Elt F) (Rect.unit (s := S2x6x32x128) offn S1x1x32x128.size inbn).toLoadRect fn)
            (hM.view.readAt (Elt F) (Rect.unit (s := S768x32x128) offh S64x32x128.size inbh).toLoadRect fh)⟩ :: L)
        ((Rect.unit (s := S192x32x128) o S64x32x128.size inbo).withinL
          (Rect.unit (s := S64x32x128) ![0, p.2.val, 0] S64x1x128.size inbr).toLoadRect hs)) shapeCasts_S64x1x128_S64x128) shapeCasts_S64x128_S1x64x128⟩

theorem mem_wide {off : Fin 3 → ℕ} (y : S32x768x128.Idx) (h r : ℕ) (e : off = ![h, r, 0]) (inb) :
    y ∈ (Rect.unit (s := S32x768x128) off S1x64x128.size inb).set ↔ (y 0).val = h ∧ r ≤ (y 1).val ∧ (y 1).val < r + 64 := by
  subst e
  rw [Rect.mem_set_unit]
  have h2 : (y 2).val < 128 := (y 2).isLt
  constructor
  · intro H
    have a0 : h ≤ (y 0).val ∧ (y 0).val < h + 1 := H 0
    have a1 : r ≤ (y 1).val ∧ (y 1).val < r + 64 := H 1
    omega
  · intro H i; fin_cases i
    · show h ≤ (y 0).val ∧ (y 0).val < h + 1; omega
    · show r ≤ (y 1).val ∧ (y 1).val < r + 64; omega
    · show 0 ≤ (y 2).val ∧ (y 2).val < 0 + 128; omega

theorem isW_eq {fh : Buf (Elt F) (hM.view.loc (c : Thread nD τ))} {fn : Buf (Elt F) (nM.view.loc (c : Thread nD τ))} {kv : Fin 2}
    {p : ℕ × Fin 32} {q : View.Piece (Elt F) S32x768x128 .bf16} (h : IsW c fh fn kv p q) (x : q.1.shape.Idx) :
    q.2 x = WW c fh fn kv (q.1.emb x) := by
  obtain ⟨off, inb, o, inbo, L, offn, inbn, offh, inbh, inbr, hs, e, en, eh, e64, rfl⟩ := h
  subst e en eh
  idx_vars x
  have hx0 : x0.val = 0 := by omega
  have hx1 : x1.val < 64 := x1.isLt
  refine (wrow_pure _ _ _ _).trans ?_
  rw [View.readCov_eq_canon']
  refine (congrArg (View.canon _) (Rect.idx_withinL _ _ hs _)).trans ?_
  have hi : (Rect.unit (s := S64x32x128) ![0, p.2.val, 0] S64x1x128.size inbr).toLoadRect.idx (ix3 x1 0 x2) = (ix3 x1 p.2 x2 : S64x32x128.Idx) := by
    refine funext fun a => Fin.ext ?_
    fin_cases a
    · show 0 + 1 * x1.val = x1.val; omega
    · show p.2.val + 1 * 0 = p.2.val; omega
    · show 0 + 1 * x2.val = x2.val; omega
  rw [hi]
  refine (View.canon_cons_emb _ _ _ _).trans ?_
  rw [wide_pure, View.readAt_apply, View.readAt_apply]
  unfold WW
  refine congrArg₂ (FloatOps.mulf (F := F) (φ := .bf16))
    (congrArg (FloatOps.extf .bf16 bitsLt_fp8e4m3_bf16) (congrArg (hM.view.read (Elt F) fh) (funext fun a => Fin.ext ?_)))
    (congrArg (nM.view.read (Elt F) fn) (funext fun a => Fin.ext ?_))
  · fin_cases a
    · show p.1 + 1 * x1.val = p.1 + 1 * x1.val; rfl
    · show 0 + 1 * p.2.val = p.2.val + 1 * x0.val; omega
    · show 0 + 1 * x2.val = 0 + 1 * x2.val; rfl
  · fin_cases a
    · show kv.val + 1 * 0 = kv.val; omega
    · show p.1 / 128 + 1 * 0 = (p.1 + 1 * x1.val) / 128; omega
    · show 0 + 1 * p.2.val = p.2.val + 1 * x0.val; omega
    · show 0 + 1 * x2.val = 0 + 1 * x2.val; rfl

/-- The stores of a widening of the 64-row stretches that begin at `rs`. -/
abbrev wkeys (rs : List ℕ) : List (ℕ × Fin 32) := rs.flatMap fun r => heads.map fun h => (r, h)
theorem mem_wkeys (rs : List ℕ) (r : ℕ) (h : Fin 32) : (r, h) ∈ wkeys rs ↔ r ∈ rs := by
  simp only [wkeys, List.mem_flatMap, List.mem_map, Prod.mk.injEq]
  exact ⟨fun ⟨a, ha, b, hb, e, _⟩ => e ▸ ha, fun hr => ⟨r, hr, h, mem_heads h, rfl, rfl⟩⟩

/-- From `fw` to `fw'` the widened weights change in the stretches at `rs` alone, where they become the widening's. -/
def WUpd (fh : Buf (Elt F) (hM.view.loc (c : Thread nD τ))) (fn : Buf (Elt F) (nM.view.loc (c : Thread nD τ))) (kv : Fin 2) (rs : List ℕ)
    (fw fw' : Buf (Elt F) (wM.view.loc (c : Thread nD τ))) : Prop :=
  ∀ y : S32x768x128.Idx, ((∃ r ∈ rs, r ≤ (y 1).val ∧ (y 1).val < r + 64) → wM.view.read (Elt F) fw' y = WW c fh fn kv y)
    ∧ ((¬ ∃ r ∈ rs, r ≤ (y 1).val ∧ (y 1).val < r + 64) → wM.view.read (Elt F) fw' y = wM.view.read (Elt F) fw y)

/-- The widened weights after it: the stretches are the widening's, the other rows as before. -/
theorem w_after (fh : Buf (Elt F) (hM.view.loc (c : Thread nD τ))) (fn : Buf (Elt F) (nM.view.loc (c : Thread nD τ))) (kv : Fin 2)
    (fw : Buf (Elt F) (wM.view.loc (c : Thread nD τ))) (rs : List ℕ) {L : List (View.Piece (Elt F) S32x768x128 .bf16)}
    (h : List.Forall₂ (IsW c fh fn kv) (wkeys rs) L) :
    WUpd c fh fn kv rs fw (wM.view.writes (Elt F) fw L) := by
  have h := forall₂_mem h
  refine fun y => ⟨fun hy => ?_, fun hy => ?_⟩
  · obtain ⟨r, hr, hy⟩ := hy
    refine View.read_writes_apply_of_pieces _ _ (WW c fh fn kv) L (fun q hq x => ?_) y ?_
    · obtain ⟨a, -, ha⟩ := h.1 q hq
      exact isW_eq c ha x
    · obtain ⟨q, hq, hw⟩ := h.2 (r, y 0) ((mem_wkeys rs r _).2 hr)
      refine ⟨q, hq, ?_⟩
      obtain ⟨off, inb, -, -, -, -, -, -, -, -, -, e, -, -, -, rfl⟩ := hw
      exact (mem_wide y (y 0).val r e inb).2 ⟨rfl, hy⟩
  · refine View.read_writes_apply_of_forall_not_mem _ _ y L fun q hq => ?_
    obtain ⟨a, ha, hw⟩ := h.1 q hq
    obtain ⟨off, inb, -, -, -, -, -, -, -, -, -, e, -, -, -, rfl⟩ := hw
    intro hm
    exact hy ⟨a.1, (mem_wkeys rs a.1 a.2).1 ha, ((mem_wide y a.2.val a.1 e inb).1 hm).2⟩

end Wide

end Cert.Proof.Kernel

end
-- ==== Proof.Kernel.Dc.lean ====
/-
  The latent gradient: the two matrices that a streaming trip multiplies, and where the product goes.
-/
module

public import proofs.«01_k».proof.Proof.Kernel.Wide

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

set_option maxRecDepth 16384

section Dc
variable (c : Dev nD)

/-- The block in the gradient buffer as one matrix: token by head and dimension. -/
def smat (fs : Buf (Elt F) (sM.view.loc (c : Thread nD τ))) : FVec F S384x4096 .bf16 := fun i =>
  have h : (i 1).val < 4096 := (i 1).isLt
  sM.view.read (Elt F) fs (ix3 (i 0) ⟨(i 1).val / 128, by omega⟩ ⟨(i 1).val % 128, by omega⟩)

/-- The widened weights as one matrix: rank by head and dimension. -/
def wmat (fw : Buf (Elt F) (wM.view.loc (c : Thread nD τ))) : FVec F S768x4096 .bf16 := fun i =>
  have h : (i 1).val < 4096 := (i 1).isLt
  wM.view.read (Elt F) fw (ix3 ⟨(i 1).val / 128, by omega⟩ (i 0) ⟨(i 1).val % 128, by omega⟩)

/-- The product of two such matrices, token by rank. -/
abbrev dprod (A : FVec F S384x4096 .bf16) (B : FVec F S768x4096 .bf16) : FVec F S384x768 .f32 :=
  matmul dot_S384x4096_S768x4096_S384x768_1_1_0_0_n_n none A B (constant S384x768 .f32 0x00000000#32)

abbrev headsUp : List (Fin 32) := [0, 1, 2, 3, 4, 5, 6, 7, 8, 9, 10, 11, 12, 13, 14, 15, 16, 17, 18, 19, 20, 21, 22, 23, 24, 25, 26, 27, 28, 29, 30, 31]
theorem headsUp_get : ∀ n : Fin 32, headsUp[n.val]'n.isLt = n := by decide

theorem ofFn_of_forall₂ {s : Shape} {α : Type} {R : Fin 32 → ((s : Shape) × (s.Idx → α)) → Prop} {l : List ((s : Shape) × (s.Idx → α))} (H : List.Forall₂ R headsUp l)
    (hR : ∀ h p, R h p → ∃ v : s.Idx → α, p = ⟨s, v⟩) : ∃ f : Fin 32 → (s.Idx → α), l = List.ofFn (fun n => (⟨s, f n⟩ : (s : Shape) × (s.Idx → α))) ∧ ∀ n, R n ⟨s, f n⟩ := by
  have hl : l.length = 32 := H.length_eq.symm
  have hg : ∀ n : Fin 32, R n (l[n.val]'(by omega)) := fun n => by
    have := H.get n.isLt (by omega : n.val < l.length)
    have e := headsUp_get n
    simp only [List.get_eq_getElem] at this
    rwa [e] at this
  choose f hf using fun n => hR n _ (hg n)
  refine ⟨f, List.ext_getElem (by rw [hl, List.length_ofFn]) fun i h1 h2 => ?_, fun n => (hf n).subst (motive := R n) (hg n)⟩
  rw [List.getElem_ofFn]
  exact hf ⟨i, by omega⟩

/-! ## The block -/

/-- Row `h` of the block's matrix, loaded back from the regrouped buffer right after the stores `L` of the trip. -/
def IsRow (L : List (View.Piece (Elt F) S5x32x384x128 .bf16)) (k : ℕ) (h : Fin 32) (p : (s : Shape) × (s.Idx → Elt F .bf16)) : Prop :=
  ∃ (off : Fin 4 → ℕ) (inb : _), off = ![k, h.val, 0, 0] ∧
    p = ⟨S384x128, shapeCast S384x128 (gM.view.readCov L (Rect.unit (s := S5x32x384x128) off S1x1x384x128.size inb).toLoadRect) shapeCasts_S1x1x384x128_S384x128⟩

theorem grow_pure {α : Type} (v : S1x1x384x128.Idx → α) (h) (r : Fin 384) (l : Fin 128) : shapeCast S384x128 v h (ix2 r l) = v (ix4 0 0 r l) := by
  pointwise

theorem smat_eq (fs : Buf (Elt F) (sM.view.loc (c : Thread nD τ))) (k : ℕ) {L : List (View.Piece (Elt F) S5x32x384x128 .bf16)} (hL : List.Forall₂ (IsG c fs k) heads L)
    {l : List ((s : Shape) × (s.Idx → Elt F .bf16))} (H : List.Forall₂ (IsRow L k) headsUp l) (hc) : concatenate S384x4096 1 l hc = smat c fs := by
  obtain ⟨f, rfl, hf⟩ := ofFn_of_forall₂ H (fun h p hp => by obtain ⟨off, inb, -, rfl⟩ := hp; exact ⟨_, rfl⟩)
  funext i
  have h : (i 1).val < 4096 := (i 1).isLt
  refine (concatenate_ofFn_apply (t := S384x4096) (s₁ := S384x128) 1 f hc rfl 128 rfl i ⟨(i 1).val / 128, by omega⟩ rfl
    (ix2 (i 0) ⟨(i 1).val % 128, by omega⟩) rfl (fun b hb => ?_)).trans ?_
  · fin_cases b
    · rfl
    · exact absurd rfl hb
  · obtain ⟨off, inb, e, hp⟩ := hf ⟨(i 1).val / 128, by omega⟩
    subst e
    rw [eq_of_heq (Sigma.mk.inj hp).2]
    refine (grow_pure _ _ _ _).trans ?_
    refine (g_after c fs gM.view.junk k hL _).trans ?_
    have he : ((Rect.unit (s := S5x32x384x128) ![k, (i 1).val / 128, 0, 0] S1x1x384x128.size inb).toLoadRect.idx (ix4 0 0 (i 0) ⟨(i 1).val % 128, by omega⟩) 0).val = k := by
      show k + 1 * 0 = k; omega
    rw [if_pos he]
    unfold GG smat
    refine congrArg (sM.view.read (Elt F) fs) (funext fun a => Fin.ext ?_)
    fin_cases a
    · show 0 + 1 * (i 0).val = (i 0).val; omega
    · show (i 1).val / 128 + 1 * 0 = (i 1).val / 128; omega
    · show 0 + 1 * ((i 1).val % 128) = (i 1).val % 128; omega

/-! ## The weights -/

/-- Head `h` of the widened weights, loaded. -/
def IsWt (fw : Buf (Elt F) (wM.view.loc (c : Thread nD τ))) (h : Fin 32) (p : (s : Shape) × (s.Idx → Elt F .bf16)) : Prop :=
  ∃ (off : Fin 3 → ℕ) (inb : _), off = ![h.val, 0, 0] ∧
    p = ⟨S768x128, shapeCast S768x128 (wM.view.readAt (Elt F) (Rect.unit (s := S32x768x128) off S1x768x128.size inb).toLoadRect fw) shapeCasts_S1x768x128_S768x128⟩

theorem wt_pure {α : Type} (v : S1x768x128.Idx → α) (h) (r : Fin 768) (l : Fin 128) : shapeCast S768x128 v h (ix2 r l) = v (ix3 0 r l) := by
  pointwise

theorem wmat_eq (fw : Buf (Elt F) (wM.view.loc (c : Thread nD τ)))
    {l : List ((s : Shape) × (s.Idx → Elt F .bf16))} (H : List.Forall₂ (IsWt c fw) headsUp l) (hc) : concatenate S768x4096 1 l hc = wmat c fw := by
  obtain ⟨f, rfl, hf⟩ := ofFn_of_forall₂ H (fun h p hp => by obtain ⟨off, inb, -, rfl⟩ := hp; exact ⟨_, rfl⟩)
  funext i
  have h : (i 1).val < 4096 := (i 1).isLt
  refine (concatenate_ofFn_apply (t := S768x4096) (s₁ := S768x128) 1 f hc rfl 128 rfl i ⟨(i 1).val / 128, by omega⟩ rfl
    (ix2 (i 0) ⟨(i 1).val % 128, by omega⟩) rfl (fun b hb => ?_)).trans ?_
  · fin_cases b
    · rfl
    · exact absurd rfl hb
  · obtain ⟨off, inb, e, hp⟩ := hf ⟨(i 1).val / 128, by omega⟩
    subst e
    rw [eq_of_heq (Sigma.mk.inj hp).2]
    refine (wt_pure _ _ _ _).trans ((View.readAt_apply _ _ _).trans ?_)
    unfold wmat
    refine congrArg (wM.view.read (Elt F) fw) (funext fun a => Fin.ext ?_)
    fin_cases a
    · show (i 1).val / 128 + 1 * 0 = (i 1).val / 128; omega
    · show 0 + 1 * (i 0).val = (i 0).val; omega
    · show 0 + 1 * ((i 1).val % 128) = (i 1).val % 128; omega

theorem wts (fw : Buf (Elt F) (wM.view.loc (c : Thread nD τ))) {l} (h : l = headsUp.map fun h => (⟨S768x128, shapeCast S768x128 (wM.view.readAt (Elt F) (Rect.unit (s := S32x768x128) ![h.val, 0, 0] S1x768x128.size (by revert h; decide +kernel)).toLoadRect fw) shapeCasts_S1x768x128_S768x128⟩ : (s : Shape) × (s.Idx → Elt F .bf16))) :
    List.Forall₂ (IsWt c fw) headsUp l := by
  subst h
  exact List.forall₂_map_right_iff.2 (List.forall₂_same.2 fun h _ => ⟨_, _, rfl, rfl⟩)

/-! ## The first half of the sum -/

/-- The product by the running sum's indices. -/
def dcell (fs : Buf (Elt F) (sM.view.loc (c : Thread nD τ))) (fw : Buf (Elt F) (wM.view.loc (c : Thread nD τ))) (z : S5x384x768.Idx) : Elt F .f32 :=
  dprod (smat c fs) (wmat c fw) (ix2 (z 1) (z 2))

/-- From `fa` to `fa'` the running sum changes in block `k` alone, which becomes the product. -/
def AUpd (k : ℕ) (fs : Buf (Elt F) (sM.view.loc (c : Thread nD τ))) (fw : Buf (Elt F) (wM.view.loc (c : Thread nD τ))) (fa fa' : Buf (Elt F) (aM.view.loc (c : Thread nD τ))) : Prop :=
  ∀ y : S5x384x768.Idx, aM.view.read (Elt F) fa' y = if (y 0).val = k then dcell c fs fw y else aM.view.read (Elt F) fa y

theorem acast {α : Type} (v : S384x768.Idx → α) (h) (a : Fin 1) (r : Fin 384) (l : Fin 768) : shapeCast S1x384x768 v h (ix3 a r l) = v (ix2 r l) := by
  pointwise

theorem mem_a {off : Fin 3 → ℕ} (y : S5x384x768.Idx) (k : ℕ) (e : off = ![k, 0, 0]) (inb) :
    y ∈ (Rect.unit (s := S5x384x768) off S1x384x768.size inb).set ↔ (y 0).val = k := by
  subst e
  rw [Rect.mem_set_unit]
  have h1 : (y 1).val < 384 := (y 1).isLt
  have h2 : (y 2).val < 768 := (y 2).isLt
  constructor
  · intro H
    have a0 : k ≤ (y 0).val ∧ (y 0).val < k + 1 := H 0
    omega
  · intro H i; fin_cases i
    · show k ≤ (y 0).val ∧ (y 0).val < k + 1; omega
    · show 0 ≤ (y 1).val ∧ (y 1).val < 0 + 384; omega
    · show 0 ≤ (y 2).val ∧ (y 2).val < 0 + 768; omega

theorem a_after (k : ℕ) (fs : Buf (Elt F) (sM.view.loc (c : Thread nD τ))) (fw : Buf (Elt F) (wM.view.loc (c : Thread nD τ))) (fa : Buf (Elt F) (aM.view.loc (c : Thread nD τ)))
    {off : Fin 3 → ℕ} (e : off = ![k, 0, 0]) {inb} {p : S1x384x768.Idx → Elt F .f32} {L : List (View.Piece (Elt F) S5x32x384x128 .bf16)} (hL : List.Forall₂ (IsG c fs k) heads L)
    {l l' : List ((s : Shape) × (s.Idx → Elt F .bf16))} {hc hc'}
    (hp : p = shapeCast S1x384x768 (dprod (concatenate S384x4096 1 l hc) (concatenate S768x4096 1 l' hc')) shapeCasts_S384x768_S1x384x768)
    (H : List.Forall₂ (IsRow L k) headsUp l) (H' : List.Forall₂ (IsWt c fw) headsUp l') :
    AUpd c k fs fw fa (aM.view.writes (Elt F) fa [⟨Rect.unit (s := S5x384x768) off S1x384x768.size inb, p⟩]) := by
  rw [smat_eq c fs k hL H, wmat_eq c fw H'] at hp
  subst hp
  intro y
  by_cases hy : (y 0).val = k
  · rw [if_pos hy]
    refine View.read_writes_apply_of_pieces _ _ (dcell c fs fw) _ (fun q hq x => ?_) y ?_
    · obtain rfl := List.mem_singleton.1 hq
      subst e
      idx_vars x
      refine (acast (dprod (smat c fs) (wmat c fw)) _ _ _ _).trans (congrArg (dprod (smat c fs) (wmat c fw)) (funext fun a => Fin.ext ?_))
      fin_cases a
      · show x1.val = 0 + 1 * x1.val; omega
      · show x2.val = 0 + 1 * x2.val; omega
    · exact ⟨_, List.mem_singleton_self _, (mem_a y k e inb).2 hy⟩
  · rw [if_neg hy]
    refine View.read_writes_apply_of_forall_not_mem _ _ y _ fun q hq => ?_
    obtain rfl := List.mem_singleton.1 hq
    exact fun hm => hy ((mem_a y k e inb).1 hm)

/-! ## The second half of the sum -/

/-- What a trip of the second loop sends out: the block's running sum and the second product, added and rounded. -/
def PP (k : Fin 5) (fs : Buf (Elt F) (sM.view.loc (c : Thread nD τ))) (fw : Buf (Elt F) (wM.view.loc (c : Thread nD τ))) (fa : Buf (Elt F) (aM.view.loc (c : Thread nD τ)))
    (y : S384x768.Idx) : Elt F .bf16 :=
  FloatOps.truncf (F := F) .bf16 bitsLt_bf16_f32 (FloatOps.addf (F := F) (φ := .f32) (aM.view.read (Elt F) fa (ix3 k (y 0) (y 1))) (dprod (smat c fs) (wmat c fw) y))

theorem pcast {α : Type} (v : S1x384x768.Idx → α) (h) (r : Fin 384) (l : Fin 768) : shapeCast S384x768 v h (ix2 r l) = v (ix3 0 r l) := by
  pointwise

theorem pback {α : Type} (v : S384x768.Idx → α) (h h') : shapeCast S384x768 (shapeCast S1x384x768 v h) h' = v := by
  funext y
  idx_vars y
  exact (pcast _ _ _ _).trans (acast _ _ _ _ _)

/-- The slot as the trip sends it. -/
theorem p_after (s : Fin 2) (k : Fin 5) (fs : Buf (Elt F) (sM.view.loc (c : Thread nD τ))) (fw : Buf (Elt F) (wM.view.loc (c : Thread nD τ))) (fa : Buf (Elt F) (aM.view.loc (c : Thread nD τ)))
    (fp : Buf (Elt F) ((pS s).view.loc (c : Thread nD τ)))
    {off : Fin 3 → ℕ} (e : off = iOff s) {inb} {offa : Fin 3 → ℕ} (ea : offa = ![k.val, 0, 0]) {inba} {p : S1x384x768.Idx → Elt F .bf16} {L : List (View.Piece (Elt F) S5x32x384x128 .bf16)} (hL : List.Forall₂ (IsG c fs k.val) heads L)
    {l l' : List ((s : Shape) × (s.Idx → Elt F .bf16))} {hc hc'}
    (hp : p = shapeCast S1x384x768 (truncf .bf16 (addf (shapeCast S384x768 (aM.view.readAt (Elt F) (Rect.unit (s := S5x384x768) offa S1x384x768.size inba).toLoadRect fa) shapeCasts_S1x384x768_S384x768)
      (dprod (concatenate S384x4096 1 l hc) (concatenate S768x4096 1 l' hc'))) bitsLt_bf16_f32) shapeCasts_S384x768_S1x384x768)
    (H : List.Forall₂ (IsRow L k.val) headsUp l) (H' : List.Forall₂ (IsWt c fw) headsUp l') :
    (pS s).view.read (Elt F) (View.write (Elt F) (pM.access (Rect.unit (s := S2x384x768) off S1x384x768.size inb)) fp p Finset.univ) = PP c k fs fw fa := by
  rw [smat_eq c fs k.val hL H, wmat_eq c fw H'] at hp
  subst e ea
  refine (Memref.read_squeeze_slice pM (Rect.unit (s := S2x384x768) (iOff s) S1x384x768.size inb) (fun _ => rfl) squeezes_S1x384x768_S384x768 shapeCasts_S1x384x768_S384x768 _).trans ?_
  have h1 : pM.view.readAt (Elt F) (Rect.unit (s := S2x384x768) (iOff s) S1x384x768.size inb).toLoadRect
      (View.write (Elt F) (pM.access (Rect.unit (s := S2x384x768) (iOff s) S1x384x768.size inb)) fp p Finset.univ) = p := View.read_write_univ _ _
  rw [h1, hp, pback]
  funext y
  idx_vars y
  refine congrArg (FloatOps.truncf (F := F) .bf16 bitsLt_bf16_f32) (congrArg₂ (FloatOps.addf (F := F) (φ := .f32)) ?_ rfl)
  refine (pcast _ _ _ _).trans ((View.readAt_apply _ _ _).trans (congrArg (aM.view.read (Elt F) fa) (funext fun a => Fin.ext ?_)))
  fin_cases a
  · show k.val + 1 * 0 = k.val; omega
  · show 0 + 1 * y0.val = y0.val; omega
  · show 0 + 1 * y1.val = y1.val; omega

end Dc

end Cert.Proof.Kernel

end
-- ==== Proof.Kernel.Trip1.lean ====
/-
  One trip of the first streaming loop.
-/
module

public import proofs.«01_k».proof.Proof.Kernel.Dc

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

set_option maxRecDepth 16384

section Trip
variable (c : Dev nD)
  (XK : Buf (Elt F) (dkM.view.loc (c : Thread nD τ))) (XV : Buf (Elt F) (dvM.view.loc (c : Thread nD τ)))
  (fr : Buf (Elt F) (rM.view.loc (c : Thread nD τ))) (fl : Buf (Elt F) (lM.view.loc (c : Thread nD τ)))

abbrev trip1 (k : Fin k0_t2_loop.trips) : Prog (TpuEff nD τ sig (Elt F) Λ₀ .tc) Unit :=
  k0_t2_body (F := F) dkM (Memref.isWhole_whole _) dvM (Memref.isWhole_whole _) ccM (Memref.isWhole_whole _) csM (Memref.isWhole_whole _)
    ukM (Memref.isWhole_whole _) usM (Memref.isWhole_whole _) uvM (Memref.isWhole_whole _) vsM (Memref.isWhole_whole _) dcM (Memref.isWhole_whole _)
    wkM (Memref.isWhole_whole _) wvM (Memref.isWhole_whole _) xM (Memref.isWhole_whole _) sM (Memref.isWhole_whole _) gM (Memref.isWhole_whole _)
    hM (Memref.isWhole_whole _) iM (Memref.isWhole_whole _) nM (Memref.isWhole_whole _) swM (Memref.isWhole_whole _) wM (Memref.isWhole_whole _)
    rM (Memref.isWhole_whole _) lM (Memref.isWhole_whole _) tM (Memref.isWhole_whole _) aM (Memref.isWhole_whole _) pM (Memref.isWhole_whole _)
    oM (Memref.isWhole_whole _) cc0_scratch14 cc0_scratch15 cc0_scratch16 cc0_scratch17 cc0_scratch18 cc0_scratch19 k ()

/-- A trip that asks for the key gradient three blocks ahead. -/
theorem run1 (k : Fin k0_t2_loop.trips) (hk : k.val < 2) (fs fg ft fw fa)
    (M : Memref sig .tc .hbm S384x32x128 .bf16) (X : Buf (Elt F) (M.view.loc (c : Thread nD τ))) (f1) (P : S384x32x128.Idx → Elt F .bf16) :
    iprop(sP c fs ∗ gP c fg ∗ wP c fw ∗ rP c fr ∗ lP c fl ∗ tP c ft ∗ aP c fa ∗ (∃ W, owes (c : Thread nD τ) 0 W)
      ∗ (dkH c XK (Ring.bk 5 (k.val + 3)))
      ∗ Transfers.Flight countersEmb (c : Thread nD τ) (SemLoc.dma (xsm (Ring.sl 2 (k.val + 1))).sem) () (NN (Ring.sl 2 (k.val + 1)))
          iprop(xP c (Ring.sl 2 (k.val + 1)) ((xS (Ring.sl 2 (k.val + 1))).view.writes (Elt F) f1 [⟨Rect.whole S384x32x128, P⟩]) ∗ M.view.loc (c : Thread nD τ) ↦[M.view.set]{fullShare} X))
    ⊢ wp frame (wpE (defs₀ (F := F)) 𝒱₀ (c : Thread nD τ) none) Set.univ (trip1 k) (fun _ => iprop(∃ fs' fg' ft' fa', sP c fs' ∗ gP c fg' ∗ wP c fw ∗ rP c fr ∗ lP c fl ∗ tP c ft' ∗ aP c fa' ∗ (∃ W, owes (c : Thread nD τ) 0 W)
      ∗ (M.view.loc (c : Thread nD τ) ↦[M.view.set]{fullShare} X)
      ∗ (∃ f, Transfers.Flight countersEmb (c : Thread nD τ) (SemLoc.dma (xsm (Ring.sl 2 (k.val + 1))).sem) () (NN (Ring.sl 2 (k.val + 1)))
          iprop(xP c (Ring.sl 2 (k.val + 1)) ((xS (Ring.sl 2 (k.val + 1))).view.writes (Elt F) f [⟨Rect.whole S384x32x128, ReadAs.same.apply ((dkB (Ring.bk 5 (k.val + 3))).view.read (Elt F) XK)⟩])
            ∗ dkH c XK (Ring.bk 5 (k.val + 3))))
      ∗ ⌜sM.view.read (Elt F) fs' = P
          ∧ (∀ y, gM.view.read (Elt F) fg' y = if (y 0).val = k.val then GG c fs y else gM.view.read (Elt F) fg y)
          ∧ (∀ y, tM.view.read (Elt F) ft' y = if (y 0).val / 3 = k.val then TT c fr fl y else tM.view.read (Elt F) ft y)
          ∧ AUpd c k.val fs fw fa fa'⌝)) := by
  iintro ⟨HS, HG, HWW, HR, HL, HT, HA, ⟨%W, HW⟩, HH, HF⟩
  dsimp only [trip1]
  sl_unfold [k0_t2_body]
  have h1 : k0_cond1 k = 1#1 := by rw [cond1_iff]; exact hk
  have h2 : ¬ k0_cond2 k = 1#1 := by rw [cond2_iff]; omega
  sl_exec
  sl_step
  iexists _, _, _, _
  isplitl [HS]; · iexact HS
  isplitl [HG]; · iexact HG
  isplitl [HWW]; · iexact HWW
  isplitl [HR]; · iexact HR
  isplitl [HL]; · iexact HL
  isplitl [HT]; · iexact HT
  isplitl [HA]; · iexact HA
  isplitl [HW]; · iexists _; iexact HW
  isplitl [HF_src]; · iexact HF_src
  isplitl [HF]
  · iexists _; iexact HF
  ipureintro
  refine ⟨s_after c _ _ (off97_eq k) _ _ _ _, g_after c fs fg k.val
        (.cons ⟨_, _, k0_off66_eq k, rfl⟩
        (.cons ⟨_, _, k0_off65_eq k, rfl⟩
        (.cons ⟨_, _, k0_off64_eq k, rfl⟩
        (.cons ⟨_, _, k0_off63_eq k, rfl⟩
        (.cons ⟨_, _, k0_off62_eq k, rfl⟩
        (.cons ⟨_, _, k0_off61_eq k, rfl⟩
        (.cons ⟨_, _, k0_off60_eq k, rfl⟩
        (.cons ⟨_, _, k0_off59_eq k, rfl⟩
        (.cons ⟨_, _, k0_off58_eq k, rfl⟩
        (.cons ⟨_, _, k0_off57_eq k, rfl⟩
        (.cons ⟨_, _, k0_off56_eq k, rfl⟩
        (.cons ⟨_, _, k0_off55_eq k, rfl⟩
        (.cons ⟨_, _, k0_off54_eq k, rfl⟩
        (.cons ⟨_, _, k0_off53_eq k, rfl⟩
        (.cons ⟨_, _, k0_off52_eq k, rfl⟩
        (.cons ⟨_, _, k0_off51_eq k, rfl⟩
        (.cons ⟨_, _, k0_off50_eq k, rfl⟩
        (.cons ⟨_, _, k0_off49_eq k, rfl⟩
        (.cons ⟨_, _, k0_off48_eq k, rfl⟩
        (.cons ⟨_, _, k0_off47_eq k, rfl⟩
        (.cons ⟨_, _, k0_off46_eq k, rfl⟩
        (.cons ⟨_, _, k0_off45_eq k, rfl⟩
        (.cons ⟨_, _, k0_off44_eq k, rfl⟩
        (.cons ⟨_, _, k0_off43_eq k, rfl⟩
        (.cons ⟨_, _, k0_off42_eq k, rfl⟩
        (.cons ⟨_, _, k0_off41_eq k, rfl⟩
        (.cons ⟨_, _, k0_off40_eq k, rfl⟩
        (.cons ⟨_, _, k0_off39_eq k, rfl⟩
        (.cons ⟨_, _, k0_off38_eq k, rfl⟩
        (.cons ⟨_, _, k0_off37_eq k, rfl⟩
        (.cons ⟨_, _, k0_off36_eq k, rfl⟩
        (.cons ⟨_, _, k0_off35_eq k, rfl⟩ .nil)))))))))))))))))))))))))))))))), t_after c fr fl ft k.val
        (.cons ⟨_, _, _, _, _, _, k0_off82_eq k 2, k0_off90_eq k, k0_off96_eq k, rfl⟩
        (.cons ⟨_, _, _, _, _, _, k0_off80_eq k 2, k0_off90_eq k, k0_off95_eq k, rfl⟩
        (.cons ⟨_, _, _, _, _, _, k0_off78_eq k 2, k0_off90_eq k, k0_off94_eq k, rfl⟩
        (.cons ⟨_, _, _, _, _, _, k0_off76_eq k 2, k0_off90_eq k, k0_off93_eq k, rfl⟩
        (.cons ⟨_, _, _, _, _, _, k0_off74_eq k 2, k0_off90_eq k, k0_off92_eq k, rfl⟩
        (.cons ⟨_, _, _, _, _, _, k0_off72_eq k 2, k0_off90_eq k, k0_off91_eq k, rfl⟩
        (.cons ⟨_, _, _, _, _, _, k0_off82_eq k 1, k0_off83_eq k, k0_off89_eq k, rfl⟩
        (.cons ⟨_, _, _, _, _, _, k0_off80_eq k 1, k0_off83_eq k, k0_off88_eq k, rfl⟩
        (.cons ⟨_, _, _, _, _, _, k0_off78_eq k 1, k0_off83_eq k, k0_off87_eq k, rfl⟩
        (.cons ⟨_, _, _, _, _, _, k0_off76_eq k 1, k0_off83_eq k, k0_off86_eq k, rfl⟩
        (.cons ⟨_, _, _, _, _, _, k0_off74_eq k 1, k0_off83_eq k, k0_off85_eq k, rfl⟩
        (.cons ⟨_, _, _, _, _, _, k0_off72_eq k 1, k0_off83_eq k, k0_off84_eq k, rfl⟩
        (.cons ⟨_, _, _, _, _, _, k0_off82_eq k 0, k0_off70_eq k, k0_off81_eq k, rfl⟩
        (.cons ⟨_, _, _, _, _, _, k0_off80_eq k 0, k0_off70_eq k, k0_off79_eq k, rfl⟩
        (.cons ⟨_, _, _, _, _, _, k0_off78_eq k 0, k0_off70_eq k, k0_off77_eq k, rfl⟩
        (.cons ⟨_, _, _, _, _, _, k0_off76_eq k 0, k0_off70_eq k, k0_off75_eq k, rfl⟩
        (.cons ⟨_, _, _, _, _, _, k0_off74_eq k 0, k0_off70_eq k, k0_off73_eq k, rfl⟩
        (.cons ⟨_, _, _, _, _, _, k0_off72_eq k 0, k0_off70_eq k, k0_off71_eq k, rfl⟩ .nil)))))))))))))))))), a_after c k.val fs fw fa (k0_off69_eq k)
        (.cons ⟨_, _, k0_off66_eq k, rfl⟩
        (.cons ⟨_, _, k0_off65_eq k, rfl⟩
        (.cons ⟨_, _, k0_off64_eq k, rfl⟩
        (.cons ⟨_, _, k0_off63_eq k, rfl⟩
        (.cons ⟨_, _, k0_off62_eq k, rfl⟩
        (.cons ⟨_, _, k0_off61_eq k, rfl⟩
        (.cons ⟨_, _, k0_off60_eq k, rfl⟩
        (.cons ⟨_, _, k0_off59_eq k, rfl⟩
        (.cons ⟨_, _, k0_off58_eq k, rfl⟩
        (.cons ⟨_, _, k0_off57_eq k, rfl⟩
        (.cons ⟨_, _, k0_off56_eq k, rfl⟩
        (.cons ⟨_, _, k0_off55_eq k, rfl⟩
        (.cons ⟨_, _, k0_off54_eq k, rfl⟩
        (.cons ⟨_, _, k0_off53_eq k, rfl⟩
        (.cons ⟨_, _, k0_off52_eq k, rfl⟩
        (.cons ⟨_, _, k0_off51_eq k, rfl⟩
        (.cons ⟨_, _, k0_off50_eq k, rfl⟩
        (.cons ⟨_, _, k0_off49_eq k, rfl⟩
        (.cons ⟨_, _, k0_off48_eq k, rfl⟩
        (.cons ⟨_, _, k0_off47_eq k, rfl⟩
        (.cons ⟨_, _, k0_off46_eq k, rfl⟩
        (.cons ⟨_, _, k0_off45_eq k, rfl⟩
        (.cons ⟨_, _, k0_off44_eq k, rfl⟩
        (.cons ⟨_, _, k0_off43_eq k, rfl⟩
        (.cons ⟨_, _, k0_off42_eq k, rfl⟩
        (.cons ⟨_, _, k0_off41_eq k, rfl⟩
        (.cons ⟨_, _, k0_off40_eq k, rfl⟩
        (.cons ⟨_, _, k0_off39_eq k, rfl⟩
        (.cons ⟨_, _, k0_off38_eq k, rfl⟩
        (.cons ⟨_, _, k0_off37_eq k, rfl⟩
        (.cons ⟨_, _, k0_off36_eq k, rfl⟩
        (.cons ⟨_, _, k0_off35_eq k, rfl⟩ .nil)))))))))))))))))))))))))))))))) rfl
        (.cons ⟨_, _, k0_off35_eq k, rfl⟩
        (.cons ⟨_, _, k0_off36_eq k, rfl⟩
        (.cons ⟨_, _, k0_off37_eq k, rfl⟩
        (.cons ⟨_, _, k0_off38_eq k, rfl⟩
        (.cons ⟨_, _, k0_off39_eq k, rfl⟩
        (.cons ⟨_, _, k0_off40_eq k, rfl⟩
        (.cons ⟨_, _, k0_off41_eq k, rfl⟩
        (.cons ⟨_, _, k0_off42_eq k, rfl⟩
        (.cons ⟨_, _, k0_off43_eq k, rfl⟩
        (.cons ⟨_, _, k0_off44_eq k, rfl⟩
        (.cons ⟨_, _, k0_off45_eq k, rfl⟩
        (.cons ⟨_, _, k0_off46_eq k, rfl⟩
        (.cons ⟨_, _, k0_off47_eq k, rfl⟩
        (.cons ⟨_, _, k0_off48_eq k, rfl⟩
        (.cons ⟨_, _, k0_off49_eq k, rfl⟩
        (.cons ⟨_, _, k0_off50_eq k, rfl⟩
        (.cons ⟨_, _, k0_off51_eq k, rfl⟩
        (.cons ⟨_, _, k0_off52_eq k, rfl⟩
        (.cons ⟨_, _, k0_off53_eq k, rfl⟩
        (.cons ⟨_, _, k0_off54_eq k, rfl⟩
        (.cons ⟨_, _, k0_off55_eq k, rfl⟩
        (.cons ⟨_, _, k0_off56_eq k, rfl⟩
        (.cons ⟨_, _, k0_off57_eq k, rfl⟩
        (.cons ⟨_, _, k0_off58_eq k, rfl⟩
        (.cons ⟨_, _, k0_off59_eq k, rfl⟩
        (.cons ⟨_, _, k0_off60_eq k, rfl⟩
        (.cons ⟨_, _, k0_off61_eq k, rfl⟩
        (.cons ⟨_, _, k0_off62_eq k, rfl⟩
        (.cons ⟨_, _, k0_off63_eq k, rfl⟩
        (.cons ⟨_, _, k0_off64_eq k, rfl⟩
        (.cons ⟨_, _, k0_off65_eq k, rfl⟩
        (.cons ⟨_, _, k0_off66_eq k, rfl⟩ .nil))))))))))))))))))))))))))))))))
        (wts c fw rfl)⟩

/-- A trip that asks for a value gradient: the key gradient is used up three blocks ahead. -/
theorem run1b (k : Fin k0_t2_loop.trips) (hk : 2 ≤ k.val) (fs fg ft fw fa)
    (M : Memref sig .tc .hbm S384x32x128 .bf16) (X : Buf (Elt F) (M.view.loc (c : Thread nD τ))) (f1) (P : S384x32x128.Idx → Elt F .bf16) :
    iprop(sP c fs ∗ gP c fg ∗ wP c fw ∗ rP c fr ∗ lP c fl ∗ tP c ft ∗ aP c fa ∗ (∃ W, owes (c : Thread nD τ) 0 W)
      ∗ (dvH c XV (Ring.bk 5 (k.val - 2)))
      ∗ Transfers.Flight countersEmb (c : Thread nD τ) (SemLoc.dma (xsm (Ring.sl 2 (k.val + 1))).sem) () (NN (Ring.sl 2 (k.val + 1)))
          iprop(xP c (Ring.sl 2 (k.val + 1)) ((xS (Ring.sl 2 (k.val + 1))).view.writes (Elt F) f1 [⟨Rect.whole S384x32x128, P⟩]) ∗ M.view.loc (c : Thread nD τ) ↦[M.view.set]{fullShare} X))
    ⊢ wp frame (wpE (defs₀ (F := F)) 𝒱₀ (c : Thread nD τ) none) Set.univ (trip1 k) (fun _ => iprop(∃ fs' fg' ft' fa', sP c fs' ∗ gP c fg' ∗ wP c fw ∗ rP c fr ∗ lP c fl ∗ tP c ft' ∗ aP c fa' ∗ (∃ W, owes (c : Thread nD τ) 0 W)
      ∗ (M.view.loc (c : Thread nD τ) ↦[M.view.set]{fullShare} X)
      ∗ (∃ f, Transfers.Flight countersEmb (c : Thread nD τ) (SemLoc.dma (xsm (Ring.sl 2 (k.val + 1))).sem) () (NN (Ring.sl 2 (k.val + 1)))
          iprop(xP c (Ring.sl 2 (k.val + 1)) ((xS (Ring.sl 2 (k.val + 1))).view.writes (Elt F) f [⟨Rect.whole S384x32x128, ReadAs.same.apply ((dvB (Ring.bk 5 (k.val - 2))).view.read (Elt F) XV)⟩])
            ∗ dvH c XV (Ring.bk 5 (k.val - 2))))
      ∗ ⌜sM.view.read (Elt F) fs' = P
          ∧ (∀ y, gM.view.read (Elt F) fg' y = if (y 0).val = k.val then GG c fs y else gM.view.read (Elt F) fg y)
          ∧ (∀ y, tM.view.read (Elt F) ft' y = if (y 0).val / 3 = k.val then TT c fr fl y else tM.view.read (Elt F) ft y)
          ∧ AUpd c k.val fs fw fa fa'⌝)) := by
  iintro ⟨HS, HG, HWW, HR, HL, HT, HA, ⟨%W, HW⟩, HH, HF⟩
  dsimp only [trip1]
  sl_unfold [k0_t2_body]
  have h1 : ¬ k0_cond1 k = 1#1 := by rw [cond1_iff]; omega
  have h2 : k0_cond2 k = 1#1 := by rw [cond2_iff]; exact hk
  sl_exec
  sl_step
  iexists _, _, _, _
  isplitl [HS]; · iexact HS
  isplitl [HG]; · iexact HG
  isplitl [HWW]; · iexact HWW
  isplitl [HR]; · iexact HR
  isplitl [HL]; · iexact HL
  isplitl [HT]; · iexact HT
  isplitl [HA]; · iexact HA
  isplitl [HW]; · iexists _; iexact HW
  isplitl [HF_src]; · iexact HF_src
  isplitl [HF]
  · iexists _; iexact HF
  ipureintro
  refine ⟨s_after c _ _ (off97_eq k) _ _ _ _, g_after c fs fg k.val
        (.cons ⟨_, _, k0_off66_eq k, rfl⟩
        (.cons ⟨_, _, k0_off65_eq k, rfl⟩
        (.cons ⟨_, _, k0_off64_eq k, rfl⟩
        (.cons ⟨_, _, k0_off63_eq k, rfl⟩
        (.cons ⟨_, _, k0_off62_eq k, rfl⟩
        (.cons ⟨_, _, k0_off61_eq k, rfl⟩
        (.cons ⟨_, _, k0_off60_eq k, rfl⟩
        (.cons ⟨_, _, k0_off59_eq k, rfl⟩
        (.cons ⟨_, _, k0_off58_eq k, rfl⟩
        (.cons ⟨_, _, k0_off57_eq k, rfl⟩
        (.cons ⟨_, _, k0_off56_eq k, rfl⟩
        (.cons ⟨_, _, k0_off55_eq k, rfl⟩
        (.cons ⟨_, _, k0_off54_eq k, rfl⟩
        (.cons ⟨_, _, k0_off53_eq k, rfl⟩
        (.cons ⟨_, _, k0_off52_eq k, rfl⟩
        (.cons ⟨_, _, k0_off51_eq k, rfl⟩
        (.cons ⟨_, _, k0_off50_eq k, rfl⟩
        (.cons ⟨_, _, k0_off49_eq k, rfl⟩
        (.cons ⟨_, _, k0_off48_eq k, rfl⟩
        (.cons ⟨_, _, k0_off47_eq k, rfl⟩
        (.cons ⟨_, _, k0_off46_eq k, rfl⟩
        (.cons ⟨_, _, k0_off45_eq k, rfl⟩
        (.cons ⟨_, _, k0_off44_eq k, rfl⟩
        (.cons ⟨_, _, k0_off43_eq k, rfl⟩
        (.cons ⟨_, _, k0_off42_eq k, rfl⟩
        (.cons ⟨_, _, k0_off41_eq k, rfl⟩
        (.cons ⟨_, _, k0_off40_eq k, rfl⟩
        (.cons ⟨_, _, k0_off39_eq k, rfl⟩
        (.cons ⟨_, _, k0_off38_eq k, rfl⟩
        (.cons ⟨_, _, k0_off37_eq k, rfl⟩
        (.cons ⟨_, _, k0_off36_eq k, rfl⟩
        (.cons ⟨_, _, k0_off35_eq k, rfl⟩ .nil)))))))))))))))))))))))))))))))), t_after c fr fl ft k.val
        (.cons ⟨_, _, _, _, _, _, k0_off82_eq k 2, k0_off90_eq k, k0_off96_eq k, rfl⟩
        (.cons ⟨_, _, _, _, _, _, k0_off80_eq k 2, k0_off90_eq k, k0_off95_eq k, rfl⟩
        (.cons ⟨_, _, _, _, _, _, k0_off78_eq k 2, k0_off90_eq k, k0_off94_eq k, rfl⟩
        (.cons ⟨_, _, _, _, _, _, k0_off76_eq k 2, k0_off90_eq k, k0_off93_eq k, rfl⟩
        (.cons ⟨_, _, _, _, _, _, k0_off74_eq k 2, k0_off90_eq k, k0_off92_eq k, rfl⟩
        (.cons ⟨_, _, _, _, _, _, k0_off72_eq k 2, k0_off90_eq k, k0_off91_eq k, rfl⟩
        (.cons ⟨_, _, _, _, _, _, k0_off82_eq k 1, k0_off83_eq k, k0_off89_eq k, rfl⟩
        (.cons ⟨_, _, _, _, _, _, k0_off80_eq k 1, k0_off83_eq k, k0_off88_eq k, rfl⟩
        (.cons ⟨_, _, _, _, _, _, k0_off78_eq k 1, k0_off83_eq k, k0_off87_eq k, rfl⟩
        (.cons ⟨_, _, _, _, _, _, k0_off76_eq k 1, k0_off83_eq k, k0_off86_eq k, rfl⟩
        (.cons ⟨_, _, _, _, _, _, k0_off74_eq k 1, k0_off83_eq k, k0_off85_eq k, rfl⟩
        (.cons ⟨_, _, _, _, _, _, k0_off72_eq k 1, k0_off83_eq k, k0_off84_eq k, rfl⟩
        (.cons ⟨_, _, _, _, _, _, k0_off82_eq k 0, k0_off70_eq k, k0_off81_eq k, rfl⟩
        (.cons ⟨_, _, _, _, _, _, k0_off80_eq k 0, k0_off70_eq k, k0_off79_eq k, rfl⟩
        (.cons ⟨_, _, _, _, _, _, k0_off78_eq k 0, k0_off70_eq k, k0_off77_eq k, rfl⟩
        (.cons ⟨_, _, _, _, _, _, k0_off76_eq k 0, k0_off70_eq k, k0_off75_eq k, rfl⟩
        (.cons ⟨_, _, _, _, _, _, k0_off74_eq k 0, k0_off70_eq k, k0_off73_eq k, rfl⟩
        (.cons ⟨_, _, _, _, _, _, k0_off72_eq k 0, k0_off70_eq k, k0_off71_eq k, rfl⟩ .nil)))))))))))))))))), a_after c k.val fs fw fa (k0_off69_eq k)
        (.cons ⟨_, _, k0_off66_eq k, rfl⟩
        (.cons ⟨_, _, k0_off65_eq k, rfl⟩
        (.cons ⟨_, _, k0_off64_eq k, rfl⟩
        (.cons ⟨_, _, k0_off63_eq k, rfl⟩
        (.cons ⟨_, _, k0_off62_eq k, rfl⟩
        (.cons ⟨_, _, k0_off61_eq k, rfl⟩
        (.cons ⟨_, _, k0_off60_eq k, rfl⟩
        (.cons ⟨_, _, k0_off59_eq k, rfl⟩
        (.cons ⟨_, _, k0_off58_eq k, rfl⟩
        (.cons ⟨_, _, k0_off57_eq k, rfl⟩
        (.cons ⟨_, _, k0_off56_eq k, rfl⟩
        (.cons ⟨_, _, k0_off55_eq k, rfl⟩
        (.cons ⟨_, _, k0_off54_eq k, rfl⟩
        (.cons ⟨_, _, k0_off53_eq k, rfl⟩
        (.cons ⟨_, _, k0_off52_eq k, rfl⟩
        (.cons ⟨_, _, k0_off51_eq k, rfl⟩
        (.cons ⟨_, _, k0_off50_eq k, rfl⟩
        (.cons ⟨_, _, k0_off49_eq k, rfl⟩
        (.cons ⟨_, _, k0_off48_eq k, rfl⟩
        (.cons ⟨_, _, k0_off47_eq k, rfl⟩
        (.cons ⟨_, _, k0_off46_eq k, rfl⟩
        (.cons ⟨_, _, k0_off45_eq k, rfl⟩
        (.cons ⟨_, _, k0_off44_eq k, rfl⟩
        (.cons ⟨_, _, k0_off43_eq k, rfl⟩
        (.cons ⟨_, _, k0_off42_eq k, rfl⟩
        (.cons ⟨_, _, k0_off41_eq k, rfl⟩
        (.cons ⟨_, _, k0_off40_eq k, rfl⟩
        (.cons ⟨_, _, k0_off39_eq k, rfl⟩
        (.cons ⟨_, _, k0_off38_eq k, rfl⟩
        (.cons ⟨_, _, k0_off37_eq k, rfl⟩
        (.cons ⟨_, _, k0_off36_eq k, rfl⟩
        (.cons ⟨_, _, k0_off35_eq k, rfl⟩ .nil)))))))))))))))))))))))))))))))) rfl
        (.cons ⟨_, _, k0_off35_eq k, rfl⟩
        (.cons ⟨_, _, k0_off36_eq k, rfl⟩
        (.cons ⟨_, _, k0_off37_eq k, rfl⟩
        (.cons ⟨_, _, k0_off38_eq k, rfl⟩
        (.cons ⟨_, _, k0_off39_eq k, rfl⟩
        (.cons ⟨_, _, k0_off40_eq k, rfl⟩
        (.cons ⟨_, _, k0_off41_eq k, rfl⟩
        (.cons ⟨_, _, k0_off42_eq k, rfl⟩
        (.cons ⟨_, _, k0_off43_eq k, rfl⟩
        (.cons ⟨_, _, k0_off44_eq k, rfl⟩
        (.cons ⟨_, _, k0_off45_eq k, rfl⟩
        (.cons ⟨_, _, k0_off46_eq k, rfl⟩
        (.cons ⟨_, _, k0_off47_eq k, rfl⟩
        (.cons ⟨_, _, k0_off48_eq k, rfl⟩
        (.cons ⟨_, _, k0_off49_eq k, rfl⟩
        (.cons ⟨_, _, k0_off50_eq k, rfl⟩
        (.cons ⟨_, _, k0_off51_eq k, rfl⟩
        (.cons ⟨_, _, k0_off52_eq k, rfl⟩
        (.cons ⟨_, _, k0_off53_eq k, rfl⟩
        (.cons ⟨_, _, k0_off54_eq k, rfl⟩
        (.cons ⟨_, _, k0_off55_eq k, rfl⟩
        (.cons ⟨_, _, k0_off56_eq k, rfl⟩
        (.cons ⟨_, _, k0_off57_eq k, rfl⟩
        (.cons ⟨_, _, k0_off58_eq k, rfl⟩
        (.cons ⟨_, _, k0_off59_eq k, rfl⟩
        (.cons ⟨_, _, k0_off60_eq k, rfl⟩
        (.cons ⟨_, _, k0_off61_eq k, rfl⟩
        (.cons ⟨_, _, k0_off62_eq k, rfl⟩
        (.cons ⟨_, _, k0_off63_eq k, rfl⟩
        (.cons ⟨_, _, k0_off64_eq k, rfl⟩
        (.cons ⟨_, _, k0_off65_eq k, rfl⟩
        (.cons ⟨_, _, k0_off66_eq k, rfl⟩ .nil))))))))))))))))))))))))))))))))
        (wts c fw rfl)⟩

end Trip

end Cert.Proof.Kernel

end
-- ==== Proof.Kernel.Prod.lean ====
/-
  A product trip: the slot it fills, the two matrices it multiplies, and what its stores leave.
-/
module

public import proofs.«01_k».proof.Proof.Kernel.Facts

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

set_option maxRecDepth 16384

section Prod
variable (c : Dev nD)

/-! ## A result slot, by groups and by rows -/

abbrev oP (s : Fin 2) (f : Buf (Elt F) ((oS s).view.loc (c : Thread nD τ))) : sProp 𝕄 :=
  (oS s).view.loc (c : Thread nD τ) ↦[(oS s).view.set]{fullShare} f
abbrev oC (s : Fin 2) : sProp 𝕄 := semVal ((c : Thread nD τ), SemLoc.dma (osm s).sem) 0
abbrev wkP (g : Fin 4) (f : Buf (Elt F) ((wkG g).view.loc (c : Thread nD τ))) : sProp 𝕄 :=
  (wkG g).view.loc (c : Thread nD τ) ↦[(wkG g).view.set]{fullShare} f
abbrev wvP (g : Fin 4) (f : Buf (Elt F) ((wvG g).view.loc (c : Thread nD τ))) : sProp 𝕄 :=
  (wvG g).view.loc (c : Thread nD τ) ↦[(wvG g).view.set]{fullShare} f

theorem oS_contiguous (s : Fin 2) : (oS s).view.Contiguous :=
  (View.contiguous_reshape _ _).mpr ((Memref.isWhole_whole _).contiguous.slice _ (by revert s; decide +kernel))
/-- The slot's rows, eight to a rank. -/
def oR (s : Fin 2) : Memref sig .tc .vmem S6144x128 .f32 :=
  (oS s).reshape S6144x128 reshapes_S768x8x128_S6144x128.1 reshapes_S768x8x128_S6144x128.2
    (oS_contiguous s)
@[sl_canon] theorem oR_eq (s : Fin 2) (h1 h2 h3) : (oS s).reshape S6144x128 h1 h2 h3 = oR s := rfl
abbrev oRP (s : Fin 2) (f : Buf (Elt F) ((oR s).view.loc (c : Thread nD τ))) : sProp 𝕄 :=
  (oR s).view.loc (c : Thread nD τ) ↦[(oR s).view.set]{fullShare} f
theorem oR_set (s : Fin 2) : (oR s).view.set = (oS s).view.set := View.set_reshape _ _
theorem oRP_eq (s : Fin 2) (f : Buf (Elt F) ((oS s).view.loc (c : Thread nD τ))) : oP c s f = oRP c s f :=
  congrArg (fun S => (iprop((oS s).view.loc (c : Thread nD τ) ↦[S]{fullShare} f) : sProp 𝕄)) (oR_set s).symm
theorem oRP_back (s : Fin 2) (f : Buf (Elt F) ((oR s).view.loc (c : Thread nD τ))) : oRP c s f ⊢ oP c s f :=
  entails_of_eq (oRP_eq c s f).symm

theorem cast_rows {α : Type} (v : S768x8x128.Idx → α) (h) (z : S6144x128.Idx) :
    shapeCast S6144x128 v h z
      = v (ix3 ⟨(z 0).val / 8, by have : (z 0).val < 6144 := (z 0).isLt; omega⟩ ⟨(z 0).val % 8, by omega⟩ (z 1)) := by
  idx_vars z
  pointwise

theorem read_reshape_memref {κ : Kind} {cs : Space} {s s' : Shape} {e : EltTy} {Val : EltTy → Type} (M : Memref sig κ cs s e) (h1 : s'.numel = s.numel) (h2 h3)
    (hc : s.ShapeCasts s') (f : M.view.ty.Contents Val) (z : s'.Idx) : (M.reshape s' h1 h2 h3).view.read Val f z = shapeCast s' (M.view.read Val f) hc z := rfl

/-- Element `(r, h, d)` of a slot is element `(8 r + h, d)` of its rows. -/
theorem read_oS (s : Fin 2) (f : Buf (Elt F) ((oR s).view.loc (c : Thread nD τ))) (y : S768x8x128.Idx) :
    (oS s).view.read (Elt F) f y
      = (oR s).view.read (Elt F) f (ix2 ⟨8 * (y 0).val + (y 1).val, by have h0 : (y 0).val < 768 := (y 0).isLt; have h1 : (y 1).val < 8 := (y 1).isLt; omega⟩ (y 2)) := by
  have h1 : (y 1).val < 8 := (y 1).isLt
  refine Eq.trans ?_ (read_reshape_memref (oS s) reshapes_S768x8x128_S6144x128.1 reshapes_S768x8x128_S6144x128.2 (oS_contiguous s) reshapes_S768x8x128_S6144x128.1 f _).symm
  rw [cast_rows]
  refine congrArg ((oS s).view.read (Elt F) f) (funext fun a => Fin.ext ?_)
  fin_cases a
  · show (y 0).val = (8 * (y 0).val + (y 1).val) / 8; omega
  · show (y 1).val = (8 * (y 0).val + (y 1).val) % 8; omega
  · rfl

/-! ## The two matrices of a product -/

/-- The widened latent as one matrix: rank by token. -/
def amat (ft : Buf (Elt F) (tM.view.loc (c : Thread nD τ))) : FVec F S768x1920 .bf16 := fun i =>
  have h : (i 1).val < 1920 := (i 1).isLt
  tM.view.read (Elt F) ft (ix3 ⟨(i 1).val / 128, by omega⟩ (i 0) ⟨(i 1).val % 128, by omega⟩)

/-- The gradient of the heads `2 p` and `2 p + 1` as one matrix: token by head and dimension. -/
def bmat (fg : Buf (Elt F) (gM.view.loc (c : Thread nD τ))) (p : Fin 16) : FVec F S1920x256 .bf16 := fun i =>
  have h : (i 0).val < 1920 := (i 0).isLt
  have h1 : (i 1).val < 256 := (i 1).isLt
  gM.view.read (Elt F) fg (ix4 ⟨(i 0).val / 384, by omega⟩ ⟨2 * p.val + (i 1).val / 128, by omega⟩ ⟨(i 0).val % 384, by omega⟩ ⟨(i 1).val % 128, by omega⟩)

/-- Element `(r, h, d)` of the product that the kernel writes out. -/
def DW (fg : Buf (Elt F) (gM.view.loc (c : Thread nD τ))) (ft : Buf (Elt F) (tM.view.loc (c : Thread nD τ))) (y : S768x32x128.Idx) : Elt F .f32 :=
  have h1 : (y 1).val < 32 := (y 1).isLt
  have h2 : (y 2).val < 128 := (y 2).isLt
  matmul dot_S768x1920_S1920x256_S768x256_1_0_0_1_n_n none (amat c ft) (bmat c fg ⟨(y 1).val / 2, by omega⟩) (constant S768x256 .f32 0x00000000#32)
    (ix2 (y 0) ⟨128 * ((y 1).val % 2) + (y 2).val, by omega⟩)

theorem aOff_inb (i : Fin 15) : ∀ a, (![i.val, 0, 0] : Fin 3 → Nat) a + S1x768x128.size a ≤ S15x768x128.size a := by
  revert i; decide +kernel

abbrev aload (ft : Buf (Elt F) (tM.view.loc (c : Thread nD τ))) (i : Fin 15) : FVec F S768x128 .bf16 :=
  shapeCast S768x128 (tM.view.readAt (Elt F) (Rect.unit (s := S15x768x128) ![i.val, 0, 0] S1x768x128.size (aOff_inb i)).toLoadRect ft) shapeCasts_S1x768x128_S768x128

abbrev kA (ft : Buf (Elt F) (tM.view.loc (c : Thread nD τ))) : FVec F S768x1920 .bf16 :=
  concatenate S768x1920 1 [⟨S768x128, aload c ft 0⟩, ⟨S768x128, aload c ft 1⟩, ⟨S768x128, aload c ft 2⟩, ⟨S768x128, aload c ft 3⟩, ⟨S768x128, aload c ft 4⟩,
    ⟨S768x128, aload c ft 5⟩, ⟨S768x128, aload c ft 6⟩, ⟨S768x128, aload c ft 7⟩, ⟨S768x128, aload c ft 8⟩, ⟨S768x128, aload c ft 9⟩,
    ⟨S768x128, aload c ft 10⟩, ⟨S768x128, aload c ft 11⟩, ⟨S768x128, aload c ft 12⟩, ⟨S768x128, aload c ft 13⟩, ⟨S768x128, aload c ft 14⟩]
    concatenates_S768x128_S768x128_S768x128_S768x128_S768x128_S768x128_S768x128_S768x128_S768x128_S768x128_S768x128_S768x128_S768x128_S768x128_S768x128_S768x1920_d1

theorem cast_drop {α : Type} (v : S1x768x128.Idx → α) (h) (r : Fin 768) (l : Fin 128) : shapeCast S768x128 v h (ix2 r l) = v (ix3 0 r l) := by
  pointwise

theorem kA_eq (ft : Buf (Elt F) (tM.view.loc (c : Thread nD τ))) : kA c ft = amat c ft := by
  funext i
  have h : (i 1).val < 1920 := (i 1).isLt
  refine (concatenate_ofFn_apply (t := S768x1920) (s₁ := S768x128) 1 (aload c ft) _ rfl 128 rfl i ⟨(i 1).val / 128, by omega⟩ rfl
    (ix2 (i 0) ⟨(i 1).val % 128, by omega⟩) rfl (fun b hb => ?_)).trans ?_
  · fin_cases b
    · rfl
    · exact absurd rfl hb
  · refine (cast_drop _ _ _ _).trans ((View.readAt_apply _ _ _).trans ?_)
    refine congrArg (tM.view.read (Elt F) ft) (funext fun a => Fin.ext ?_)
    fin_cases a
    · show (i 1).val / 128 + 1 * 0 = (i 1).val / 128; omega
    · show 0 + 1 * (i 0).val = (i 0).val; omega
    · show 0 + 1 * ((i 1).val % 128) = (i 1).val % 128; omega

theorem bOff_inb {o : Fin 5 → Fin 2 → Fin 4 → ℕ} {p : Fin 16} (e : ∀ j b, o j b = ![j.val, 2 * p.val + b.val, 0, 0]) (j : Fin 5) (b : Fin 2) :
    ∀ a, o j b a + S1x1x384x128.size a ≤ S5x32x384x128.size a := by
  rw [e]
  intro a
  have := j.isLt; have := b.isLt; have := p.isLt
  fin_cases a
  · show j.val + 1 ≤ 5; omega
  · show 2 * p.val + b.val + 1 ≤ 32; omega
  · show 0 + 384 ≤ 384; omega
  · show 0 + 128 ≤ 128; omega

abbrev bload (fg : Buf (Elt F) (gM.view.loc (c : Thread nD τ))) (off : Fin 4 → ℕ) (inb : ∀ a, off a + S1x1x384x128.size a ≤ S5x32x384x128.size a) : FVec F S384x128 .bf16 :=
  shapeCast S384x128 (gM.view.readAt (Elt F) (Rect.unit (s := S5x32x384x128) off S1x1x384x128.size inb).toLoadRect fg) shapeCasts_S1x1x384x128_S384x128

abbrev brow (fg : Buf (Elt F) (gM.view.loc (c : Thread nD τ))) (o0 o1 : Fin 4 → ℕ) (i0 : ∀ a, o0 a + S1x1x384x128.size a ≤ S5x32x384x128.size a) (i1 : ∀ a, o1 a + S1x1x384x128.size a ≤ S5x32x384x128.size a) : FVec F S384x256 .bf16 :=
  concatenate S384x256 1 [⟨S384x128, bload c fg o0 i0⟩, ⟨S384x128, bload c fg o1 i1⟩] concatenates_S384x128_S384x128_S384x256_d1

abbrev kB (fg : Buf (Elt F) (gM.view.loc (c : Thread nD τ))) (o : Fin 5 → Fin 2 → Fin 4 → ℕ)
    (inb : ∀ j b a, o j b a + S1x1x384x128.size a ≤ S5x32x384x128.size a) : FVec F S1920x256 .bf16 :=
  concatenate S1920x256 0 [⟨S384x256, brow c fg (o 0 0) (o 0 1) (inb 0 0) (inb 0 1)⟩, ⟨S384x256, brow c fg (o 1 0) (o 1 1) (inb 1 0) (inb 1 1)⟩,
    ⟨S384x256, brow c fg (o 2 0) (o 2 1) (inb 2 0) (inb 2 1)⟩, ⟨S384x256, brow c fg (o 3 0) (o 3 1) (inb 3 0) (inb 3 1)⟩,
    ⟨S384x256, brow c fg (o 4 0) (o 4 1) (inb 4 0) (inb 4 1)⟩]
    concatenates_S384x256_S384x256_S384x256_S384x256_S384x256_S1920x256_d0

theorem cast_drop2 {α : Type} (v : S1x1x384x128.Idx → α) (h) (r : Fin 384) (l : Fin 128) : shapeCast S384x128 v h (ix2 r l) = v (ix4 0 0 r l) := by
  pointwise

theorem bload_eq (fg : Buf (Elt F) (gM.view.loc (c : Thread nD τ))) (off : Fin 4 → ℕ) (inb) (j : Fin 5) (h : Fin 32) (e : off = ![j.val, h.val, 0, 0]) (t : Fin 384) (d : Fin 128) :
    bload c fg off inb (ix2 t d) = gM.view.read (Elt F) fg (ix4 j h t d) := by
  subst e
  unfold bload
  rw [cast_drop2, View.readAt_apply]
  refine congrArg (gM.view.read (Elt F) fg) (funext fun a => Fin.ext ?_)
  fin_cases a
  · show j.val + 1 * 0 = j.val; omega
  · show h.val + 1 * 0 = h.val; omega
  · show 0 + 1 * t.val = t.val; omega
  · show 0 + 1 * d.val = d.val; omega

theorem kB_eq (fg : Buf (Elt F) (gM.view.loc (c : Thread nD τ))) (o : Fin 5 → Fin 2 → Fin 4 → ℕ) (p : Fin 16)
    (e : ∀ j b, o j b = ![j.val, 2 * p.val + b.val, 0, 0]) : kB c fg o (bOff_inb e) = bmat c fg p := by
  funext i
  have h : (i 0).val < 1920 := (i 0).isLt
  have h1 : (i 1).val < 256 := (i 1).isLt
  refine (concatenate_ofFn_apply (t := S1920x256) (s₁ := S384x256) 0
    (fun j : Fin 5 => brow c fg (o j 0) (o j 1) (bOff_inb e j 0) (bOff_inb e j 1)) _ rfl 384 rfl i ⟨(i 0).val / 384, by omega⟩ rfl
    (ix2 ⟨(i 0).val % 384, by omega⟩ (i 1)) rfl (fun b hb => ?_)).trans ?_
  · fin_cases b
    · exact absurd rfl hb
    · rfl
  · refine (concatenate_ofFn_apply (t := S384x256) (s₁ := S384x128) 1
      (fun b : Fin 2 => bload c fg (o ⟨(i 0).val / 384, by omega⟩ b) (bOff_inb e _ b)) _ rfl 128 rfl _ ⟨(i 1).val / 128, by omega⟩ rfl
      (ix2 ⟨(i 0).val % 384, by omega⟩ ⟨(i 1).val % 128, by omega⟩) rfl (fun b hb => ?_)).trans ?_
    · fin_cases b
      · rfl
      · exact absurd rfl hb
    · exact bload_eq c fg _ _ ⟨(i 0).val / 384, by omega⟩ ⟨2 * p.val + (i 1).val / 128, by have := p.isLt; omega⟩ (e _ _) _ _

/-! ## The stores of a trip -/

theorem oslice (b : Fin 2) : S768x256.Slices ![0, 128 * b.val] S768x128 := by
  revert b; decide +kernel

abbrev opay (A : FVec F S768x1920 .bf16) (B : FVec F S1920x256 .bf16) (b : Fin 2) : FVec F S768x128 .f32 :=
  shapeCast S768x128 (extractStridedSlice S768x128 ![0, 128 * b.val]
    (matmul dot_S768x1920_S1920x256_S768x256_1_0_0_1_n_n none A B (constant S768x256 .f32 0x00000000#32)) (oslice b)) shapeCasts_S768x128_S768x128

theorem opay_pure {α : Type} (v : S768x256.Idx → α) (b : Fin 2) (h) (r : Fin 768) (d : Fin 128) :
    shapeCast S768x128 (extractStridedSlice S768x128 ![0, 128 * b.val] v (oslice b)) h (ix2 r d) = v (ix2 r ⟨128 * b.val + d.val, by omega⟩) := by
  pointwise

/-- One store of group `k`'s products: head `8 k + h`, one row to a rank. -/
def IsO (fg : Buf (Elt F) (gM.view.loc (c : Thread nD τ))) (ft : Buf (Elt F) (tM.view.loc (c : Thread nD τ)))
    (k : Fin 4) (h : Fin 8) (q : View.Piece (Elt F) S6144x128 .f32) : Prop :=
  ∃ (o : Fin 5 → Fin 2 → Fin 4 → ℕ) (e : ∀ j b, o j b = ![j.val, 2 * (⟨4 * k.val + h.val / 2, by omega⟩ : Fin 16).val + b.val, 0, 0]) (inb : _) (sp : _),
    q = ⟨⟨⟨![h.val, 0], S768x128.size, ![8, 1], inb⟩, sp⟩, opay (kA c ft) (kB c fg o (bOff_inb e)) ⟨h.val % 2, by omega⟩⟩

abbrev rows8 : List (Fin 8) := [7, 6, 5, 4, 3, 2, 1, 0]
theorem mem_rows8 : ∀ h, h ∈ rows8 := by decide

/-- A slot after group `k`'s products. -/
theorem o_after (fg : Buf (Elt F) (gM.view.loc (c : Thread nD τ))) (ft : Buf (Elt F) (tM.view.loc (c : Thread nD τ))) (k : Fin 4) (s : Fin 2)
    (fo : Buf (Elt F) ((oR s).view.loc (c : Thread nD τ)))
    {L : List (View.Piece (Elt F) S6144x128 .f32)} (h : List.Forall₂ (IsO c fg ft k) rows8 L) (y : S768x8x128.Idx) :
    (oS s).view.read (Elt F) ((oR s).view.writes (Elt F) fo L) y
      = DW (F := F) c fg ft (ix3 (y 0) ⟨8 * k.val + (y 1).val, by have h1 : (y 1).val < 8 := (y 1).isLt; omega⟩ (y 2)) := by
  have h := forall₂_mem h
  have h0 : (y 0).val < 768 := (y 0).isLt
  have h1 : (y 1).val < 8 := (y 1).isLt
  have h2 : (y 2).val < 128 := (y 2).isLt
  refine (read_oS c s _ y).trans ?_
  refine (View.read_writes_apply_of_pieces _ _ (fun z : S6144x128.Idx => have hz : (z 0).val < 6144 := (z 0).isLt
      DW c fg ft (ix3 ⟨(z 0).val / 8, by omega⟩ ⟨8 * k.val + (z 0).val % 8, by omega⟩ (z 1))) L (fun q hq x => ?_) _ ?_).trans ?_
  · obtain ⟨a, -, o, e, inb, sp, rfl⟩ := h.1 q hq
    rw [kA_eq, kB_eq c fg o ⟨4 * k.val + a.val / 2, by omega⟩ e]
    idx_vars x
    refine (opay_pure _ _ _ _ _).trans ?_
    show matmul _ _ _ _ _ _ = matmul _ _ _ _ _ _
    have ha := a.isLt
    have hx1 : x1.val < 128 := x1.isLt
    congr 1
    · congr 1
      exact Fin.ext (by show 4 * k.val + a.val / 2 = (8 * k.val + (a.val + 8 * x0.val) % 8) / 2; omega)
    · refine funext fun b => Fin.ext ?_
      fin_cases b
      · show x0.val = (a.val + 8 * x0.val) / 8; omega
      · show 128 * (a.val % 2) + x1.val = 128 * ((8 * k.val + (a.val + 8 * x0.val) % 8) % 2) + (0 + 1 * x1.val); omega
  · obtain ⟨q, hq, o, e, inb, sp, rfl⟩ := h.2 (y 1) (mem_rows8 _)
    refine ⟨_, hq, (LoadRect.mem_set _).2 fun b => ?_⟩
    fin_cases b
    · exact ⟨(y 0).val, h0, by show 8 * (y 0).val + (y 1).val = (y 1).val + 8 * (y 0).val; omega⟩
    · exact ⟨(y 2).val, h2, by show (y 2).val = 0 + 1 * (y 2).val; omega⟩
  · refine congrArg (DW c fg ft) (funext fun a => Fin.ext ?_)
    fin_cases a
    · show (8 * (y 0).val + (y 1).val) / 8 = (y 0).val; omega
    · show 8 * k.val + (8 * (y 0).val + (y 1).val) % 8 = 8 * k.val + (y 1).val; omega
    · rfl

theorem grp_lt {k h : ℕ} (hk : k < 4) (hh : h < 8) : 8 * k + h < 32 := by omega

theorem vec4 (j k r h b x : ℕ) (hx : x = 8 * k + 2 * r + b) (hr : h / 2 = r) : (![j, x, 0, 0] : Fin 4 → ℕ) = ![j, 2 * (4 * k + h / 2) + b, 0, 0] := by
  have : x = 2 * (4 * k + h / 2) + b := by omega
  rw [this]

theorem forall52 {P : Fin 5 → Fin 2 → Prop} (h00 : P 0 0) (h01 : P 0 1) (h10 : P 1 0) (h11 : P 1 1) (h20 : P 2 0) (h21 : P 2 1) (h30 : P 3 0) (h31 : P 3 1)
    (h40 : P 4 0) (h41 : P 4 1) : ∀ j b, P j b := by
  intro j b
  fin_cases j <;> fin_cases b <;> assumption

end Prod

end Cert.Proof.Kernel

end
-- ==== Proof.Kernel.Trip2.lean ====
/-
  One trip of the first product loop.
-/
module

public import proofs.«01_k».proof.Proof.Kernel.Prod
public import proofs.«01_k».proof.Proof.Kernel.Wide

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

set_option maxRecDepth 16384

section Trip
variable (c : Dev nD)

abbrev trip2 (k : Fin k0_t3_loop.trips) : Prog (TpuEff nD τ sig (Elt F) Λ₀ .tc) Unit :=
  k0_t3_body (F := F) dkM (Memref.isWhole_whole _) dvM (Memref.isWhole_whole _) ccM (Memref.isWhole_whole _) csM (Memref.isWhole_whole _)
    ukM (Memref.isWhole_whole _) usM (Memref.isWhole_whole _) uvM (Memref.isWhole_whole _) vsM (Memref.isWhole_whole _) dcM (Memref.isWhole_whole _)
    wkM (Memref.isWhole_whole _) wvM (Memref.isWhole_whole _) xM (Memref.isWhole_whole _) sM (Memref.isWhole_whole _) gM (Memref.isWhole_whole _)
    hM (Memref.isWhole_whole _) iM (Memref.isWhole_whole _) nM (Memref.isWhole_whole _) swM (Memref.isWhole_whole _) wM (Memref.isWhole_whole _)
    rM (Memref.isWhole_whole _) lM (Memref.isWhole_whole _) tM (Memref.isWhole_whole _) aM (Memref.isWhole_whole _) pM (Memref.isWhole_whole _)
    oM (Memref.isWhole_whole _) cc0_scratch14 cc0_scratch15 cc0_scratch16 cc0_scratch17 cc0_scratch18 cc0_scratch19 k ()

theorem stretch64 (k r : ℕ) : (192 * k + 64 * r) % 64 = 0 := by omega

/-- A trip that first waits for the products sent two trips before. -/
theorem run2 (k : Fin k0_t3_loop.trips) (hk : 2 ≤ k.val) (fg ft fh fn fsw fw)
    (M : Memref sig .tc .hbm S768x8x128 .f32) (X : Buf (Elt F) (M.view.loc (c : Thread nD τ))) (fo f1) :
    iprop(hP c fh ∗ nP c fn ∗ swP c fsw ∗ wP c fw ∗ gP c fg ∗ tP c ft ∗ (∃ W, owes (c : Thread nD τ) 0 W) ∗ wkP c (Ring.bk 4 k.val) f1
      ∗ Transfers.Flight countersEmb (c : Thread nD τ) (SemLoc.dma (osm (Ring.sl 2 k.val)).sem) () (NN (Ring.sl 2 k.val))
          iprop((M.view.loc (c : Thread nD τ) ↦[M.view.set]{fullShare} X) ∗ oP c (Ring.sl 2 k.val) fo))
    ⊢ wp frame (wpE (defs₀ (F := F)) 𝒱₀ (c : Thread nD τ) none) Set.univ (trip2 k) (fun _ => iprop(∃ fo' fsw' fw', hP c fh ∗ nP c fn ∗ swP c fsw' ∗ wP c fw' ∗ gP c fg ∗ tP c ft ∗ (∃ W, owes (c : Thread nD τ) 0 W)
      ∗ (M.view.loc (c : Thread nD τ) ↦[M.view.set]{fullShare} X)
      ∗ Transfers.Flight countersEmb (c : Thread nD τ) (SemLoc.dma (osm (Ring.sl 2 k.val)).sem) () (NN (Ring.sl 2 k.val))
          iprop(wkP c (Ring.bk 4 k.val) ((wkG (Ring.bk 4 k.val)).view.writes (Elt F) f1 [⟨Rect.whole S768x8x128, ReadAs.same.apply ((oS (Ring.sl 2 k.val)).view.read (Elt F) fo')⟩]) ∗ oP c (Ring.sl 2 k.val) fo')
      ∗ ⌜∀ y : S768x8x128.Idx, (oS (Ring.sl 2 k.val)).view.read (Elt F) fo' y = DW c fg ft (ix3 (y 0) ⟨8 * k.val + (y 1).val, grp_lt k.isLt (y 1).isLt⟩ (y 2))⌝
      ∗ ⌜WUpd c fh fn 1 [192 * k.val + 64 * (2 : Fin 3).val, 192 * k.val + 64 * (1 : Fin 3).val, 192 * k.val + 64 * (0 : Fin 3).val] fw fw'⌝)) := by
  iintro ⟨HH, HN, HSW, HWW, HG, HT, ⟨%W, HW⟩, HK, HF⟩
  dsimp only [trip2]
  sl_unfold [k0_t3_body]
  have h3 : k0_cond3 k = 1#1 := by rw [cond3_iff]; omega
  sl_exec
  ihave HR := (entails_of_eq (oRP_eq c _ _)) $$ HF_src
  sl_exec
  ihave HQ := (oRP_back c (Ring.sl 2 k.val) _) $$ HR
  sl_exec
  sl_step
  iexists _, _, _
  isplitl [HH]; · iexact HH
  isplitl [HN]; · iexact HN
  isplitl [HSW]; · iexact HSW
  isplitl [HWW]; · iexact HWW
  isplitl [HG]; · iexact HG
  isplitl [HT]; · iexact HT
  isplitl [HW]; · iexists _; iexact HW
  isplitl [HF_dst]; · iexact HF_dst
  isplitl [HF]; · iexact HF
  isplitl []; swap
  · ipureintro
    exact w_after c fh fn 1 fw [192 * k.val + 64 * (2 : Fin 3).val, 192 * k.val + 64 * (1 : Fin 3).val, 192 * k.val + 64 * (0 : Fin 3).val]
        (.cons ⟨_, _, _, _, _, _, _, _, _, _, _, k0_off139_eq k 2, off106_eq k 2, k0_off107_eq k 2, stretch64 _ _, rfl⟩
        (.cons ⟨_, _, _, _, _, _, _, _, _, _, _, k0_off138_eq k 2, off106_eq k 2, k0_off107_eq k 2, stretch64 _ _, rfl⟩
        (.cons ⟨_, _, _, _, _, _, _, _, _, _, _, k0_off137_eq k 2, off106_eq k 2, k0_off107_eq k 2, stretch64 _ _, rfl⟩
        (.cons ⟨_, _, _, _, _, _, _, _, _, _, _, k0_off136_eq k 2, off106_eq k 2, k0_off107_eq k 2, stretch64 _ _, rfl⟩
        (.cons ⟨_, _, _, _, _, _, _, _, _, _, _, k0_off135_eq k 2, off106_eq k 2, k0_off107_eq k 2, stretch64 _ _, rfl⟩
        (.cons ⟨_, _, _, _, _, _, _, _, _, _, _, k0_off134_eq k 2, off106_eq k 2, k0_off107_eq k 2, stretch64 _ _, rfl⟩
        (.cons ⟨_, _, _, _, _, _, _, _, _, _, _, k0_off133_eq k 2, off106_eq k 2, k0_off107_eq k 2, stretch64 _ _, rfl⟩
        (.cons ⟨_, _, _, _, _, _, _, _, _, _, _, k0_off132_eq k 2, off106_eq k 2, k0_off107_eq k 2, stretch64 _ _, rfl⟩
        (.cons ⟨_, _, _, _, _, _, _, _, _, _, _, k0_off131_eq k 2, off106_eq k 2, k0_off107_eq k 2, stretch64 _ _, rfl⟩
        (.cons ⟨_, _, _, _, _, _, _, _, _, _, _, k0_off130_eq k 2, off106_eq k 2, k0_off107_eq k 2, stretch64 _ _, rfl⟩
        (.cons ⟨_, _, _, _, _, _, _, _, _, _, _, k0_off129_eq k 2, off106_eq k 2, k0_off107_eq k 2, stretch64 _ _, rfl⟩
        (.cons ⟨_, _, _, _, _, _, _, _, _, _, _, k0_off128_eq k 2, off106_eq k 2, k0_off107_eq k 2, stretch64 _ _, rfl⟩
        (.cons ⟨_, _, _, _, _, _, _, _, _, _, _, k0_off127_eq k 2, off106_eq k 2, k0_off107_eq k 2, stretch64 _ _, rfl⟩
        (.cons ⟨_, _, _, _, _, _, _, _, _, _, _, k0_off126_eq k 2, off106_eq k 2, k0_off107_eq k 2, stretch64 _ _, rfl⟩
        (.cons ⟨_, _, _, _, _, _, _, _, _, _, _, k0_off125_eq k 2, off106_eq k 2, k0_off107_eq k 2, stretch64 _ _, rfl⟩
        (.cons ⟨_, _, _, _, _, _, _, _, _, _, _, k0_off124_eq k 2, off106_eq k 2, k0_off107_eq k 2, stretch64 _ _, rfl⟩
        (.cons ⟨_, _, _, _, _, _, _, _, _, _, _, k0_off123_eq k 2, off106_eq k 2, k0_off107_eq k 2, stretch64 _ _, rfl⟩
        (.cons ⟨_, _, _, _, _, _, _, _, _, _, _, k0_off122_eq k 2, off106_eq k 2, k0_off107_eq k 2, stretch64 _ _, rfl⟩
        (.cons ⟨_, _, _, _, _, _, _, _, _, _, _, k0_off121_eq k 2, off106_eq k 2, k0_off107_eq k 2, stretch64 _ _, rfl⟩
        (.cons ⟨_, _, _, _, _, _, _, _, _, _, _, k0_off120_eq k 2, off106_eq k 2, k0_off107_eq k 2, stretch64 _ _, rfl⟩
        (.cons ⟨_, _, _, _, _, _, _, _, _, _, _, k0_off119_eq k 2, off106_eq k 2, k0_off107_eq k 2, stretch64 _ _, rfl⟩
        (.cons ⟨_, _, _, _, _, _, _, _, _, _, _, k0_off118_eq k 2, off106_eq k 2, k0_off107_eq k 2, stretch64 _ _, rfl⟩
        (.cons ⟨_, _, _, _, _, _, _, _, _, _, _, k0_off117_eq k 2, off106_eq k 2, k0_off107_eq k 2, stretch64 _ _, rfl⟩
        (.cons ⟨_, _, _, _, _, _, _, _, _, _, _, k0_off116_eq k 2, off106_eq k 2, k0_off107_eq k 2, stretch64 _ _, rfl⟩
        (.cons ⟨_, _, _, _, _, _, _, _, _, _, _, k0_off115_eq k 2, off106_eq k 2, k0_off107_eq k 2, stretch64 _ _, rfl⟩
        (.cons ⟨_, _, _, _, _, _, _, _, _, _, _, k0_off114_eq k 2, off106_eq k 2, k0_off107_eq k 2, stretch64 _ _, rfl⟩
        (.cons ⟨_, _, _, _, _, _, _, _, _, _, _, k0_off113_eq k 2, off106_eq k 2, k0_off107_eq k 2, stretch64 _ _, rfl⟩
        (.cons ⟨_, _, _, _, _, _, _, _, _, _, _, k0_off112_eq k 2, off106_eq k 2, k0_off107_eq k 2, stretch64 _ _, rfl⟩
        (.cons ⟨_, _, _, _, _, _, _, _, _, _, _, k0_off111_eq k 2, off106_eq k 2, k0_off107_eq k 2, stretch64 _ _, rfl⟩
        (.cons ⟨_, _, _, _, _, _, _, _, _, _, _, k0_off110_eq k 2, off106_eq k 2, k0_off107_eq k 2, stretch64 _ _, rfl⟩
        (.cons ⟨_, _, _, _, _, _, _, _, _, _, _, k0_off109_eq k 2, off106_eq k 2, k0_off107_eq k 2, stretch64 _ _, rfl⟩
        (.cons ⟨_, _, _, _, _, _, _, _, _, _, _, k0_off108_eq k 2, off106_eq k 2, k0_off107_eq k 2, stretch64 _ _, rfl⟩
        (.cons ⟨_, _, _, _, _, _, _, _, _, _, _, k0_off139_eq k 1, off106_eq k 1, k0_off107_eq k 1, stretch64 _ _, rfl⟩
        (.cons ⟨_, _, _, _, _, _, _, _, _, _, _, k0_off138_eq k 1, off106_eq k 1, k0_off107_eq k 1, stretch64 _ _, rfl⟩
        (.cons ⟨_, _, _, _, _, _, _, _, _, _, _, k0_off137_eq k 1, off106_eq k 1, k0_off107_eq k 1, stretch64 _ _, rfl⟩
        (.cons ⟨_, _, _, _, _, _, _, _, _, _, _, k0_off136_eq k 1, off106_eq k 1, k0_off107_eq k 1, stretch64 _ _, rfl⟩
        (.cons ⟨_, _, _, _, _, _, _, _, _, _, _, k0_off135_eq k 1, off106_eq k 1, k0_off107_eq k 1, stretch64 _ _, rfl⟩
        (.cons ⟨_, _, _, _, _, _, _, _, _, _, _, k0_off134_eq k 1, off106_eq k 1, k0_off107_eq k 1, stretch64 _ _, rfl⟩
        (.cons ⟨_, _, _, _, _, _, _, _, _, _, _, k0_off133_eq k 1, off106_eq k 1, k0_off107_eq k 1, stretch64 _ _, rfl⟩
        (.cons ⟨_, _, _, _, _, _, _, _, _, _, _, k0_off132_eq k 1, off106_eq k 1, k0_off107_eq k 1, stretch64 _ _, rfl⟩
        (.cons ⟨_, _, _, _, _, _, _, _, _, _, _, k0_off131_eq k 1, off106_eq k 1, k0_off107_eq k 1, stretch64 _ _, rfl⟩
        (.cons ⟨_, _, _, _, _, _, _, _, _, _, _, k0_off130_eq k 1, off106_eq k 1, k0_off107_eq k 1, stretch64 _ _, rfl⟩
        (.cons ⟨_, _, _, _, _, _, _, _, _, _, _, k0_off129_eq k 1, off106_eq k 1, k0_off107_eq k 1, stretch64 _ _, rfl⟩
        (.cons ⟨_, _, _, _, _, _, _, _, _, _, _, k0_off128_eq k 1, off106_eq k 1, k0_off107_eq k 1, stretch64 _ _, rfl⟩
        (.cons ⟨_, _, _, _, _, _, _, _, _, _, _, k0_off127_eq k 1, off106_eq k 1, k0_off107_eq k 1, stretch64 _ _, rfl⟩
        (.cons ⟨_, _, _, _, _, _, _, _, _, _, _, k0_off126_eq k 1, off106_eq k 1, k0_off107_eq k 1, stretch64 _ _, rfl⟩
        (.cons ⟨_, _, _, _, _, _, _, _, _, _, _, k0_off125_eq k 1, off106_eq k 1, k0_off107_eq k 1, stretch64 _ _, rfl⟩
        (.cons ⟨_, _, _, _, _, _, _, _, _, _, _, k0_off124_eq k 1, off106_eq k 1, k0_off107_eq k 1, stretch64 _ _, rfl⟩
        (.cons ⟨_, _, _, _, _, _, _, _, _, _, _, k0_off123_eq k 1, off106_eq k 1, k0_off107_eq k 1, stretch64 _ _, rfl⟩
        (.cons ⟨_, _, _, _, _, _, _, _, _, _, _, k0_off122_eq k 1, off106_eq k 1, k0_off107_eq k 1, stretch64 _ _, rfl⟩
        (.cons ⟨_, _, _, _, _, _, _, _, _, _, _, k0_off121_eq k 1, off106_eq k 1, k0_off107_eq k 1, stretch64 _ _, rfl⟩
        (.cons ⟨_, _, _, _, _, _, _, _, _, _, _, k0_off120_eq k 1, off106_eq k 1, k0_off107_eq k 1, stretch64 _ _, rfl⟩
        (.cons ⟨_, _, _, _, _, _, _, _, _, _, _, k0_off119_eq k 1, off106_eq k 1, k0_off107_eq k 1, stretch64 _ _, rfl⟩
        (.cons ⟨_, _, _, _, _, _, _, _, _, _, _, k0_off118_eq k 1, off106_eq k 1, k0_off107_eq k 1, stretch64 _ _, rfl⟩
        (.cons ⟨_, _, _, _, _, _, _, _, _, _, _, k0_off117_eq k 1, off106_eq k 1, k0_off107_eq k 1, stretch64 _ _, rfl⟩
        (.cons ⟨_, _, _, _, _, _, _, _, _, _, _, k0_off116_eq k 1, off106_eq k 1, k0_off107_eq k 1, stretch64 _ _, rfl⟩
        (.cons ⟨_, _, _, _, _, _, _, _, _, _, _, k0_off115_eq k 1, off106_eq k 1, k0_off107_eq k 1, stretch64 _ _, rfl⟩
        (.cons ⟨_, _, _, _, _, _, _, _, _, _, _, k0_off114_eq k 1, off106_eq k 1, k0_off107_eq k 1, stretch64 _ _, rfl⟩
        (.cons ⟨_, _, _, _, _, _, _, _, _, _, _, k0_off113_eq k 1, off106_eq k 1, k0_off107_eq k 1, stretch64 _ _, rfl⟩
        (.cons ⟨_, _, _, _, _, _, _, _, _, _, _, k0_off112_eq k 1, off106_eq k 1, k0_off107_eq k 1, stretch64 _ _, rfl⟩
        (.cons ⟨_, _, _, _, _, _, _, _, _, _, _, k0_off111_eq k 1, off106_eq k 1, k0_off107_eq k 1, stretch64 _ _, rfl⟩
        (.cons ⟨_, _, _, _, _, _, _, _, _, _, _, k0_off110_eq k 1, off106_eq k 1, k0_off107_eq k 1, stretch64 _ _, rfl⟩
        (.cons ⟨_, _, _, _, _, _, _, _, _, _, _, k0_off109_eq k 1, off106_eq k 1, k0_off107_eq k 1, stretch64 _ _, rfl⟩
        (.cons ⟨_, _, _, _, _, _, _, _, _, _, _, k0_off108_eq k 1, off106_eq k 1, k0_off107_eq k 1, stretch64 _ _, rfl⟩
        (.cons ⟨_, _, _, _, _, _, _, _, _, _, _, k0_off139_eq k 0, off106_eq k 0, k0_off107_eq k 0, stretch64 _ _, rfl⟩
        (.cons ⟨_, _, _, _, _, _, _, _, _, _, _, k0_off138_eq k 0, off106_eq k 0, k0_off107_eq k 0, stretch64 _ _, rfl⟩
        (.cons ⟨_, _, _, _, _, _, _, _, _, _, _, k0_off137_eq k 0, off106_eq k 0, k0_off107_eq k 0, stretch64 _ _, rfl⟩
        (.cons ⟨_, _, _, _, _, _, _, _, _, _, _, k0_off136_eq k 0, off106_eq k 0, k0_off107_eq k 0, stretch64 _ _, rfl⟩
        (.cons ⟨_, _, _, _, _, _, _, _, _, _, _, k0_off135_eq k 0, off106_eq k 0, k0_off107_eq k 0, stretch64 _ _, rfl⟩
        (.cons ⟨_, _, _, _, _, _, _, _, _, _, _, k0_off134_eq k 0, off106_eq k 0, k0_off107_eq k 0, stretch64 _ _, rfl⟩
        (.cons ⟨_, _, _, _, _, _, _, _, _, _, _, k0_off133_eq k 0, off106_eq k 0, k0_off107_eq k 0, stretch64 _ _, rfl⟩
        (.cons ⟨_, _, _, _, _, _, _, _, _, _, _, k0_off132_eq k 0, off106_eq k 0, k0_off107_eq k 0, stretch64 _ _, rfl⟩
        (.cons ⟨_, _, _, _, _, _, _, _, _, _, _, k0_off131_eq k 0, off106_eq k 0, k0_off107_eq k 0, stretch64 _ _, rfl⟩
        (.cons ⟨_, _, _, _, _, _, _, _, _, _, _, k0_off130_eq k 0, off106_eq k 0, k0_off107_eq k 0, stretch64 _ _, rfl⟩
        (.cons ⟨_, _, _, _, _, _, _, _, _, _, _, k0_off129_eq k 0, off106_eq k 0, k0_off107_eq k 0, stretch64 _ _, rfl⟩
        (.cons ⟨_, _, _, _, _, _, _, _, _, _, _, k0_off128_eq k 0, off106_eq k 0, k0_off107_eq k 0, stretch64 _ _, rfl⟩
        (.cons ⟨_, _, _, _, _, _, _, _, _, _, _, k0_off127_eq k 0, off106_eq k 0, k0_off107_eq k 0, stretch64 _ _, rfl⟩
        (.cons ⟨_, _, _, _, _, _, _, _, _, _, _, k0_off126_eq k 0, off106_eq k 0, k0_off107_eq k 0, stretch64 _ _, rfl⟩
        (.cons ⟨_, _, _, _, _, _, _, _, _, _, _, k0_off125_eq k 0, off106_eq k 0, k0_off107_eq k 0, stretch64 _ _, rfl⟩
        (.cons ⟨_, _, _, _, _, _, _, _, _, _, _, k0_off124_eq k 0, off106_eq k 0, k0_off107_eq k 0, stretch64 _ _, rfl⟩
        (.cons ⟨_, _, _, _, _, _, _, _, _, _, _, k0_off123_eq k 0, off106_eq k 0, k0_off107_eq k 0, stretch64 _ _, rfl⟩
        (.cons ⟨_, _, _, _, _, _, _, _, _, _, _, k0_off122_eq k 0, off106_eq k 0, k0_off107_eq k 0, stretch64 _ _, rfl⟩
        (.cons ⟨_, _, _, _, _, _, _, _, _, _, _, k0_off121_eq k 0, off106_eq k 0, k0_off107_eq k 0, stretch64 _ _, rfl⟩
        (.cons ⟨_, _, _, _, _, _, _, _, _, _, _, k0_off120_eq k 0, off106_eq k 0, k0_off107_eq k 0, stretch64 _ _, rfl⟩
        (.cons ⟨_, _, _, _, _, _, _, _, _, _, _, k0_off119_eq k 0, off106_eq k 0, k0_off107_eq k 0, stretch64 _ _, rfl⟩
        (.cons ⟨_, _, _, _, _, _, _, _, _, _, _, k0_off118_eq k 0, off106_eq k 0, k0_off107_eq k 0, stretch64 _ _, rfl⟩
        (.cons ⟨_, _, _, _, _, _, _, _, _, _, _, k0_off117_eq k 0, off106_eq k 0, k0_off107_eq k 0, stretch64 _ _, rfl⟩
        (.cons ⟨_, _, _, _, _, _, _, _, _, _, _, k0_off116_eq k 0, off106_eq k 0, k0_off107_eq k 0, stretch64 _ _, rfl⟩
        (.cons ⟨_, _, _, _, _, _, _, _, _, _, _, k0_off115_eq k 0, off106_eq k 0, k0_off107_eq k 0, stretch64 _ _, rfl⟩
        (.cons ⟨_, _, _, _, _, _, _, _, _, _, _, k0_off114_eq k 0, off106_eq k 0, k0_off107_eq k 0, stretch64 _ _, rfl⟩
        (.cons ⟨_, _, _, _, _, _, _, _, _, _, _, k0_off113_eq k 0, off106_eq k 0, k0_off107_eq k 0, stretch64 _ _, rfl⟩
        (.cons ⟨_, _, _, _, _, _, _, _, _, _, _, k0_off112_eq k 0, off106_eq k 0, k0_off107_eq k 0, stretch64 _ _, rfl⟩
        (.cons ⟨_, _, _, _, _, _, _, _, _, _, _, k0_off111_eq k 0, off106_eq k 0, k0_off107_eq k 0, stretch64 _ _, rfl⟩
        (.cons ⟨_, _, _, _, _, _, _, _, _, _, _, k0_off110_eq k 0, off106_eq k 0, k0_off107_eq k 0, stretch64 _ _, rfl⟩
        (.cons ⟨_, _, _, _, _, _, _, _, _, _, _, k0_off109_eq k 0, off106_eq k 0, k0_off107_eq k 0, stretch64 _ _, rfl⟩
        (.cons ⟨_, _, _, _, _, _, _, _, _, _, _, k0_off108_eq k 0, off106_eq k 0, k0_off107_eq k 0, stretch64 _ _, rfl⟩ .nil))))))))))))))))))))))))))))))))))))))))))))))))))))))))))))))))))))))))))))))))))))))))))))))))
  ipureintro
  exact fun y => o_after c fg ft ⟨k.val, k.isLt⟩ _ _
        (.cons ⟨![![k0_off140 k 6#32, k0_off141 k 6#32], ![k0_off142 k 6#32, k0_off143 k 6#32], ![k0_off144 k 6#32, k0_off145 k 6#32], ![k0_off146 k 6#32, k0_off147 k 6#32], ![k0_off148 k 6#32, k0_off149 k 6#32]],
          forall52 ((k0_off140_eq k 3).trans (vec4 0 k.val 3 7 0 _ rfl rfl)) ((k0_off141_eq k 3).trans (vec4 0 k.val 3 7 1 _ rfl rfl)) ((k0_off142_eq k 3).trans (vec4 1 k.val 3 7 0 _ rfl rfl)) ((k0_off143_eq k 3).trans (vec4 1 k.val 3 7 1 _ rfl rfl)) ((k0_off144_eq k 3).trans (vec4 2 k.val 3 7 0 _ rfl rfl)) ((k0_off145_eq k 3).trans (vec4 2 k.val 3 7 1 _ rfl rfl)) ((k0_off146_eq k 3).trans (vec4 3 k.val 3 7 0 _ rfl rfl)) ((k0_off147_eq k 3).trans (vec4 3 k.val 3 7 1 _ rfl rfl)) ((k0_off148_eq k 3).trans (vec4 4 k.val 3 7 0 _ rfl rfl)) ((k0_off149_eq k 3).trans (vec4 4 k.val 3 7 1 _ rfl rfl)), _, _, rfl⟩
        (.cons ⟨![![k0_off140 k 6#32, k0_off141 k 6#32], ![k0_off142 k 6#32, k0_off143 k 6#32], ![k0_off144 k 6#32, k0_off145 k 6#32], ![k0_off146 k 6#32, k0_off147 k 6#32], ![k0_off148 k 6#32, k0_off149 k 6#32]],
          forall52 ((k0_off140_eq k 3).trans (vec4 0 k.val 3 6 0 _ rfl rfl)) ((k0_off141_eq k 3).trans (vec4 0 k.val 3 6 1 _ rfl rfl)) ((k0_off142_eq k 3).trans (vec4 1 k.val 3 6 0 _ rfl rfl)) ((k0_off143_eq k 3).trans (vec4 1 k.val 3 6 1 _ rfl rfl)) ((k0_off144_eq k 3).trans (vec4 2 k.val 3 6 0 _ rfl rfl)) ((k0_off145_eq k 3).trans (vec4 2 k.val 3 6 1 _ rfl rfl)) ((k0_off146_eq k 3).trans (vec4 3 k.val 3 6 0 _ rfl rfl)) ((k0_off147_eq k 3).trans (vec4 3 k.val 3 6 1 _ rfl rfl)) ((k0_off148_eq k 3).trans (vec4 4 k.val 3 6 0 _ rfl rfl)) ((k0_off149_eq k 3).trans (vec4 4 k.val 3 6 1 _ rfl rfl)), _, _, rfl⟩
        (.cons ⟨![![k0_off140 k 4#32, k0_off141 k 4#32], ![k0_off142 k 4#32, k0_off143 k 4#32], ![k0_off144 k 4#32, k0_off145 k 4#32], ![k0_off146 k 4#32, k0_off147 k 4#32], ![k0_off148 k 4#32, k0_off149 k 4#32]],
          forall52 ((k0_off140_eq k 2).trans (vec4 0 k.val 2 5 0 _ rfl rfl)) ((k0_off141_eq k 2).trans (vec4 0 k.val 2 5 1 _ rfl rfl)) ((k0_off142_eq k 2).trans (vec4 1 k.val 2 5 0 _ rfl rfl)) ((k0_off143_eq k 2).trans (vec4 1 k.val 2 5 1 _ rfl rfl)) ((k0_off144_eq k 2).trans (vec4 2 k.val 2 5 0 _ rfl rfl)) ((k0_off145_eq k 2).trans (vec4 2 k.val 2 5 1 _ rfl rfl)) ((k0_off146_eq k 2).trans (vec4 3 k.val 2 5 0 _ rfl rfl)) ((k0_off147_eq k 2).trans (vec4 3 k.val 2 5 1 _ rfl rfl)) ((k0_off148_eq k 2).trans (vec4 4 k.val 2 5 0 _ rfl rfl)) ((k0_off149_eq k 2).trans (vec4 4 k.val 2 5 1 _ rfl rfl)), _, _, rfl⟩
        (.cons ⟨![![k0_off140 k 4#32, k0_off141 k 4#32], ![k0_off142 k 4#32, k0_off143 k 4#32], ![k0_off144 k 4#32, k0_off145 k 4#32], ![k0_off146 k 4#32, k0_off147 k 4#32], ![k0_off148 k 4#32, k0_off149 k 4#32]],
          forall52 ((k0_off140_eq k 2).trans (vec4 0 k.val 2 4 0 _ rfl rfl)) ((k0_off141_eq k 2).trans (vec4 0 k.val 2 4 1 _ rfl rfl)) ((k0_off142_eq k 2).trans (vec4 1 k.val 2 4 0 _ rfl rfl)) ((k0_off143_eq k 2).trans (vec4 1 k.val 2 4 1 _ rfl rfl)) ((k0_off144_eq k 2).trans (vec4 2 k.val 2 4 0 _ rfl rfl)) ((k0_off145_eq k 2).trans (vec4 2 k.val 2 4 1 _ rfl rfl)) ((k0_off146_eq k 2).trans (vec4 3 k.val 2 4 0 _ rfl rfl)) ((k0_off147_eq k 2).trans (vec4 3 k.val 2 4 1 _ rfl rfl)) ((k0_off148_eq k 2).trans (vec4 4 k.val 2 4 0 _ rfl rfl)) ((k0_off149_eq k 2).trans (vec4 4 k.val 2 4 1 _ rfl rfl)), _, _, rfl⟩
        (.cons ⟨![![k0_off140 k 2#32, k0_off141 k 2#32], ![k0_off142 k 2#32, k0_off143 k 2#32], ![k0_off144 k 2#32, k0_off145 k 2#32], ![k0_off146 k 2#32, k0_off147 k 2#32], ![k0_off148 k 2#32, k0_off149 k 2#32]],
          forall52 ((k0_off140_eq k 1).trans (vec4 0 k.val 1 3 0 _ rfl rfl)) ((k0_off141_eq k 1).trans (vec4 0 k.val 1 3 1 _ rfl rfl)) ((k0_off142_eq k 1).trans (vec4 1 k.val 1 3 0 _ rfl rfl)) ((k0_off143_eq k 1).trans (vec4 1 k.val 1 3 1 _ rfl rfl)) ((k0_off144_eq k 1).trans (vec4 2 k.val 1 3 0 _ rfl rfl)) ((k0_off145_eq k 1).trans (vec4 2 k.val 1 3 1 _ rfl rfl)) ((k0_off146_eq k 1).trans (vec4 3 k.val 1 3 0 _ rfl rfl)) ((k0_off147_eq k 1).trans (vec4 3 k.val 1 3 1 _ rfl rfl)) ((k0_off148_eq k 1).trans (vec4 4 k.val 1 3 0 _ rfl rfl)) ((k0_off149_eq k 1).trans (vec4 4 k.val 1 3 1 _ rfl rfl)), _, _, rfl⟩
        (.cons ⟨![![k0_off140 k 2#32, k0_off141 k 2#32], ![k0_off142 k 2#32, k0_off143 k 2#32], ![k0_off144 k 2#32, k0_off145 k 2#32], ![k0_off146 k 2#32, k0_off147 k 2#32], ![k0_off148 k 2#32, k0_off149 k 2#32]],
          forall52 ((k0_off140_eq k 1).trans (vec4 0 k.val 1 2 0 _ rfl rfl)) ((k0_off141_eq k 1).trans (vec4 0 k.val 1 2 1 _ rfl rfl)) ((k0_off142_eq k 1).trans (vec4 1 k.val 1 2 0 _ rfl rfl)) ((k0_off143_eq k 1).trans (vec4 1 k.val 1 2 1 _ rfl rfl)) ((k0_off144_eq k 1).trans (vec4 2 k.val 1 2 0 _ rfl rfl)) ((k0_off145_eq k 1).trans (vec4 2 k.val 1 2 1 _ rfl rfl)) ((k0_off146_eq k 1).trans (vec4 3 k.val 1 2 0 _ rfl rfl)) ((k0_off147_eq k 1).trans (vec4 3 k.val 1 2 1 _ rfl rfl)) ((k0_off148_eq k 1).trans (vec4 4 k.val 1 2 0 _ rfl rfl)) ((k0_off149_eq k 1).trans (vec4 4 k.val 1 2 1 _ rfl rfl)), _, _, rfl⟩
        (.cons ⟨![![k0_off140 k 0#32, k0_off141 k 0#32], ![k0_off142 k 0#32, k0_off143 k 0#32], ![k0_off144 k 0#32, k0_off145 k 0#32], ![k0_off146 k 0#32, k0_off147 k 0#32], ![k0_off148 k 0#32, k0_off149 k 0#32]],
          forall52 ((k0_off140_eq k 0).trans (vec4 0 k.val 0 1 0 _ rfl rfl)) ((k0_off141_eq k 0).trans (vec4 0 k.val 0 1 1 _ rfl rfl)) ((k0_off142_eq k 0).trans (vec4 1 k.val 0 1 0 _ rfl rfl)) ((k0_off143_eq k 0).trans (vec4 1 k.val 0 1 1 _ rfl rfl)) ((k0_off144_eq k 0).trans (vec4 2 k.val 0 1 0 _ rfl rfl)) ((k0_off145_eq k 0).trans (vec4 2 k.val 0 1 1 _ rfl rfl)) ((k0_off146_eq k 0).trans (vec4 3 k.val 0 1 0 _ rfl rfl)) ((k0_off147_eq k 0).trans (vec4 3 k.val 0 1 1 _ rfl rfl)) ((k0_off148_eq k 0).trans (vec4 4 k.val 0 1 0 _ rfl rfl)) ((k0_off149_eq k 0).trans (vec4 4 k.val 0 1 1 _ rfl rfl)), _, _, rfl⟩
        (.cons ⟨![![k0_off140 k 0#32, k0_off141 k 0#32], ![k0_off142 k 0#32, k0_off143 k 0#32], ![k0_off144 k 0#32, k0_off145 k 0#32], ![k0_off146 k 0#32, k0_off147 k 0#32], ![k0_off148 k 0#32, k0_off149 k 0#32]],
          forall52 ((k0_off140_eq k 0).trans (vec4 0 k.val 0 0 0 _ rfl rfl)) ((k0_off141_eq k 0).trans (vec4 0 k.val 0 0 1 _ rfl rfl)) ((k0_off142_eq k 0).trans (vec4 1 k.val 0 0 0 _ rfl rfl)) ((k0_off143_eq k 0).trans (vec4 1 k.val 0 0 1 _ rfl rfl)) ((k0_off144_eq k 0).trans (vec4 2 k.val 0 0 0 _ rfl rfl)) ((k0_off145_eq k 0).trans (vec4 2 k.val 0 0 1 _ rfl rfl)) ((k0_off146_eq k 0).trans (vec4 3 k.val 0 0 0 _ rfl rfl)) ((k0_off147_eq k 0).trans (vec4 3 k.val 0 0 1 _ rfl rfl)) ((k0_off148_eq k 0).trans (vec4 4 k.val 0 0 0 _ rfl rfl)) ((k0_off149_eq k 0).trans (vec4 4 k.val 0 0 1 _ rfl rfl)), _, _, rfl⟩ .nil)))))))) y

/-- A trip whose slot is still unused. -/
theorem run2a (k : Fin k0_t3_loop.trips) (hk : k.val < 2) (fg ft fh fn fsw fw)
    (fo f1) :
    iprop(hP c fh ∗ nP c fn ∗ swP c fsw ∗ wP c fw ∗ gP c fg ∗ tP c ft ∗ (∃ W, owes (c : Thread nD τ) 0 W) ∗ wkP c (Ring.bk 4 k.val) f1
      ∗ oP c (Ring.sl 2 k.val) fo ∗ oC c (Ring.sl 2 k.val))
    ⊢ wp frame (wpE (defs₀ (F := F)) 𝒱₀ (c : Thread nD τ) none) Set.univ (trip2 k) (fun _ => iprop(∃ fo' fsw' fw', hP c fh ∗ nP c fn ∗ swP c fsw' ∗ wP c fw' ∗ gP c fg ∗ tP c ft ∗ (∃ W, owes (c : Thread nD τ) 0 W)
      ∗ Transfers.Flight countersEmb (c : Thread nD τ) (SemLoc.dma (osm (Ring.sl 2 k.val)).sem) () (NN (Ring.sl 2 k.val))
          iprop(wkP c (Ring.bk 4 k.val) ((wkG (Ring.bk 4 k.val)).view.writes (Elt F) f1 [⟨Rect.whole S768x8x128, ReadAs.same.apply ((oS (Ring.sl 2 k.val)).view.read (Elt F) fo')⟩]) ∗ oP c (Ring.sl 2 k.val) fo')
      ∗ ⌜∀ y : S768x8x128.Idx, (oS (Ring.sl 2 k.val)).view.read (Elt F) fo' y = DW c fg ft (ix3 (y 0) ⟨8 * k.val + (y 1).val, grp_lt k.isLt (y 1).isLt⟩ (y 2))⌝
      ∗ ⌜WUpd c fh fn 1 [192 * k.val + 64 * (2 : Fin 3).val, 192 * k.val + 64 * (1 : Fin 3).val, 192 * k.val + 64 * (0 : Fin 3).val] fw fw'⌝)) := by
  iintro ⟨HH, HN, HSW, HWW, HG, HT, ⟨%W, HW⟩, HK, HO, HF⟩
  dsimp only [trip2]
  sl_unfold [k0_t3_body]
  have h3 : ¬ k0_cond3 k = 1#1 := by rw [cond3_iff]; omega
  ihave HR := (entails_of_eq (oRP_eq c _ _)) $$ HO
  sl_exec
  ihave HQ := (oRP_back c (Ring.sl 2 k.val) _) $$ HR
  sl_exec
  sl_step
  iexists _, _, _
  isplitl [HH]; · iexact HH
  isplitl [HN]; · iexact HN
  isplitl [HSW]; · iexact HSW
  isplitl [HWW]; · iexact HWW
  isplitl [HG]; · iexact HG
  isplitl [HT]; · iexact HT
  isplitl [HW]; · iexists _; iexact HW
  isplitl [HF]; · iexact HF
  isplitl []; swap
  · ipureintro
    exact w_after c fh fn 1 fw [192 * k.val + 64 * (2 : Fin 3).val, 192 * k.val + 64 * (1 : Fin 3).val, 192 * k.val + 64 * (0 : Fin 3).val]
        (.cons ⟨_, _, _, _, _, _, _, _, _, _, _, k0_off139_eq k 2, off106_eq k 2, k0_off107_eq k 2, stretch64 _ _, rfl⟩
        (.cons ⟨_, _, _, _, _, _, _, _, _, _, _, k0_off138_eq k 2, off106_eq k 2, k0_off107_eq k 2, stretch64 _ _, rfl⟩
        (.cons ⟨_, _, _, _, _, _, _, _, _, _, _, k0_off137_eq k 2, off106_eq k 2, k0_off107_eq k 2, stretch64 _ _, rfl⟩
        (.cons ⟨_, _, _, _, _, _, _, _, _, _, _, k0_off136_eq k 2, off106_eq k 2, k0_off107_eq k 2, stretch64 _ _, rfl⟩
        (.cons ⟨_, _, _, _, _, _, _, _, _, _, _, k0_off135_eq k 2, off106_eq k 2, k0_off107_eq k 2, stretch64 _ _, rfl⟩
        (.cons ⟨_, _, _, _, _, _, _, _, _, _, _, k0_off134_eq k 2, off106_eq k 2, k0_off107_eq k 2, stretch64 _ _, rfl⟩
        (.cons ⟨_, _, _, _, _, _, _, _, _, _, _, k0_off133_eq k 2, off106_eq k 2, k0_off107_eq k 2, stretch64 _ _, rfl⟩
        (.cons ⟨_, _, _, _, _, _, _, _, _, _, _, k0_off132_eq k 2, off106_eq k 2, k0_off107_eq k 2, stretch64 _ _, rfl⟩
        (.cons ⟨_, _, _, _, _, _, _, _, _, _, _, k0_off131_eq k 2, off106_eq k 2, k0_off107_eq k 2, stretch64 _ _, rfl⟩
        (.cons ⟨_, _, _, _, _, _, _, _, _, _, _, k0_off130_eq k 2, off106_eq k 2, k0_off107_eq k 2, stretch64 _ _, rfl⟩
        (.cons ⟨_, _, _, _, _, _, _, _, _, _, _, k0_off129_eq k 2, off106_eq k 2, k0_off107_eq k 2, stretch64 _ _, rfl⟩
        (.cons ⟨_, _, _, _, _, _, _, _, _, _, _, k0_off128_eq k 2, off106_eq k 2, k0_off107_eq k 2, stretch64 _ _, rfl⟩
        (.cons ⟨_, _, _, _, _, _, _, _, _, _, _, k0_off127_eq k 2, off106_eq k 2, k0_off107_eq k 2, stretch64 _ _, rfl⟩
        (.cons ⟨_, _, _, _, _, _, _, _, _, _, _, k0_off126_eq k 2, off106_eq k 2, k0_off107_eq k 2, stretch64 _ _, rfl⟩
        (.cons ⟨_, _, _, _, _, _, _, _, _, _, _, k0_off125_eq k 2, off106_eq k 2, k0_off107_eq k 2, stretch64 _ _, rfl⟩
        (.cons ⟨_, _, _, _, _, _, _, _, _, _, _, k0_off124_eq k 2, off106_eq k 2, k0_off107_eq k 2, stretch64 _ _, rfl⟩
        (.cons ⟨_, _, _, _, _, _, _, _, _, _, _, k0_off123_eq k 2, off106_eq k 2, k0_off107_eq k 2, stretch64 _ _, rfl⟩
        (.cons ⟨_, _, _, _, _, _, _, _, _, _, _, k0_off122_eq k 2, off106_eq k 2, k0_off107_eq k 2, stretch64 _ _, rfl⟩
        (.cons ⟨_, _, _, _, _, _, _, _, _, _, _, k0_off121_eq k 2, off106_eq k 2, k0_off107_eq k 2, stretch64 _ _, rfl⟩
        (.cons ⟨_, _, _, _, _, _, _, _, _, _, _, k0_off120_eq k 2, off106_eq k 2, k0_off107_eq k 2, stretch64 _ _, rfl⟩
        (.cons ⟨_, _, _, _, _, _, _, _, _, _, _, k0_off119_eq k 2, off106_eq k 2, k0_off107_eq k 2, stretch64 _ _, rfl⟩
        (.cons ⟨_, _, _, _, _, _, _, _, _, _, _, k0_off118_eq k 2, off106_eq k 2, k0_off107_eq k 2, stretch64 _ _, rfl⟩
        (.cons ⟨_, _, _, _, _, _, _, _, _, _, _, k0_off117_eq k 2, off106_eq k 2, k0_off107_eq k 2, stretch64 _ _, rfl⟩
        (.cons ⟨_, _, _, _, _, _, _, _, _, _, _, k0_off116_eq k 2, off106_eq k 2, k0_off107_eq k 2, stretch64 _ _, rfl⟩
        (.cons ⟨_, _, _, _, _, _, _, _, _, _, _, k0_off115_eq k 2, off106_eq k 2, k0_off107_eq k 2, stretch64 _ _, rfl⟩
        (.cons ⟨_, _, _, _, _, _, _, _, _, _, _, k0_off114_eq k 2, off106_eq k 2, k0_off107_eq k 2, stretch64 _ _, rfl⟩
        (.cons ⟨_, _, _, _, _, _, _, _, _, _, _, k0_off113_eq k 2, off106_eq k 2, k0_off107_eq k 2, stretch64 _ _, rfl⟩
        (.cons ⟨_, _, _, _, _, _, _, _, _, _, _, k0_off112_eq k 2, off106_eq k 2, k0_off107_eq k 2, stretch64 _ _, rfl⟩
        (.cons ⟨_, _, _, _, _, _, _, _, _, _, _, k0_off111_eq k 2, off106_eq k 2, k0_off107_eq k 2, stretch64 _ _, rfl⟩
        (.cons ⟨_, _, _, _, _, _, _, _, _, _, _, k0_off110_eq k 2, off106_eq k 2, k0_off107_eq k 2, stretch64 _ _, rfl⟩
        (.cons ⟨_, _, _, _, _, _, _, _, _, _, _, k0_off109_eq k 2, off106_eq k 2, k0_off107_eq k 2, stretch64 _ _, rfl⟩
        (.cons ⟨_, _, _, _, _, _, _, _, _, _, _, k0_off108_eq k 2, off106_eq k 2, k0_off107_eq k 2, stretch64 _ _, rfl⟩
        (.cons ⟨_, _, _, _, _, _, _, _, _, _, _, k0_off139_eq k 1, off106_eq k 1, k0_off107_eq k 1, stretch64 _ _, rfl⟩
        (.cons ⟨_, _, _, _, _, _, _, _, _, _, _, k0_off138_eq k 1, off106_eq k 1, k0_off107_eq k 1, stretch64 _ _, rfl⟩
        (.cons ⟨_, _, _, _, _, _, _, _, _, _, _, k0_off137_eq k 1, off106_eq k 1, k0_off107_eq k 1, stretch64 _ _, rfl⟩
        (.cons ⟨_, _, _, _, _, _, _, _, _, _, _, k0_off136_eq k 1, off106_eq k 1, k0_off107_eq k 1, stretch64 _ _, rfl⟩
        (.cons ⟨_, _, _, _, _, _, _, _, _, _, _, k0_off135_eq k 1, off106_eq k 1, k0_off107_eq k 1, stretch64 _ _, rfl⟩
        (.cons ⟨_, _, _, _, _, _, _, _, _, _, _, k0_off134_eq k 1, off106_eq k 1, k0_off107_eq k 1, stretch64 _ _, rfl⟩
        (.cons ⟨_, _, _, _, _, _, _, _, _, _, _, k0_off133_eq k 1, off106_eq k 1, k0_off107_eq k 1, stretch64 _ _, rfl⟩
        (.cons ⟨_, _, _, _, _, _, _, _, _, _, _, k0_off132_eq k 1, off106_eq k 1, k0_off107_eq k 1, stretch64 _ _, rfl⟩
        (.cons ⟨_, _, _, _, _, _, _, _, _, _, _, k0_off131_eq k 1, off106_eq k 1, k0_off107_eq k 1, stretch64 _ _, rfl⟩
        (.cons ⟨_, _, _, _, _, _, _, _, _, _, _, k0_off130_eq k 1, off106_eq k 1, k0_off107_eq k 1, stretch64 _ _, rfl⟩
        (.cons ⟨_, _, _, _, _, _, _, _, _, _, _, k0_off129_eq k 1, off106_eq k 1, k0_off107_eq k 1, stretch64 _ _, rfl⟩
        (.cons ⟨_, _, _, _, _, _, _, _, _, _, _, k0_off128_eq k 1, off106_eq k 1, k0_off107_eq k 1, stretch64 _ _, rfl⟩
        (.cons ⟨_, _, _, _, _, _, _, _, _, _, _, k0_off127_eq k 1, off106_eq k 1, k0_off107_eq k 1, stretch64 _ _, rfl⟩
        (.cons ⟨_, _, _, _, _, _, _, _, _, _, _, k0_off126_eq k 1, off106_eq k 1, k0_off107_eq k 1, stretch64 _ _, rfl⟩
        (.cons ⟨_, _, _, _, _, _, _, _, _, _, _, k0_off125_eq k 1, off106_eq k 1, k0_off107_eq k 1, stretch64 _ _, rfl⟩
        (.cons ⟨_, _, _, _, _, _, _, _, _, _, _, k0_off124_eq k 1, off106_eq k 1, k0_off107_eq k 1, stretch64 _ _, rfl⟩
        (.cons ⟨_, _, _, _, _, _, _, _, _, _, _, k0_off123_eq k 1, off106_eq k 1, k0_off107_eq k 1, stretch64 _ _, rfl⟩
        (.cons ⟨_, _, _, _, _, _, _, _, _, _, _, k0_off122_eq k 1, off106_eq k 1, k0_off107_eq k 1, stretch64 _ _, rfl⟩
        (.cons ⟨_, _, _, _, _, _, _, _, _, _, _, k0_off121_eq k 1, off106_eq k 1, k0_off107_eq k 1, stretch64 _ _, rfl⟩
        (.cons ⟨_, _, _, _, _, _, _, _, _, _, _, k0_off120_eq k 1, off106_eq k 1, k0_off107_eq k 1, stretch64 _ _, rfl⟩
        (.cons ⟨_, _, _, _, _, _, _, _, _, _, _, k0_off119_eq k 1, off106_eq k 1, k0_off107_eq k 1, stretch64 _ _, rfl⟩
        (.cons ⟨_, _, _, _, _, _, _, _, _, _, _, k0_off118_eq k 1, off106_eq k 1, k0_off107_eq k 1, stretch64 _ _, rfl⟩
        (.cons ⟨_, _, _, _, _, _, _, _, _, _, _, k0_off117_eq k 1, off106_eq k 1, k0_off107_eq k 1, stretch64 _ _, rfl⟩
        (.cons ⟨_, _, _, _, _, _, _, _, _, _, _, k0_off116_eq k 1, off106_eq k 1, k0_off107_eq k 1, stretch64 _ _, rfl⟩
        (.cons ⟨_, _, _, _, _, _, _, _, _, _, _, k0_off115_eq k 1, off106_eq k 1, k0_off107_eq k 1, stretch64 _ _, rfl⟩
        (.cons ⟨_, _, _, _, _, _, _, _, _, _, _, k0_off114_eq k 1, off106_eq k 1, k0_off107_eq k 1, stretch64 _ _, rfl⟩
        (.cons ⟨_, _, _, _, _, _, _, _, _, _, _, k0_off113_eq k 1, off106_eq k 1, k0_off107_eq k 1, stretch64 _ _, rfl⟩
        (.cons ⟨_, _, _, _, _, _, _, _, _, _, _, k0_off112_eq k 1, off106_eq k 1, k0_off107_eq k 1, stretch64 _ _, rfl⟩
        (.cons ⟨_, _, _, _, _, _, _, _, _, _, _, k0_off111_eq k 1, off106_eq k 1, k0_off107_eq k 1, stretch64 _ _, rfl⟩
        (.cons ⟨_, _, _, _, _, _, _, _, _, _, _, k0_off110_eq k 1, off106_eq k 1, k0_off107_eq k 1, stretch64 _ _, rfl⟩
        (.cons ⟨_, _, _, _, _, _, _, _, _, _, _, k0_off109_eq k 1, off106_eq k 1, k0_off107_eq k 1, stretch64 _ _, rfl⟩
        (.cons ⟨_, _, _, _, _, _, _, _, _, _, _, k0_off108_eq k 1, off106_eq k 1, k0_off107_eq k 1, stretch64 _ _, rfl⟩
        (.cons ⟨_, _, _, _, _, _, _, _, _, _, _, k0_off139_eq k 0, off106_eq k 0, k0_off107_eq k 0, stretch64 _ _, rfl⟩
        (.cons ⟨_, _, _, _, _, _, _, _, _, _, _, k0_off138_eq k 0, off106_eq k 0, k0_off107_eq k 0, stretch64 _ _, rfl⟩
        (.cons ⟨_, _, _, _, _, _, _, _, _, _, _, k0_off137_eq k 0, off106_eq k 0, k0_off107_eq k 0, stretch64 _ _, rfl⟩
        (.cons ⟨_, _, _, _, _, _, _, _, _, _, _, k0_off136_eq k 0, off106_eq k 0, k0_off107_eq k 0, stretch64 _ _, rfl⟩
        (.cons ⟨_, _, _, _, _, _, _, _, _, _, _, k0_off135_eq k 0, off106_eq k 0, k0_off107_eq k 0, stretch64 _ _, rfl⟩
        (.cons ⟨_, _, _, _, _, _, _, _, _, _, _, k0_off134_eq k 0, off106_eq k 0, k0_off107_eq k 0, stretch64 _ _, rfl⟩
        (.cons ⟨_, _, _, _, _, _, _, _, _, _, _, k0_off133_eq k 0, off106_eq k 0, k0_off107_eq k 0, stretch64 _ _, rfl⟩
        (.cons ⟨_, _, _, _, _, _, _, _, _, _, _, k0_off132_eq k 0, off106_eq k 0, k0_off107_eq k 0, stretch64 _ _, rfl⟩
        (.cons ⟨_, _, _, _, _, _, _, _, _, _, _, k0_off131_eq k 0, off106_eq k 0, k0_off107_eq k 0, stretch64 _ _, rfl⟩
        (.cons ⟨_, _, _, _, _, _, _, _, _, _, _, k0_off130_eq k 0, off106_eq k 0, k0_off107_eq k 0, stretch64 _ _, rfl⟩
        (.cons ⟨_, _, _, _, _, _, _, _, _, _, _, k0_off129_eq k 0, off106_eq k 0, k0_off107_eq k 0, stretch64 _ _, rfl⟩
        (.cons ⟨_, _, _, _, _, _, _, _, _, _, _, k0_off128_eq k 0, off106_eq k 0, k0_off107_eq k 0, stretch64 _ _, rfl⟩
        (.cons ⟨_, _, _, _, _, _, _, _, _, _, _, k0_off127_eq k 0, off106_eq k 0, k0_off107_eq k 0, stretch64 _ _, rfl⟩
        (.cons ⟨_, _, _, _, _, _, _, _, _, _, _, k0_off126_eq k 0, off106_eq k 0, k0_off107_eq k 0, stretch64 _ _, rfl⟩
        (.cons ⟨_, _, _, _, _, _, _, _, _, _, _, k0_off125_eq k 0, off106_eq k 0, k0_off107_eq k 0, stretch64 _ _, rfl⟩
        (.cons ⟨_, _, _, _, _, _, _, _, _, _, _, k0_off124_eq k 0, off106_eq k 0, k0_off107_eq k 0, stretch64 _ _, rfl⟩
        (.cons ⟨_, _, _, _, _, _, _, _, _, _, _, k0_off123_eq k 0, off106_eq k 0, k0_off107_eq k 0, stretch64 _ _, rfl⟩
        (.cons ⟨_, _, _, _, _, _, _, _, _, _, _, k0_off122_eq k 0, off106_eq k 0, k0_off107_eq k 0, stretch64 _ _, rfl⟩
        (.cons ⟨_, _, _, _, _, _, _, _, _, _, _, k0_off121_eq k 0, off106_eq k 0, k0_off107_eq k 0, stretch64 _ _, rfl⟩
        (.cons ⟨_, _, _, _, _, _, _, _, _, _, _, k0_off120_eq k 0, off106_eq k 0, k0_off107_eq k 0, stretch64 _ _, rfl⟩
        (.cons ⟨_, _, _, _, _, _, _, _, _, _, _, k0_off119_eq k 0, off106_eq k 0, k0_off107_eq k 0, stretch64 _ _, rfl⟩
        (.cons ⟨_, _, _, _, _, _, _, _, _, _, _, k0_off118_eq k 0, off106_eq k 0, k0_off107_eq k 0, stretch64 _ _, rfl⟩
        (.cons ⟨_, _, _, _, _, _, _, _, _, _, _, k0_off117_eq k 0, off106_eq k 0, k0_off107_eq k 0, stretch64 _ _, rfl⟩
        (.cons ⟨_, _, _, _, _, _, _, _, _, _, _, k0_off116_eq k 0, off106_eq k 0, k0_off107_eq k 0, stretch64 _ _, rfl⟩
        (.cons ⟨_, _, _, _, _, _, _, _, _, _, _, k0_off115_eq k 0, off106_eq k 0, k0_off107_eq k 0, stretch64 _ _, rfl⟩
        (.cons ⟨_, _, _, _, _, _, _, _, _, _, _, k0_off114_eq k 0, off106_eq k 0, k0_off107_eq k 0, stretch64 _ _, rfl⟩
        (.cons ⟨_, _, _, _, _, _, _, _, _, _, _, k0_off113_eq k 0, off106_eq k 0, k0_off107_eq k 0, stretch64 _ _, rfl⟩
        (.cons ⟨_, _, _, _, _, _, _, _, _, _, _, k0_off112_eq k 0, off106_eq k 0, k0_off107_eq k 0, stretch64 _ _, rfl⟩
        (.cons ⟨_, _, _, _, _, _, _, _, _, _, _, k0_off111_eq k 0, off106_eq k 0, k0_off107_eq k 0, stretch64 _ _, rfl⟩
        (.cons ⟨_, _, _, _, _, _, _, _, _, _, _, k0_off110_eq k 0, off106_eq k 0, k0_off107_eq k 0, stretch64 _ _, rfl⟩
        (.cons ⟨_, _, _, _, _, _, _, _, _, _, _, k0_off109_eq k 0, off106_eq k 0, k0_off107_eq k 0, stretch64 _ _, rfl⟩
        (.cons ⟨_, _, _, _, _, _, _, _, _, _, _, k0_off108_eq k 0, off106_eq k 0, k0_off107_eq k 0, stretch64 _ _, rfl⟩ .nil))))))))))))))))))))))))))))))))))))))))))))))))))))))))))))))))))))))))))))))))))))))))))))))))
  ipureintro
  exact fun y => o_after c fg ft ⟨k.val, k.isLt⟩ _ _
        (.cons ⟨![![k0_off140 k 6#32, k0_off141 k 6#32], ![k0_off142 k 6#32, k0_off143 k 6#32], ![k0_off144 k 6#32, k0_off145 k 6#32], ![k0_off146 k 6#32, k0_off147 k 6#32], ![k0_off148 k 6#32, k0_off149 k 6#32]],
          forall52 ((k0_off140_eq k 3).trans (vec4 0 k.val 3 7 0 _ rfl rfl)) ((k0_off141_eq k 3).trans (vec4 0 k.val 3 7 1 _ rfl rfl)) ((k0_off142_eq k 3).trans (vec4 1 k.val 3 7 0 _ rfl rfl)) ((k0_off143_eq k 3).trans (vec4 1 k.val 3 7 1 _ rfl rfl)) ((k0_off144_eq k 3).trans (vec4 2 k.val 3 7 0 _ rfl rfl)) ((k0_off145_eq k 3).trans (vec4 2 k.val 3 7 1 _ rfl rfl)) ((k0_off146_eq k 3).trans (vec4 3 k.val 3 7 0 _ rfl rfl)) ((k0_off147_eq k 3).trans (vec4 3 k.val 3 7 1 _ rfl rfl)) ((k0_off148_eq k 3).trans (vec4 4 k.val 3 7 0 _ rfl rfl)) ((k0_off149_eq k 3).trans (vec4 4 k.val 3 7 1 _ rfl rfl)), _, _, rfl⟩
        (.cons ⟨![![k0_off140 k 6#32, k0_off141 k 6#32], ![k0_off142 k 6#32, k0_off143 k 6#32], ![k0_off144 k 6#32, k0_off145 k 6#32], ![k0_off146 k 6#32, k0_off147 k 6#32], ![k0_off148 k 6#32, k0_off149 k 6#32]],
          forall52 ((k0_off140_eq k 3).trans (vec4 0 k.val 3 6 0 _ rfl rfl)) ((k0_off141_eq k 3).trans (vec4 0 k.val 3 6 1 _ rfl rfl)) ((k0_off142_eq k 3).trans (vec4 1 k.val 3 6 0 _ rfl rfl)) ((k0_off143_eq k 3).trans (vec4 1 k.val 3 6 1 _ rfl rfl)) ((k0_off144_eq k 3).trans (vec4 2 k.val 3 6 0 _ rfl rfl)) ((k0_off145_eq k 3).trans (vec4 2 k.val 3 6 1 _ rfl rfl)) ((k0_off146_eq k 3).trans (vec4 3 k.val 3 6 0 _ rfl rfl)) ((k0_off147_eq k 3).trans (vec4 3 k.val 3 6 1 _ rfl rfl)) ((k0_off148_eq k 3).trans (vec4 4 k.val 3 6 0 _ rfl rfl)) ((k0_off149_eq k 3).trans (vec4 4 k.val 3 6 1 _ rfl rfl)), _, _, rfl⟩
        (.cons ⟨![![k0_off140 k 4#32, k0_off141 k 4#32], ![k0_off142 k 4#32, k0_off143 k 4#32], ![k0_off144 k 4#32, k0_off145 k 4#32], ![k0_off146 k 4#32, k0_off147 k 4#32], ![k0_off148 k 4#32, k0_off149 k 4#32]],
          forall52 ((k0_off140_eq k 2).trans (vec4 0 k.val 2 5 0 _ rfl rfl)) ((k0_off141_eq k 2).trans (vec4 0 k.val 2 5 1 _ rfl rfl)) ((k0_off142_eq k 2).trans (vec4 1 k.val 2 5 0 _ rfl rfl)) ((k0_off143_eq k 2).trans (vec4 1 k.val 2 5 1 _ rfl rfl)) ((k0_off144_eq k 2).trans (vec4 2 k.val 2 5 0 _ rfl rfl)) ((k0_off145_eq k 2).trans (vec4 2 k.val 2 5 1 _ rfl rfl)) ((k0_off146_eq k 2).trans (vec4 3 k.val 2 5 0 _ rfl rfl)) ((k0_off147_eq k 2).trans (vec4 3 k.val 2 5 1 _ rfl rfl)) ((k0_off148_eq k 2).trans (vec4 4 k.val 2 5 0 _ rfl rfl)) ((k0_off149_eq k 2).trans (vec4 4 k.val 2 5 1 _ rfl rfl)), _, _, rfl⟩
        (.cons ⟨![![k0_off140 k 4#32, k0_off141 k 4#32], ![k0_off142 k 4#32, k0_off143 k 4#32], ![k0_off144 k 4#32, k0_off145 k 4#32], ![k0_off146 k 4#32, k0_off147 k 4#32], ![k0_off148 k 4#32, k0_off149 k 4#32]],
          forall52 ((k0_off140_eq k 2).trans (vec4 0 k.val 2 4 0 _ rfl rfl)) ((k0_off141_eq k 2).trans (vec4 0 k.val 2 4 1 _ rfl rfl)) ((k0_off142_eq k 2).trans (vec4 1 k.val 2 4 0 _ rfl rfl)) ((k0_off143_eq k 2).trans (vec4 1 k.val 2 4 1 _ rfl rfl)) ((k0_off144_eq k 2).trans (vec4 2 k.val 2 4 0 _ rfl rfl)) ((k0_off145_eq k 2).trans (vec4 2 k.val 2 4 1 _ rfl rfl)) ((k0_off146_eq k 2).trans (vec4 3 k.val 2 4 0 _ rfl rfl)) ((k0_off147_eq k 2).trans (vec4 3 k.val 2 4 1 _ rfl rfl)) ((k0_off148_eq k 2).trans (vec4 4 k.val 2 4 0 _ rfl rfl)) ((k0_off149_eq k 2).trans (vec4 4 k.val 2 4 1 _ rfl rfl)), _, _, rfl⟩
        (.cons ⟨![![k0_off140 k 2#32, k0_off141 k 2#32], ![k0_off142 k 2#32, k0_off143 k 2#32], ![k0_off144 k 2#32, k0_off145 k 2#32], ![k0_off146 k 2#32, k0_off147 k 2#32], ![k0_off148 k 2#32, k0_off149 k 2#32]],
          forall52 ((k0_off140_eq k 1).trans (vec4 0 k.val 1 3 0 _ rfl rfl)) ((k0_off141_eq k 1).trans (vec4 0 k.val 1 3 1 _ rfl rfl)) ((k0_off142_eq k 1).trans (vec4 1 k.val 1 3 0 _ rfl rfl)) ((k0_off143_eq k 1).trans (vec4 1 k.val 1 3 1 _ rfl rfl)) ((k0_off144_eq k 1).trans (vec4 2 k.val 1 3 0 _ rfl rfl)) ((k0_off145_eq k 1).trans (vec4 2 k.val 1 3 1 _ rfl rfl)) ((k0_off146_eq k 1).trans (vec4 3 k.val 1 3 0 _ rfl rfl)) ((k0_off147_eq k 1).trans (vec4 3 k.val 1 3 1 _ rfl rfl)) ((k0_off148_eq k 1).trans (vec4 4 k.val 1 3 0 _ rfl rfl)) ((k0_off149_eq k 1).trans (vec4 4 k.val 1 3 1 _ rfl rfl)), _, _, rfl⟩
        (.cons ⟨![![k0_off140 k 2#32, k0_off141 k 2#32], ![k0_off142 k 2#32, k0_off143 k 2#32], ![k0_off144 k 2#32, k0_off145 k 2#32], ![k0_off146 k 2#32, k0_off147 k 2#32], ![k0_off148 k 2#32, k0_off149 k 2#32]],
          forall52 ((k0_off140_eq k 1).trans (vec4 0 k.val 1 2 0 _ rfl rfl)) ((k0_off141_eq k 1).trans (vec4 0 k.val 1 2 1 _ rfl rfl)) ((k0_off142_eq k 1).trans (vec4 1 k.val 1 2 0 _ rfl rfl)) ((k0_off143_eq k 1).trans (vec4 1 k.val 1 2 1 _ rfl rfl)) ((k0_off144_eq k 1).trans (vec4 2 k.val 1 2 0 _ rfl rfl)) ((k0_off145_eq k 1).trans (vec4 2 k.val 1 2 1 _ rfl rfl)) ((k0_off146_eq k 1).trans (vec4 3 k.val 1 2 0 _ rfl rfl)) ((k0_off147_eq k 1).trans (vec4 3 k.val 1 2 1 _ rfl rfl)) ((k0_off148_eq k 1).trans (vec4 4 k.val 1 2 0 _ rfl rfl)) ((k0_off149_eq k 1).trans (vec4 4 k.val 1 2 1 _ rfl rfl)), _, _, rfl⟩
        (.cons ⟨![![k0_off140 k 0#32, k0_off141 k 0#32], ![k0_off142 k 0#32, k0_off143 k 0#32], ![k0_off144 k 0#32, k0_off145 k 0#32], ![k0_off146 k 0#32, k0_off147 k 0#32], ![k0_off148 k 0#32, k0_off149 k 0#32]],
          forall52 ((k0_off140_eq k 0).trans (vec4 0 k.val 0 1 0 _ rfl rfl)) ((k0_off141_eq k 0).trans (vec4 0 k.val 0 1 1 _ rfl rfl)) ((k0_off142_eq k 0).trans (vec4 1 k.val 0 1 0 _ rfl rfl)) ((k0_off143_eq k 0).trans (vec4 1 k.val 0 1 1 _ rfl rfl)) ((k0_off144_eq k 0).trans (vec4 2 k.val 0 1 0 _ rfl rfl)) ((k0_off145_eq k 0).trans (vec4 2 k.val 0 1 1 _ rfl rfl)) ((k0_off146_eq k 0).trans (vec4 3 k.val 0 1 0 _ rfl rfl)) ((k0_off147_eq k 0).trans (vec4 3 k.val 0 1 1 _ rfl rfl)) ((k0_off148_eq k 0).trans (vec4 4 k.val 0 1 0 _ rfl rfl)) ((k0_off149_eq k 0).trans (vec4 4 k.val 0 1 1 _ rfl rfl)), _, _, rfl⟩
        (.cons ⟨![![k0_off140 k 0#32, k0_off141 k 0#32], ![k0_off142 k 0#32, k0_off143 k 0#32], ![k0_off144 k 0#32, k0_off145 k 0#32], ![k0_off146 k 0#32, k0_off147 k 0#32], ![k0_off148 k 0#32, k0_off149 k 0#32]],
          forall52 ((k0_off140_eq k 0).trans (vec4 0 k.val 0 0 0 _ rfl rfl)) ((k0_off141_eq k 0).trans (vec4 0 k.val 0 0 1 _ rfl rfl)) ((k0_off142_eq k 0).trans (vec4 1 k.val 0 0 0 _ rfl rfl)) ((k0_off143_eq k 0).trans (vec4 1 k.val 0 0 1 _ rfl rfl)) ((k0_off144_eq k 0).trans (vec4 2 k.val 0 0 0 _ rfl rfl)) ((k0_off145_eq k 0).trans (vec4 2 k.val 0 0 1 _ rfl rfl)) ((k0_off146_eq k 0).trans (vec4 3 k.val 0 0 0 _ rfl rfl)) ((k0_off147_eq k 0).trans (vec4 3 k.val 0 0 1 _ rfl rfl)) ((k0_off148_eq k 0).trans (vec4 4 k.val 0 0 0 _ rfl rfl)) ((k0_off149_eq k 0).trans (vec4 4 k.val 0 0 1 _ rfl rfl)), _, _, rfl⟩ .nil)))))))) y

end Trip

end Cert.Proof.Kernel

end
-- ==== Proof.Kernel.TripW.lean ====
/-
  One trip of the loop that widens the first weights.
-/
module

public import proofs.«01_k».proof.Proof.Kernel.Wide

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

set_option maxRecDepth 16384

section Trip
variable (c : Dev nD)
abbrev tripW (k : Fin k0_t1_loop.trips) : Prog (TpuEff nD τ sig (Elt F) Λ₀ .tc) Unit :=
  k0_t1_body (F := F) dkM (Memref.isWhole_whole _) dvM (Memref.isWhole_whole _) ccM (Memref.isWhole_whole _) csM (Memref.isWhole_whole _)
    ukM (Memref.isWhole_whole _) usM (Memref.isWhole_whole _) uvM (Memref.isWhole_whole _) vsM (Memref.isWhole_whole _) dcM (Memref.isWhole_whole _)
    wkM (Memref.isWhole_whole _) wvM (Memref.isWhole_whole _) xM (Memref.isWhole_whole _) sM (Memref.isWhole_whole _) gM (Memref.isWhole_whole _)
    hM (Memref.isWhole_whole _) iM (Memref.isWhole_whole _) nM (Memref.isWhole_whole _) swM (Memref.isWhole_whole _) wM (Memref.isWhole_whole _)
    rM (Memref.isWhole_whole _) lM (Memref.isWhole_whole _) tM (Memref.isWhole_whole _) aM (Memref.isWhole_whole _) pM (Memref.isWhole_whole _)
    oM (Memref.isWhole_whole _) cc0_scratch14 cc0_scratch15 cc0_scratch16 cc0_scratch17 cc0_scratch18 cc0_scratch19 k ()

theorem off1_eq' (k : Fin k0_t1_loop.trips) : k0_off1 k = ![(0 : Fin 2).val, 64 * k.val / 128, 0, 0] :=
  (off1_eq k).trans (by have : k.val / 2 = 64 * k.val / 128 := by omega
                        rw [this]; rfl)

theorem runW (k : Fin k0_t1_loop.trips) (fh fn fsw fw) :
    iprop(hP c fh ∗ nP c fn ∗ swP c fsw ∗ wP c fw ∗ (∃ W, owes (c : Thread nD τ) 0 W))
    ⊢ wp frame (wpE (defs₀ (F := F)) 𝒱₀ (c : Thread nD τ) none) Set.univ (tripW k) (fun _ => iprop(∃ fsw' fw', hP c fh ∗ nP c fn ∗ swP c fsw' ∗ wP c fw' ∗ (∃ W, owes (c : Thread nD τ) 0 W)
      ∗ ⌜WUpd c fh fn 0 [64 * k.val] fw fw'⌝)) := by
  iintro ⟨HH, HN, HS, HG, ⟨%W, HW⟩⟩
  dsimp only [tripW]
  sl_unfold [k0_t1_body]
  sl_exec
  sl_step
  iexists _, _
  isplitl [HH]; · iexact HH
  isplitl [HN]; · iexact HN
  isplitl [HS]; · iexact HS
  isplitl [HG]; · iexact HG
  isplitl [HW]; · iexists _; iexact HW
  ipureintro
  exact w_after c fh fn 0 fw [64 * k.val]
        (.cons ⟨_, _, _, _, _, _, _, _, _, _, _, k0_off34_eq k, off1_eq' k, k0_off2_eq k, Nat.mul_mod_right 64 _, rfl⟩
        (.cons ⟨_, _, _, _, _, _, _, _, _, _, _, k0_off33_eq k, off1_eq' k, k0_off2_eq k, Nat.mul_mod_right 64 _, rfl⟩
        (.cons ⟨_, _, _, _, _, _, _, _, _, _, _, k0_off32_eq k, off1_eq' k, k0_off2_eq k, Nat.mul_mod_right 64 _, rfl⟩
        (.cons ⟨_, _, _, _, _, _, _, _, _, _, _, k0_off31_eq k, off1_eq' k, k0_off2_eq k, Nat.mul_mod_right 64 _, rfl⟩
        (.cons ⟨_, _, _, _, _, _, _, _, _, _, _, k0_off30_eq k, off1_eq' k, k0_off2_eq k, Nat.mul_mod_right 64 _, rfl⟩
        (.cons ⟨_, _, _, _, _, _, _, _, _, _, _, k0_off29_eq k, off1_eq' k, k0_off2_eq k, Nat.mul_mod_right 64 _, rfl⟩
        (.cons ⟨_, _, _, _, _, _, _, _, _, _, _, k0_off28_eq k, off1_eq' k, k0_off2_eq k, Nat.mul_mod_right 64 _, rfl⟩
        (.cons ⟨_, _, _, _, _, _, _, _, _, _, _, k0_off27_eq k, off1_eq' k, k0_off2_eq k, Nat.mul_mod_right 64 _, rfl⟩
        (.cons ⟨_, _, _, _, _, _, _, _, _, _, _, k0_off26_eq k, off1_eq' k, k0_off2_eq k, Nat.mul_mod_right 64 _, rfl⟩
        (.cons ⟨_, _, _, _, _, _, _, _, _, _, _, k0_off25_eq k, off1_eq' k, k0_off2_eq k, Nat.mul_mod_right 64 _, rfl⟩
        (.cons ⟨_, _, _, _, _, _, _, _, _, _, _, k0_off24_eq k, off1_eq' k, k0_off2_eq k, Nat.mul_mod_right 64 _, rfl⟩
        (.cons ⟨_, _, _, _, _, _, _, _, _, _, _, k0_off23_eq k, off1_eq' k, k0_off2_eq k, Nat.mul_mod_right 64 _, rfl⟩
        (.cons ⟨_, _, _, _, _, _, _, _, _, _, _, k0_off22_eq k, off1_eq' k, k0_off2_eq k, Nat.mul_mod_right 64 _, rfl⟩
        (.cons ⟨_, _, _, _, _, _, _, _, _, _, _, k0_off21_eq k, off1_eq' k, k0_off2_eq k, Nat.mul_mod_right 64 _, rfl⟩
        (.cons ⟨_, _, _, _, _, _, _, _, _, _, _, k0_off20_eq k, off1_eq' k, k0_off2_eq k, Nat.mul_mod_right 64 _, rfl⟩
        (.cons ⟨_, _, _, _, _, _, _, _, _, _, _, k0_off19_eq k, off1_eq' k, k0_off2_eq k, Nat.mul_mod_right 64 _, rfl⟩
        (.cons ⟨_, _, _, _, _, _, _, _, _, _, _, k0_off18_eq k, off1_eq' k, k0_off2_eq k, Nat.mul_mod_right 64 _, rfl⟩
        (.cons ⟨_, _, _, _, _, _, _, _, _, _, _, k0_off17_eq k, off1_eq' k, k0_off2_eq k, Nat.mul_mod_right 64 _, rfl⟩
        (.cons ⟨_, _, _, _, _, _, _, _, _, _, _, k0_off16_eq k, off1_eq' k, k0_off2_eq k, Nat.mul_mod_right 64 _, rfl⟩
        (.cons ⟨_, _, _, _, _, _, _, _, _, _, _, k0_off15_eq k, off1_eq' k, k0_off2_eq k, Nat.mul_mod_right 64 _, rfl⟩
        (.cons ⟨_, _, _, _, _, _, _, _, _, _, _, k0_off14_eq k, off1_eq' k, k0_off2_eq k, Nat.mul_mod_right 64 _, rfl⟩
        (.cons ⟨_, _, _, _, _, _, _, _, _, _, _, k0_off13_eq k, off1_eq' k, k0_off2_eq k, Nat.mul_mod_right 64 _, rfl⟩
        (.cons ⟨_, _, _, _, _, _, _, _, _, _, _, k0_off12_eq k, off1_eq' k, k0_off2_eq k, Nat.mul_mod_right 64 _, rfl⟩
        (.cons ⟨_, _, _, _, _, _, _, _, _, _, _, k0_off11_eq k, off1_eq' k, k0_off2_eq k, Nat.mul_mod_right 64 _, rfl⟩
        (.cons ⟨_, _, _, _, _, _, _, _, _, _, _, k0_off10_eq k, off1_eq' k, k0_off2_eq k, Nat.mul_mod_right 64 _, rfl⟩
        (.cons ⟨_, _, _, _, _, _, _, _, _, _, _, k0_off9_eq k, off1_eq' k, k0_off2_eq k, Nat.mul_mod_right 64 _, rfl⟩
        (.cons ⟨_, _, _, _, _, _, _, _, _, _, _, k0_off8_eq k, off1_eq' k, k0_off2_eq k, Nat.mul_mod_right 64 _, rfl⟩
        (.cons ⟨_, _, _, _, _, _, _, _, _, _, _, k0_off7_eq k, off1_eq' k, k0_off2_eq k, Nat.mul_mod_right 64 _, rfl⟩
        (.cons ⟨_, _, _, _, _, _, _, _, _, _, _, k0_off6_eq k, off1_eq' k, k0_off2_eq k, Nat.mul_mod_right 64 _, rfl⟩
        (.cons ⟨_, _, _, _, _, _, _, _, _, _, _, k0_off5_eq k, off1_eq' k, k0_off2_eq k, Nat.mul_mod_right 64 _, rfl⟩
        (.cons ⟨_, _, _, _, _, _, _, _, _, _, _, k0_off4_eq k, off1_eq' k, k0_off2_eq k, Nat.mul_mod_right 64 _, rfl⟩
        (.cons ⟨_, _, _, _, _, _, _, _, _, _, _, k0_off3_eq k, off1_eq' k, k0_off2_eq k, Nat.mul_mod_right 64 _, rfl⟩ .nil))))))))))))))))))))))))))))))))

end Trip

end Cert.Proof.Kernel

end
-- ==== Proof.Kernel.Trip3.lean ====
/-
  One trip of the second streaming loop.
-/
module

public import proofs.«01_k».proof.Proof.Kernel.Dc

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

set_option maxRecDepth 16384

section Trip
variable (c : Dev nD)
  (XK : Buf (Elt F) (dkM.view.loc (c : Thread nD τ))) (XV : Buf (Elt F) (dvM.view.loc (c : Thread nD τ)))

abbrev trip3 (k : Fin k0_t4_loop.trips) : Prog (TpuEff nD τ sig (Elt F) Λ₀ .tc) Unit :=
  k0_t4_body (F := F) dkM (Memref.isWhole_whole _) dvM (Memref.isWhole_whole _) ccM (Memref.isWhole_whole _) csM (Memref.isWhole_whole _)
    ukM (Memref.isWhole_whole _) usM (Memref.isWhole_whole _) uvM (Memref.isWhole_whole _) vsM (Memref.isWhole_whole _) dcM (Memref.isWhole_whole _)
    wkM (Memref.isWhole_whole _) wvM (Memref.isWhole_whole _) xM (Memref.isWhole_whole _) sM (Memref.isWhole_whole _) gM (Memref.isWhole_whole _)
    hM (Memref.isWhole_whole _) iM (Memref.isWhole_whole _) nM (Memref.isWhole_whole _) swM (Memref.isWhole_whole _) wM (Memref.isWhole_whole _)
    rM (Memref.isWhole_whole _) lM (Memref.isWhole_whole _) tM (Memref.isWhole_whole _) aM (Memref.isWhole_whole _) pM (Memref.isWhole_whole _)
    oM (Memref.isWhole_whole _) cc0_scratch14 cc0_scratch15 cc0_scratch16 cc0_scratch17 cc0_scratch18 cc0_scratch19 k ()

/-- A trip that asks for a block three ahead. -/
theorem run3 (k : Fin k0_t4_loop.trips) (hk : k.val < 2) (fs fg fw fa fd fp)
    (M : Memref sig .tc .hbm S384x32x128 .bf16) (X : Buf (Elt F) (M.view.loc (c : Thread nD τ))) (f1) (P : S384x32x128.Idx → Elt F .bf16) :
    iprop(sP c fs ∗ gP c fg ∗ wP c fw ∗ aP c fa ∗ dcP c (Ring.bk 5 k.val) fd ∗ pP c (Ring.sl 2 k.val) fp ∗ pC c (Ring.sl 2 k.val) ∗  (∃ W, owes (c : Thread nD τ) 0 W)
      ∗ (dvH c XV (Ring.bk 5 (k.val + 3)))
      ∗ Transfers.Flight countersEmb (c : Thread nD τ) (SemLoc.dma (xsm (Ring.sl 2 k.val)).sem) () (NN (Ring.sl 2 k.val))
          iprop(xP c (Ring.sl 2 k.val) ((xS (Ring.sl 2 k.val)).view.writes (Elt F) f1 [⟨Rect.whole S384x32x128, P⟩]) ∗ M.view.loc (c : Thread nD τ) ↦[M.view.set]{fullShare} X))
    ⊢ wp frame (wpE (defs₀ (F := F)) 𝒱₀ (c : Thread nD τ) none) Set.univ (trip3 k) (fun _ => iprop(∃ fs' fg' fp', sP c fs' ∗ gP c fg' ∗ wP c fw ∗ aP c fa ∗ Transfers.Flight countersEmb (c : Thread nD τ) (SemLoc.dma (psm (Ring.sl 2 k.val)).sem) () 18432
          iprop(dcP c (Ring.bk 5 k.val) ((dcB (Ring.bk 5 k.val)).view.writes (Elt F) fd [⟨Rect.whole S384x768, ReadAs.same.apply ((pS (Ring.sl 2 k.val)).view.read (Elt F) fp')⟩]) ∗ pP c (Ring.sl 2 k.val) fp') ∗  (∃ W, owes (c : Thread nD τ) 0 W)
      ∗ (M.view.loc (c : Thread nD τ) ↦[M.view.set]{fullShare} X)
      ∗ (∃ f, Transfers.Flight countersEmb (c : Thread nD τ) (SemLoc.dma (xsm (Ring.sl 2 k.val)).sem) () (NN (Ring.sl 2 k.val))
          iprop(xP c (Ring.sl 2 k.val) ((xS (Ring.sl 2 k.val)).view.writes (Elt F) f [⟨Rect.whole S384x32x128, ReadAs.same.apply ((dvB (Ring.bk 5 (k.val + 3))).view.read (Elt F) XV)⟩])
            ∗ dvH c XV (Ring.bk 5 (k.val + 3))))
      ∗ ⌜sM.view.read (Elt F) fs' = P
          ∧ (∀ y, gM.view.read (Elt F) fg' y = if (y 0).val = k.val then GG c fs y else gM.view.read (Elt F) fg y)
          ∧ (pS (Ring.sl 2 k.val)).view.read (Elt F) fp' = PP c ⟨k.val, k.isLt⟩ fs fw fa⌝)) := by
  iintro ⟨HS, HG, HWW, HA, HD, HP, HQ, ⟨%W, HW⟩, HH, HF⟩
  dsimp only [trip3]
  sl_unfold [k0_t4_body]
  have h7 : ¬ k0_cond5 k = 1#1 := by rw [cond5_iff]; omega
  have h4 : k0_cond4 k = 1#1 := by rw [cond4_iff]; omega
  have h5 : k0_cond6 k = 1#1 := by rw [cond6_iff]; omega
  have h6 : k0_cond7 k = 1#1 := by rw [cond7_iff]; omega
  sl_exec
  sl_step
  iexists _, _, _
  isplitl [HS]; · iexact HS
  isplitl [HG]; · iexact HG
  isplitl [HWW]; · iexact HWW
  isplitl [HA]; · iexact HA
  isplitl [HQ]; · iexact HQ
  isplitl [HW]; · iexists _; iexact HW
  isplitl [HF_src]; · iexact HF_src
  isplitl [HF]
  · iexists _; iexact HF
  ipureintro
  refine ⟨s_after c _ _ (off194_eq k) _ _ _ _, g_after c fs fg k.val
        (.cons ⟨_, _, k0_off184_eq k, rfl⟩
        (.cons ⟨_, _, k0_off183_eq k, rfl⟩
        (.cons ⟨_, _, k0_off182_eq k, rfl⟩
        (.cons ⟨_, _, k0_off181_eq k, rfl⟩
        (.cons ⟨_, _, k0_off180_eq k, rfl⟩
        (.cons ⟨_, _, k0_off179_eq k, rfl⟩
        (.cons ⟨_, _, k0_off178_eq k, rfl⟩
        (.cons ⟨_, _, k0_off177_eq k, rfl⟩
        (.cons ⟨_, _, k0_off176_eq k, rfl⟩
        (.cons ⟨_, _, k0_off175_eq k, rfl⟩
        (.cons ⟨_, _, k0_off174_eq k, rfl⟩
        (.cons ⟨_, _, k0_off173_eq k, rfl⟩
        (.cons ⟨_, _, k0_off172_eq k, rfl⟩
        (.cons ⟨_, _, k0_off171_eq k, rfl⟩
        (.cons ⟨_, _, k0_off170_eq k, rfl⟩
        (.cons ⟨_, _, k0_off169_eq k, rfl⟩
        (.cons ⟨_, _, k0_off168_eq k, rfl⟩
        (.cons ⟨_, _, k0_off167_eq k, rfl⟩
        (.cons ⟨_, _, k0_off166_eq k, rfl⟩
        (.cons ⟨_, _, k0_off165_eq k, rfl⟩
        (.cons ⟨_, _, k0_off164_eq k, rfl⟩
        (.cons ⟨_, _, k0_off163_eq k, rfl⟩
        (.cons ⟨_, _, k0_off162_eq k, rfl⟩
        (.cons ⟨_, _, k0_off161_eq k, rfl⟩
        (.cons ⟨_, _, k0_off160_eq k, rfl⟩
        (.cons ⟨_, _, k0_off159_eq k, rfl⟩
        (.cons ⟨_, _, k0_off158_eq k, rfl⟩
        (.cons ⟨_, _, k0_off157_eq k, rfl⟩
        (.cons ⟨_, _, k0_off156_eq k, rfl⟩
        (.cons ⟨_, _, k0_off155_eq k, rfl⟩
        (.cons ⟨_, _, k0_off154_eq k, rfl⟩
        (.cons ⟨_, _, k0_off153_eq k, rfl⟩ .nil)))))))))))))))))))))))))))))))),
      p_after c (Ring.sl 2 k.val) ⟨k.val, k.isLt⟩ fs fw fa fp (off190_eq k) (k0_off189_eq k)
        (.cons ⟨_, _, k0_off184_eq k, rfl⟩
        (.cons ⟨_, _, k0_off183_eq k, rfl⟩
        (.cons ⟨_, _, k0_off182_eq k, rfl⟩
        (.cons ⟨_, _, k0_off181_eq k, rfl⟩
        (.cons ⟨_, _, k0_off180_eq k, rfl⟩
        (.cons ⟨_, _, k0_off179_eq k, rfl⟩
        (.cons ⟨_, _, k0_off178_eq k, rfl⟩
        (.cons ⟨_, _, k0_off177_eq k, rfl⟩
        (.cons ⟨_, _, k0_off176_eq k, rfl⟩
        (.cons ⟨_, _, k0_off175_eq k, rfl⟩
        (.cons ⟨_, _, k0_off174_eq k, rfl⟩
        (.cons ⟨_, _, k0_off173_eq k, rfl⟩
        (.cons ⟨_, _, k0_off172_eq k, rfl⟩
        (.cons ⟨_, _, k0_off171_eq k, rfl⟩
        (.cons ⟨_, _, k0_off170_eq k, rfl⟩
        (.cons ⟨_, _, k0_off169_eq k, rfl⟩
        (.cons ⟨_, _, k0_off168_eq k, rfl⟩
        (.cons ⟨_, _, k0_off167_eq k, rfl⟩
        (.cons ⟨_, _, k0_off166_eq k, rfl⟩
        (.cons ⟨_, _, k0_off165_eq k, rfl⟩
        (.cons ⟨_, _, k0_off164_eq k, rfl⟩
        (.cons ⟨_, _, k0_off163_eq k, rfl⟩
        (.cons ⟨_, _, k0_off162_eq k, rfl⟩
        (.cons ⟨_, _, k0_off161_eq k, rfl⟩
        (.cons ⟨_, _, k0_off160_eq k, rfl⟩
        (.cons ⟨_, _, k0_off159_eq k, rfl⟩
        (.cons ⟨_, _, k0_off158_eq k, rfl⟩
        (.cons ⟨_, _, k0_off157_eq k, rfl⟩
        (.cons ⟨_, _, k0_off156_eq k, rfl⟩
        (.cons ⟨_, _, k0_off155_eq k, rfl⟩
        (.cons ⟨_, _, k0_off154_eq k, rfl⟩
        (.cons ⟨_, _, k0_off153_eq k, rfl⟩ .nil)))))))))))))))))))))))))))))))) rfl
        (.cons ⟨_, _, k0_off153_eq k, rfl⟩
        (.cons ⟨_, _, k0_off154_eq k, rfl⟩
        (.cons ⟨_, _, k0_off155_eq k, rfl⟩
        (.cons ⟨_, _, k0_off156_eq k, rfl⟩
        (.cons ⟨_, _, k0_off157_eq k, rfl⟩
        (.cons ⟨_, _, k0_off158_eq k, rfl⟩
        (.cons ⟨_, _, k0_off159_eq k, rfl⟩
        (.cons ⟨_, _, k0_off160_eq k, rfl⟩
        (.cons ⟨_, _, k0_off161_eq k, rfl⟩
        (.cons ⟨_, _, k0_off162_eq k, rfl⟩
        (.cons ⟨_, _, k0_off163_eq k, rfl⟩
        (.cons ⟨_, _, k0_off164_eq k, rfl⟩
        (.cons ⟨_, _, k0_off165_eq k, rfl⟩
        (.cons ⟨_, _, k0_off166_eq k, rfl⟩
        (.cons ⟨_, _, k0_off167_eq k, rfl⟩
        (.cons ⟨_, _, k0_off168_eq k, rfl⟩
        (.cons ⟨_, _, k0_off169_eq k, rfl⟩
        (.cons ⟨_, _, k0_off170_eq k, rfl⟩
        (.cons ⟨_, _, k0_off171_eq k, rfl⟩
        (.cons ⟨_, _, k0_off172_eq k, rfl⟩
        (.cons ⟨_, _, k0_off173_eq k, rfl⟩
        (.cons ⟨_, _, k0_off174_eq k, rfl⟩
        (.cons ⟨_, _, k0_off175_eq k, rfl⟩
        (.cons ⟨_, _, k0_off176_eq k, rfl⟩
        (.cons ⟨_, _, k0_off177_eq k, rfl⟩
        (.cons ⟨_, _, k0_off178_eq k, rfl⟩
        (.cons ⟨_, _, k0_off179_eq k, rfl⟩
        (.cons ⟨_, _, k0_off180_eq k, rfl⟩
        (.cons ⟨_, _, k0_off181_eq k, rfl⟩
        (.cons ⟨_, _, k0_off182_eq k, rfl⟩
        (.cons ⟨_, _, k0_off183_eq k, rfl⟩
        (.cons ⟨_, _, k0_off184_eq k, rfl⟩ .nil))))))))))))))))))))))))))))))))
        (wts c fw rfl)⟩

/-- A trip with a block to come and none to ask for. -/
theorem run3b (k : Fin k0_t4_loop.trips) (hk : 2 ≤ k.val ∧ k.val < 4) (fs fg fw fa fd fp)
    (N : Memref sig .tc .hbm S384x768 .bf16) (Y : Buf (Elt F) (N.view.loc (c : Thread nD τ)))
    (M : Memref sig .tc .hbm S384x32x128 .bf16) (X : Buf (Elt F) (M.view.loc (c : Thread nD τ))) (f1) (P : S384x32x128.Idx → Elt F .bf16) :
    iprop(sP c fs ∗ gP c fg ∗ wP c fw ∗ aP c fa ∗ dcP c (Ring.bk 5 k.val) fd ∗ Transfers.Flight countersEmb (c : Thread nD τ) (SemLoc.dma (psm (Ring.sl 2 k.val)).sem) () 18432
          iprop((N.view.loc (c : Thread nD τ) ↦[N.view.set]{fullShare} Y) ∗ pP c (Ring.sl 2 k.val) fp) ∗  (∃ W, owes (c : Thread nD τ) 0 W)
      ∗ Transfers.Flight countersEmb (c : Thread nD τ) (SemLoc.dma (xsm (Ring.sl 2 k.val)).sem) () (NN (Ring.sl 2 k.val))
          iprop(xP c (Ring.sl 2 k.val) ((xS (Ring.sl 2 k.val)).view.writes (Elt F) f1 [⟨Rect.whole S384x32x128, P⟩]) ∗ M.view.loc (c : Thread nD τ) ↦[M.view.set]{fullShare} X))
    ⊢ wp frame (wpE (defs₀ (F := F)) 𝒱₀ (c : Thread nD τ) none) Set.univ (trip3 k) (fun _ => iprop(∃ fs' fg' fp', sP c fs' ∗ gP c fg' ∗ wP c fw ∗ aP c fa ∗ (N.view.loc (c : Thread nD τ) ↦[N.view.set]{fullShare} Y) ∗ Transfers.Flight countersEmb (c : Thread nD τ) (SemLoc.dma (psm (Ring.sl 2 k.val)).sem) () 18432
          iprop(dcP c (Ring.bk 5 k.val) ((dcB (Ring.bk 5 k.val)).view.writes (Elt F) fd [⟨Rect.whole S384x768, ReadAs.same.apply ((pS (Ring.sl 2 k.val)).view.read (Elt F) fp')⟩]) ∗ pP c (Ring.sl 2 k.val) fp') ∗  (∃ W, owes (c : Thread nD τ) 0 W)
      ∗ (M.view.loc (c : Thread nD τ) ↦[M.view.set]{fullShare} X)
      ∗ (∃ f, xP c (Ring.sl 2 k.val) f) ∗ xC c (Ring.sl 2 k.val)
      ∗ ⌜sM.view.read (Elt F) fs' = P
          ∧ (∀ y, gM.view.read (Elt F) fg' y = if (y 0).val = k.val then GG c fs y else gM.view.read (Elt F) fg y)
          ∧ (pS (Ring.sl 2 k.val)).view.read (Elt F) fp' = PP c ⟨k.val, k.isLt⟩ fs fw fa⌝)) := by
  iintro ⟨HS, HG, HWW, HA, HD, HQ, ⟨%W, HW⟩, HF⟩
  dsimp only [trip3]
  sl_unfold [k0_t4_body]
  have h7 : k0_cond5 k = 1#1 := by rw [cond5_iff]; omega
  have h4 : k0_cond4 k = 1#1 := by rw [cond4_iff]; omega
  have h5 : k0_cond6 k = 1#1 := by rw [cond6_iff]; omega
  have h6 : ¬ k0_cond7 k = 1#1 := by rw [cond7_iff]; omega
  sl_exec
  sl_step
  iexists _, _, _
  isplitl [HS]; · iexact HS
  isplitl [HG]; · iexact HG
  isplitl [HWW]; · iexact HWW
  isplitl [HA]; · iexact HA
  isplitl [HQ_dst]; · iexact HQ_dst
  isplitl [HQ]; · iexact HQ
  isplitl [HW]; · iexists _; iexact HW
  isplitl [HF_src]; · iexact HF_src
  isplitl [HF_dst]
  · iexists _; iexact HF_dst
  isplitl [HF]; · iexact HF
  ipureintro
  refine ⟨s_after c _ _ (off194_eq k) _ _ _ _, g_after c fs fg k.val
        (.cons ⟨_, _, k0_off184_eq k, rfl⟩
        (.cons ⟨_, _, k0_off183_eq k, rfl⟩
        (.cons ⟨_, _, k0_off182_eq k, rfl⟩
        (.cons ⟨_, _, k0_off181_eq k, rfl⟩
        (.cons ⟨_, _, k0_off180_eq k, rfl⟩
        (.cons ⟨_, _, k0_off179_eq k, rfl⟩
        (.cons ⟨_, _, k0_off178_eq k, rfl⟩
        (.cons ⟨_, _, k0_off177_eq k, rfl⟩
        (.cons ⟨_, _, k0_off176_eq k, rfl⟩
        (.cons ⟨_, _, k0_off175_eq k, rfl⟩
        (.cons ⟨_, _, k0_off174_eq k, rfl⟩
        (.cons ⟨_, _, k0_off173_eq k, rfl⟩
        (.cons ⟨_, _, k0_off172_eq k, rfl⟩
        (.cons ⟨_, _, k0_off171_eq k, rfl⟩
        (.cons ⟨_, _, k0_off170_eq k, rfl⟩
        (.cons ⟨_, _, k0_off169_eq k, rfl⟩
        (.cons ⟨_, _, k0_off168_eq k, rfl⟩
        (.cons ⟨_, _, k0_off167_eq k, rfl⟩
        (.cons ⟨_, _, k0_off166_eq k, rfl⟩
        (.cons ⟨_, _, k0_off165_eq k, rfl⟩
        (.cons ⟨_, _, k0_off164_eq k, rfl⟩
        (.cons ⟨_, _, k0_off163_eq k, rfl⟩
        (.cons ⟨_, _, k0_off162_eq k, rfl⟩
        (.cons ⟨_, _, k0_off161_eq k, rfl⟩
        (.cons ⟨_, _, k0_off160_eq k, rfl⟩
        (.cons ⟨_, _, k0_off159_eq k, rfl⟩
        (.cons ⟨_, _, k0_off158_eq k, rfl⟩
        (.cons ⟨_, _, k0_off157_eq k, rfl⟩
        (.cons ⟨_, _, k0_off156_eq k, rfl⟩
        (.cons ⟨_, _, k0_off155_eq k, rfl⟩
        (.cons ⟨_, _, k0_off154_eq k, rfl⟩
        (.cons ⟨_, _, k0_off153_eq k, rfl⟩ .nil)))))))))))))))))))))))))))))))),
      p_after c (Ring.sl 2 k.val) ⟨k.val, k.isLt⟩ fs fw fa fp (off190_eq k) (k0_off189_eq k)
        (.cons ⟨_, _, k0_off184_eq k, rfl⟩
        (.cons ⟨_, _, k0_off183_eq k, rfl⟩
        (.cons ⟨_, _, k0_off182_eq k, rfl⟩
        (.cons ⟨_, _, k0_off181_eq k, rfl⟩
        (.cons ⟨_, _, k0_off180_eq k, rfl⟩
        (.cons ⟨_, _, k0_off179_eq k, rfl⟩
        (.cons ⟨_, _, k0_off178_eq k, rfl⟩
        (.cons ⟨_, _, k0_off177_eq k, rfl⟩
        (.cons ⟨_, _, k0_off176_eq k, rfl⟩
        (.cons ⟨_, _, k0_off175_eq k, rfl⟩
        (.cons ⟨_, _, k0_off174_eq k, rfl⟩
        (.cons ⟨_, _, k0_off173_eq k, rfl⟩
        (.cons ⟨_, _, k0_off172_eq k, rfl⟩
        (.cons ⟨_, _, k0_off171_eq k, rfl⟩
        (.cons ⟨_, _, k0_off170_eq k, rfl⟩
        (.cons ⟨_, _, k0_off169_eq k, rfl⟩
        (.cons ⟨_, _, k0_off168_eq k, rfl⟩
        (.cons ⟨_, _, k0_off167_eq k, rfl⟩
        (.cons ⟨_, _, k0_off166_eq k, rfl⟩
        (.cons ⟨_, _, k0_off165_eq k, rfl⟩
        (.cons ⟨_, _, k0_off164_eq k, rfl⟩
        (.cons ⟨_, _, k0_off163_eq k, rfl⟩
        (.cons ⟨_, _, k0_off162_eq k, rfl⟩
        (.cons ⟨_, _, k0_off161_eq k, rfl⟩
        (.cons ⟨_, _, k0_off160_eq k, rfl⟩
        (.cons ⟨_, _, k0_off159_eq k, rfl⟩
        (.cons ⟨_, _, k0_off158_eq k, rfl⟩
        (.cons ⟨_, _, k0_off157_eq k, rfl⟩
        (.cons ⟨_, _, k0_off156_eq k, rfl⟩
        (.cons ⟨_, _, k0_off155_eq k, rfl⟩
        (.cons ⟨_, _, k0_off154_eq k, rfl⟩
        (.cons ⟨_, _, k0_off153_eq k, rfl⟩ .nil)))))))))))))))))))))))))))))))) rfl
        (.cons ⟨_, _, k0_off153_eq k, rfl⟩
        (.cons ⟨_, _, k0_off154_eq k, rfl⟩
        (.cons ⟨_, _, k0_off155_eq k, rfl⟩
        (.cons ⟨_, _, k0_off156_eq k, rfl⟩
        (.cons ⟨_, _, k0_off157_eq k, rfl⟩
        (.cons ⟨_, _, k0_off158_eq k, rfl⟩
        (.cons ⟨_, _, k0_off159_eq k, rfl⟩
        (.cons ⟨_, _, k0_off160_eq k, rfl⟩
        (.cons ⟨_, _, k0_off161_eq k, rfl⟩
        (.cons ⟨_, _, k0_off162_eq k, rfl⟩
        (.cons ⟨_, _, k0_off163_eq k, rfl⟩
        (.cons ⟨_, _, k0_off164_eq k, rfl⟩
        (.cons ⟨_, _, k0_off165_eq k, rfl⟩
        (.cons ⟨_, _, k0_off166_eq k, rfl⟩
        (.cons ⟨_, _, k0_off167_eq k, rfl⟩
        (.cons ⟨_, _, k0_off168_eq k, rfl⟩
        (.cons ⟨_, _, k0_off169_eq k, rfl⟩
        (.cons ⟨_, _, k0_off170_eq k, rfl⟩
        (.cons ⟨_, _, k0_off171_eq k, rfl⟩
        (.cons ⟨_, _, k0_off172_eq k, rfl⟩
        (.cons ⟨_, _, k0_off173_eq k, rfl⟩
        (.cons ⟨_, _, k0_off174_eq k, rfl⟩
        (.cons ⟨_, _, k0_off175_eq k, rfl⟩
        (.cons ⟨_, _, k0_off176_eq k, rfl⟩
        (.cons ⟨_, _, k0_off177_eq k, rfl⟩
        (.cons ⟨_, _, k0_off178_eq k, rfl⟩
        (.cons ⟨_, _, k0_off179_eq k, rfl⟩
        (.cons ⟨_, _, k0_off180_eq k, rfl⟩
        (.cons ⟨_, _, k0_off181_eq k, rfl⟩
        (.cons ⟨_, _, k0_off182_eq k, rfl⟩
        (.cons ⟨_, _, k0_off183_eq k, rfl⟩
        (.cons ⟨_, _, k0_off184_eq k, rfl⟩ .nil))))))))))))))))))))))))))))))))
        (wts c fw rfl)⟩

/-- The last trip. -/
theorem run3c (k : Fin k0_t4_loop.trips) (hk : k.val = 4) (fs fg fw fa fd fp)
    (N : Memref sig .tc .hbm S384x768 .bf16) (Y : Buf (Elt F) (N.view.loc (c : Thread nD τ))) :
    iprop(sP c fs ∗ gP c fg ∗ wP c fw ∗ aP c fa ∗ dcP c (Ring.bk 5 k.val) fd ∗ Transfers.Flight countersEmb (c : Thread nD τ) (SemLoc.dma (psm (Ring.sl 2 k.val)).sem) () 18432
          iprop((N.view.loc (c : Thread nD τ) ↦[N.view.set]{fullShare} Y) ∗ pP c (Ring.sl 2 k.val) fp) ∗  (∃ W, owes (c : Thread nD τ) 0 W))
    ⊢ wp frame (wpE (defs₀ (F := F)) 𝒱₀ (c : Thread nD τ) none) Set.univ (trip3 k) (fun _ => iprop(∃ fs' fg' fp', sP c fs' ∗ gP c fg' ∗ wP c fw ∗ aP c fa ∗ (N.view.loc (c : Thread nD τ) ↦[N.view.set]{fullShare} Y) ∗ Transfers.Flight countersEmb (c : Thread nD τ) (SemLoc.dma (psm (Ring.sl 2 k.val)).sem) () 18432
          iprop(dcP c (Ring.bk 5 k.val) ((dcB (Ring.bk 5 k.val)).view.writes (Elt F) fd [⟨Rect.whole S384x768, ReadAs.same.apply ((pS (Ring.sl 2 k.val)).view.read (Elt F) fp')⟩]) ∗ pP c (Ring.sl 2 k.val) fp') ∗  (∃ W, owes (c : Thread nD τ) 0 W)
      ∗ ⌜True
          ∧ (∀ y, gM.view.read (Elt F) fg' y = if (y 0).val = k.val then GG c fs y else gM.view.read (Elt F) fg y)
          ∧ (pS (Ring.sl 2 k.val)).view.read (Elt F) fp' = PP c ⟨k.val, k.isLt⟩ fs fw fa⌝)) := by
  iintro ⟨HS, HG, HWW, HA, HD, HQ, ⟨%W, HW⟩⟩
  dsimp only [trip3]
  sl_unfold [k0_t4_body]
  have h7 : k0_cond5 k = 1#1 := by rw [cond5_iff]; omega
  have h4 : ¬ k0_cond4 k = 1#1 := by rw [cond4_iff]; omega
  have h5 : ¬ k0_cond6 k = 1#1 := by rw [cond6_iff]; omega
  have h6 : ¬ k0_cond7 k = 1#1 := by rw [cond7_iff]; omega
  sl_exec
  sl_step
  iexists _, _, _
  isplitl [HS]; · iexact HS
  isplitl [HG]; · iexact HG
  isplitl [HWW]; · iexact HWW
  isplitl [HA]; · iexact HA
  isplitl [HQ_dst]; · iexact HQ_dst
  isplitl [HQ]; · iexact HQ
  isplitl [HW]; · iexists _; iexact HW
  ipureintro
  refine ⟨trivial, g_after c fs fg k.val
        (.cons ⟨_, _, k0_off184_eq k, rfl⟩
        (.cons ⟨_, _, k0_off183_eq k, rfl⟩
        (.cons ⟨_, _, k0_off182_eq k, rfl⟩
        (.cons ⟨_, _, k0_off181_eq k, rfl⟩
        (.cons ⟨_, _, k0_off180_eq k, rfl⟩
        (.cons ⟨_, _, k0_off179_eq k, rfl⟩
        (.cons ⟨_, _, k0_off178_eq k, rfl⟩
        (.cons ⟨_, _, k0_off177_eq k, rfl⟩
        (.cons ⟨_, _, k0_off176_eq k, rfl⟩
        (.cons ⟨_, _, k0_off175_eq k, rfl⟩
        (.cons ⟨_, _, k0_off174_eq k, rfl⟩
        (.cons ⟨_, _, k0_off173_eq k, rfl⟩
        (.cons ⟨_, _, k0_off172_eq k, rfl⟩
        (.cons ⟨_, _, k0_off171_eq k, rfl⟩
        (.cons ⟨_, _, k0_off170_eq k, rfl⟩
        (.cons ⟨_, _, k0_off169_eq k, rfl⟩
        (.cons ⟨_, _, k0_off168_eq k, rfl⟩
        (.cons ⟨_, _, k0_off167_eq k, rfl⟩
        (.cons ⟨_, _, k0_off166_eq k, rfl⟩
        (.cons ⟨_, _, k0_off165_eq k, rfl⟩
        (.cons ⟨_, _, k0_off164_eq k, rfl⟩
        (.cons ⟨_, _, k0_off163_eq k, rfl⟩
        (.cons ⟨_, _, k0_off162_eq k, rfl⟩
        (.cons ⟨_, _, k0_off161_eq k, rfl⟩
        (.cons ⟨_, _, k0_off160_eq k, rfl⟩
        (.cons ⟨_, _, k0_off159_eq k, rfl⟩
        (.cons ⟨_, _, k0_off158_eq k, rfl⟩
        (.cons ⟨_, _, k0_off157_eq k, rfl⟩
        (.cons ⟨_, _, k0_off156_eq k, rfl⟩
        (.cons ⟨_, _, k0_off155_eq k, rfl⟩
        (.cons ⟨_, _, k0_off154_eq k, rfl⟩
        (.cons ⟨_, _, k0_off153_eq k, rfl⟩ .nil)))))))))))))))))))))))))))))))),
      p_after c (Ring.sl 2 k.val) ⟨k.val, k.isLt⟩ fs fw fa fp (off190_eq k) (k0_off189_eq k)
        (.cons ⟨_, _, k0_off184_eq k, rfl⟩
        (.cons ⟨_, _, k0_off183_eq k, rfl⟩
        (.cons ⟨_, _, k0_off182_eq k, rfl⟩
        (.cons ⟨_, _, k0_off181_eq k, rfl⟩
        (.cons ⟨_, _, k0_off180_eq k, rfl⟩
        (.cons ⟨_, _, k0_off179_eq k, rfl⟩
        (.cons ⟨_, _, k0_off178_eq k, rfl⟩
        (.cons ⟨_, _, k0_off177_eq k, rfl⟩
        (.cons ⟨_, _, k0_off176_eq k, rfl⟩
        (.cons ⟨_, _, k0_off175_eq k, rfl⟩
        (.cons ⟨_, _, k0_off174_eq k, rfl⟩
        (.cons ⟨_, _, k0_off173_eq k, rfl⟩
        (.cons ⟨_, _, k0_off172_eq k, rfl⟩
        (.cons ⟨_, _, k0_off171_eq k, rfl⟩
        (.cons ⟨_, _, k0_off170_eq k, rfl⟩
        (.cons ⟨_, _, k0_off169_eq k, rfl⟩
        (.cons ⟨_, _, k0_off168_eq k, rfl⟩
        (.cons ⟨_, _, k0_off167_eq k, rfl⟩
        (.cons ⟨_, _, k0_off166_eq k, rfl⟩
        (.cons ⟨_, _, k0_off165_eq k, rfl⟩
        (.cons ⟨_, _, k0_off164_eq k, rfl⟩
        (.cons ⟨_, _, k0_off163_eq k, rfl⟩
        (.cons ⟨_, _, k0_off162_eq k, rfl⟩
        (.cons ⟨_, _, k0_off161_eq k, rfl⟩
        (.cons ⟨_, _, k0_off160_eq k, rfl⟩
        (.cons ⟨_, _, k0_off159_eq k, rfl⟩
        (.cons ⟨_, _, k0_off158_eq k, rfl⟩
        (.cons ⟨_, _, k0_off157_eq k, rfl⟩
        (.cons ⟨_, _, k0_off156_eq k, rfl⟩
        (.cons ⟨_, _, k0_off155_eq k, rfl⟩
        (.cons ⟨_, _, k0_off154_eq k, rfl⟩
        (.cons ⟨_, _, k0_off153_eq k, rfl⟩ .nil)))))))))))))))))))))))))))))))) rfl
        (.cons ⟨_, _, k0_off153_eq k, rfl⟩
        (.cons ⟨_, _, k0_off154_eq k, rfl⟩
        (.cons ⟨_, _, k0_off155_eq k, rfl⟩
        (.cons ⟨_, _, k0_off156_eq k, rfl⟩
        (.cons ⟨_, _, k0_off157_eq k, rfl⟩
        (.cons ⟨_, _, k0_off158_eq k, rfl⟩
        (.cons ⟨_, _, k0_off159_eq k, rfl⟩
        (.cons ⟨_, _, k0_off160_eq k, rfl⟩
        (.cons ⟨_, _, k0_off161_eq k, rfl⟩
        (.cons ⟨_, _, k0_off162_eq k, rfl⟩
        (.cons ⟨_, _, k0_off163_eq k, rfl⟩
        (.cons ⟨_, _, k0_off164_eq k, rfl⟩
        (.cons ⟨_, _, k0_off165_eq k, rfl⟩
        (.cons ⟨_, _, k0_off166_eq k, rfl⟩
        (.cons ⟨_, _, k0_off167_eq k, rfl⟩
        (.cons ⟨_, _, k0_off168_eq k, rfl⟩
        (.cons ⟨_, _, k0_off169_eq k, rfl⟩
        (.cons ⟨_, _, k0_off170_eq k, rfl⟩
        (.cons ⟨_, _, k0_off171_eq k, rfl⟩
        (.cons ⟨_, _, k0_off172_eq k, rfl⟩
        (.cons ⟨_, _, k0_off173_eq k, rfl⟩
        (.cons ⟨_, _, k0_off174_eq k, rfl⟩
        (.cons ⟨_, _, k0_off175_eq k, rfl⟩
        (.cons ⟨_, _, k0_off176_eq k, rfl⟩
        (.cons ⟨_, _, k0_off177_eq k, rfl⟩
        (.cons ⟨_, _, k0_off178_eq k, rfl⟩
        (.cons ⟨_, _, k0_off179_eq k, rfl⟩
        (.cons ⟨_, _, k0_off180_eq k, rfl⟩
        (.cons ⟨_, _, k0_off181_eq k, rfl⟩
        (.cons ⟨_, _, k0_off182_eq k, rfl⟩
        (.cons ⟨_, _, k0_off183_eq k, rfl⟩
        (.cons ⟨_, _, k0_off184_eq k, rfl⟩ .nil))))))))))))))))))))))))))))))))
        (wts c fw rfl)⟩

end Trip

end Cert.Proof.Kernel

end
-- ==== Proof.Kernel.Trip4.lean ====
/-
  One trip of the second product loop.
-/
module

public import proofs.«01_k».proof.Proof.Kernel.Prod

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

set_option maxRecDepth 16384

section Trip
variable (c : Dev nD)

abbrev trip4 (k : Fin k0_t5_loop.trips) : Prog (TpuEff nD τ sig (Elt F) Λ₀ .tc) Unit :=
  k0_t5_body (F := F) dkM (Memref.isWhole_whole _) dvM (Memref.isWhole_whole _) ccM (Memref.isWhole_whole _) csM (Memref.isWhole_whole _)
    ukM (Memref.isWhole_whole _) usM (Memref.isWhole_whole _) uvM (Memref.isWhole_whole _) vsM (Memref.isWhole_whole _) dcM (Memref.isWhole_whole _)
    wkM (Memref.isWhole_whole _) wvM (Memref.isWhole_whole _) xM (Memref.isWhole_whole _) sM (Memref.isWhole_whole _) gM (Memref.isWhole_whole _)
    hM (Memref.isWhole_whole _) iM (Memref.isWhole_whole _) nM (Memref.isWhole_whole _) swM (Memref.isWhole_whole _) wM (Memref.isWhole_whole _)
    rM (Memref.isWhole_whole _) lM (Memref.isWhole_whole _) tM (Memref.isWhole_whole _) aM (Memref.isWhole_whole _) pM (Memref.isWhole_whole _)
    oM (Memref.isWhole_whole _) cc0_scratch14 cc0_scratch15 cc0_scratch16 cc0_scratch17 cc0_scratch18 cc0_scratch19 k ()

/-- A trip, which first waits for the products sent two trips before. -/
theorem run4 (k : Fin k0_t5_loop.trips) (fg ft)
    (M : Memref sig .tc .hbm S768x8x128 .f32) (X : Buf (Elt F) (M.view.loc (c : Thread nD τ))) (fo f1) :
    iprop(gP c fg ∗ tP c ft ∗ (∃ W, owes (c : Thread nD τ) 0 W) ∗ wvP c (Ring.bk 4 k.val) f1
      ∗ Transfers.Flight countersEmb (c : Thread nD τ) (SemLoc.dma (osm (Ring.sl 2 k.val)).sem) () (NN (Ring.sl 2 k.val))
          iprop((M.view.loc (c : Thread nD τ) ↦[M.view.set]{fullShare} X) ∗ oP c (Ring.sl 2 k.val) fo))
    ⊢ wp frame (wpE (defs₀ (F := F)) 𝒱₀ (c : Thread nD τ) none) Set.univ (trip4 k) (fun _ => iprop(∃ fo', gP c fg ∗ tP c ft ∗ (∃ W, owes (c : Thread nD τ) 0 W)
      ∗ (M.view.loc (c : Thread nD τ) ↦[M.view.set]{fullShare} X)
      ∗ Transfers.Flight countersEmb (c : Thread nD τ) (SemLoc.dma (osm (Ring.sl 2 k.val)).sem) () (NN (Ring.sl 2 k.val))
          iprop(wvP c (Ring.bk 4 k.val) ((wvG (Ring.bk 4 k.val)).view.writes (Elt F) f1 [⟨Rect.whole S768x8x128, ReadAs.same.apply ((oS (Ring.sl 2 k.val)).view.read (Elt F) fo')⟩]) ∗ oP c (Ring.sl 2 k.val) fo')
      ∗ ⌜∀ y : S768x8x128.Idx, (oS (Ring.sl 2 k.val)).view.read (Elt F) fo' y = DW c fg ft (ix3 (y 0) ⟨8 * k.val + (y 1).val, grp_lt k.isLt (y 1).isLt⟩ (y 2))⌝)) := by
  iintro ⟨HG, HT, ⟨%W, HW⟩, HK, HF⟩
  dsimp only [trip4]
  sl_unfold [k0_t5_body]
  sl_exec
  ihave HR := (entails_of_eq (oRP_eq c _ _)) $$ HF_src
  sl_exec
  ihave HQ := (oRP_back c (Ring.sl 2 k.val) _) $$ HR
  sl_exec
  sl_step
  iexists _
  isplitl [HG]; · iexact HG
  isplitl [HT]; · iexact HT
  isplitl [HW]; · iexists _; iexact HW
  isplitl [HF_dst]; · iexact HF_dst
  isplitl [HF]; · iexact HF
  ipureintro
  exact fun y => o_after c fg ft ⟨k.val, k.isLt⟩ _ _
        (.cons ⟨![![k0_off200 k 6#32, k0_off201 k 6#32], ![k0_off202 k 6#32, k0_off203 k 6#32], ![k0_off204 k 6#32, k0_off205 k 6#32], ![k0_off206 k 6#32, k0_off207 k 6#32], ![k0_off208 k 6#32, k0_off209 k 6#32]],
          forall52 ((k0_off200_eq k 3).trans (vec4 0 k.val 3 7 0 _ rfl rfl)) ((k0_off201_eq k 3).trans (vec4 0 k.val 3 7 1 _ rfl rfl)) ((k0_off202_eq k 3).trans (vec4 1 k.val 3 7 0 _ rfl rfl)) ((k0_off203_eq k 3).trans (vec4 1 k.val 3 7 1 _ rfl rfl)) ((k0_off204_eq k 3).trans (vec4 2 k.val 3 7 0 _ rfl rfl)) ((k0_off205_eq k 3).trans (vec4 2 k.val 3 7 1 _ rfl rfl)) ((k0_off206_eq k 3).trans (vec4 3 k.val 3 7 0 _ rfl rfl)) ((k0_off207_eq k 3).trans (vec4 3 k.val 3 7 1 _ rfl rfl)) ((k0_off208_eq k 3).trans (vec4 4 k.val 3 7 0 _ rfl rfl)) ((k0_off209_eq k 3).trans (vec4 4 k.val 3 7 1 _ rfl rfl)), _, _, rfl⟩
        (.cons ⟨![![k0_off200 k 6#32, k0_off201 k 6#32], ![k0_off202 k 6#32, k0_off203 k 6#32], ![k0_off204 k 6#32, k0_off205 k 6#32], ![k0_off206 k 6#32, k0_off207 k 6#32], ![k0_off208 k 6#32, k0_off209 k 6#32]],
          forall52 ((k0_off200_eq k 3).trans (vec4 0 k.val 3 6 0 _ rfl rfl)) ((k0_off201_eq k 3).trans (vec4 0 k.val 3 6 1 _ rfl rfl)) ((k0_off202_eq k 3).trans (vec4 1 k.val 3 6 0 _ rfl rfl)) ((k0_off203_eq k 3).trans (vec4 1 k.val 3 6 1 _ rfl rfl)) ((k0_off204_eq k 3).trans (vec4 2 k.val 3 6 0 _ rfl rfl)) ((k0_off205_eq k 3).trans (vec4 2 k.val 3 6 1 _ rfl rfl)) ((k0_off206_eq k 3).trans (vec4 3 k.val 3 6 0 _ rfl rfl)) ((k0_off207_eq k 3).trans (vec4 3 k.val 3 6 1 _ rfl rfl)) ((k0_off208_eq k 3).trans (vec4 4 k.val 3 6 0 _ rfl rfl)) ((k0_off209_eq k 3).trans (vec4 4 k.val 3 6 1 _ rfl rfl)), _, _, rfl⟩
        (.cons ⟨![![k0_off200 k 4#32, k0_off201 k 4#32], ![k0_off202 k 4#32, k0_off203 k 4#32], ![k0_off204 k 4#32, k0_off205 k 4#32], ![k0_off206 k 4#32, k0_off207 k 4#32], ![k0_off208 k 4#32, k0_off209 k 4#32]],
          forall52 ((k0_off200_eq k 2).trans (vec4 0 k.val 2 5 0 _ rfl rfl)) ((k0_off201_eq k 2).trans (vec4 0 k.val 2 5 1 _ rfl rfl)) ((k0_off202_eq k 2).trans (vec4 1 k.val 2 5 0 _ rfl rfl)) ((k0_off203_eq k 2).trans (vec4 1 k.val 2 5 1 _ rfl rfl)) ((k0_off204_eq k 2).trans (vec4 2 k.val 2 5 0 _ rfl rfl)) ((k0_off205_eq k 2).trans (vec4 2 k.val 2 5 1 _ rfl rfl)) ((k0_off206_eq k 2).trans (vec4 3 k.val 2 5 0 _ rfl rfl)) ((k0_off207_eq k 2).trans (vec4 3 k.val 2 5 1 _ rfl rfl)) ((k0_off208_eq k 2).trans (vec4 4 k.val 2 5 0 _ rfl rfl)) ((k0_off209_eq k 2).trans (vec4 4 k.val 2 5 1 _ rfl rfl)), _, _, rfl⟩
        (.cons ⟨![![k0_off200 k 4#32, k0_off201 k 4#32], ![k0_off202 k 4#32, k0_off203 k 4#32], ![k0_off204 k 4#32, k0_off205 k 4#32], ![k0_off206 k 4#32, k0_off207 k 4#32], ![k0_off208 k 4#32, k0_off209 k 4#32]],
          forall52 ((k0_off200_eq k 2).trans (vec4 0 k.val 2 4 0 _ rfl rfl)) ((k0_off201_eq k 2).trans (vec4 0 k.val 2 4 1 _ rfl rfl)) ((k0_off202_eq k 2).trans (vec4 1 k.val 2 4 0 _ rfl rfl)) ((k0_off203_eq k 2).trans (vec4 1 k.val 2 4 1 _ rfl rfl)) ((k0_off204_eq k 2).trans (vec4 2 k.val 2 4 0 _ rfl rfl)) ((k0_off205_eq k 2).trans (vec4 2 k.val 2 4 1 _ rfl rfl)) ((k0_off206_eq k 2).trans (vec4 3 k.val 2 4 0 _ rfl rfl)) ((k0_off207_eq k 2).trans (vec4 3 k.val 2 4 1 _ rfl rfl)) ((k0_off208_eq k 2).trans (vec4 4 k.val 2 4 0 _ rfl rfl)) ((k0_off209_eq k 2).trans (vec4 4 k.val 2 4 1 _ rfl rfl)), _, _, rfl⟩
        (.cons ⟨![![k0_off200 k 2#32, k0_off201 k 2#32], ![k0_off202 k 2#32, k0_off203 k 2#32], ![k0_off204 k 2#32, k0_off205 k 2#32], ![k0_off206 k 2#32, k0_off207 k 2#32], ![k0_off208 k 2#32, k0_off209 k 2#32]],
          forall52 ((k0_off200_eq k 1).trans (vec4 0 k.val 1 3 0 _ rfl rfl)) ((k0_off201_eq k 1).trans (vec4 0 k.val 1 3 1 _ rfl rfl)) ((k0_off202_eq k 1).trans (vec4 1 k.val 1 3 0 _ rfl rfl)) ((k0_off203_eq k 1).trans (vec4 1 k.val 1 3 1 _ rfl rfl)) ((k0_off204_eq k 1).trans (vec4 2 k.val 1 3 0 _ rfl rfl)) ((k0_off205_eq k 1).trans (vec4 2 k.val 1 3 1 _ rfl rfl)) ((k0_off206_eq k 1).trans (vec4 3 k.val 1 3 0 _ rfl rfl)) ((k0_off207_eq k 1).trans (vec4 3 k.val 1 3 1 _ rfl rfl)) ((k0_off208_eq k 1).trans (vec4 4 k.val 1 3 0 _ rfl rfl)) ((k0_off209_eq k 1).trans (vec4 4 k.val 1 3 1 _ rfl rfl)), _, _, rfl⟩
        (.cons ⟨![![k0_off200 k 2#32, k0_off201 k 2#32], ![k0_off202 k 2#32, k0_off203 k 2#32], ![k0_off204 k 2#32, k0_off205 k 2#32], ![k0_off206 k 2#32, k0_off207 k 2#32], ![k0_off208 k 2#32, k0_off209 k 2#32]],
          forall52 ((k0_off200_eq k 1).trans (vec4 0 k.val 1 2 0 _ rfl rfl)) ((k0_off201_eq k 1).trans (vec4 0 k.val 1 2 1 _ rfl rfl)) ((k0_off202_eq k 1).trans (vec4 1 k.val 1 2 0 _ rfl rfl)) ((k0_off203_eq k 1).trans (vec4 1 k.val 1 2 1 _ rfl rfl)) ((k0_off204_eq k 1).trans (vec4 2 k.val 1 2 0 _ rfl rfl)) ((k0_off205_eq k 1).trans (vec4 2 k.val 1 2 1 _ rfl rfl)) ((k0_off206_eq k 1).trans (vec4 3 k.val 1 2 0 _ rfl rfl)) ((k0_off207_eq k 1).trans (vec4 3 k.val 1 2 1 _ rfl rfl)) ((k0_off208_eq k 1).trans (vec4 4 k.val 1 2 0 _ rfl rfl)) ((k0_off209_eq k 1).trans (vec4 4 k.val 1 2 1 _ rfl rfl)), _, _, rfl⟩
        (.cons ⟨![![k0_off200 k 0#32, k0_off201 k 0#32], ![k0_off202 k 0#32, k0_off203 k 0#32], ![k0_off204 k 0#32, k0_off205 k 0#32], ![k0_off206 k 0#32, k0_off207 k 0#32], ![k0_off208 k 0#32, k0_off209 k 0#32]],
          forall52 ((k0_off200_eq k 0).trans (vec4 0 k.val 0 1 0 _ rfl rfl)) ((k0_off201_eq k 0).trans (vec4 0 k.val 0 1 1 _ rfl rfl)) ((k0_off202_eq k 0).trans (vec4 1 k.val 0 1 0 _ rfl rfl)) ((k0_off203_eq k 0).trans (vec4 1 k.val 0 1 1 _ rfl rfl)) ((k0_off204_eq k 0).trans (vec4 2 k.val 0 1 0 _ rfl rfl)) ((k0_off205_eq k 0).trans (vec4 2 k.val 0 1 1 _ rfl rfl)) ((k0_off206_eq k 0).trans (vec4 3 k.val 0 1 0 _ rfl rfl)) ((k0_off207_eq k 0).trans (vec4 3 k.val 0 1 1 _ rfl rfl)) ((k0_off208_eq k 0).trans (vec4 4 k.val 0 1 0 _ rfl rfl)) ((k0_off209_eq k 0).trans (vec4 4 k.val 0 1 1 _ rfl rfl)), _, _, rfl⟩
        (.cons ⟨![![k0_off200 k 0#32, k0_off201 k 0#32], ![k0_off202 k 0#32, k0_off203 k 0#32], ![k0_off204 k 0#32, k0_off205 k 0#32], ![k0_off206 k 0#32, k0_off207 k 0#32], ![k0_off208 k 0#32, k0_off209 k 0#32]],
          forall52 ((k0_off200_eq k 0).trans (vec4 0 k.val 0 0 0 _ rfl rfl)) ((k0_off201_eq k 0).trans (vec4 0 k.val 0 0 1 _ rfl rfl)) ((k0_off202_eq k 0).trans (vec4 1 k.val 0 0 0 _ rfl rfl)) ((k0_off203_eq k 0).trans (vec4 1 k.val 0 0 1 _ rfl rfl)) ((k0_off204_eq k 0).trans (vec4 2 k.val 0 0 0 _ rfl rfl)) ((k0_off205_eq k 0).trans (vec4 2 k.val 0 0 1 _ rfl rfl)) ((k0_off206_eq k 0).trans (vec4 3 k.val 0 0 0 _ rfl rfl)) ((k0_off207_eq k 0).trans (vec4 3 k.val 0 0 1 _ rfl rfl)) ((k0_off208_eq k 0).trans (vec4 4 k.val 0 0 0 _ rfl rfl)) ((k0_off209_eq k 0).trans (vec4 4 k.val 0 0 1 _ rfl rfl)), _, _, rfl⟩ .nil)))))))) y

end Trip

end Cert.Proof.Kernel

end
-- ==== Proof.Kernel.Inv.lean ====
/-
  What holds before each trip of the four loops.
-/
module

public import proofs.«01_k».proof.Proof.Kernel.Prod
public import proofs.«01_k».proof.Proof.Kernel.Wide
public import proofs.«01_k».proof.Proof.Kernel.Dc

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

set_option maxRecDepth 16384

section Inv
variable (c : Dev nD)
  (XK : Buf (Elt F) (dkM.view.loc (c : Thread nD τ))) (XV : Buf (Elt F) (dvM.view.loc (c : Thread nD τ)))

/-! ## The stream of gradient blocks -/

theorem home_dk {n : Fin 10} (b : ℕ) (h : n.val = b) (hb : b < 5) : home c XK XV n = dkH c XK (Ring.bk 5 b) := by
  subst h; exact if_pos hb
theorem home_dv {n : Fin 10} (b : ℕ) (h : n.val = b + 5) : home c XK XV n = dvH c XV (Ring.bk 5 b) := by
  unfold home; rw [if_neg (by omega), h]; rfl
theorem blk_dk {n : Fin 10} (b : ℕ) (h : n.val = b) (hb : b < 5) : blk c XK XV n = ReadAs.same.apply ((dkB (Ring.bk 5 b)).view.read (Elt F) XK) := by
  subst h; exact if_pos hb
theorem blk_dv {n : Fin 10} (b : ℕ) (h : n.val = b + 5) : blk c XK XV n = ReadAs.same.apply ((dvB (Ring.bk 5 b)).view.read (Elt F) XV) := by
  unfold blk; rw [if_neg (by omega), h]; rfl

/-- A block at home is some piece of HBM at some contents. -/
theorem home_mem (n : Fin 10) : ∃ (M : Memref sig .tc .hbm S384x32x128 .bf16) (X : Buf (Elt F) (M.view.loc (c : Thread nD τ))),
    home c XK XV n = (iprop(M.view.loc (c : Thread nD τ) ↦[M.view.set]{fullShare} X) : sProp 𝕄) := by
  unfold home
  split
  · exact ⟨_, _, rfl⟩
  · exact ⟨_, _, rfl⟩

/-- The slot of block `q`: the block in flight, or idle past the last. -/
def slot (q : ℕ) : sProp 𝕄 :=
  if q < 10 then iprop(∃ f, flightP c XK XV (Ring.sl 2 q) (Ring.bk 10 q) f) else iprop((∃ f, xP c (Ring.sl 2 q) f) ∗ xC c (Ring.sl 2 q))

/-- Blocks `p` and `p + 1` asked for, the others at home. -/
def stream (p : ℕ) : sProp 𝕄 :=
  iprop(bigSep (Ring.homeSet 2 p) (home c XK XV) ∗ slot c XK XV p ∗ slot c XK XV (p + 1))

theorem slot_lt {q : ℕ} (h : q < 10) : slot c XK XV q = iprop(∃ f, flightP c XK XV (Ring.sl 2 q) (Ring.bk 10 q) f) := if_pos h
theorem slot_ge {q : ℕ} (h : ¬ q < 10) : slot c XK XV q = iprop((∃ f, xP c (Ring.sl 2 q) f) ∗ xC c (Ring.sl 2 q)) := if_neg h

theorem sl_two (q : ℕ) : Ring.sl 2 (q + 2) = Ring.sl 2 q := by
  apply Fin.ext; show (q + 2) % 2 = q % 2; omega

theorem homes_out (p : ℕ) (h : p + 2 < 10) :
    bigSep (Ring.homeSet 2 p) (home c XK XV)
      ⊢ home c XK XV (Ring.bk 10 (p + 2)) ∗ bigSep ((Ring.homeSet 2 p).erase (Ring.bk 10 (p + 2))) (home c XK XV) := by
  conv_lhs => rw [Ring.homeSet_out (L := 2) p h, BI.bigSep_insert (Ring.bkL_not_mem_erase 2 p)]
  exact .rfl
theorem homes_in (p : ℕ) (h : p + 2 < 10) :
    home c XK XV (Ring.bk 10 p) ∗ bigSep ((Ring.homeSet 2 p).erase (Ring.bk 10 (p + 2))) (home c XK XV)
      ⊢ bigSep (Ring.homeSet 2 (p + 1)) (home c XK XV) := by
  rw [Ring.homeSet_succ (L := 2) p h, BI.bigSep_insert (Ring.bk_not_mem_erase (NB := 10) (L := 2) p (by omega) (by decide))]
  exact .rfl
theorem homes_in_tail (p : ℕ) (h : 10 ≤ p + 2) (hp : p < 10) :
    home c XK XV (Ring.bk 10 p) ∗ bigSep (Ring.homeSet 2 p) (home c XK XV)
      ⊢ bigSep (Ring.homeSet 2 (p + 1)) (home c XK XV) := by
  rw [Ring.homeSet_succ_tail (L := 2) p h hp, BI.bigSep_insert (Ring.bk_not_mem_homeSet (NB := 10) (L := 2) p hp (by decide))]
  exact .rfl

/-- Before the trip that waits for block `p` and asks for block `p + 2`: what it takes, what stays. -/
def others (p : ℕ) : sProp 𝕄 := iprop(bigSep ((Ring.homeSet 2 p).erase (Ring.bk 10 (p + 2))) (home c XK XV) ∗ slot c XK XV (p + 1))

/-- Block `n` on its way to slot `s`: a transfer from some piece of HBM, which is the block at home. -/
theorem flightP_open (s : Fin 2) (n : Fin 10) (f) : flightP c XK XV s n f
    ⊢ ∃ (M : Memref sig .tc .hbm S384x32x128 .bf16) (X : Buf (Elt F) (M.view.loc (c : Thread nD τ))),
      Transfers.Flight countersEmb (c : Thread nD τ) (SemLoc.dma (xsm s).sem) () (NN s)
          iprop(xP c s ((xS s).view.writes (Elt F) f [⟨Rect.whole S384x32x128, blk c XK XV n⟩]) ∗ M.view.loc (c : Thread nD τ) ↦[M.view.set]{fullShare} X)
      ∗ ⌜(M.view.loc (c : Thread nD τ) ↦[M.view.set]{fullShare} X) ⊢ (home c XK XV n : sProp 𝕄)⌝ := by
  obtain ⟨M, X, e⟩ := home_mem c XK XV n
  unfold flightP
  rw [e]
  iintro HF
  iexists M, X
  isplitl [HF]; · iexact HF
  ipureintro
  exact .rfl

theorem stream_open (p : ℕ) (h : p + 2 < 10) (s : Fin 2) (H : sProp 𝕄) (eS : Ring.sl 2 p = s) (eH : home c XK XV (Ring.bk 10 (p + 2)) = H) :
    stream c XK XV p ⊢ H ∗ (∃ f, flightP c XK XV s (Ring.bk 10 p) f) ∗ others c XK XV p := by
  subst eS eH
  unfold stream others
  iintro ⟨HB, HS, HN⟩
  ihave HB' := (homes_out c XK XV p h) $$ HB
  icases HB' with ⟨HH, HB⟩
  isplitl [HH]; · iexact HH
  isplitl [HS]
  · ihave HS' := (entails_of_eq (slot_lt c XK XV (show p < 10 by omega))) $$ HS
    iexact HS'
  isplitl [HB]; · iexact HB
  iexact HN
theorem stream_close (p : ℕ) (h : p + 2 < 10) (s : Fin 2) (H : sProp 𝕄) (B : S384x32x128.Idx → Elt F .bf16) (q : ℕ) (eq : p + 1 = q)
    (eS : Ring.sl 2 p = s) (eH : home c XK XV (Ring.bk 10 (p + 2)) = H) (eB : blk c XK XV (Ring.bk 10 (p + 2)) = B) :
    iprop(home c XK XV (Ring.bk 10 p) ∗ (∃ f, Transfers.Flight countersEmb (c : Thread nD τ) (SemLoc.dma (xsm s).sem) () (NN s)
          iprop(xP c s ((xS s).view.writes (Elt F) f [⟨Rect.whole S384x32x128, B⟩]) ∗ H)) ∗ others c XK XV p) ⊢ stream c XK XV q := by
  subst eS eH eB eq
  unfold stream others
  iintro ⟨HH, HF, HB, HN⟩
  isplitl [HH HB]
  · iapply (homes_in c XK XV p h)
    isplitl [HH]; · iexact HH
    iexact HB
  isplitl [HN]; · iexact HN
  iapply (entails_of_eq ((slot_lt c XK XV h).trans (by rw [sl_two])).symm)
  iexact HF

def othersT (p : ℕ) : sProp 𝕄 := iprop(bigSep (Ring.homeSet 2 p) (home c XK XV) ∗ slot c XK XV (p + 1))
theorem stream_open_tail (p : ℕ) (hp : p < 10) (s : Fin 2) (eS : Ring.sl 2 p = s) :
    stream c XK XV p ⊢ (∃ f, flightP c XK XV s (Ring.bk 10 p) f) ∗ othersT c XK XV p := by
  subst eS
  unfold stream othersT
  iintro ⟨HB, HS, HN⟩
  isplitl [HS]
  · ihave HS' := (entails_of_eq (slot_lt c XK XV hp)) $$ HS
    iexact HS'
  isplitl [HB]; · iexact HB
  iexact HN
theorem stream_close_tail (p : ℕ) (h : 10 ≤ p + 2) (hp : p < 10) (s : Fin 2) (q : ℕ) (eq : p + 1 = q) (eS : Ring.sl 2 p = s) :
    iprop(home c XK XV (Ring.bk 10 p) ∗ (∃ f, xP c s f) ∗ xC c s ∗ othersT c XK XV p) ⊢ stream c XK XV q := by
  subst eS eq
  unfold stream othersT
  iintro ⟨HH, HX, HC, HB, HN⟩
  isplitl [HH HB]
  · iapply (homes_in_tail c XK XV p h hp)
    isplitl [HH]; · iexact HH
    iexact HB
  isplitl [HN]; · iexact HN
  iapply (entails_of_eq ((slot_ge c XK XV (show ¬ p + 2 < 10 by omega)).trans (by rw [sl_two])).symm)
  isplitl [HX]; · iexact HX
  iexact HC
/-- With every block back, nothing more happens. -/
theorem stream_end : stream c XK XV 10 ⊢ stream c XK XV 11 := by
  unfold stream
  rw [Ring.homeSet_last (NB := 10) (L := 2) 10 le_rfl, Ring.homeSet_last (NB := 10) (L := 2) 11 (by decide)]
  iintro ⟨HB, HS, HN⟩
  isplitl [HB]; · iexact HB
  isplitl [HN]; · iexact HN
  ihave HS' := (entails_of_eq (slot_ge c XK XV (show ¬ 10 < 10 by omega))) $$ HS
  iapply (entails_of_eq (slot_ge c XK XV (show ¬ 12 < 10 by omega)).symm)
  iexact HS'

/-! ## What the buffers hold -/

/-- Element `(j, h, t, d)` of the regrouped buffer for the gradient whose blocks begin at `o`: `(t, h, d)` of its block `j`. -/
def GV (o : ℕ) (y : S5x32x384x128.Idx) : Elt F .bf16 := blk c XK XV (Ring.bk 10 (o + (y 0).val)) (ix3 (y 2) (y 1) (y 3))

def SFact (n : ℕ) (fs : Buf (Elt F) (sM.view.loc (c : Thread nD τ))) : Prop := n < 10 → sM.view.read (Elt F) fs = blk c XK XV (Ring.bk 10 n)
def GFact (o k : ℕ) (fg : Buf (Elt F) (gM.view.loc (c : Thread nD τ))) : Prop := ∀ y : S5x32x384x128.Idx, (y 0).val < k → gM.view.read (Elt F) fg y = GV c XK XV o y
def TFact (fr : Buf (Elt F) (rM.view.loc (c : Thread nD τ))) (fl : Buf (Elt F) (lM.view.loc (c : Thread nD τ))) (k : ℕ)
    (ft : Buf (Elt F) (tM.view.loc (c : Thread nD τ))) : Prop := ∀ y : S15x768x128.Idx, (y 0).val / 3 < k → tM.view.read (Elt F) ft y = TT c fr fl y

theorem gfact_next {o k : ℕ} {fs} {fg fg' : Buf (Elt F) (gM.view.loc (c : Thread nD τ))} (hs : SFact c XK XV (o + k) fs) (h10 : o + k < 10)
    (hg : GFact c XK XV o k fg) (h : ∀ y, gM.view.read (Elt F) fg' y = if (y 0).val = k then GG c fs y else gM.view.read (Elt F) fg y) :
    GFact c XK XV o (k + 1) fg' := by
  intro y hy
  rw [h]
  split
  · next e => unfold GG GV; rw [hs h10, e]
  · exact hg y (by omega)
theorem tfact_next {fr fl} {k : ℕ} {ft ft' : Buf (Elt F) (tM.view.loc (c : Thread nD τ))} (ht : TFact c fr fl k ft)
    (h : ∀ y, tM.view.read (Elt F) ft' y = if (y 0).val / 3 = k then TT c fr fl y else tM.view.read (Elt F) ft y) :
    TFact c fr fl (k + 1) ft' := by
  intro y hy
  rw [h]
  split
  · rfl
  · exact ht y (by omega)

/-! ## The weights and the latent's gradient -/

/-- Rows below `n` of the widened weights are those of matrix `kv`. -/
def WFact (fh : Buf (Elt F) (hM.view.loc (c : Thread nD τ))) (fn : Buf (Elt F) (nM.view.loc (c : Thread nD τ))) (kv : Fin 2) (n : ℕ)
    (fw : Buf (Elt F) (wM.view.loc (c : Thread nD τ))) : Prop := ∀ y : S32x768x128.Idx, (y 1).val < n → wM.view.read (Elt F) fw y = WW c fh fn kv y

theorem wfact_next {fh fn} {kv : Fin 2} {n n' : ℕ} {rs : List ℕ} {fw fw' : Buf (Elt F) (wM.view.loc (c : Thread nD τ))} (h : WFact c fh fn kv n fw)
    (hu : WUpd c fh fn kv rs fw fw') (hn : ∀ x, x < n' → x < n ∨ ∃ r ∈ rs, r ≤ x ∧ x < r + 64) : WFact c fh fn kv n' fw' := by
  intro y hy
  by_cases e : ∃ r ∈ rs, r ≤ (y 1).val ∧ (y 1).val < r + 64
  · exact (hu y).1 e
  · exact ((hu y).2 e).trans (h y ((hn _ hy).resolve_right e))

/-- A gradient block as a matrix, token by head and dimension; -/
def smatOf (B : S384x32x128.Idx → Elt F .bf16) : FVec F S384x4096 .bf16 := fun i =>
  have h : (i 1).val < 4096 := (i 1).isLt
  B (ix3 (i 0) ⟨(i 1).val / 128, by omega⟩ ⟨(i 1).val % 128, by omega⟩)
/-- a weight as one, rank by head and dimension. -/
def wmatOf (B : S32x768x128.Idx → Elt F .bf16) : FVec F S768x4096 .bf16 := fun i =>
  have h : (i 1).val < 4096 := (i 1).isLt
  B (ix3 ⟨(i 1).val / 128, by omega⟩ (i 0) ⟨(i 1).val % 128, by omega⟩)
theorem smat_of (fs : Buf (Elt F) (sM.view.loc (c : Thread nD τ))) : smat c fs = smatOf (sM.view.read (Elt F) fs) := rfl
theorem wmat_of (fw : Buf (Elt F) (wM.view.loc (c : Thread nD τ))) : wmat c fw = wmatOf (wM.view.read (Elt F) fw) := rfl

/-- Element `(j, t, r)` of the product of block `j` of the gradient whose blocks begin at `o` and the weight `B`. -/
def DP (o : ℕ) (B : S32x768x128.Idx → Elt F .bf16) (z : S5x384x768.Idx) : Elt F .f32 :=
  dprod (smatOf (blk c XK XV (Ring.bk 10 (o + (z 0).val)))) (wmatOf B) (ix2 (z 1) (z 2))

/-- Blocks below `k` of the running sum are the first product. -/
def AFact (fw : Buf (Elt F) (wM.view.loc (c : Thread nD τ))) (k : ℕ) (fa : Buf (Elt F) (aM.view.loc (c : Thread nD τ))) : Prop :=
  ∀ z : S5x384x768.Idx, (z 0).val < k → aM.view.read (Elt F) fa z = DP c XK XV 0 (wM.view.read (Elt F) fw) z

theorem afact_next {k : ℕ} {fs fw} {fa fa' : Buf (Elt F) (aM.view.loc (c : Thread nD τ))} (hs : SFact c XK XV k fs) (h10 : k < 10)
    (h : AFact c XK XV fw k fa) (hu : AUpd c k fs fw fa fa') : AFact c XK XV fw (k + 1) fa' := by
  intro z hz
  rw [hu z]
  split
  · next e => unfold dcell DP; rw [smat_of, wmat_of, hs h10, e, Nat.zero_add]
  · exact h z (by omega)

/-- The latent's gradient from the running sum and the second weight: the sum of the two products, rounded. -/
def DSum (fw : Buf (Elt F) (wM.view.loc (c : Thread nD τ))) (fa : Buf (Elt F) (aM.view.loc (c : Thread nD τ))) (z : S5x384x768.Idx) : Elt F .bf16 :=
  FloatOps.truncf (F := F) .bf16 bitsLt_bf16_f32 (FloatOps.addf (F := F) (φ := .f32) (aM.view.read (Elt F) fa z) (DP c XK XV 5 (wM.view.read (Elt F) fw) z))

/-- Block `b` of the latent's gradient. -/
def dblk (w : S5x384x768.Idx → Elt F .bf16) (b : Fin 5) : S384x768.Idx → Elt F .bf16 := fun y => w (ix3 b (y 0) (y 1))

theorem dblk_of {k : ℕ} (hk : k < 5) {fs fw fa} (hs : SFact c XK XV (5 + k) fs) {rd : S5x384x768.Idx → Elt F .bf16} (hd : DSum c XK XV fw fa = rd)
    {v : S384x768.Idx → Elt F .bf16} (h : v = PP c ⟨k, hk⟩ fs fw fa) : v = dblk rd (Ring.bk 5 k) := by
  subst hd h
  rw [show Ring.bk 5 k = ⟨k, hk⟩ from Fin.ext (Ring.bk_val hk)]
  funext y
  unfold PP dblk DSum DP
  rw [smat_of, wmat_of, hs (by omega)]
  exact congrArg (fun j => FloatOps.truncf (F := F) .bf16 bitsLt_bf16_f32 (FloatOps.addf (F := F) (φ := .f32) (aM.view.read (Elt F) fa (ix3 ⟨k, hk⟩ (y 0) (y 1))) (dprod (smatOf (blk c XK XV (Ring.bk 10 (5 + k)))) (wmatOf (wM.view.read (Elt F) fw)) j))) (eq_ix2 y)

section Sent
variable (rd : S5x384x768.Idx → Elt F .bf16)

def dcR : Buf (Elt F) (dcM.view.loc (c : Thread nD τ)) := dcM.view.rep rd
abbrev dcRB (b : Fin 5) : Buf (Elt F) ((dcB b).view.loc (c : Thread nD τ)) := dcR c rd

/-- Block `b` of the latent's gradient delivered; -/
def sentD (b : Fin 5) : sProp 𝕄 := dcP c b (dcRB c rd b)
/-- its place before it is. -/
def sentI (b : Fin 5) : sProp 𝕄 := iprop(∃ f, dcP c b f)
/-- Block `b` on its way. -/
def sentF (b : Fin 5) (s : Fin 2) : sProp 𝕄 :=
  iprop(∃ f fp, Transfers.Flight countersEmb (c : Thread nD τ) (SemLoc.dma (psm s).sem) () 18432
          iprop(dcP c b ((dcB b).view.writes (Elt F) f [⟨Rect.whole S384x768, ReadAs.same.apply ((pS s).view.read (Elt F) fp)⟩]) ∗ pP c s fp)
        ∗ ⌜(pS s).view.read (Elt F) fp = dblk rd b⌝)

theorem dcB_read (b : Fin 5) (X : Buf (Elt F) (dcM.view.loc (c : Thread nD τ))) (y : S384x768.Idx) :
    (dcB b).view.read (Elt F) X y = dcM.view.read (Elt F) X (ix3 b (y 0) (y 1)) := by
  refine (congrFun (Memref.read_squeeze_slice dcM (Rect.unit (s := S5x384x768) (dcOff b) S1x384x768.size (dcOff_inb b)) (fun _ => rfl) squeezes_S1x384x768_S384x768 shapeCasts_S1x384x768_S384x768 X) y).trans ?_
  idx_vars y
  refine (pcast _ _ _ _).trans ((View.readAt_apply _ _ _).trans (congrArg (dcM.view.read (Elt F) X) (funext fun a => Fin.ext ?_)))
  fin_cases a
  · show b.val + 1 * 0 = b.val; omega
  · show 0 + 1 * y0.val = y0.val; omega
  · show 0 + 1 * y1.val = y1.val; omega

/-- Written over its whole place, a block reads as the result does there. -/
theorem dc_landed (b : Fin 5) (f) (v : S384x768.Idx → Elt F .bf16) (h : v = dblk rd b) :
    dcP c b ((dcB b).view.writes (Elt F) f [⟨Rect.whole S384x768, v⟩]) ⊢ dcP c b (dcRB c rd b) := by
  have e := pointsTo_rep (Ix := Unit) (Name := ℕ) (U := UU nD τ) (Lvl := ℕ) (c : Thread nD τ) (dcB b) (dcRB c rd b) fullShare
  refine BIBase.Entails.trans ?_ (entails_of_eq e.symm)
  refine pointsTo_rep_of_read (c : Thread nD τ) (dcB b) _ fullShare _ ?_
  rw [View.read_writes_whole, h]
  funext y
  refine Eq.trans ?_ (dcB_read c b (dcR c rd) y).symm
  unfold dcR
  exact (congrFun (View.read_rep dcM.view rd) _).symm

/-- A block on its way is a transfer to some piece of HBM, which delivers it. -/
theorem sentF_open (b : Fin 5) (s : Fin 2) : sentF c rd b s ⊢ ∃ (N : Memref sig .tc .hbm S384x768 .bf16) (Y : Buf (Elt F) (N.view.loc (c : Thread nD τ))) (fp : Buf (Elt F) ((pS s).view.loc (c : Thread nD τ))),
    Transfers.Flight countersEmb (c : Thread nD τ) (SemLoc.dma (psm s).sem) () 18432
          iprop((N.view.loc (c : Thread nD τ) ↦[N.view.set]{fullShare} Y) ∗ pP c s fp)
      ∗ ⌜(N.view.loc (c : Thread nD τ) ↦[N.view.set]{fullShare} Y) ⊢ (sentD c rd b : sProp 𝕄)⌝ := by
  unfold sentF sentD
  iintro ⟨%f, %fp, HF, %h⟩
  iexists _, _, _
  isplitl [HF]; · iexact HF
  ipureintro
  exact dc_landed c rd _ _ _ h

/-- The slot of block `q - 2`: idle before the first. -/
def dslot (q : ℕ) : sProp 𝕄 :=
  if q < 2 then iprop((∃ f, pP c (Ring.sl 2 q) f) ∗ pC c (Ring.sl 2 q)) else sentF c rd (Ring.bk 5 (q - 2)) (Ring.sl 2 q)
theorem dslot_lt {q : ℕ} (h : q < 2) : dslot c rd q = iprop((∃ f, pP c (Ring.sl 2 q) f) ∗ pC c (Ring.sl 2 q)) := if_pos h
theorem dslot_ge {q : ℕ} (h : ¬ q < 2) : dslot c rd q = sentF c rd (Ring.bk 5 (q - 2)) (Ring.sl 2 q) := if_neg h

/-- Before block `q` is made: the two before it are on their way. -/
def dstream (q : ℕ) : sProp 𝕄 :=
  iprop(bigSep (Ring.rangeSet 5 0 (q - 2)) (sentD c rd) ∗ bigSep (Ring.rangeSet 5 q 5) (sentI c) ∗ dslot c rd q ∗ dslot c rd (q + 1))
def dothers (q : ℕ) : sProp 𝕄 :=
  iprop(bigSep (Ring.rangeSet 5 0 (q - 2)) (sentD c rd) ∗ bigSep (Ring.rangeSet 5 (q + 1) 5) (sentI c) ∗ dslot c rd (q + 1))
theorem dstream_open (q : ℕ) (h : q < 5) (I O : sProp 𝕄) (eI : sentI c (Ring.bk 5 q) = I) (eO : dslot c rd q = O) :
    dstream c rd q ⊢ I ∗ O ∗ dothers c rd q := by
  subst eI eO
  unfold dstream dothers
  iintro ⟨HD, HI, HS, HN⟩
  ihave HI' := (entails_of_eq ((Ring.bigSep_rangeSet_head (NB := 5) (lo := q) (hi := 5) h h).trans
    (by rw [show Ring.bk 5 q = ⟨q, h⟩ from Fin.ext (Ring.bk_val h)] : _ = iprop(sentI c (Ring.bk 5 q) ∗ bigSep (Ring.rangeSet 5 (q + 1) 5) (sentI c))))) $$ HI
  icases HI' with ⟨HQ, HI⟩
  isplitl [HQ]; · iexact HQ
  isplitl [HS]; · iexact HS
  isplitl [HD]; · iexact HD
  isplitl [HI]; · iexact HI
  iexact HN
theorem sent (q : ℕ) (h : q < 5) (h2 : 2 ≤ q) :
    iprop(sentD c rd (Ring.bk 5 (q - 2)) ∗ bigSep (Ring.rangeSet 5 0 (q - 2)) (sentD c rd)) = bigSep (Ring.rangeSet 5 0 (q + 1 - 2)) (sentD c rd) := by
  refine Eq.symm ((Ring.bigSep_rangeSet_last (NB := 5) (lo := 0) (hi := q + 1 - 2) (by omega) (by omega)).trans ?_)
  have e : q + 1 - 2 - 1 = q - 2 := by omega
  have e' : (⟨q + 1 - 2 - 1, by omega⟩ : Fin 5) = Ring.bk 5 (q - 2) := Fin.ext ((show q + 1 - 2 - 1 = q - 2 from e).trans (Ring.bk_val (by omega)).symm)
  rw [e', e]
theorem dstream_close (q : ℕ) (h : q < 5) (h2 : 2 ≤ q) (O : sProp 𝕄) (q' : ℕ) (eq : q + 1 = q') (eO : sentF c rd (Ring.bk 5 q) (Ring.sl 2 q) = O) :
    iprop(O ∗ sentD c rd (Ring.bk 5 (q - 2)) ∗ dothers c rd q) ⊢ dstream c rd q' := by
  subst eO eq
  unfold dstream dothers
  iintro ⟨HF, HD', HD, HI, HN⟩
  isplitl [HD HD']
  · iapply (entails_of_eq (sent c rd q h h2))
    isplitl [HD']; · iexact HD'
    iexact HD
  isplitl [HI]; · iexact HI
  isplitl [HN]; · iexact HN
  iapply (entails_of_eq ((dslot_ge c rd (show ¬ q + 2 < 2 by omega)).trans (by rw [sl_two])).symm)
  iexact HF
theorem dstream_close_head (q : ℕ) (h2 : q < 2) (O : sProp 𝕄) (eO : sentF c rd (Ring.bk 5 q) (Ring.sl 2 q) = O) :
    iprop(O ∗ dothers c rd q) ⊢ dstream c rd (q + 1) := by
  subst eO
  unfold dstream dothers
  iintro ⟨HF, HD, HI, HN⟩
  isplitl [HD]
  · iapply (entails_of_eq (show bigSep (Ring.rangeSet 5 0 (q - 2)) (sentD c rd) = bigSep (Ring.rangeSet 5 0 (q + 1 - 2)) (sentD c rd) by
      rw [show q - 2 = 0 by omega, show q + 1 - 2 = 0 by omega]))
    iexact HD
  isplitl [HI]; · iexact HI
  isplitl [HN]; · iexact HN
  iapply (entails_of_eq ((dslot_ge c rd (show ¬ q + 2 < 2 by omega)).trans (by rw [sl_two])).symm)
  iexact HF

end Sent

/-- Before trip `k` of the loop that widens the first weight; -/
@[irreducible] def invW (fh : Buf (Elt F) (hM.view.loc (c : Thread nD τ))) (fn : Buf (Elt F) (nM.view.loc (c : Thread nD τ))) (k : ℕ) : sProp 𝕄 :=
  iprop(∃ fsw fw, hP c fh ∗ nP c fn ∗ swP c fsw ∗ wP c fw ∗ (∃ W, owes (c : Thread nD τ) 0 W) ∗ ⌜WFact c fh fn 0 (64 * k) fw⌝)
/-- of the loop that widens the latent, regroups the first gradient and starts the sum; -/
@[irreducible] def inv1 (fr : Buf (Elt F) (rM.view.loc (c : Thread nD τ))) (fl : Buf (Elt F) (lM.view.loc (c : Thread nD τ)))
    (fw : Buf (Elt F) (wM.view.loc (c : Thread nD τ))) (k : ℕ) : sProp 𝕄 :=
  iprop(∃ fs fg ft fa, sP c fs ∗ gP c fg ∗ wP c fw ∗ rP c fr ∗ lP c fl ∗ tP c ft ∗ aP c fa ∗ (∃ W, owes (c : Thread nD τ) 0 W) ∗ stream c XK XV (k + 1)
    ∗ ⌜SFact c XK XV k fs ∧ GFact c XK XV 0 k fg ∧ TFact c fr fl k ft ∧ AFact c XK XV fw k fa⌝)
/-- of the loop that regroups the second and ends the sum. -/
@[irreducible] def inv3 (rd : S5x384x768.Idx → Elt F .bf16) (fw : Buf (Elt F) (wM.view.loc (c : Thread nD τ))) (fa : Buf (Elt F) (aM.view.loc (c : Thread nD τ))) (k : ℕ) : sProp 𝕄 :=
  iprop(∃ fs fg, sP c fs ∗ gP c fg ∗ wP c fw ∗ aP c fa ∗ (∃ W, owes (c : Thread nD τ) 0 W) ∗ stream c XK XV (k + 6) ∗ dstream c rd k
    ∗ ⌜SFact c XK XV (5 + k) fs ∧ GFact c XK XV 5 k fg ∧ DSum c XK XV fw fa = rd⌝)

/-! ## The products -/

/-- Element `(r, h, d)` of the product of the latent (its words `Rv`, its scales `Lv`) and the gradient whose blocks begin at `o`. -/
def RW (fr : Buf (Elt F) (rM.view.loc (c : Thread nD τ))) (fl : Buf (Elt F) (lM.view.loc (c : Thread nD τ))) (o : ℕ) (y : S768x32x128.Idx) : Elt F .f32 :=
  have h1 : (y 1).val < 32 := (y 1).isLt
  have h2 : (y 2).val < 128 := (y 2).isLt
  matmul dot_S768x1920_S1920x256_S768x256_1_0_0_1_n_n none
    (fun i : S768x1920.Idx => have h : (i 1).val < 1920 := (i 1).isLt; TT c fr fl (ix3 ⟨(i 1).val / 128, by omega⟩ (i 0) ⟨(i 1).val % 128, by omega⟩))
    (fun i : S1920x256.Idx => have h : (i 0).val < 1920 := (i 0).isLt; have h1' : (i 1).val < 256 := (i 1).isLt
      GV c XK XV o (ix4 ⟨(i 0).val / 384, by omega⟩ ⟨2 * ((y 1).val / 2) + (i 1).val / 128, by omega⟩ ⟨(i 0).val % 384, by omega⟩ ⟨(i 1).val % 128, by omega⟩))
    (constant S768x256 .f32 0x00000000#32)
    (ix2 (y 0) ⟨128 * ((y 1).val % 2) + (y 2).val, by omega⟩)

theorem DW_eq {fr fl} {o : ℕ} {fg : Buf (Elt F) (gM.view.loc (c : Thread nD τ))} {ft : Buf (Elt F) (tM.view.loc (c : Thread nD τ))}
    (hg : GFact c XK XV o 5 fg) (ht : TFact c fr fl 5 ft) : DW c fg ft = RW c XK XV fr fl o := by
  funext y
  unfold DW RW
  have ea : amat c ft = fun i : S768x1920.Idx => have h : (i 1).val < 1920 := (i 1).isLt; TT c fr fl (ix3 ⟨(i 1).val / 128, by omega⟩ (i 0) ⟨(i 1).val % 128, by omega⟩) := by
    funext i
    have h : (i 1).val < 1920 := (i 1).isLt
    exact ht _ (show (i 1).val / 128 / 3 < 5 by omega)
  have h1 : (y 1).val < 32 := (y 1).isLt
  have eb : bmat c fg ⟨(y 1).val / 2, by omega⟩ = fun i : S1920x256.Idx => have h : (i 0).val < 1920 := (i 0).isLt; have h1' : (i 1).val < 256 := (i 1).isLt
      GV c XK XV o (ix4 ⟨(i 0).val / 384, by omega⟩ ⟨2 * ((y 1).val / 2) + (i 1).val / 128, by omega⟩ ⟨(i 0).val % 384, by omega⟩ ⟨(i 1).val % 128, by omega⟩) := by
    funext i
    have h : (i 0).val < 1920 := (i 0).isLt
    exact hg _ (show (i 0).val / 384 < 5 by omega)
  exact congrArg₂ (fun A B => matmul dot_S768x1920_S1920x256_S768x256_1_0_0_1_n_n none A B (constant S768x256 .f32 0x00000000#32) _) ea eb

/-! ## The stream of products -/

section Out
variable (rk rv : S768x32x128.Idx → Elt F .f32)

/-- The eight heads of group `g`. -/
def grpOf (w : S768x32x128.Idx → Elt F .f32) (g : Fin 4) : S768x8x128.Idx → Elt F .f32 :=
  fun y => w (ix3 (y 0) ⟨8 * g.val + (y 1).val, grp_lt g.isLt (y 1).isLt⟩ (y 2))

def wkR : Buf (Elt F) (wkM.view.loc (c : Thread nD τ)) := wkM.view.rep rk
def wvR : Buf (Elt F) (wvM.view.loc (c : Thread nD τ)) := wvM.view.rep rv

abbrev wkRG (g : Fin 4) : Buf (Elt F) ((wkG g).view.loc (c : Thread nD τ)) := wkR c rk
abbrev wvRG (g : Fin 4) : Buf (Elt F) ((wvG g).view.loc (c : Thread nD τ)) := wvR c rv

/-- Product `n` of the eight delivered; -/
def outD (n : Fin 8) : sProp 𝕄 := if n.val < 4 then wkP c (Ring.bk 4 n.val) (wkRG c rk _) else wvP c (Ring.bk 4 (n.val - 4)) (wvRG c rv _)
/-- its place before it is. -/
def outI (n : Fin 8) : sProp 𝕄 := if n.val < 4 then iprop(∃ f, wkP c (Ring.bk 4 n.val) f) else iprop(∃ f, wvP c (Ring.bk 4 (n.val - 4)) f)

/-- Product `n` on its way. -/
def outF (n : Fin 8) (s : Fin 2) : sProp 𝕄 :=
  if n.val < 4 then iprop(∃ f fo, Transfers.Flight countersEmb (c : Thread nD τ) (SemLoc.dma (osm s).sem) () (NN s)
          iprop(wkP c (Ring.bk 4 n.val) ((wkG (Ring.bk 4 n.val)).view.writes (Elt F) f [⟨Rect.whole S768x8x128, ReadAs.same.apply ((oS s).view.read (Elt F) fo)⟩]) ∗ oP c s fo)
        ∗ ⌜(oS s).view.read (Elt F) fo = grpOf rk (Ring.bk 4 n.val)⌝)
  else iprop(∃ f fo, Transfers.Flight countersEmb (c : Thread nD τ) (SemLoc.dma (osm s).sem) () (NN s)
          iprop(wvP c (Ring.bk 4 (n.val - 4)) ((wvG (Ring.bk 4 (n.val - 4))).view.writes (Elt F) f [⟨Rect.whole S768x8x128, ReadAs.same.apply ((oS s).view.read (Elt F) fo)⟩]) ∗ oP c s fo)
        ∗ ⌜(oS s).view.read (Elt F) fo = grpOf rv (Ring.bk 4 (n.val - 4))⌝)

theorem outI_wk {n : Fin 8} (k : ℕ) (h : n.val = k) (hk : k < 4) : outI (F := F) c n = iprop(∃ f, wkP c (Ring.bk 4 k) f) := by
  subst h; exact if_pos hk
theorem outI_wv {n : Fin 8} (k : ℕ) (h : n.val = k + 4) : outI (F := F) c n = iprop(∃ f, wvP c (Ring.bk 4 k) f) := by
  unfold outI; rw [if_neg (by omega), h]; rfl
theorem outF_wk {n : Fin 8} {s : Fin 2} (k : ℕ) (h : n.val = k) (hk : k < 4) : outF c rk rv n s
    = iprop(∃ f fo, Transfers.Flight countersEmb (c : Thread nD τ) (SemLoc.dma (osm s).sem) () (NN s)
          iprop(wkP c (Ring.bk 4 k) ((wkG (Ring.bk 4 k)).view.writes (Elt F) f [⟨Rect.whole S768x8x128, ReadAs.same.apply ((oS s).view.read (Elt F) fo)⟩]) ∗ oP c s fo)
        ∗ ⌜(oS s).view.read (Elt F) fo = grpOf rk (Ring.bk 4 k)⌝) := by
  subst h; exact if_pos hk
theorem outF_wv {n : Fin 8} {s : Fin 2} (k : ℕ) (h : n.val = k + 4) : outF c rk rv n s
    = iprop(∃ f fo, Transfers.Flight countersEmb (c : Thread nD τ) (SemLoc.dma (osm s).sem) () (NN s)
          iprop(wvP c (Ring.bk 4 k) ((wvG (Ring.bk 4 k)).view.writes (Elt F) f [⟨Rect.whole S768x8x128, ReadAs.same.apply ((oS s).view.read (Elt F) fo)⟩]) ∗ oP c s fo)
        ∗ ⌜(oS s).view.read (Elt F) fo = grpOf rv (Ring.bk 4 k)⌝) := by
  unfold outF; rw [if_neg (by omega), h]; rfl
theorem grp_of_read {fg : Buf (Elt F) (gM.view.loc (c : Thread nD τ))} {ft : Buf (Elt F) (tM.view.loc (c : Thread nD τ))} {w : S768x32x128.Idx → Elt F .f32}
    (hD : DW c fg ft = w) (k : ℕ) (hk : k < 4) {v : S768x8x128.Idx → Elt F .f32}
    (h : ∀ y : S768x8x128.Idx, v y = DW c fg ft (ix3 (y 0) ⟨8 * k + (y 1).val, grp_lt hk (y 1).isLt⟩ (y 2))) : v = grpOf w (Ring.bk 4 k) := by
  subst hD
  funext y
  rw [h]
  unfold grpOf
  refine congrArg (DW c fg ft) (funext fun a => Fin.ext ?_)
  fin_cases a
  · rfl
  · show 8 * k + (y 1).val = 8 * (Ring.bk 4 k).val + (y 1).val; rw [Ring.bk_val hk]
  · rfl

/-- Written over its whole group, a group reads as the result does there. -/
theorem wk_landed (g : Fin 4) (f) (v : S768x8x128.Idx → Elt F .f32) (h : v = grpOf rk g) :
    wkP c g ((wkG g).view.writes (Elt F) f [⟨Rect.whole S768x8x128, v⟩]) ⊢ wkP c g (wkRG c rk g) := by
  have e := pointsTo_rep (Ix := Unit) (Name := ℕ) (U := UU nD τ) (Lvl := ℕ) (c : Thread nD τ) (wkG g) (wkRG c rk g) fullShare
  refine BIBase.Entails.trans ?_ (entails_of_eq e.symm)
  refine pointsTo_rep_of_read (c : Thread nD τ) (wkG g) _ fullShare _ ?_
  rw [View.read_writes_whole, h]
  funext y
  unfold wkRG wkR
  refine Eq.trans ?_ (congrFun (View.read_rep wkM.view rk).symm _)
  unfold grpOf
  refine congrArg rk (funext fun a => Fin.ext ?_)
  fin_cases a
  · show (y 0).val = 0 + 1 * (y 0).val; omega
  · show 8 * g.val + (y 1).val = 8 * g.val + 1 * (y 1).val; omega
  · show (y 2).val = 0 + 1 * (y 2).val; omega
theorem wv_landed (g : Fin 4) (f) (v : S768x8x128.Idx → Elt F .f32) (h : v = grpOf rv g) :
    wvP c g ((wvG g).view.writes (Elt F) f [⟨Rect.whole S768x8x128, v⟩]) ⊢ wvP c g (wvRG c rv g) := by
  have e := pointsTo_rep (Ix := Unit) (Name := ℕ) (U := UU nD τ) (Lvl := ℕ) (c : Thread nD τ) (wvG g) (wvRG c rv g) fullShare
  refine BIBase.Entails.trans ?_ (entails_of_eq e.symm)
  refine pointsTo_rep_of_read (c : Thread nD τ) (wvG g) _ fullShare _ ?_
  rw [View.read_writes_whole, h]
  funext y
  unfold wvRG wvR
  refine Eq.trans ?_ (congrFun (View.read_rep wvM.view rv).symm _)
  unfold grpOf
  refine congrArg rv (funext fun a => Fin.ext ?_)
  fin_cases a
  · show (y 0).val = 0 + 1 * (y 0).val; omega
  · show 8 * g.val + (y 1).val = 8 * g.val + 1 * (y 1).val; omega
  · show (y 2).val = 0 + 1 * (y 2).val; omega

/-- A product on its way is a transfer of some piece of HBM, which delivers it. -/
theorem outF_open (n : Fin 8) (s : Fin 2) : outF c rk rv n s ⊢ ∃ (M : Memref sig .tc .hbm S768x8x128 .f32) (X : Buf (Elt F) (M.view.loc (c : Thread nD τ))) (fo : Buf (Elt F) ((oS s).view.loc (c : Thread nD τ))),
    Transfers.Flight countersEmb (c : Thread nD τ) (SemLoc.dma (osm s).sem) () (NN s)
          iprop((M.view.loc (c : Thread nD τ) ↦[M.view.set]{fullShare} X) ∗ oP c s fo)
      ∗ ⌜(M.view.loc (c : Thread nD τ) ↦[M.view.set]{fullShare} X) ⊢ (outD c rk rv n : sProp 𝕄)⌝ := by
  unfold outF outD
  split
  · iintro ⟨%f, %fo, HF, %h⟩
    iexists _, _, _
    isplitl [HF]; · iexact HF
    ipureintro
    exact wk_landed c rk _ _ _ h
  · iintro ⟨%f, %fo, HF, %h⟩
    iexists _, _, _
    isplitl [HF]; · iexact HF
    ipureintro
    exact wv_landed c rv _ _ _ h

/-- The slot of product `q - 2`: idle before the first. -/
def oslot (q : ℕ) : sProp 𝕄 :=
  if q < 2 then iprop((∃ f, oP c (Ring.sl 2 q) f) ∗ oC c (Ring.sl 2 q)) else outF c rk rv (Ring.bk 8 (q - 2)) (Ring.sl 2 q)

theorem oslot_lt {q : ℕ} (h : q < 2) : oslot c rk rv q = iprop((∃ f, oP c (Ring.sl 2 q) f) ∗ oC c (Ring.sl 2 q)) := if_pos h
theorem oslot_ge {q : ℕ} (h : ¬ q < 2) : oslot c rk rv q = outF c rk rv (Ring.bk 8 (q - 2)) (Ring.sl 2 q) := if_neg h

/-- Before product `q` is made: the two before it are on their way. -/
def ostream (q : ℕ) : sProp 𝕄 :=
  iprop(bigSep (Ring.rangeSet 8 0 (q - 2)) (outD c rk rv) ∗ bigSep (Ring.rangeSet 8 q 8) (outI c) ∗ oslot c rk rv q ∗ oslot c rk rv (q + 1))

def oothers (q : ℕ) : sProp 𝕄 :=
  iprop(bigSep (Ring.rangeSet 8 0 (q - 2)) (outD c rk rv) ∗ bigSep (Ring.rangeSet 8 (q + 1) 8) (outI c) ∗ oslot c rk rv (q + 1))
theorem ostream_open (q : ℕ) (h : q < 8) (I O : sProp 𝕄) (eI : outI c (Ring.bk 8 q) = I) (eO : oslot c rk rv q = O) :
    ostream c rk rv q ⊢ I ∗ O ∗ oothers c rk rv q := by
  subst eI eO
  unfold ostream oothers
  iintro ⟨HD, HI, HS, HN⟩
  ihave HI' := (entails_of_eq ((Ring.bigSep_rangeSet_head (NB := 8) (lo := q) (hi := 8) h h).trans
    (by rw [show Ring.bk 8 q = ⟨q, h⟩ from Fin.ext (Ring.bk_val h)] : _ = iprop(outI c (Ring.bk 8 q) ∗ bigSep (Ring.rangeSet 8 (q + 1) 8) (outI c))))) $$ HI
  icases HI' with ⟨HQ, HI⟩
  isplitl [HQ]; · iexact HQ
  isplitl [HS]; · iexact HS
  isplitl [HD]; · iexact HD
  isplitl [HI]; · iexact HI
  iexact HN
theorem delivered (q : ℕ) (h : q < 8) (h2 : 2 ≤ q) :
    iprop(outD c rk rv (Ring.bk 8 (q - 2)) ∗ bigSep (Ring.rangeSet 8 0 (q - 2)) (outD c rk rv)) = bigSep (Ring.rangeSet 8 0 (q + 1 - 2)) (outD c rk rv) := by
  refine Eq.symm ((Ring.bigSep_rangeSet_last (NB := 8) (lo := 0) (hi := q + 1 - 2) (by omega) (by omega)).trans ?_)
  have e : q + 1 - 2 - 1 = q - 2 := by omega
  have e' : (⟨q + 1 - 2 - 1, by omega⟩ : Fin 8) = Ring.bk 8 (q - 2) := Fin.ext ((show q + 1 - 2 - 1 = q - 2 from e).trans (Ring.bk_val (by omega)).symm)
  rw [e', e]
theorem ostream_close (q : ℕ) (h : q < 8) (h2 : 2 ≤ q) (O : sProp 𝕄) (q' : ℕ) (eq : q + 1 = q') (eO : outF c rk rv (Ring.bk 8 q) (Ring.sl 2 q) = O) :
    iprop(O ∗ outD c rk rv (Ring.bk 8 (q - 2)) ∗ oothers c rk rv q) ⊢ ostream c rk rv q' := by
  subst eO eq
  unfold ostream oothers
  iintro ⟨HF, HD', HD, HI, HN⟩
  isplitl [HD HD']
  · iapply (entails_of_eq (delivered c rk rv q h h2))
    isplitl [HD']; · iexact HD'
    iexact HD
  isplitl [HI]; · iexact HI
  isplitl [HN]; · iexact HN
  iapply (entails_of_eq ((oslot_ge c rk rv (show ¬ q + 2 < 2 by omega)).trans (by rw [sl_two])).symm)
  iexact HF
theorem ostream_close_head (q : ℕ) (h2 : q < 2) (O : sProp 𝕄) (eO : outF c rk rv (Ring.bk 8 q) (Ring.sl 2 q) = O) :
    iprop(O ∗ oothers c rk rv q) ⊢ ostream c rk rv (q + 1) := by
  subst eO
  unfold ostream oothers
  iintro ⟨HF, HD, HI, HN⟩
  isplitl [HD]
  · iapply (entails_of_eq (show bigSep (Ring.rangeSet 8 0 (q - 2)) (outD c rk rv) = bigSep (Ring.rangeSet 8 0 (q + 1 - 2)) (outD c rk rv) by
      rw [show q - 2 = 0 by omega, show q + 1 - 2 = 0 by omega]))
    iexact HD
  isplitl [HI]; · iexact HI
  isplitl [HN]; · iexact HN
  iapply (entails_of_eq ((oslot_ge c rk rv (show ¬ q + 2 < 2 by omega)).trans (by rw [sl_two])).symm)
  iexact HF

end Out

/-- Before trip `k` of the loop of the first product; -/
@[irreducible] def inv2 (rk rv : S768x32x128.Idx → Elt F .f32) (fg : Buf (Elt F) (gM.view.loc (c : Thread nD τ))) (ft : Buf (Elt F) (tM.view.loc (c : Thread nD τ)))
    (fh : Buf (Elt F) (hM.view.loc (c : Thread nD τ))) (fn : Buf (Elt F) (nM.view.loc (c : Thread nD τ))) (k : ℕ) : sProp 𝕄 :=
  iprop(∃ fsw fw, hP c fh ∗ nP c fn ∗ swP c fsw ∗ wP c fw ∗ gP c fg ∗ tP c ft ∗ (∃ W, owes (c : Thread nD τ) 0 W) ∗ ostream c rk rv k
    ∗ ⌜DW c fg ft = rk ∧ WFact c fh fn 1 (192 * k) fw⌝)
/-- of the second. -/
@[irreducible] def inv4 (rk rv : S768x32x128.Idx → Elt F .f32) (fg : Buf (Elt F) (gM.view.loc (c : Thread nD τ))) (ft : Buf (Elt F) (tM.view.loc (c : Thread nD τ))) (k : ℕ) : sProp 𝕄 :=
  iprop(gP c fg ∗ tP c ft ∗ (∃ W, owes (c : Thread nD τ) 0 W) ∗ ostream c rk rv (k + 4) ∗ ⌜DW c fg ft = rv⌝)

end Inv

end Cert.Proof.Kernel

end
-- ==== Proof.Kernel.Loops.lean ====
/-
  The four loops' invariants and their trips.
-/
module

public import proofs.«01_k».proof.Proof.Kernel.Trip1
public import proofs.«01_k».proof.Proof.Kernel.Trip2
public import proofs.«01_k».proof.Proof.Kernel.TripW
public import proofs.«01_k».proof.Proof.Kernel.Trip3
public import proofs.«01_k».proof.Proof.Kernel.Trip4
public import proofs.«01_k».proof.Proof.Kernel.Inv

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

set_option maxRecDepth 16384

section Steps
variable (c : Dev nD)
  (XK : Buf (Elt F) (dkM.view.loc (c : Thread nD τ))) (XV : Buf (Elt F) (dvM.view.loc (c : Thread nD τ)))
  (fr : Buf (Elt F) (rM.view.loc (c : Thread nD τ))) (fl : Buf (Elt F) (lM.view.loc (c : Thread nD τ)))

theorem sfact_of (n : ℕ) (h : n < 10) {fs : Buf (Elt F) (sM.view.loc (c : Thread nD τ))} (e : sM.view.read (Elt F) fs = blk c XK XV (Ring.bk 10 n)) :
    SFact c XK XV n fs := fun _ => e

theorem stepW (fh : Buf (Elt F) (hM.view.loc (c : Thread nD τ))) (fn : Buf (Elt F) (nM.view.loc (c : Thread nD τ))) (k : Fin k0_t1_loop.trips) :
    invW c fh fn k.val ⊢ wp frame (wpE (defs₀ (F := F)) 𝒱₀ (c : Thread nD τ) none) Set.univ (tripW k) (fun _ => invW c fh fn (k.val + 1)) := by
  unfold invW
  iintro ⟨%fsw, %fw, HH, HN, HSW, HWW, HW, %hw⟩
  iapply (wp_wand_r frame (wpE (defs₀ (F := F)) 𝒱₀ (c : Thread nD τ) none) Set.univ)
  isplitl [HH HN HSW HWW HW]
  · iapply (runW c k fh fn fsw fw)
    isplitl [HH]; · iexact HH
    isplitl [HN]; · iexact HN
    isplitl [HSW]; · iexact HSW
    isplitl [HWW]; · iexact HWW
    iexact HW
  iintro %_ ⟨%fsw', %fw', HH, HN, HSW, HWW, HW, %hu⟩
  iexists fsw', fw'
  isplitl [HH]; · iexact HH
  isplitl [HN]; · iexact HN
  isplitl [HSW]; · iexact HSW
  isplitl [HWW]; · iexact HWW
  isplitl [HW]; · iexact HW
  ipureintro
  refine wfact_next c hw hu fun x hx => ?_
  by_cases h : x < 64 * k.val
  · exact Or.inl h
  · exact Or.inr ⟨_, .head _, by omega⟩

theorem step1a (fw : Buf (Elt F) (wM.view.loc (c : Thread nD τ))) (k : Fin k0_t2_loop.trips) (hk : k.val < 2) :
    inv1 c XK XV fr fl fw k.val ⊢ wp frame (wpE (defs₀ (F := F)) 𝒱₀ (c : Thread nD τ) none) Set.univ (trip1 k) (fun _ => inv1 c XK XV fr fl fw (k.val + 1)) := by
  unfold inv1
  iintro ⟨%fs, %fg, %ft, %fa, HS, HG, HWW, HR, HL, HT, HA, HW, HB, %hA⟩
  obtain ⟨hs, hg, ht, ha⟩ := hA
  have eH : home c XK XV (Ring.bk 10 (k.val + 1 + 2)) = dkH c XK (Ring.bk 5 (k.val + 3)) := home_dk c XK XV (k.val + 3) (Ring.bk_val (by omega)) (by omega)
  have eB : blk c XK XV (Ring.bk 10 (k.val + 1 + 2)) = ReadAs.same.apply ((dkB (Ring.bk 5 (k.val + 3))).view.read (Elt F) XK) := blk_dk c XK XV (k.val + 3) (Ring.bk_val (by omega)) (by omega)
  ihave HB' := (stream_open c XK XV (k.val + 1) (by omega) (Ring.sl 2 (k.val + 1)) _ rfl eH) $$ HB
  icases HB' with ⟨HH, ⟨%f1, HF⟩, HZ⟩
  ihave HF' := (flightP_open c XK XV _ _ f1) $$ HF
  icases HF' with ⟨%M, %X, HF, %hX⟩
  iapply (wp_wand_r frame (wpE (defs₀ (F := F)) 𝒱₀ (c : Thread nD τ) none) Set.univ)
  isplitl [HS HG HWW HR HL HT HA HW HH HF]
  · iapply (run1 c XK fr fl k hk fs fg ft fw fa M X f1 (blk c XK XV (Ring.bk 10 (k.val + 1))))
    isplitl [HS]; · iexact HS
    isplitl [HG]; · iexact HG
    isplitl [HWW]; · iexact HWW
    isplitl [HR]; · iexact HR
    isplitl [HL]; · iexact HL
    isplitl [HT]; · iexact HT
    isplitl [HA]; · iexact HA
    isplitl [HW]; · iexact HW
    isplitl [HH]; · iexact HH
    iexact HF
  iintro %_ ⟨%fs', %fg', %ft', %fa', HS, HG, HWW, HR, HL, HT, HA, HW, HX, HF, %hA'⟩
  obtain ⟨hs', hg', ht', ha'⟩ := hA'
  iexists fs', fg', ft', fa'
  isplitl [HS]; · iexact HS
  isplitl [HG]; · iexact HG
  isplitl [HWW]; · iexact HWW
  isplitl [HR]; · iexact HR
  isplitl [HL]; · iexact HL
  isplitl [HT]; · iexact HT
  isplitl [HA]; · iexact HA
  isplitl [HW]; · iexact HW
  isplitl [HX HF HZ]
  · iapply (stream_close c XK XV (k.val + 1) (by omega) (Ring.sl 2 (k.val + 1)) _ _ (k.val + 1 + 1) (by omega) rfl eH eB)
    isplitl [HX]
    · iapply hX; iexact HX
    isplitl [HF]; · iexact HF
    iexact HZ
  ipureintro
  exact ⟨sfact_of c XK XV _ (by omega) hs', gfact_next c XK XV (by rw [Nat.zero_add]; exact hs) (by omega) hg hg', tfact_next c ht ht', afact_next c XK XV hs (by omega) ha ha'⟩

theorem step1b (fw : Buf (Elt F) (wM.view.loc (c : Thread nD τ))) (k : Fin k0_t2_loop.trips) (hk : 2 ≤ k.val) :
    inv1 c XK XV fr fl fw k.val ⊢ wp frame (wpE (defs₀ (F := F)) 𝒱₀ (c : Thread nD τ) none) Set.univ (trip1 k) (fun _ => inv1 c XK XV fr fl fw (k.val + 1)) := by
  have h5 : k.val < 5 := k.isLt
  unfold inv1
  iintro ⟨%fs, %fg, %ft, %fa, HS, HG, HWW, HR, HL, HT, HA, HW, HB, %hA⟩
  obtain ⟨hs, hg, ht, ha⟩ := hA
  have eH : home c XK XV (Ring.bk 10 (k.val + 1 + 2)) = dvH c XV (Ring.bk 5 (k.val - 2)) := home_dv c XK XV (k.val - 2) ((Ring.bk_val (by omega)).trans (by omega))
  have eB : blk c XK XV (Ring.bk 10 (k.val + 1 + 2)) = ReadAs.same.apply ((dvB (Ring.bk 5 (k.val - 2))).view.read (Elt F) XV) := blk_dv c XK XV (k.val - 2) ((Ring.bk_val (by omega)).trans (by omega))
  ihave HB' := (stream_open c XK XV (k.val + 1) (by omega) (Ring.sl 2 (k.val + 1)) _ rfl eH) $$ HB
  icases HB' with ⟨HH, ⟨%f1, HF⟩, HZ⟩
  ihave HF' := (flightP_open c XK XV _ _ f1) $$ HF
  icases HF' with ⟨%M, %X, HF, %hX⟩
  iapply (wp_wand_r frame (wpE (defs₀ (F := F)) 𝒱₀ (c : Thread nD τ) none) Set.univ)
  isplitl [HS HG HWW HR HL HT HA HW HH HF]
  · iapply (run1b c XV fr fl k hk fs fg ft fw fa M X f1 (blk c XK XV (Ring.bk 10 (k.val + 1))))
    isplitl [HS]; · iexact HS
    isplitl [HG]; · iexact HG
    isplitl [HWW]; · iexact HWW
    isplitl [HR]; · iexact HR
    isplitl [HL]; · iexact HL
    isplitl [HT]; · iexact HT
    isplitl [HA]; · iexact HA
    isplitl [HW]; · iexact HW
    isplitl [HH]; · iexact HH
    iexact HF
  iintro %_ ⟨%fs', %fg', %ft', %fa', HS, HG, HWW, HR, HL, HT, HA, HW, HX, HF, %hA'⟩
  obtain ⟨hs', hg', ht', ha'⟩ := hA'
  iexists fs', fg', ft', fa'
  isplitl [HS]; · iexact HS
  isplitl [HG]; · iexact HG
  isplitl [HWW]; · iexact HWW
  isplitl [HR]; · iexact HR
  isplitl [HL]; · iexact HL
  isplitl [HT]; · iexact HT
  isplitl [HA]; · iexact HA
  isplitl [HW]; · iexact HW
  isplitl [HX HF HZ]
  · iapply (stream_close c XK XV (k.val + 1) (by omega) (Ring.sl 2 (k.val + 1)) _ _ (k.val + 1 + 1) (by omega) rfl eH eB)
    isplitl [HX]
    · iapply hX; iexact HX
    isplitl [HF]; · iexact HF
    iexact HZ
  ipureintro
  exact ⟨sfact_of c XK XV _ (by omega) hs', gfact_next c XK XV (by rw [Nat.zero_add]; exact hs) (by omega) hg hg', tfact_next c ht ht', afact_next c XK XV hs (by omega) ha ha'⟩

theorem step3a (rd : S5x384x768.Idx → Elt F .bf16) (fw : Buf (Elt F) (wM.view.loc (c : Thread nD τ))) (fa : Buf (Elt F) (aM.view.loc (c : Thread nD τ)))
    (k : Fin k0_t4_loop.trips) (hk : k.val < 2) :
    inv3 c XK XV rd fw fa k.val ⊢ wp frame (wpE (defs₀ (F := F)) 𝒱₀ (c : Thread nD τ) none) Set.univ (trip3 k) (fun _ => inv3 c XK XV rd fw fa (k.val + 1)) := by
  unfold inv3
  iintro ⟨%fs, %fg, HS, HG, HWW, HA, HW, HB, HDS, %hA⟩
  obtain ⟨hs, hg, hd⟩ := hA
  ihave HDS' := (dstream_open c rd k.val (by omega) _ _ (show sentI (F := F) c (Ring.bk 5 k.val) = iprop(∃ f, dcP c (Ring.bk 5 k.val) f) from rfl) (dslot_lt c rd hk)) $$ HDS
  icases HDS' with ⟨⟨%fd, HD⟩, ⟨⟨%fp, HP⟩, HQ⟩, HDZ⟩
  have eH : home c XK XV (Ring.bk 10 (k.val + 6 + 2)) = dvH c XV (Ring.bk 5 (k.val + 3)) := home_dv c XK XV (k.val + 3) ((Ring.bk_val (by omega)).trans (by omega))
  have eB : blk c XK XV (Ring.bk 10 (k.val + 6 + 2)) = ReadAs.same.apply ((dvB (Ring.bk 5 (k.val + 3))).view.read (Elt F) XV) := blk_dv c XK XV (k.val + 3) ((Ring.bk_val (by omega)).trans (by omega))
  have eS : Ring.sl 2 (k.val + 6) = Ring.sl 2 k.val := by rw [sl_two (k.val + 4), sl_two (k.val + 2), sl_two]
  ihave HB' := (stream_open c XK XV (k.val + 6) (by omega) (Ring.sl 2 k.val) _ eS eH) $$ HB
  icases HB' with ⟨HH, ⟨%f1, HF⟩, HZ⟩
  ihave HF' := (flightP_open c XK XV _ _ f1) $$ HF
  icases HF' with ⟨%M, %X, HF, %hX⟩
  iapply (wp_wand_r frame (wpE (defs₀ (F := F)) 𝒱₀ (c : Thread nD τ) none) Set.univ)
  isplitl [HS HG HWW HA HD HP HQ HW HH HF]
  · iapply (run3 c XV k hk fs fg fw fa fd fp M X f1 (blk c XK XV (Ring.bk 10 (k.val + 6))))
    isplitl [HS]; · iexact HS
    isplitl [HG]; · iexact HG
    isplitl [HWW]; · iexact HWW
    isplitl [HA]; · iexact HA
    isplitl [HD]; · iexact HD
    isplitl [HP]; · iexact HP
    isplitl [HQ]; · iexact HQ
    isplitl [HW]; · iexact HW
    isplitl [HH]; · iexact HH
    iexact HF
  iintro %_ ⟨%fs', %fg', %fp', HS, HG, HWW, HA, HD, HW, HX, HF, %hA'⟩
  obtain ⟨hs', hg', hp'⟩ := hA'
  iexists fs', fg'
  isplitl [HS]; · iexact HS
  isplitl [HG]; · iexact HG
  isplitl [HWW]; · iexact HWW
  isplitl [HA]; · iexact HA
  isplitl [HW]; · iexact HW
  isplitl [HX HF HZ]
  · iapply (stream_close c XK XV (k.val + 6) (by omega) (Ring.sl 2 k.val) _ _ (k.val + 1 + 6) (by omega) eS eH eB)
    isplitl [HX]
    · iapply hX; iexact HX
    isplitl [HF]; · iexact HF
    iexact HZ
  isplitl [HD HDZ]
  · iapply (dstream_close_head c rd k.val hk _ rfl)
    isplitl [HD]
    · unfold sentF
      iexists _, _
      isplitl [HD]; · iexact HD
      ipureintro
      exact dblk_of c XK XV k.isLt hs hd hp'
    iexact HDZ
  ipureintro
  exact ⟨sfact_of c XK XV _ (by omega) (hs'.trans (congrArg (fun n => blk c XK XV (Ring.bk 10 n)) (by omega))), gfact_next c XK XV hs (by omega) hg hg', hd⟩

theorem step3b (rd : S5x384x768.Idx → Elt F .bf16) (fw : Buf (Elt F) (wM.view.loc (c : Thread nD τ))) (fa : Buf (Elt F) (aM.view.loc (c : Thread nD τ)))
    (k : Fin k0_t4_loop.trips) (hk : 2 ≤ k.val ∧ k.val < 4) :
    inv3 c XK XV rd fw fa k.val ⊢ wp frame (wpE (defs₀ (F := F)) 𝒱₀ (c : Thread nD τ) none) Set.univ (trip3 k) (fun _ => inv3 c XK XV rd fw fa (k.val + 1)) := by
  unfold inv3
  iintro ⟨%fs, %fg, HS, HG, HWW, HA, HW, HB, HDS, %hA⟩
  obtain ⟨hs, hg, hd⟩ := hA
  ihave HDS' := (dstream_open c rd k.val (by omega) _ _ (show sentI (F := F) c (Ring.bk 5 k.val) = iprop(∃ f, dcP c (Ring.bk 5 k.val) f) from rfl) (dslot_ge c rd (show ¬ k.val < 2 by omega))) $$ HDS
  icases HDS' with ⟨⟨%fd, HD⟩, HQ, HDZ⟩
  ihave HQ' := (sentF_open c rd _ _) $$ HQ
  icases HQ' with ⟨%N, %Y, %fp, HQ, %hY⟩
  have eS : Ring.sl 2 (k.val + 6) = Ring.sl 2 k.val := by rw [sl_two (k.val + 4), sl_two (k.val + 2), sl_two]
  ihave HB' := (stream_open_tail c XK XV (k.val + 6) (by omega) (Ring.sl 2 k.val) eS) $$ HB
  icases HB' with ⟨⟨%f1, HF⟩, HZ⟩
  ihave HF' := (flightP_open c XK XV _ _ f1) $$ HF
  icases HF' with ⟨%M, %X, HF, %hX⟩
  iapply (wp_wand_r frame (wpE (defs₀ (F := F)) 𝒱₀ (c : Thread nD τ) none) Set.univ)
  isplitl [HS HG HWW HA HD HQ HW HF]
  · iapply (run3b c k hk fs fg fw fa fd fp N Y M X f1 (blk c XK XV (Ring.bk 10 (k.val + 6))))
    isplitl [HS]; · iexact HS
    isplitl [HG]; · iexact HG
    isplitl [HWW]; · iexact HWW
    isplitl [HA]; · iexact HA
    isplitl [HD]; · iexact HD
    isplitl [HQ]; · iexact HQ
    isplitl [HW]; · iexact HW
    iexact HF
  iintro %_ ⟨%fs', %fg', %fp', HS, HG, HWW, HA, HY, HD, HW, HX, HF, HC, %hA'⟩
  obtain ⟨hs', hg', hp'⟩ := hA'
  iexists fs', fg'
  isplitl [HS]; · iexact HS
  isplitl [HG]; · iexact HG
  isplitl [HWW]; · iexact HWW
  isplitl [HA]; · iexact HA
  isplitl [HW]; · iexact HW
  isplitl [HX HF HC HZ]
  · iapply (stream_close_tail c XK XV (k.val + 6) (by omega) (by omega) (Ring.sl 2 k.val) (k.val + 1 + 6) (by omega) eS)
    isplitl [HX]
    · iapply hX; iexact HX
    isplitl [HF]; · iexact HF
    isplitl [HC]; · iexact HC
    iexact HZ
  isplitl [HD HDZ HY]
  · iapply (dstream_close c rd k.val (by omega) (by omega) _ _ rfl rfl)
    isplitl [HD]
    · unfold sentF
      iexists _, _
      isplitl [HD]; · iexact HD
      ipureintro
      exact dblk_of c XK XV k.isLt hs hd hp'
    isplitl [HY]
    · iapply hY; iexact HY
    iexact HDZ
  ipureintro
  exact ⟨sfact_of c XK XV _ (by omega) (hs'.trans (congrArg (fun n => blk c XK XV (Ring.bk 10 n)) (by omega))), gfact_next c XK XV hs (by omega) hg hg', hd⟩

theorem step3c (rd : S5x384x768.Idx → Elt F .bf16) (fw : Buf (Elt F) (wM.view.loc (c : Thread nD τ))) (fa : Buf (Elt F) (aM.view.loc (c : Thread nD τ)))
    (k : Fin k0_t4_loop.trips) (hk : k.val = 4) :
    inv3 c XK XV rd fw fa k.val ⊢ wp frame (wpE (defs₀ (F := F)) 𝒱₀ (c : Thread nD τ) none) Set.univ (trip3 k) (fun _ => inv3 c XK XV rd fw fa (k.val + 1)) := by
  unfold inv3
  iintro ⟨%fs, %fg, HS, HG, HWW, HA, HW, HB, HDS, %hA⟩
  obtain ⟨hs, hg, hd⟩ := hA
  ihave HDS' := (dstream_open c rd k.val (by omega) _ _ (show sentI (F := F) c (Ring.bk 5 k.val) = iprop(∃ f, dcP c (Ring.bk 5 k.val) f) from rfl) (dslot_ge c rd (show ¬ k.val < 2 by omega))) $$ HDS
  icases HDS' with ⟨⟨%fd, HD⟩, HQ, HDZ⟩
  ihave HQ' := (sentF_open c rd _ _) $$ HQ
  icases HQ' with ⟨%N, %Y, %fp, HQ, %hY⟩
  iapply (wp_wand_r frame (wpE (defs₀ (F := F)) 𝒱₀ (c : Thread nD τ) none) Set.univ)
  isplitl [HS HG HWW HA HD HQ HW]
  · iapply (run3c c k hk fs fg fw fa fd fp N Y)
    isplitl [HS]; · iexact HS
    isplitl [HG]; · iexact HG
    isplitl [HWW]; · iexact HWW
    isplitl [HA]; · iexact HA
    isplitl [HD]; · iexact HD
    isplitl [HQ]; · iexact HQ
    iexact HW
  iintro %_ ⟨%fs', %fg', %fp', HS, HG, HWW, HA, HY, HD, HW, %hA'⟩
  obtain ⟨hs', hg', hp'⟩ := hA'
  iexists fs', fg'
  isplitl [HS]; · iexact HS
  isplitl [HG]; · iexact HG
  isplitl [HWW]; · iexact HWW
  isplitl [HA]; · iexact HA
  isplitl [HW]; · iexact HW
  isplitl [HB]
  · iapply (entails_of_eq (show stream c XK XV 11 = stream c XK XV (k.val + 1 + 6) by rw [hk]))
    iapply (stream_end c XK XV)
    iapply (entails_of_eq (show stream c XK XV (k.val + 6) = stream c XK XV 10 by rw [hk]))
    iexact HB
  isplitl [HD HDZ HY]
  · iapply (dstream_close c rd k.val (by omega) (by omega) _ _ rfl rfl)
    isplitl [HD]
    · unfold sentF
      iexists _, _
      isplitl [HD]; · iexact HD
      ipureintro
      exact dblk_of c XK XV k.isLt hs hd hp'
    isplitl [HY]
    · iapply hY; iexact HY
    iexact HDZ
  ipureintro
  exact ⟨fun h => absurd h (by omega), gfact_next c XK XV hs (by omega) hg hg', hd⟩

theorem rows_next (k x : ℕ) (h : x < 192 * (k + 1)) : x < 192 * k
    ∨ ∃ r ∈ [192 * k + 64 * (2 : Fin 3).val, 192 * k + 64 * (1 : Fin 3).val, 192 * k + 64 * (0 : Fin 3).val], r ≤ x ∧ x < r + 64 := by
  by_cases h0 : x < 192 * k
  · exact Or.inl h0
  right
  by_cases h1 : x < 192 * k + 64
  · exact ⟨_, .tail _ (.tail _ (.head _)), by show 192 * k + 64 * 0 ≤ x ∧ x < 192 * k + 64 * 0 + 64; omega⟩
  by_cases h2 : x < 192 * k + 128
  · exact ⟨_, .tail _ (.head _), by show 192 * k + 64 * 1 ≤ x ∧ x < 192 * k + 64 * 1 + 64; omega⟩
  · exact ⟨_, .head _, by show 192 * k + 64 * 2 ≤ x ∧ x < 192 * k + 64 * 2 + 64; omega⟩

theorem step2a (rk rv : S768x32x128.Idx → Elt F .f32) (fg : Buf (Elt F) (gM.view.loc (c : Thread nD τ))) (ft : Buf (Elt F) (tM.view.loc (c : Thread nD τ)))
    (fh : Buf (Elt F) (hM.view.loc (c : Thread nD τ))) (fn : Buf (Elt F) (nM.view.loc (c : Thread nD τ)))
    (k : Fin k0_t3_loop.trips) (hk : k.val < 2) :
    inv2 c rk rv fg ft fh fn k.val ⊢ wp frame (wpE (defs₀ (F := F)) 𝒱₀ (c : Thread nD τ) none) Set.univ (trip2 k) (fun _ => inv2 c rk rv fg ft fh fn (k.val + 1)) := by
  unfold inv2
  iintro ⟨%fsw, %fw, HH, HN, HSW, HWW, HG, HT, HW, HB, %hA⟩
  obtain ⟨hD, hw⟩ := hA
  ihave HB' := (ostream_open c rk rv k.val (by omega) _ _ (outI_wk c (n := Ring.bk 8 k.val) k.val (Ring.bk_val (by omega)) (by omega)) (oslot_lt c rk rv hk)) $$ HB
  icases HB' with ⟨HI, HO, HZ⟩
  icases HI with ⟨%f1, HI⟩
  icases HO with ⟨⟨%fo, HO⟩, HC⟩
  iapply (wp_wand_r frame (wpE (defs₀ (F := F)) 𝒱₀ (c : Thread nD τ) none) Set.univ)
  isplitl [HH HN HSW HWW HG HT HW HI HO HC]
  · iapply (run2a c k hk fg ft fh fn fsw fw fo f1)
    isplitl [HH]; · iexact HH
    isplitl [HN]; · iexact HN
    isplitl [HSW]; · iexact HSW
    isplitl [HWW]; · iexact HWW
    isplitl [HG]; · iexact HG
    isplitl [HT]; · iexact HT
    isplitl [HW]; · iexact HW
    isplitl [HI]; · iexact HI
    isplitl [HO]; · iexact HO
    iexact HC
  iintro %_ ⟨%fo', %fsw', %fw', HH, HN, HSW, HWW, HG, HT, HW, HF, %h, %hu⟩
  iexists fsw', fw'
  isplitl [HH]; · iexact HH
  isplitl [HN]; · iexact HN
  isplitl [HSW]; · iexact HSW
  isplitl [HWW]; · iexact HWW
  isplitl [HG]; · iexact HG
  isplitl [HT]; · iexact HT
  isplitl [HW]; · iexact HW
  isplitl [HF HZ]
  · iapply (ostream_close_head c rk rv k.val hk _ (outF_wk c rk rv (n := Ring.bk 8 k.val) k.val (Ring.bk_val (by omega)) (by omega)))
    isplitl [HF]
    · iexists _, _
      isplitl [HF]; · iexact HF
      ipureintro
      exact grp_of_read c hD k.val (by omega) h
    iexact HZ
  ipureintro
  exact ⟨hD, wfact_next c hw hu (rows_next k.val)⟩

theorem step2b (rk rv : S768x32x128.Idx → Elt F .f32) (fg : Buf (Elt F) (gM.view.loc (c : Thread nD τ))) (ft : Buf (Elt F) (tM.view.loc (c : Thread nD τ)))
    (fh : Buf (Elt F) (hM.view.loc (c : Thread nD τ))) (fn : Buf (Elt F) (nM.view.loc (c : Thread nD τ)))
    (k : Fin k0_t3_loop.trips) (hk : 2 ≤ k.val) :
    inv2 c rk rv fg ft fh fn k.val ⊢ wp frame (wpE (defs₀ (F := F)) 𝒱₀ (c : Thread nD τ) none) Set.univ (trip2 k) (fun _ => inv2 c rk rv fg ft fh fn (k.val + 1)) := by
  have h4 : k.val < 4 := k.isLt
  unfold inv2
  iintro ⟨%fsw, %fw, HH, HN, HSW, HWW, HG, HT, HW, HB, %hA⟩
  obtain ⟨hD, hw⟩ := hA
  ihave HB' := (ostream_open c rk rv k.val (by omega) _ _ (outI_wk c (n := Ring.bk 8 k.val) k.val (Ring.bk_val (by omega)) (by omega)) (oslot_ge c rk rv (show ¬ k.val < 2 by omega))) $$ HB
  icases HB' with ⟨HI, HO, HZ⟩
  icases HI with ⟨%f1, HI⟩
  ihave HO' := (outF_open c rk rv _ _) $$ HO
  icases HO' with ⟨%M, %X, %fo, HF, %hX⟩
  iapply (wp_wand_r frame (wpE (defs₀ (F := F)) 𝒱₀ (c : Thread nD τ) none) Set.univ)
  isplitl [HH HN HSW HWW HG HT HW HI HF]
  · iapply (run2 c k hk fg ft fh fn fsw fw M X fo f1)
    isplitl [HH]; · iexact HH
    isplitl [HN]; · iexact HN
    isplitl [HSW]; · iexact HSW
    isplitl [HWW]; · iexact HWW
    isplitl [HG]; · iexact HG
    isplitl [HT]; · iexact HT
    isplitl [HW]; · iexact HW
    isplitl [HI]; · iexact HI
    iexact HF
  iintro %_ ⟨%fo', %fsw', %fw', HH, HN, HSW, HWW, HG, HT, HW, HX, HF, %h, %hu⟩
  iexists fsw', fw'
  isplitl [HH]; · iexact HH
  isplitl [HN]; · iexact HN
  isplitl [HSW]; · iexact HSW
  isplitl [HWW]; · iexact HWW
  isplitl [HG]; · iexact HG
  isplitl [HT]; · iexact HT
  isplitl [HW]; · iexact HW
  isplitl [HF HX HZ]
  · iapply (ostream_close c rk rv k.val (by omega) hk _ _ rfl (outF_wk c rk rv (n := Ring.bk 8 k.val) k.val (Ring.bk_val (by omega)) (by omega)))
    isplitl [HF]
    · iexists _, _
      isplitl [HF]; · iexact HF
      ipureintro
      exact grp_of_read c hD k.val (by omega) h
    isplitl [HX]
    · iapply hX; iexact HX
    iexact HZ
  ipureintro
  exact ⟨hD, wfact_next c hw hu (rows_next k.val)⟩

theorem step4 (rk rv : S768x32x128.Idx → Elt F .f32) (fg : Buf (Elt F) (gM.view.loc (c : Thread nD τ))) (ft : Buf (Elt F) (tM.view.loc (c : Thread nD τ)))
    (k : Fin k0_t5_loop.trips) :
    inv4 c rk rv fg ft k.val ⊢ wp frame (wpE (defs₀ (F := F)) 𝒱₀ (c : Thread nD τ) none) Set.univ (trip4 k) (fun _ => inv4 c rk rv fg ft (k.val + 1)) := by
  have h4 : k.val < 4 := k.isLt
  unfold inv4
  iintro ⟨HG, HT, HW, HB, %hD⟩
  have eS : Ring.sl 2 (k.val + 4) = Ring.sl 2 k.val := by rw [sl_two (k.val + 2), sl_two]
  ihave HB' := (ostream_open c rk rv (k.val + 4) (by omega) _ _ (outI_wv c (n := Ring.bk 8 (k.val + 4)) k.val (Ring.bk_val (by omega)))
    ((oslot_ge c rk rv (show ¬ k.val + 4 < 2 by omega)).trans (congrArg _ eS))) $$ HB
  icases HB' with ⟨HI, HO, HZ⟩
  icases HI with ⟨%f1, HI⟩
  ihave HO' := (outF_open c rk rv _ _) $$ HO
  icases HO' with ⟨%M, %X, %fo, HF, %hX⟩
  iapply (wp_wand_r frame (wpE (defs₀ (F := F)) 𝒱₀ (c : Thread nD τ) none) Set.univ)
  isplitl [HG HT HW HI HF]
  · iapply (run4 c k fg ft M X fo f1)
    isplitl [HG]; · iexact HG
    isplitl [HT]; · iexact HT
    isplitl [HW]; · iexact HW
    isplitl [HI]; · iexact HI
    iexact HF
  iintro %_ ⟨%fo', HG, HT, HW, HX, HF, %h⟩
  isplitl [HG]; · iexact HG
  isplitl [HT]; · iexact HT
  isplitl [HW]; · iexact HW
  isplitl [HF HX HZ]
  · iapply (ostream_close c rk rv (k.val + 4) (by omega) (by omega) _ (k.val + 1 + 4) (by omega) ((congrArg _ eS).trans (outF_wv c rk rv (n := Ring.bk 8 (k.val + 4)) k.val (Ring.bk_val (by omega)))))
    isplitl [HF]
    · iexists _, _
      isplitl [HF]; · iexact HF
      ipureintro
      exact grp_of_read c hD k.val (by omega) h
    isplitl [HX]
    · iapply hX; iexact HX
    iexact HZ
  ipureintro
  exact hD

end Steps

section Invariants
variable (c : Dev nD)

set_option maxHeartbeats 4000000 in
set_option warn.classDefReducibility false in
@[sl_loop] def loopW (fh : Buf (Elt F) (hM.view.loc (c : Thread nD τ))) (fn : Buf (Elt F) (nM.view.loc (c : Thread nD τ))) :
    LoopInvTy_k0_t1 (F := F) Unit ℕ (UU nD τ) ℕ 𝒱₀ c none Set.univ
    dkM (Memref.isWhole_whole _) dvM (Memref.isWhole_whole _) ccM (Memref.isWhole_whole _) csM (Memref.isWhole_whole _)
    ukM (Memref.isWhole_whole _) usM (Memref.isWhole_whole _) uvM (Memref.isWhole_whole _) vsM (Memref.isWhole_whole _) dcM (Memref.isWhole_whole _)
    wkM (Memref.isWhole_whole _) wvM (Memref.isWhole_whole _) xM (Memref.isWhole_whole _) sM (Memref.isWhole_whole _) gM (Memref.isWhole_whole _)
    hM (Memref.isWhole_whole _) iM (Memref.isWhole_whole _) nM (Memref.isWhole_whole _) swM (Memref.isWhole_whole _) wM (Memref.isWhole_whole _)
    rM (Memref.isWhole_whole _) lM (Memref.isWhole_whole _) tM (Memref.isWhole_whole _) aM (Memref.isWhole_whole _) pM (Memref.isWhole_whole _)
    oM (Memref.isWhole_whole _) cc0_scratch14 cc0_scratch15 cc0_scratch16 cc0_scratch17 cc0_scratch18 cc0_scratch19 where
  inv k _ := invW c fh fn k
  step k _ := stepW c fh fn k

set_option maxHeartbeats 4000000 in
set_option warn.classDefReducibility false in
@[sl_loop] def loop1 (XK : Buf (Elt F) (dkM.view.loc (c : Thread nD τ))) (XV : Buf (Elt F) (dvM.view.loc (c : Thread nD τ)))
    (fr : Buf (Elt F) (rM.view.loc (c : Thread nD τ))) (fl : Buf (Elt F) (lM.view.loc (c : Thread nD τ)))
    (fw : Buf (Elt F) (wM.view.loc (c : Thread nD τ))) :
    LoopInvTy_k0_t2 (F := F) Unit ℕ (UU nD τ) ℕ 𝒱₀ c none Set.univ
    dkM (Memref.isWhole_whole _) dvM (Memref.isWhole_whole _) ccM (Memref.isWhole_whole _) csM (Memref.isWhole_whole _)
    ukM (Memref.isWhole_whole _) usM (Memref.isWhole_whole _) uvM (Memref.isWhole_whole _) vsM (Memref.isWhole_whole _) dcM (Memref.isWhole_whole _)
    wkM (Memref.isWhole_whole _) wvM (Memref.isWhole_whole _) xM (Memref.isWhole_whole _) sM (Memref.isWhole_whole _) gM (Memref.isWhole_whole _)
    hM (Memref.isWhole_whole _) iM (Memref.isWhole_whole _) nM (Memref.isWhole_whole _) swM (Memref.isWhole_whole _) wM (Memref.isWhole_whole _)
    rM (Memref.isWhole_whole _) lM (Memref.isWhole_whole _) tM (Memref.isWhole_whole _) aM (Memref.isWhole_whole _) pM (Memref.isWhole_whole _)
    oM (Memref.isWhole_whole _) cc0_scratch14 cc0_scratch15 cc0_scratch16 cc0_scratch17 cc0_scratch18 cc0_scratch19 where
  inv k _ := inv1 c XK XV fr fl fw k
  step k acc := by
    cases acc
    rcases Nat.lt_or_ge k.val 2 with hk | hk
    · exact step1a c XK XV fr fl fw k hk
    · exact step1b c XK XV fr fl fw k hk

set_option maxHeartbeats 4000000 in
set_option warn.classDefReducibility false in
@[sl_loop] def loop2 (rk rv : S768x32x128.Idx → Elt F .f32) (fg : Buf (Elt F) (gM.view.loc (c : Thread nD τ))) (ft : Buf (Elt F) (tM.view.loc (c : Thread nD τ)))
    (fh : Buf (Elt F) (hM.view.loc (c : Thread nD τ))) (fn : Buf (Elt F) (nM.view.loc (c : Thread nD τ))) :
    LoopInvTy_k0_t3 (F := F) Unit ℕ (UU nD τ) ℕ 𝒱₀ c none Set.univ
    dkM (Memref.isWhole_whole _) dvM (Memref.isWhole_whole _) ccM (Memref.isWhole_whole _) csM (Memref.isWhole_whole _)
    ukM (Memref.isWhole_whole _) usM (Memref.isWhole_whole _) uvM (Memref.isWhole_whole _) vsM (Memref.isWhole_whole _) dcM (Memref.isWhole_whole _)
    wkM (Memref.isWhole_whole _) wvM (Memref.isWhole_whole _) xM (Memref.isWhole_whole _) sM (Memref.isWhole_whole _) gM (Memref.isWhole_whole _)
    hM (Memref.isWhole_whole _) iM (Memref.isWhole_whole _) nM (Memref.isWhole_whole _) swM (Memref.isWhole_whole _) wM (Memref.isWhole_whole _)
    rM (Memref.isWhole_whole _) lM (Memref.isWhole_whole _) tM (Memref.isWhole_whole _) aM (Memref.isWhole_whole _) pM (Memref.isWhole_whole _)
    oM (Memref.isWhole_whole _) cc0_scratch14 cc0_scratch15 cc0_scratch16 cc0_scratch17 cc0_scratch18 cc0_scratch19 where
  inv k _ := inv2 c rk rv fg ft fh fn k
  step k acc := by
    cases acc
    rcases Nat.lt_or_ge k.val 2 with hk | hk
    · exact step2a c rk rv fg ft fh fn k hk
    · exact step2b c rk rv fg ft fh fn k hk

set_option maxHeartbeats 4000000 in
set_option warn.classDefReducibility false in
@[sl_loop] def loop3 (XK : Buf (Elt F) (dkM.view.loc (c : Thread nD τ))) (XV : Buf (Elt F) (dvM.view.loc (c : Thread nD τ)))
    (rd : S5x384x768.Idx → Elt F .bf16) (fw : Buf (Elt F) (wM.view.loc (c : Thread nD τ))) (fa : Buf (Elt F) (aM.view.loc (c : Thread nD τ))) :
    LoopInvTy_k0_t4 (F := F) Unit ℕ (UU nD τ) ℕ 𝒱₀ c none Set.univ
    dkM (Memref.isWhole_whole _) dvM (Memref.isWhole_whole _) ccM (Memref.isWhole_whole _) csM (Memref.isWhole_whole _)
    ukM (Memref.isWhole_whole _) usM (Memref.isWhole_whole _) uvM (Memref.isWhole_whole _) vsM (Memref.isWhole_whole _) dcM (Memref.isWhole_whole _)
    wkM (Memref.isWhole_whole _) wvM (Memref.isWhole_whole _) xM (Memref.isWhole_whole _) sM (Memref.isWhole_whole _) gM (Memref.isWhole_whole _)
    hM (Memref.isWhole_whole _) iM (Memref.isWhole_whole _) nM (Memref.isWhole_whole _) swM (Memref.isWhole_whole _) wM (Memref.isWhole_whole _)
    rM (Memref.isWhole_whole _) lM (Memref.isWhole_whole _) tM (Memref.isWhole_whole _) aM (Memref.isWhole_whole _) pM (Memref.isWhole_whole _)
    oM (Memref.isWhole_whole _) cc0_scratch14 cc0_scratch15 cc0_scratch16 cc0_scratch17 cc0_scratch18 cc0_scratch19 where
  inv k _ := inv3 c XK XV rd fw fa k
  step k acc := by
    cases acc
    have h5 : k.val < 5 := k.isLt
    rcases Nat.lt_or_ge k.val 2 with hk | hk
    · exact step3a c XK XV rd fw fa k hk
    · rcases Nat.lt_or_ge k.val 4 with hk' | hk'
      · exact step3b c XK XV rd fw fa k ⟨hk, hk'⟩
      · exact step3c c XK XV rd fw fa k (by omega)

set_option maxHeartbeats 4000000 in
set_option warn.classDefReducibility false in
@[sl_loop] def loop4 (rk rv : S768x32x128.Idx → Elt F .f32) (fg : Buf (Elt F) (gM.view.loc (c : Thread nD τ))) (ft : Buf (Elt F) (tM.view.loc (c : Thread nD τ))) :
    LoopInvTy_k0_t5 (F := F) Unit ℕ (UU nD τ) ℕ 𝒱₀ c none Set.univ
    dkM (Memref.isWhole_whole _) dvM (Memref.isWhole_whole _) ccM (Memref.isWhole_whole _) csM (Memref.isWhole_whole _)
    ukM (Memref.isWhole_whole _) usM (Memref.isWhole_whole _) uvM (Memref.isWhole_whole _) vsM (Memref.isWhole_whole _) dcM (Memref.isWhole_whole _)
    wkM (Memref.isWhole_whole _) wvM (Memref.isWhole_whole _) xM (Memref.isWhole_whole _) sM (Memref.isWhole_whole _) gM (Memref.isWhole_whole _)
    hM (Memref.isWhole_whole _) iM (Memref.isWhole_whole _) nM (Memref.isWhole_whole _) swM (Memref.isWhole_whole _) wM (Memref.isWhole_whole _)
    rM (Memref.isWhole_whole _) lM (Memref.isWhole_whole _) tM (Memref.isWhole_whole _) aM (Memref.isWhole_whole _) pM (Memref.isWhole_whole _)
    oM (Memref.isWhole_whole _) cc0_scratch14 cc0_scratch15 cc0_scratch16 cc0_scratch17 cc0_scratch18 cc0_scratch19 where
  inv k _ := inv4 c rk rv fg ft k
  step k _ := step4 c rk rv fg ft k

end Invariants

end Cert.Proof.Kernel

end
-- ==== Proof.Kernel.Scale.lean ====
/-
  The scales of the weights: the column a masked sum makes of a row of scales, and what the twelve stores leave.
-/
module

public import proofs.«01_k».proof.Proof.Kernel.Dc

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

set_option maxRecDepth 16384

section Scale
variable (c : Dev nD)

/-- Row `rb` of a weight's scales. -/
def srow (v : S6x32.Idx → Elt F .f32) (rb : Fin 6) : Vec F S1x1x32 .f32 := fun y => v (ix2 rb (y 2))

/-- The scales as the kernel keeps them: of matrix `y 0`, rank block `y 1`, one column for each head, over all lanes. -/
def NW (us vs : S6x32.Idx → Elt F .f32) (y : S2x6x32x128.Idx) : Elt F .bf16 :=
  k0_pay409 (srow (if (y 0).val = 0 then us else vs) (y 1)) (ix4 0 0 (y 2) (y 3))

theorem casts_row : S1x6x32.ShapeCasts S6x32 := by decide

theorem icast {α : Type} (v : S1x6x32.Idx → α) (h) (r : Fin 6) (l : Fin 32) : shapeCast S6x32 v h (ix2 r l) = v (ix3 0 r l) := by
  pointwise

/-- The row loaded from the scales' slot `s` is the row that was delivered there. -/
theorem row_after (s : Fin 2) (rb : Fin 6) (off : Fin 3 → ℕ) (e : off = ![s.val, rb.val, 0]) (inb) (f : Buf (Elt F) ((iS s).view.loc (c : Thread nD τ))) (P : S6x32.Idx → Elt F .f32) :
    iM.view.readAt (Elt F) (Rect.unit (s := S2x6x32) off S1x1x32.size inb).toLoadRect ((iS s).view.writes (Elt F) f [⟨Rect.whole S6x32, P⟩]) = srow P rb := by
  subst e
  have h1 := View.read_writes_whole (iS s).view f P
  revert h1
  generalize (iS s).view.writes (Elt F) f [⟨Rect.whole S6x32, P⟩] = C
  intro h1
  subst h1
  funext y
  have hy0 : (y 0).val < 1 := (y 0).isLt
  have hy1 : (y 1).val < 1 := (y 1).isLt
  unfold srow
  refine Eq.trans ?_ (congrFun (Memref.read_squeeze_slice iM (Rect.unit (s := S2x6x32) (iOff s) S1x6x32.size (iOff_inb s)) (fun _ => rfl) squeezes_S1x6x32_S6x32 casts_row C) (ix2 rb (y 2))).symm
  refine (View.readAt_apply _ _ _).trans (Eq.trans ?_ ((icast _ _ _ _).trans (View.readAt_apply _ _ _)).symm)
  refine congrArg (iM.view.read (Elt F) C) (funext fun a => Fin.ext ?_)
  fin_cases a
  · show s.val + 1 * (y 0).val = s.val + 1 * 0; omega
  · show rb.val + 1 * (y 1).val = 0 + 1 * rb.val; omega
  · show 0 + 1 * (y 2).val = 0 + 1 * (y 2).val; rfl

/-- One store of the scales. -/
def IsN (us vs : S6x32.Idx → Elt F .f32) (i : Fin 2 × Fin 6) (p : View.Piece (Elt F) S2x6x32x128 .bf16) : Prop :=
  ∃ off inb, off = ![i.1.val, i.2.val, 0, 0] ∧ p = ⟨Rect.unit (s := S2x6x32x128) off S1x1x32x128.size inb, k0_pay409 (srow (if i.1.val = 0 then us else vs) i.2)⟩

abbrev nkeys : List (Fin 2 × Fin 6) := [(1, 5), (1, 4), (1, 3), (1, 2), (1, 1), (1, 0), (0, 5), (0, 4), (0, 3), (0, 2), (0, 1), (0, 0)]
theorem mem_nkeys : ∀ i, i ∈ nkeys := by decide

theorem mem_unitN {off : Fin 4 → ℕ} (y : S2x6x32x128.Idx) (k h : ℕ) (e : off = ![k, h, 0, 0]) (inb) :
    y ∈ (Rect.unit (s := S2x6x32x128) off S1x1x32x128.size inb).set ↔ (y 0).val = k ∧ (y 1).val = h := by
  subst e
  rw [Rect.mem_set_unit]
  have h2 : (y 2).val < 32 := (y 2).isLt
  have h3 : (y 3).val < 128 := (y 3).isLt
  constructor
  · intro H
    have a0 : k ≤ (y 0).val ∧ (y 0).val < k + 1 := H 0
    have a1 : h ≤ (y 1).val ∧ (y 1).val < h + 1 := H 1
    omega
  · intro H i; fin_cases i
    · show k ≤ (y 0).val ∧ (y 0).val < k + 1; omega
    · show h ≤ (y 1).val ∧ (y 1).val < h + 1; omega
    · show 0 ≤ (y 2).val ∧ (y 2).val < 0 + 32; omega
    · show 0 ≤ (y 3).val ∧ (y 3).val < 0 + 128; omega

theorem n_after (f : Buf (Elt F) (nM.view.loc (c : Thread nD τ))) (us vs : S6x32.Idx → Elt F .f32)
    {L : List (View.Piece (Elt F) S2x6x32x128 .bf16)} (h : List.Forall₂ (IsN us vs) nkeys L) :
    nM.view.read (Elt F) (nM.view.writes (Elt F) f L) = NW us vs := by
  have h := forall₂_mem h
  funext y
  refine View.read_writes_apply_of_pieces _ _ (NW us vs) L (fun p hp x => ?_) y ?_
  · obtain ⟨a, -, off, inb, e, rfl⟩ := h.1 p hp
    subst e
    have h0 : (x 0).val < 1 := (x 0).isLt
    have h1 : (x 1).val < 1 := (x 1).isLt
    have e0 : (Rect.unit (s := S2x6x32x128) ![a.1.val, a.2.val, 0, 0] S1x1x32x128.size inb).emb x 0 = a.1 := Fin.ext (show a.1.val + 1 * (x 0).val = a.1.val by omega)
    have e1 : (Rect.unit (s := S2x6x32x128) ![a.1.val, a.2.val, 0, 0] S1x1x32x128.size inb).emb x 1 = a.2 := Fin.ext (show a.2.val + 1 * (x 1).val = a.2.val by omega)
    have e2 : (Rect.unit (s := S2x6x32x128) ![a.1.val, a.2.val, 0, 0] S1x1x32x128.size inb).emb x 2 = x 2 := Fin.ext (show 0 + 1 * (x 2).val = (x 2).val by omega)
    have e3 : (Rect.unit (s := S2x6x32x128) ![a.1.val, a.2.val, 0, 0] S1x1x32x128.size inb).emb x 3 = x 3 := Fin.ext (show 0 + 1 * (x 3).val = (x 3).val by omega)
    unfold NW
    show k0_pay409 _ x = _
    rw [e0, e1, e2, e3]
    refine congrArg _ (funext fun i => ?_)
    fin_cases i
    · exact Fin.ext (show (x 0).val = 0 by omega)
    · exact Fin.ext (show (x 1).val = 0 by omega)
    · rfl
    · rfl
  · obtain ⟨p, hp, off, inb, e, rfl⟩ := h.2 (y 0, y 1) (mem_nkeys _)
    exact ⟨_, hp, (mem_unitN y _ _ e inb).2 ⟨rfl, rfl⟩⟩
end Scale

end Cert.Proof.Kernel

end
-- ==== Proof.Kernel.Body.lean ====
/-
  One run of the kernel's body.
-/
module

public import proofs.«01_k».proof.Proof.Kernel.Loops
public import proofs.«01_k».proof.Proof.Kernel.Scale

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

set_option maxRecDepth 16384
set_option maxHeartbeats 4000000

section Body
variable (c : Dev nD)
  (XK : Buf (Elt F) (dkM.view.loc (c : Thread nD τ))) (XV : Buf (Elt F) (dvM.view.loc (c : Thread nD τ)))
  (CC : Buf (Elt F) (ccM.view.loc (c : Thread nD τ))) (CS : Buf (Elt F) (csM.view.loc (c : Thread nD τ)))
  (UK : Buf (Elt F) (ukM.view.loc (c : Thread nD τ))) (US : Buf (Elt F) (usM.view.loc (c : Thread nD τ)))
  (UV : Buf (Elt F) (uvM.view.loc (c : Thread nD τ))) (VS : Buf (Elt F) (vsM.view.loc (c : Thread nD τ)))

abbrev bodyG : Prog (TpuEff nD τ sig (Elt F) Λ₀ .tc) PUnit := cc0_mla_up_proj_bwd (F := F)
    dkM (Memref.isWhole_whole _) dvM (Memref.isWhole_whole _) ccM (Memref.isWhole_whole _) csM (Memref.isWhole_whole _)
    ukM (Memref.isWhole_whole _) usM (Memref.isWhole_whole _) uvM (Memref.isWhole_whole _) vsM (Memref.isWhole_whole _) dcM (Memref.isWhole_whole _)
    wkM (Memref.isWhole_whole _) wvM (Memref.isWhole_whole _) xM (Memref.isWhole_whole _) sM (Memref.isWhole_whole _) gM (Memref.isWhole_whole _)
    hM (Memref.isWhole_whole _) iM (Memref.isWhole_whole _) nM (Memref.isWhole_whole _) swM (Memref.isWhole_whole _) wM (Memref.isWhole_whole _)
    rM (Memref.isWhole_whole _) lM (Memref.isWhole_whole _) tM (Memref.isWhole_whole _) aM (Memref.isWhole_whole _) pM (Memref.isWhole_whole _)
    oM (Memref.isWhole_whole _) cc0_scratch14 cc0_scratch15 cc0_scratch16 cc0_scratch17 cc0_scratch18 cc0_scratch19

/-- The latent's codes and scales as the kernel holds them once they have arrived. -/
def FR : Buf (Elt F) (rM.view.loc (c : Thread nD τ)) := rM.view.rep (ccM.view.read (Elt F) CC)
def FL : Buf (Elt F) (lM.view.loc (c : Thread nD τ)) := lM.view.rep (csM.view.read (Elt F) CS)
/-- The weights' codes, and their scales spread over the lanes. -/
def FH0 : Buf (Elt F) (hM.view.loc (c : Thread nD τ)) := hM.view.rep (ukM.view.read (Elt F) UK)
def FH1 : Buf (Elt F) (hM.view.loc (c : Thread nD τ)) := hM.view.rep (uvM.view.read (Elt F) UV)
def FN : Buf (Elt F) (nM.view.loc (c : Thread nD τ)) := nM.view.rep (NW (usM.view.read (Elt F) US) (vsM.view.read (Elt F) VS))
/-- The three results. -/
abbrev RK : S768x32x128.Idx → Elt F .f32 := RW c XK XV (FR c CC) (FL c CS) 0
abbrev RV : S768x32x128.Idx → Elt F .f32 := RW c XK XV (FR c CC) (FL c CS) 5
def RC (z : S5x384x768.Idx) : Elt F .bf16 :=
  FloatOps.truncf (F := F) .bf16 bitsLt_bf16_f32 (FloatOps.addf (F := F) (φ := .f32) (DP c XK XV 0 (WW c (FH0 c UK) (FN c US VS) 0) z) (DP c XK XV 5 (WW c (FH1 c UV) (FN c US VS) 1) z))

abbrev ccP : sProp 𝕄 := ccM.view.loc (c : Thread nD τ) ↦[ccM.view.set]{fullShare} CC
abbrev csP : sProp 𝕄 := csM.view.loc (c : Thread nD τ) ↦[csM.view.set]{fullShare} CS
abbrev ukP : sProp 𝕄 := ukM.view.loc (c : Thread nD τ) ↦[ukM.view.set]{fullShare} UK
abbrev usP : sProp 𝕄 := usM.view.loc (c : Thread nD τ) ↦[usM.view.set]{fullShare} US
abbrev uvP : sProp 𝕄 := uvM.view.loc (c : Thread nD τ) ↦[uvM.view.set]{fullShare} UV
abbrev vsP : sProp 𝕄 := vsM.view.loc (c : Thread nD τ) ↦[vsM.view.set]{fullShare} VS
abbrev cC (s : Fin 2) : sProp 𝕄 := semVal ((c : Thread nD τ), SemLoc.dma (csm s).sem) 0
abbrev iC (s : Fin 2) : sProp 𝕄 := semVal ((c : Thread nD τ), SemLoc.dma (ism s).sem) 0
abbrev hC : sProp 𝕄 := semVal ((c : Thread nD τ), SemLoc.dma hsm.sem) 0

/-- The kernel's own buffers and cells, at rest. -/
def rest : sProp 𝕄 :=
  iprop((∃ f, xP (F := F) c 0 f) ∗ (∃ f, xP (F := F) c 1 f) ∗ (∃ f, sP (F := F) c f) ∗ (∃ f, gP (F := F) c f) ∗ (∃ f, hP (F := F) c f) ∗ (∃ f, isP (F := F) c 0 f) ∗ (∃ f, isP (F := F) c 1 f)
    ∗ (∃ f, nP (F := F) c f) ∗ (∃ f, swP (F := F) c f) ∗ (∃ f, wP (F := F) c f) ∗ (∃ f, rP (F := F) c f) ∗ (∃ f, lP (F := F) c f) ∗ (∃ f, tP (F := F) c f)
    ∗ (∃ f, aP (F := F) c f) ∗ (∃ f, pP (F := F) c 0 f) ∗ (∃ f, pP (F := F) c 1 f) ∗ (∃ f, oP (F := F) c 0 f) ∗ (∃ f, oP (F := F) c 1 f)
    ∗ xC (F := F) c 0 ∗ xC (F := F) c 1 ∗ hC (F := F) c ∗ iC (F := F) c 0 ∗ iC (F := F) c 1 ∗ cC (F := F) c 0 ∗ cC (F := F) c 1 ∗ pC (F := F) c 0 ∗ pC (F := F) c 1 ∗ oC (F := F) c 0 ∗ oC (F := F) c 1)

/-- The arguments. -/
def argsP : sProp 𝕄 := iprop(bigSep Finset.univ (home c XK XV) ∗ ccP c CC ∗ csP c CS ∗ ukP c UK ∗ usP c US ∗ uvP c UV ∗ vsP c VS)

def PRE : sProp 𝕄 := iprop(argsP c XK XV CC CS UK US UV VS ∗ bigSep Finset.univ (outI (F := F) c) ∗ bigSep Finset.univ (sentI (F := F) c) ∗ rest (F := F) c)
def POST : sProp 𝕄 := iprop(argsP c XK XV CC CS UK US UV VS ∗ bigSep Finset.univ (outD c (RK c XK XV CC CS) (RV c XK XV CC CS))
  ∗ bigSep Finset.univ (sentD c (RC c XK XV UK US UV VS)) ∗ rest (F := F) c)

theorem homes_start : bigSep Finset.univ (home c XK XV)
    ⊢ dkH c XK 0 ∗ dkH c XK 1 ∗ dkH c XK 2 ∗ bigSep ((Ring.homeSet 2 0).erase (Ring.bk 10 2)) (home c XK XV) := by
  have e : (Finset.univ : Finset (Fin 10)) = insert (Ring.bk 10 0) (insert (Ring.bk 10 1) (insert (Ring.bk 10 2) ((Ring.homeSet 2 0).erase (Ring.bk 10 2)))) := by decide
  rw [e, BI.bigSep_insert (by decide), BI.bigSep_insert (by decide), BI.bigSep_insert (by decide)]
  exact .rfl

theorem stream_start : iprop(dkH c XK 0
      ∗ (∃ f, Transfers.Flight countersEmb (c : Thread nD τ) (SemLoc.dma (xsm 1).sem) () (NN 1)
          iprop(xP c 1 ((xS 1).view.writes (Elt F) f [⟨Rect.whole S384x32x128, ReadAs.same.apply ((dkB 1).view.read (Elt F) XK)⟩]) ∗ dkH c XK 1))
      ∗ (∃ f, Transfers.Flight countersEmb (c : Thread nD τ) (SemLoc.dma (xsm 0).sem) () (NN 0)
          iprop(xP c 0 ((xS 0).view.writes (Elt F) f [⟨Rect.whole S384x32x128, ReadAs.same.apply ((dkB 2).view.read (Elt F) XK)⟩]) ∗ dkH c XK 2))
      ∗ bigSep ((Ring.homeSet 2 0).erase (Ring.bk 10 2)) (home c XK XV)) ⊢ stream c XK XV 1 := by
  unfold stream
  iintro ⟨H0, H1, H2, HB⟩
  isplitl [H0 HB]
  · iapply (homes_in c XK XV 0 (by decide))
    isplitl [H0]
    · iapply (entails_of_eq (home_dk c XK XV (n := Ring.bk 10 0) 0 rfl (by decide)).symm)
      iexact H0
    iexact HB
  isplitl [H1]
  · iapply (entails_of_eq (slot_lt c XK XV (show 1 < 10 by decide)).symm)
    iexact H1
  iapply (entails_of_eq (slot_lt c XK XV (show 1 + 1 < 10 by decide)).symm)
  iexact H2

theorem s_start (fs : Buf (Elt F) (sM.view.loc (c : Thread nD τ)))
    (h : sM.view.read (Elt F) fs = ReadAs.same.apply ((dkB 0).view.read (Elt F) XK)) :
    sP c fs ⊢ ∃ f, sP c f ∗ ⌜sM.view.read (Elt F) f = blk c XK XV (Ring.bk 10 0)⌝ := by
  iintro H
  iexists fs
  isplitl [H]; · iexact H
  ipureintro
  exact h

theorem slot_idle (s : Fin 2) (q : ℕ) (h : ¬ q < 10) (e : Ring.sl 2 q = s) : slot c XK XV q ⊢ (∃ f, xP (F := F) c s f) ∗ xC (F := F) c s := by
  subst e
  exact entails_of_eq (slot_ge c XK XV h)

theorem stream_done : stream c XK XV 11 ⊢ bigSep Finset.univ (home c XK XV) ∗ ((∃ f, xP (F := F) c 1 f) ∗ xC (F := F) c 1) ∗ ((∃ f, xP (F := F) c 0 f) ∗ xC (F := F) c 0) := by
  unfold stream
  iintro ⟨HB, HS, HN⟩
  isplitl [HB]
  · iapply (entails_of_eq (congrArg (fun u => bigSep u (home c XK XV)) (show Ring.homeSet 2 11 = (Finset.univ : Finset (Fin 10)) by decide)))
    iexact HB
  isplitl [HS]
  · iapply (slot_idle c XK XV 1 11 (by decide) (by decide))
    iexact HS
  iapply (slot_idle c XK XV 0 12 (by decide) (by decide))
  iexact HN

section OutEnds
variable (rk rv : S768x32x128.Idx → Elt F .f32)

theorem oslot_idle (s : Fin 2) (q : ℕ) (h : q < 2) (e : Ring.sl 2 q = s) : iprop((∃ f, oP (F := F) c s f) ∗ oC (F := F) c s) ⊢ oslot c rk rv q := by
  subst e
  exact entails_of_eq (oslot_lt c rk rv h).symm

theorem ostream_start : iprop(bigSep Finset.univ (outI (F := F) c) ∗ ((∃ f, oP (F := F) c 0 f) ∗ oC (F := F) c 0) ∗ ((∃ f, oP (F := F) c 1 f) ∗ oC (F := F) c 1))
    ⊢ ostream c rk rv 0 := by
  unfold ostream
  rw [show Ring.rangeSet 8 0 (0 - 2) = (∅ : Finset (Fin 8)) by decide, show Ring.rangeSet 8 0 8 = (Finset.univ : Finset (Fin 8)) by decide, BI.bigSep_empty]
  iintro ⟨HI, H0, H1⟩
  isplitr; · iempintro
  isplitl [HI]; · iexact HI
  isplitl [H0]
  · iapply (oslot_idle c rk rv 0 0 (by decide) (by decide))
    iexact H0
  iapply (oslot_idle c rk rv 1 1 (by decide) (by decide))
  iexact H1

theorem oslot_flight (s : Fin 2) (n : Fin 8) (q : ℕ) (h : ¬ q < 2) (e : Ring.sl 2 q = s) (en : Ring.bk 8 (q - 2) = n) : oslot c rk rv q ⊢ outF c rk rv n s := by
  subst e en
  exact entails_of_eq (oslot_ge c rk rv h)

theorem ostream_end : ostream c rk rv 8 ⊢ bigSep (Ring.rangeSet 8 0 6) (outD c rk rv) ∗ outF c rk rv 6 0 ∗ outF c rk rv 7 1 := by
  unfold ostream
  iintro ⟨HD, HI, H0, H1⟩
  isplitl [HD]; · iexact HD
  isplitl [H0]
  · iapply (oslot_flight c rk rv 0 6 8 (by decide) (by decide) (by decide))
    iexact H0
  iapply (oslot_flight c rk rv 1 7 9 (by decide) (by decide) (by decide))
  iexact H1

theorem outs_done : iprop(bigSep (Ring.rangeSet 8 0 6) (outD c rk rv) ∗ outD c rk rv 6 ∗ outD c rk rv 7) ⊢ bigSep Finset.univ (outD c rk rv) := by
  have e : (Finset.univ : Finset (Fin 8)) = insert 6 (insert 7 (Ring.rangeSet 8 0 6)) := by decide
  rw [e, BI.bigSep_insert (by decide), BI.bigSep_insert (by decide)]
  refine BIBase.Entails.trans (Q := iprop(outD c rk rv 6 ∗ outD c rk rv 7 ∗ bigSep (Ring.rangeSet 8 0 6) (outD c rk rv))) ?_ .rfl
  iintro ⟨HD, H6, H7⟩
  isplitl [H6]; · iexact H6
  isplitl [H7]; · iexact H7
  iexact HD
end OutEnds

section SentEnds
variable (rd : S5x384x768.Idx → Elt F .bf16)

theorem dslot_idle (s : Fin 2) (q : ℕ) (h : q < 2) (e : Ring.sl 2 q = s) : iprop((∃ f, pP (F := F) c s f) ∗ pC (F := F) c s) ⊢ dslot c rd q := by
  subst e
  exact entails_of_eq (dslot_lt c rd h).symm

theorem dstream_start : iprop(bigSep Finset.univ (sentI (F := F) c) ∗ ((∃ f, pP (F := F) c 0 f) ∗ pC (F := F) c 0) ∗ ((∃ f, pP (F := F) c 1 f) ∗ pC (F := F) c 1))
    ⊢ dstream c rd 0 := by
  unfold dstream
  rw [show Ring.rangeSet 5 0 (0 - 2) = (∅ : Finset (Fin 5)) by decide, show Ring.rangeSet 5 0 5 = (Finset.univ : Finset (Fin 5)) by decide, BI.bigSep_empty]
  iintro ⟨HI, H0, H1⟩
  isplitr; · iempintro
  isplitl [HI]; · iexact HI
  isplitl [H0]
  · iapply (dslot_idle c rd 0 0 (by decide) (by decide))
    iexact H0
  iapply (dslot_idle c rd 1 1 (by decide) (by decide))
  iexact H1

theorem dslot_flight (s : Fin 2) (n : Fin 5) (q : ℕ) (h : ¬ q < 2) (e : Ring.sl 2 q = s) (en : Ring.bk 5 (q - 2) = n) : dslot c rd q ⊢ sentF c rd n s := by
  subst e en
  exact entails_of_eq (dslot_ge c rd h)

theorem dstream_end : dstream c rd 5 ⊢ bigSep (Ring.rangeSet 5 0 3) (sentD c rd) ∗ sentF c rd 3 1 ∗ sentF c rd 4 0 := by
  unfold dstream
  iintro ⟨HD, HI, H0, H1⟩
  isplitl [HD]; · iexact HD
  isplitl [H0]
  · iapply (dslot_flight c rd 1 3 5 (by decide) (by decide) (by decide))
    iexact H0
  iapply (dslot_flight c rd 0 4 6 (by decide) (by decide) (by decide))
  iexact H1

theorem sents_done : iprop(bigSep (Ring.rangeSet 5 0 3) (sentD c rd) ∗ sentD c rd 3 ∗ sentD c rd 4) ⊢ bigSep Finset.univ (sentD c rd) := by
  have e : (Finset.univ : Finset (Fin 5)) = insert 3 (insert 4 (Ring.rangeSet 5 0 3)) := by decide
  rw [e, BI.bigSep_insert (by decide), BI.bigSep_insert (by decide)]
  refine BIBase.Entails.trans (Q := iprop(sentD c rd 3 ∗ sentD c rd 4 ∗ bigSep (Ring.rangeSet 5 0 3) (sentD c rd))) ?_ .rfl
  iintro ⟨HD, H3, H4⟩
  isplitl [H3]; · iexact H3
  isplitl [H4]; · iexact H4
  iexact HD
end SentEnds

/-! ## The scales on their way in -/

theorem isN (us vs : S6x32.Idx → Elt F .f32) (kv : Fin 2) (rb : Fin 6) (off : Fin 4 → ℕ) (inb) (offs : Fin 3 → ℕ) (inbs)
    (f : Buf (Elt F) ((iS kv).view.loc (c : Thread nD τ))) (P : S6x32.Idx → Elt F .f32)
    (e : off = ![kv.val, rb.val, 0, 0]) (es : offs = ![kv.val, rb.val, 0]) (hP : (if kv.val = 0 then us else vs) = P) :
    IsN us vs (kv, rb) ⟨Rect.unit (s := S2x6x32x128) off S1x1x32x128.size inb,
      k0_pay409 (iM.view.readAt (Elt F) (Rect.unit (s := S2x6x32) offs S1x1x32.size inbs).toLoadRect ((iS kv).view.writes (Elt F) f [⟨Rect.whole S6x32, P⟩]))⟩ := by
  subst hP
  rw [row_after c kv rb offs es inbs]
  exact ⟨off, inb, e, rfl⟩

section Ends
variable (fr : Buf (Elt F) (rM.view.loc (c : Thread nD τ))) (fl : Buf (Elt F) (lM.view.loc (c : Thread nD τ)))
  (rk rv : S768x32x128.Idx → Elt F .f32) (rd : S5x384x768.Idx → Elt F .bf16) (fg : Buf (Elt F) (gM.view.loc (c : Thread nD τ))) (ft : Buf (Elt F) (tM.view.loc (c : Thread nD τ)))
  (fh : Buf (Elt F) (hM.view.loc (c : Thread nD τ))) (fn : Buf (Elt F) (nM.view.loc (c : Thread nD τ))) (fw : Buf (Elt F) (wM.view.loc (c : Thread nD τ)))
  (fa : Buf (Elt F) (aM.view.loc (c : Thread nD τ)))

/-- All rows widened, the weight is whole. -/
theorem wfact_all {fh fn} {kv : Fin 2} {n : ℕ} {fw : Buf (Elt F) (wM.view.loc (c : Thread nD τ))} (hn : 768 ≤ n) (h : WFact c fh fn kv n fw) :
    wM.view.read (Elt F) fw = WW c fh fn kv := by
  funext y
  have h1 : (y 1).val < 768 := (y 1).isLt
  exact h y (by omega)

/-- With all five blocks summed, adding the second product gives the latent's gradient. -/
theorem dsum_eq {fh0 fn0 fh1 fn1} {fw fw2 : Buf (Elt F) (wM.view.loc (c : Thread nD τ))} {fa : Buf (Elt F) (aM.view.loc (c : Thread nD τ))}
    (h0 : wM.view.read (Elt F) fw = WW c fh0 fn0 0) (h1 : wM.view.read (Elt F) fw2 = WW c fh1 fn1 1) (ha : AFact c XK XV fw 5 fa) :
    DSum c XK XV fw2 fa = fun z => FloatOps.truncf (F := F) .bf16 bitsLt_bf16_f32 (FloatOps.addf (F := F) (φ := .f32) (DP c XK XV 0 (WW c fh0 fn0 0) z) (DP c XK XV 5 (WW c fh1 fn1 1) z)) := by
  funext z
  have hz : (z 0).val < 5 := (z 0).isLt
  unfold DSum
  rw [ha z hz, h0, h1]

/-! Each loop's invariant taken apart after its last trip, and put together before its first. -/

theorem midW {a : Unit} : (loopW c fh fn).inv (Scf.trips k0_t1_loop.lb k0_t1_loop.ub k0_t1_loop.st) a
    ⊢ ∃ fsw fw, hP c fh ∗ nP c fn ∗ swP c fsw ∗ wP c fw ∗ (∃ W, owes (c : Thread nD τ) 0 W) ∗ ⌜WFact c fh fn 0 (64 * 12) fw⌝ := by
  have e : (loopW c fh fn).inv (Scf.trips k0_t1_loop.lb k0_t1_loop.ub k0_t1_loop.st) a = invW c fh fn 12 := rfl
  rw [e]; unfold invW
  exact .rfl

theorem mid1 {a : Unit} : (loop1 c XK XV fr fl fw).inv (Scf.trips k0_t2_loop.lb k0_t2_loop.ub k0_t2_loop.st) a
    ⊢ ∃ fs fg ft fa, sP c fs ∗ gP c fg ∗ wP c fw ∗ rP c fr ∗ lP c fl ∗ tP c ft ∗ aP c fa ∗ (∃ W, owes (c : Thread nD τ) 0 W) ∗ stream c XK XV 6
      ∗ ⌜SFact c XK XV 5 fs ∧ GFact c XK XV 0 5 fg ∧ TFact c fr fl 5 ft ∧ AFact c XK XV fw 5 fa⌝ := by
  have e : (loop1 c XK XV fr fl fw).inv (Scf.trips k0_t2_loop.lb k0_t2_loop.ub k0_t2_loop.st) a = inv1 c XK XV fr fl fw 5 := rfl
  rw [e]; unfold inv1
  exact .rfl

theorem mid2 {a : Unit} : (loop2 c rk rv fg ft fh fn).inv (Scf.trips k0_t3_loop.lb k0_t3_loop.ub k0_t3_loop.st) a
    ⊢ ∃ fsw fw, hP c fh ∗ nP c fn ∗ swP c fsw ∗ wP c fw ∗ gP c fg ∗ tP c ft ∗ (∃ W, owes (c : Thread nD τ) 0 W) ∗ ostream c rk rv 4 ∗ ⌜WFact c fh fn 1 (192 * 4) fw⌝ := by
  have e : (loop2 c rk rv fg ft fh fn).inv (Scf.trips k0_t3_loop.lb k0_t3_loop.ub k0_t3_loop.st) a = inv2 c rk rv fg ft fh fn 4 := rfl
  rw [e]; unfold inv2
  iintro ⟨%fsw, %fw, HH, HN, HSW, HWT, HG, HT, HW, HO, %h⟩
  iexists fsw, fw
  isplitl [HH]; · iexact HH
  isplitl [HN]; · iexact HN
  isplitl [HSW]; · iexact HSW
  isplitl [HWT]; · iexact HWT
  isplitl [HG]; · iexact HG
  isplitl [HT]; · iexact HT
  isplitl [HW]; · iexact HW
  isplitl [HO]; · iexact HO
  ipureintro
  exact h.2

theorem mid3 {a : Unit} : (loop3 c XK XV rd fw fa).inv (Scf.trips k0_t4_loop.lb k0_t4_loop.ub k0_t4_loop.st) a
    ⊢ ∃ fs fg, sP c fs ∗ gP c fg ∗ wP c fw ∗ aP c fa ∗ (∃ W, owes (c : Thread nD τ) 0 W) ∗ stream c XK XV 11 ∗ dstream c rd 5 ∗ ⌜GFact c XK XV 5 5 fg⌝ := by
  have e : (loop3 c XK XV rd fw fa).inv (Scf.trips k0_t4_loop.lb k0_t4_loop.ub k0_t4_loop.st) a = inv3 c XK XV rd fw fa 5 := rfl
  rw [e]; unfold inv3
  iintro ⟨%fs, %fg, HS, HG, HWT, HA, HW, HX, HDS, %h⟩
  iexists fs, fg
  isplitl [HS]; · iexact HS
  isplitl [HG]; · iexact HG
  isplitl [HWT]; · iexact HWT
  isplitl [HA]; · iexact HA
  isplitl [HW]; · iexact HW
  isplitl [HX]; · iexact HX
  isplitl [HDS]; · iexact HDS
  ipureintro
  exact h.2.1

theorem mid4 {a : Unit} : (loop4 c rk rv fg ft).inv (Scf.trips k0_t5_loop.lb k0_t5_loop.ub k0_t5_loop.st) a
    ⊢ gP c fg ∗ tP c ft ∗ (∃ W, owes (c : Thread nD τ) 0 W) ∗ ostream c rk rv 8 := by
  have e : (loop4 c rk rv fg ft).inv (Scf.trips k0_t5_loop.lb k0_t5_loop.ub k0_t5_loop.st) a = inv4 c rk rv fg ft 4 := rfl
  rw [e]; unfold inv4
  iintro ⟨HG, HT, HW, HO, -⟩
  isplitl [HG]; · iexact HG
  isplitl [HT]; · iexact HT
  isplitl [HW]; · iexact HW
  iexact HO

theorem packW (fsw : Buf (Elt F) (swM.view.loc (c : Thread nD τ))) {a : Unit} :
    iprop(hP c fh ∗ nP c fn ∗ swP c fsw ∗ wP c fw ∗ (∃ W, owes (c : Thread nD τ) 0 W)) ⊢ (loopW c fh fn).inv 0 a := by
  have e : (loopW c fh fn).inv 0 a = invW c fh fn 0 := rfl
  rw [e]; unfold invW
  iintro ⟨HH, HN, HSW, HWT, HW⟩
  iexists fsw, fw
  isplitl [HH]; · iexact HH
  isplitl [HN]; · iexact HN
  isplitl [HSW]; · iexact HSW
  isplitl [HWT]; · iexact HWT
  isplitl [HW]; · iexact HW
  ipureintro
  exact fun y hy => absurd hy (Nat.not_lt_zero _)

theorem pack2 (h : DW c fg ft = rk) (fsw : Buf (Elt F) (swM.view.loc (c : Thread nD τ))) {a : Unit} :
    iprop(hP c fh ∗ nP c fn ∗ swP c fsw ∗ wP c fw ∗ gP c fg ∗ tP c ft ∗ (∃ W, owes (c : Thread nD τ) 0 W) ∗ ostream c rk rv 0) ⊢ (loop2 c rk rv fg ft fh fn).inv 0 a := by
  have e : (loop2 c rk rv fg ft fh fn).inv 0 a = inv2 c rk rv fg ft fh fn 0 := rfl
  rw [e]; unfold inv2
  iintro ⟨HH, HN, HSW, HWT, HG, HT, HW, HO⟩
  iexists fsw, fw
  isplitl [HH]; · iexact HH
  isplitl [HN]; · iexact HN
  isplitl [HSW]; · iexact HSW
  isplitl [HWT]; · iexact HWT
  isplitl [HG]; · iexact HG
  isplitl [HT]; · iexact HT
  isplitl [HW]; · iexact HW
  isplitl [HO]; · iexact HO
  ipureintro
  exact ⟨h, fun y hy => absurd hy (Nat.not_lt_zero _)⟩

theorem pack3 (fs : Buf (Elt F) (sM.view.loc (c : Thread nD τ))) (h : SFact c XK XV 5 fs) (hd : DSum c XK XV fw fa = rd) {a : Unit} :
    iprop(sP c fs ∗ gP c fg ∗ wP c fw ∗ aP c fa ∗ (∃ W, owes (c : Thread nD τ) 0 W) ∗ stream c XK XV 6 ∗ dstream c rd 0) ⊢ (loop3 c XK XV rd fw fa).inv 0 a := by
  have e : (loop3 c XK XV rd fw fa).inv 0 a = inv3 c XK XV rd fw fa 0 := rfl
  rw [e]; unfold inv3
  iintro ⟨HS, HG, HWT, HA, HW, HX, HDS⟩
  iexists fs, fg
  isplitl [HS]; · iexact HS
  isplitl [HG]; · iexact HG
  isplitl [HWT]; · iexact HWT
  isplitl [HA]; · iexact HA
  isplitl [HW]; · iexact HW
  isplitl [HX]; · iexact HX
  isplitl [HDS]; · iexact HDS
  ipureintro
  exact ⟨h, fun y hy => absurd hy (Nat.not_lt_zero _), hd⟩

theorem pack4 (h : DW c fg ft = rv) {a : Unit} : iprop(gP c fg ∗ tP c ft ∗ (∃ W, owes (c : Thread nD τ) 0 W) ∗ ostream c rk rv 4) ⊢ (loop4 c rk rv fg ft).inv 0 a := by
  have e : (loop4 c rk rv fg ft).inv 0 a = inv4 c rk rv fg ft 0 := rfl
  rw [e]; unfold inv4
  iintro ⟨HG, HT, HW, HO⟩
  isplitl [HG]; · iexact HG
  isplitl [HT]; · iexact HT
  isplitl [HW]; · iexact HW
  isplitl [HO]; · iexact HO
  ipureintro
  exact h
end Ends

theorem bodyRun (Q : PUnit → sProp 𝕄) :
    iprop((PRE c XK XV CC CS UK US UV VS ∗ (∃ W, owes (c : Thread nD τ) 0 W)) ∗ ((POST c XK XV CC CS UK US UV VS ∗ (∃ W, owes (c : Thread nD τ) 0 W)) -∗ Q ⟨⟩))
      ⊢ wp frame (wpE (defs₀ (F := F)) 𝒱₀ (c : Thread nD τ) none) Set.univ (bodyG (F := F)) Q := by
  unfold PRE argsP rest
  iintro ⟨⟨⟨⟨HB0, HCC, HCS, HUK, HUS, HUV, HVS⟩, HI, HSI, ⟨%fx0, HX0⟩, ⟨%fx1, HX1⟩, ⟨%fs0, HS⟩, ⟨%fg0, HG⟩, ⟨%fh0, HH⟩, ⟨%fi0, HI0⟩, ⟨%fi1, HI1⟩, ⟨%fn0, HN⟩, ⟨%fsw0, HSW⟩, ⟨%fw0, HWT⟩, ⟨%fr0, HR⟩, ⟨%fl0, HL⟩, ⟨%ft0, HT⟩, ⟨%fa0, HA⟩, HP0, HP1, HO0, HO1, HxC0, HxC1, HhC, HiC0, HiC1, HcC0, HcC1, HpC0, HpC1, HoC0, HoC1⟩, ⟨%W, HW⟩⟩, Hk⟩
  ihave HB0' := (homes_start c XK XV) $$ HB0
  icases HB0' with ⟨HK0, HK1, HK2, HB⟩
  sl_exec
  ihave HH' := (pointsTo_rep_of_read (c : Thread nD τ) hM (hM.view.writes (Elt F) hM.view.junk [⟨Rect.whole S768x32x128, bodyRun.sl.dma0_3 c UK⟩]) fullShare (ukM.view.read (Elt F) UK) (View.read_writes_whole _ _ _)) $$ HH
  ihave HN' := (pointsTo_rep_of_read (c : Thread nD τ) nM (nM.view.writes (Elt F) nM.view.junk (bodyRun.sl.HN_12 c US VS)) fullShare (NW (usM.view.read (Elt F) US) (vsM.view.read (Elt F) VS))
    (n_after c _ _ _ (.cons (isN c _ _ 1 5 _ _ _ _ _ _ rfl rfl rfl) (.cons (isN c _ _ 1 4 _ _ _ _ _ _ rfl rfl rfl) (.cons (isN c _ _ 1 3 _ _ _ _ _ _ rfl rfl rfl)
      (.cons (isN c _ _ 1 2 _ _ _ _ _ _ rfl rfl rfl) (.cons (isN c _ _ 1 1 _ _ _ _ _ _ rfl rfl rfl) (.cons (isN c _ _ 1 0 _ _ _ _ _ _ rfl rfl rfl)
      (.cons (isN c _ _ 0 5 _ _ _ _ _ _ rfl rfl rfl) (.cons (isN c _ _ 0 4 _ _ _ _ _ _ rfl rfl rfl) (.cons (isN c _ _ 0 3 _ _ _ _ _ _ rfl rfl rfl)
      (.cons (isN c _ _ 0 2 _ _ _ _ _ _ rfl rfl rfl) (.cons (isN c _ _ 0 1 _ _ _ _ _ _ rfl rfl rfl) (.cons (isN c _ _ 0 0 _ _ _ _ _ _ rfl rfl rfl) .nil)))))))))))))) $$ HN
  iapply (exec_loop _ _ _ _ _ _ _ _ _ (loopW c (FH0 c UK) (FN c US VS))) $$ [HH' HN' HSW HWT HW]
  · iapply (packW c (FH0 c UK) (FN c US VS) fw0 fsw0)
    isplitl [HH']; · iexact HH'
    isplitl [HN']; · iexact HN'
    isplitl [HSW]; · iexact HSW
    isplitl [HWT]; · iexact HWT
    iexists _; iexact HW
  iintro %aw HLW
  ihave HLW' := (midW c (FH0 c UK) (FN c US VS)) $$ HLW
  icases HLW' with ⟨%fsw, %fw, HH, HN, HSW, HWT, ⟨%W0, HW⟩, %hw⟩
  have ew : wM.view.read (Elt F) fw = WW c (FH0 c UK) (FN c US VS) 0 := wfact_all c (by decide) hw
  sl_exec
  ihave HR' := (pointsTo_rep_of_read (c : Thread nD τ) rM (rM.view.writes (Elt F) rM.view.junk [⟨Rect.whole S5x384x768, bodyRun.sl.dma0_5 c CC⟩]) fullShare (ccM.view.read (Elt F) CC) (View.read_writes_whole _ _ _)) $$ HR
  ihave HL' := (pointsTo_rep_of_read (c : Thread nD τ) lM (lM.view.writes (Elt F) lM.view.junk [⟨Rect.whole S5x6x384, bodyRun.sl.dma0_6 c CS⟩]) fullShare (csM.view.read (Elt F) CS) (View.read_writes_whole _ _ _)) $$ HL
  ihave HS' := (s_start c XK XV (sM.view.writes (Elt F) sM.view.junk (bodyRun.sl.HS_1 c XK)) (s_after c 0 ![0, 0, 0, 0] (by decide) _ _ _ _)) $$ HS
  ihave H1 := (BIBase.Entails.rfl : inv1 c XK XV (FR c CC) (FL c CS) fw 0 ⊢ inv1 c XK XV (FR c CC) (FL c CS) fw 0) $$ [HS' HG HWT HR' HL' HT HA HW HB HxC1 HK0 HxC0]
  · unfold inv1
    icases HS' with ⟨%fs', HS, %hs⟩
    iexists fs', fg0, ft0, fa0
    isplitl [HS]; · iexact HS
    isplitl [HG]; · iexact HG
    isplitl [HWT]; · iexact HWT
    isplitl [HR']; · iexact HR'
    isplitl [HL']; · iexact HL'
    isplitl [HT]; · iexact HT
    isplitl [HA]; · iexact HA
    isplitl [HW]; · iexists _; iexact HW
    isplitl [HB HxC1 HK0 HxC0]
    · iapply (stream_start c XK XV)
      isplitl [HK0]; · iexact HK0
      isplitl [HxC1]; · iexists _; iexact HxC1
      isplitl [HxC0]; · iexists ((xS 0).view.writes (Elt F) (xS 0).view.junk [⟨Rect.whole S384x32x128, bodyRun.sl.dma0 c XK⟩]); iexact HxC0
      iexact HB
    ipureintro
    exact ⟨fun _ => hs, fun y hy => absurd hy (Nat.not_lt_zero _), fun y hy => absurd hy (Nat.not_lt_zero _), fun y hy => absurd hy (Nat.not_lt_zero _)⟩
  iapply (exec_loop _ _ _ _ _ _ _ _ _ (loop1 c XK XV (FR c CC) (FL c CS) fw)) $$ [H1]
  · iapply (entails_of_eq (show (loop1 c XK XV (FR c CC) (FL c CS) fw).inv 0 ⟨⟩ = inv1 c XK XV (FR c CC) (FL c CS) fw 0 from rfl).symm)
    iexact H1
  iintro %a1 H1
  ihave H1' := (mid1 c XK XV (FR c CC) (FL c CS) fw) $$ H1
  icases H1' with ⟨%fs, %fg, %ft, %fa, HS, HG, HWT, HR, HL, HT, HA, ⟨%W1, HW⟩, HX, %hA⟩
  obtain ⟨hs, hg, ht, ha⟩ := hA
  have ek : DW c fg ft = RK c XK XV CC CS := DW_eq c XK XV hg ht
  sl_exec
  ihave HH' := (pointsTo_rep_of_read (c : Thread nD τ) hM (hM.view.writes (Elt F) hM.view.junk [⟨Rect.whole S768x32x128, bodyRun.sl.dma0_7 c UV⟩]) fullShare (uvM.view.read (Elt F) UV) (View.read_writes_whole _ _ _)) $$ HH
  iapply (exec_loop _ _ _ _ _ _ _ _ _ (loop2 c (RK c XK XV CC CS) (RV c XK XV CC CS) fg ft (FH1 c UV) (FN c US VS))) $$ [HH' HN HSW HWT HG HT HW HI HO0 HO1 HoC0 HoC1]
  · iapply (pack2 c (RK c XK XV CC CS) (RV c XK XV CC CS) fg ft (FH1 c UV) (FN c US VS) fw ek fsw)
    isplitl [HH']; · iexact HH'
    isplitl [HN]; · iexact HN
    isplitl [HSW]; · iexact HSW
    isplitl [HWT]; · iexact HWT
    isplitl [HG]; · iexact HG
    isplitl [HT]; · iexact HT
    isplitl [HW]; · iexists _; iexact HW
    iapply (ostream_start c (RK c XK XV CC CS) (RV c XK XV CC CS))
    isplitl [HI]; · iexact HI
    isplitl [HO0 HoC0]
    · isplitl [HO0]; · iexact HO0
      iexact HoC0
    isplitl [HO1]; · iexact HO1
    iexact HoC1
  iintro %a2 H2
  ihave H2' := (mid2 c (RK c XK XV CC CS) (RV c XK XV CC CS) fg ft (FH1 c UV) (FN c US VS)) $$ H2
  icases H2' with ⟨%fsw2, %fw2, HH, HN, HSW, HWT, HG, HT, HW, HOS, %hw2⟩
  have ed : DSum c XK XV fw2 fa = RC c XK XV UK US UV VS := dsum_eq c XK XV ew (wfact_all c (by decide) hw2) ha
  iapply (exec_loop _ _ _ _ _ _ _ _ _ (loop3 c XK XV (RC c XK XV UK US UV VS) fw2 fa)) $$ [HS HG HWT HA HW HX HSI HP0 HP1 HpC0 HpC1]
  · iapply (pack3 c XK XV (RC c XK XV UK US UV VS) fg fw2 fa fs hs ed)
    isplitl [HS]; · iexact HS
    isplitl [HG]; · iexact HG
    isplitl [HWT]; · iexact HWT
    isplitl [HA]; · iexact HA
    isplitl [HW]; · iexact HW
    isplitl [HX]; · iexact HX
    iapply (dstream_start c (RC c XK XV UK US UV VS))
    isplitl [HSI]; · iexact HSI
    isplitl [HP0 HpC0]
    · isplitl [HP0]; · iexact HP0
      iexact HpC0
    isplitl [HP1]; · iexact HP1
    iexact HpC1
  iintro %a3 H3
  ihave H3' := (mid3 c XK XV (RC c XK XV UK US UV VS) fw2 fa) $$ H3
  icases H3' with ⟨%fs3, %fg3, HS, HG, HWT, HA, HW, HX, HDS, %hg3⟩
  have ev : DW c fg3 ft = RV c XK XV CC CS := DW_eq c XK XV hg3 ht
  iapply (exec_loop _ _ _ _ _ _ _ _ _ (loop4 c (RK c XK XV CC CS) (RV c XK XV CC CS) fg3 ft)) $$ [HG HT HW HOS]
  · iapply (pack4 c (RK c XK XV CC CS) (RV c XK XV CC CS) fg3 ft ev)
    isplitl [HG]; · iexact HG
    isplitl [HT]; · iexact HT
    isplitl [HW]; · iexact HW
    iexact HOS
  iintro %a4 H4
  ihave H4' := (mid4 c (RK c XK XV CC CS) (RV c XK XV CC CS) fg3 ft) $$ H4
  icases H4' with ⟨HG, HT, ⟨%W4, HW⟩, HOS⟩
  ihave HOS' := (ostream_end c (RK c XK XV CC CS) (RV c XK XV CC CS)) $$ HOS
  icases HOS' with ⟨HD, H6, H7⟩
  ihave H6' := (outF_open c (RK c XK XV CC CS) (RV c XK XV CC CS) 6 0) $$ H6
  icases H6' with ⟨%M6, %X6, %f6, H6, %h6⟩
  ihave H7' := (outF_open c (RK c XK XV CC CS) (RV c XK XV CC CS) 7 1) $$ H7
  icases H7' with ⟨%M7, %X7, %f7, H7, %h7⟩
  ihave HDS' := (dstream_end c (RC c XK XV UK US UV VS)) $$ HDS
  icases HDS' with ⟨HSD, H3, H4⟩
  ihave H3' := (sentF_open c (RC c XK XV UK US UV VS) 3 1) $$ H3
  icases H3' with ⟨%M3, %X3, %f3, H3, %h3⟩
  ihave H4' := (sentF_open c (RC c XK XV UK US UV VS) 4 0) $$ H4
  icases H4' with ⟨%M4, %X4, %f4, H4, %h4⟩
  ihave HX' := (stream_done c XK XV) $$ HX
  icases HX' with ⟨HB, ⟨HX1, HxC1⟩, ⟨HX0, HxC0⟩⟩
  sl_exec
  sl_step
  iapply Hk
  isplitr [HW]
  · unfold POST argsP rest
    isplitl [HB HCC HCS HUK HUS HUV HVS]
    · isplitl [HB]; · iexact HB
      isplitl [HCC]; · iexact HCC
      isplitl [HCS]; · iexact HCS
      isplitl [HUK]; · iexact HUK
      isplitl [HUS]; · iexact HUS
      isplitl [HUV]; · iexact HUV
      iexact HVS
    isplitl [HD H6_dst H7_dst]
    · iapply (outs_done c (RK c XK XV CC CS) (RV c XK XV CC CS))
      isplitl [HD]; · iexact HD
      isplitl [H6_dst]
      · iapply h6; iexact H6_dst
      iapply h7; iexact H7_dst
    isplitl [HSD H3_dst H4_dst]
    · iapply (sents_done c (RC c XK XV UK US UV VS))
      isplitl [HSD]; · iexact HSD
      isplitl [H3_dst]
      · iapply h3; iexact H3_dst
      iapply h4; iexact H4_dst
    isplitl [HX0]; · iexact HX0
    isplitl [HX1]; · iexact HX1
    isplitl [HS]; · iexists _; iexact HS
    isplitl [HG]; · iexists _; iexact HG
    isplitl [HH]; · iexists _; iexact HH
    isplitl [HI0]; · iexists _; iexact HI0
    isplitl [HI1]; · iexists _; iexact HI1
    isplitl [HN]; · iexists _; iexact HN
    isplitl [HSW]; · iexists _; iexact HSW
    isplitl [HWT]; · iexists _; iexact HWT
    isplitl [HR]; · iexists _; iexact HR
    isplitl [HL]; · iexists _; iexact HL
    isplitl [HT]; · iexists _; iexact HT
    isplitl [HA]; · iexists _; iexact HA
    isplitl [H4_src]; · iexists _; iexact H4_src
    isplitl [H3_src]; · iexists _; iexact H3_src
    isplitl [H6_src]; · iexists _; iexact H6_src
    isplitl [H7_src]; · iexists _; iexact H7_src
    isplitl [HxC0]; · iexact HxC0
    isplitl [HxC1]; · iexact HxC1
    isplitl [HhC]; · iexact HhC
    isplitl [HiC0]; · iexact HiC0
    isplitl [HiC1]; · iexact HiC1
    isplitl [HcC0]; · iexact HcC0
    isplitl [HcC1]; · iexact HcC1
    isplitl [H4]; · iexact H4
    isplitl [H3]; · iexact H3
    isplitl [H6]; · iexact H6
    iexact H7
  iexists _
  iexact HW
end Body

end Cert.Proof.Kernel

end
-- ==== Proof.Kernel.Pieces.lean ====
/-
  The kernel's buffers whole and in pieces.
-/
module

public import proofs.«01_k».proof.Proof.Kernel.Body

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

set_option maxRecDepth 16384

section Sets

/-! ## Element sets: the slots of the two-slot buffers, the blocks of the gradients, the groups of the results -/

abbrev X2 (s : Fin 2) : Finset S2x384x32x128.Idx := (Rect.unit (s := S2x384x32x128) (xOff s) S1x384x32x128.size (xOff_inb s)).set
abbrev O2 (s : Fin 2) : Finset S2x768x8x128.Idx := (Rect.unit (s := S2x768x8x128) (xOff s) S1x768x8x128.size (oOff_inb s)).set
abbrev I2 (s : Fin 2) : Finset S2x6x32.Idx := (Rect.unit (s := S2x6x32) (iOff s) S1x6x32.size (iOff_inb s)).set
abbrev P2 (s : Fin 2) : Finset S2x384x768.Idx := (Rect.unit (s := S2x384x768) (iOff s) S1x384x768.size (pOff_inb s)).set
abbrev D5 (b : Fin 5) : Finset S5x384x768.Idx := (Rect.unit (s := S5x384x768) (dcOff b) S1x384x768.size (dcOff_inb b)).set
abbrev B5 (b : Fin 5) : Finset S5x384x32x128.Idx := (Rect.unit (s := S5x384x32x128) (blkOff b) S1x384x32x128.size (blkOff_inb b)).set
abbrev G4 (g : Fin 4) : Finset S768x32x128.Idx := (Rect.unit (s := S768x32x128) (grpOff g) S768x8x128.size (grpOff_inb g)).set

theorem xS_set (s : Fin 2) : (xS s).view.set = X2 s := (View.set_reshape _ _).trans (View.set_slice_whole _ _)
theorem oS_set (s : Fin 2) : (oS s).view.set = O2 s := (View.set_reshape _ _).trans (View.set_slice_whole _ _)
theorem iS_set (s : Fin 2) : (iS s).view.set = I2 s := (View.set_reshape _ _).trans (View.set_slice_whole _ _)
theorem pS_set (s : Fin 2) : (pS s).view.set = P2 s := (View.set_reshape _ _).trans (View.set_slice_whole _ _)
theorem dcB_set (b : Fin 5) : (dcB b).view.set = D5 b := (View.set_reshape _ _).trans (View.set_slice_whole _ _)
theorem dkB_set (b : Fin 5) : (dkB b).view.set = B5 b := (View.set_reshape _ _).trans (View.set_slice_whole _ _)
theorem dvB_set (b : Fin 5) : (dvB b).view.set = B5 b := (View.set_reshape _ _).trans (View.set_slice_whole _ _)
theorem wkG_set (g : Fin 4) : (wkG g).view.set = G4 g := View.set_slice_whole _ _
theorem wvG_set (g : Fin 4) : (wvG g).view.set = G4 g := View.set_slice_whole _ _

theorem mem_X2 (s : Fin 2) (y : S2x384x32x128.Idx) : y ∈ X2 s ↔ (y 0).val = s.val := by
  rw [Rect.mem_set_unit]
  have h1 : (y 1).val < 384 := (y 1).isLt
  have h2 : (y 2).val < 32 := (y 2).isLt
  have h3 : (y 3).val < 128 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 384; omega
    · show 0 ≤ (y 2).val ∧ (y 2).val < 0 + 32; omega
    · show 0 ≤ (y 3).val ∧ (y 3).val < 0 + 128; omega
theorem mem_O2 (s : Fin 2) (y : S2x768x8x128.Idx) : y ∈ O2 s ↔ (y 0).val = s.val := by
  rw [Rect.mem_set_unit]
  have h1 : (y 1).val < 768 := (y 1).isLt
  have h2 : (y 2).val < 8 := (y 2).isLt
  have h3 : (y 3).val < 128 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 768; omega
    · show 0 ≤ (y 2).val ∧ (y 2).val < 0 + 8; omega
    · show 0 ≤ (y 3).val ∧ (y 3).val < 0 + 128; omega
theorem mem_B5 (b : Fin 5) (y : S5x384x32x128.Idx) : y ∈ B5 b ↔ (y 0).val = b.val := by
  rw [Rect.mem_set_unit]
  have h1 : (y 1).val < 384 := (y 1).isLt
  have h2 : (y 2).val < 32 := (y 2).isLt
  have h3 : (y 3).val < 128 := (y 3).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 384; omega
    · show 0 ≤ (y 2).val ∧ (y 2).val < 0 + 32; omega
    · show 0 ≤ (y 3).val ∧ (y 3).val < 0 + 128; omega
theorem mem_I2 (s : Fin 2) (y : S2x6x32.Idx) : y ∈ I2 s ↔ (y 0).val = s.val := by
  rw [Rect.mem_set_unit]
  have h1 : (y 1).val < 6 := (y 1).isLt
  have h2 : (y 2).val < 32 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 6; omega
    · show 0 ≤ (y 2).val ∧ (y 2).val < 0 + 32; omega
theorem mem_P2 (s : Fin 2) (y : S2x384x768.Idx) : y ∈ P2 s ↔ (y 0).val = s.val := by
  rw [Rect.mem_set_unit]
  have h1 : (y 1).val < 384 := (y 1).isLt
  have h2 : (y 2).val < 768 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 384; omega
    · show 0 ≤ (y 2).val ∧ (y 2).val < 0 + 768; omega
theorem mem_D5 (b : Fin 5) (y : S5x384x768.Idx) : y ∈ D5 b ↔ (y 0).val = b.val := by
  rw [Rect.mem_set_unit]
  have h1 : (y 1).val < 384 := (y 1).isLt
  have h2 : (y 2).val < 768 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 384; omega
    · show 0 ≤ (y 2).val ∧ (y 2).val < 0 + 768; omega
theorem mem_G4 (g : Fin 4) (y : S768x32x128.Idx) : y ∈ G4 g ↔ (y 1).val / 8 = g.val := by
  rw [Rect.mem_set_unit]
  have h0 : (y 0).val < 768 := (y 0).isLt
  have h1 : (y 1).val < 32 := (y 1).isLt
  have h2 : (y 2).val < 128 := (y 2).isLt
  constructor
  · intro H; have a0 : 8 * g.val ≤ (y 1).val ∧ (y 1).val < 8 * g.val + 8 := H 1; omega
  · intro H i; fin_cases i
    · show 0 ≤ (y 0).val ∧ (y 0).val < 0 + 768; omega
    · show 8 * g.val ≤ (y 1).val ∧ (y 1).val < 8 * g.val + 8; omega
    · show 0 ≤ (y 2).val ∧ (y 2).val < 0 + 128; omega

theorem X2_disjoint : ∀ b b' : Fin 2, b ≠ b' → Disjoint (X2 b) (X2 b') := by
  intro b b' hne; rw [Finset.disjoint_left]; intro y hy hy'; rw [mem_X2] at hy hy'; exact hne (Fin.ext (hy.symm.trans hy'))
theorem O2_disjoint : ∀ b b' : Fin 2, b ≠ b' → Disjoint (O2 b) (O2 b') := by
  intro b b' hne; rw [Finset.disjoint_left]; intro y hy hy'; rw [mem_O2] at hy hy'; exact hne (Fin.ext (hy.symm.trans hy'))
theorem B5_disjoint : ∀ b b' : Fin 5, b ≠ b' → Disjoint (B5 b) (B5 b') := by
  intro b b' hne; rw [Finset.disjoint_left]; intro y hy hy'; rw [mem_B5] at hy hy'; exact hne (Fin.ext (hy.symm.trans hy'))
theorem I2_disjoint : ∀ b b' : Fin 2, b ≠ b' → Disjoint (I2 b) (I2 b') := by
  intro b b' hne; rw [Finset.disjoint_left]; intro y hy hy'; rw [mem_I2] at hy hy'; exact hne (Fin.ext (hy.symm.trans hy'))
theorem P2_disjoint : ∀ b b' : Fin 2, b ≠ b' → Disjoint (P2 b) (P2 b') := by
  intro b b' hne; rw [Finset.disjoint_left]; intro y hy hy'; rw [mem_P2] at hy hy'; exact hne (Fin.ext (hy.symm.trans hy'))
theorem D5_disjoint : ∀ b b' : Fin 5, b ≠ b' → Disjoint (D5 b) (D5 b') := by
  intro b b' hne; rw [Finset.disjoint_left]; intro y hy hy'; rw [mem_D5] at hy hy'; exact hne (Fin.ext (hy.symm.trans hy'))
theorem G4_disjoint : ∀ b b' : Fin 4, b ≠ b' → Disjoint (G4 b) (G4 b') := by
  intro b b' hne; rw [Finset.disjoint_left]; intro y hy hy'; rw [mem_G4] at hy hy'; exact hne (Fin.ext (hy.symm.trans hy'))
theorem X2_cover : (Finset.univ : Finset (Fin 2)).biUnion X2 = Finset.univ := by
  ext y; simp only [Finset.mem_biUnion, Finset.mem_univ, true_and, iff_true]; exact ⟨(y 0).cast (by decide), by rw [mem_X2]; rfl⟩
theorem O2_cover : (Finset.univ : Finset (Fin 2)).biUnion O2 = Finset.univ := by
  ext y; simp only [Finset.mem_biUnion, Finset.mem_univ, true_and, iff_true]; exact ⟨(y 0).cast (by decide), by rw [mem_O2]; rfl⟩
theorem B5_cover : (Finset.univ : Finset (Fin 5)).biUnion B5 = Finset.univ := by
  ext y; simp only [Finset.mem_biUnion, Finset.mem_univ, true_and, iff_true]; exact ⟨(y 0).cast (by decide), by rw [mem_B5]; rfl⟩
theorem I2_cover : (Finset.univ : Finset (Fin 2)).biUnion I2 = Finset.univ := by
  ext y; simp only [Finset.mem_biUnion, Finset.mem_univ, true_and, iff_true]; exact ⟨(y 0).cast (by decide), by rw [mem_I2]; rfl⟩
theorem P2_cover : (Finset.univ : Finset (Fin 2)).biUnion P2 = Finset.univ := by
  ext y; simp only [Finset.mem_biUnion, Finset.mem_univ, true_and, iff_true]; exact ⟨(y 0).cast (by decide), by rw [mem_P2]; rfl⟩
theorem D5_cover : (Finset.univ : Finset (Fin 5)).biUnion D5 = Finset.univ := by
  ext y; simp only [Finset.mem_biUnion, Finset.mem_univ, true_and, iff_true]; exact ⟨(y 0).cast (by decide), by rw [mem_D5]; rfl⟩
theorem G4_cover : (Finset.univ : Finset (Fin 4)).biUnion G4 = Finset.univ := by
  ext y; simp only [Finset.mem_biUnion, Finset.mem_univ, true_and, iff_true]
  have h1 : (y 1).val < 32 := (y 1).isLt
  exact ⟨⟨(y 1).val / 8, by omega⟩, by rw [mem_G4]⟩
end Sets

/-! ## The buffers whole and in pieces -/

section Pieces
variable (c : Dev nD)

theorem sep_fin2 (Φ : Fin 2 → sProp 𝕄) : bigSep Finset.univ Φ = iprop(Φ 0 ∗ Φ 1) :=
  bigSep_univ_eq_bigSepL [(0 : Fin 2), 1] (by decide) (by decide) Φ
theorem sep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
theorem sep_fin5 (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ
theorem sep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ
theorem sep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [(0 : Fin 10), 1, 2, 3, 4, 5, 6, 7, 8, 9] (by decide) (by decide) Φ

theorem sep_fin11 (Φ : Fin 11 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [(0 : Fin 11), 1, 2, 3, 4, 5, 6, 7, 8, 9, 10] (by decide) (by decide) Φ

theorem xP_eq (s : Fin 2) (f) : xP c s f = (((c : Thread nD τ).loc cc0_scratch0) ↦[X2 s]{fullShare} f : sProp 𝕄) :=
  congrArg (fun S => (_ ↦[S]{fullShare} f : sProp 𝕄)) (xS_set s)
theorem oP_eq (s : Fin 2) (f) : oP c s f = (((c : Thread nD τ).loc cc0_scratch13) ↦[O2 s]{fullShare} f : sProp 𝕄) :=
  congrArg (fun S => (_ ↦[S]{fullShare} f : sProp 𝕄)) (oS_set s)

theorem isP_eq (s : Fin 2) (f) : isP c s f = (((c : Thread nD τ).loc cc0_scratch4) ↦[I2 s]{fullShare} f : sProp 𝕄) :=
  congrArg (fun S => (_ ↦[S]{fullShare} f : sProp 𝕄)) (iS_set s)
theorem pP_eq (s : Fin 2) (f) : pP c s f = (((c : Thread nD τ).loc cc0_scratch12) ↦[P2 s]{fullShare} f : sProp 𝕄) :=
  congrArg (fun S => (_ ↦[S]{fullShare} f : sProp 𝕄)) (pS_set s)

theorem x_split : iprop(∃ f : Buf (Elt F) ((c : Thread nD τ).loc cc0_scratch0), ((c : Thread nD τ).loc cc0_scratch0) ↦{fullShare} f)
      ⊢ (iprop((∃ f, xP c 0 f) ∗ ∃ f, xP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) X2 X2_disjoint X2_cover f).trans (sep_fin2 _))) $$ H
  icases H2 with ⟨H0, H1⟩
  isplitl [H0]
  · iexists f; iapply (entails_of_eq (xP_eq c 0 f).symm); iexact H0
  · iexists f; iapply (entails_of_eq (xP_eq c 1 f).symm); iexact H1
theorem x_join : iprop((∃ f, xP c 0 f) ∗ ∃ f, xP c 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) X2 X2_disjoint X2_cover f0)
  irw [sep_fin2]
  isplitl [H0]
  · iexists f0; iapply (entails_of_eq (xP_eq c 0 f0)); iexact H0
  · iexists f1; iapply (entails_of_eq (xP_eq c 1 f1)); iexact H1
theorem o_split : iprop(∃ f : Buf (Elt F) ((c : Thread nD τ).loc cc0_scratch13), ((c : Thread nD τ).loc cc0_scratch13) ↦{fullShare} f)
      ⊢ (iprop((∃ f, oP c 0 f) ∗ ∃ f, oP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch13) O2 O2_disjoint O2_cover f).trans (sep_fin2 _))) $$ H
  icases H2 with ⟨H0, H1⟩
  isplitl [H0]
  · iexists f; iapply (entails_of_eq (oP_eq c 0 f).symm); iexact H0
  · iexists f; iapply (entails_of_eq (oP_eq c 1 f).symm); iexact H1
theorem o_join : iprop((∃ f, oP c 0 f) ∗ ∃ f, oP c 1 f)
      ⊢ (iprop(∃ f : Buf (Elt F) ((c : Thread nD τ).loc cc0_scratch13), ((c : Thread nD τ).loc cc0_scratch13) ↦{fullShare} f) : sProp 𝕄) := by
  iintro ⟨⟨%f0, H0⟩, ⟨%f1, H1⟩⟩
  iapply (Ring.pointsTo_blocks_join_exists (ℓ := (c : Thread nD τ).loc cc0_scratch13) O2 O2_disjoint O2_cover f0)
  irw [sep_fin2]
  isplitl [H0]
  · iexists f0; iapply (entails_of_eq (oP_eq c 0 f0)); iexact H0
  · iexists f1; iapply (entails_of_eq (oP_eq c 1 f1)); iexact H1
theorem i_split : iprop(∃ f : Buf (Elt F) ((c : Thread nD τ).loc cc0_scratch4), ((c : Thread nD τ).loc cc0_scratch4) ↦{fullShare} f)
      ⊢ (iprop((∃ f, isP c 0 f) ∗ ∃ f, isP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch4) I2 I2_disjoint I2_cover f).trans (sep_fin2 _))) $$ H
  icases H2 with ⟨H0, H1⟩
  isplitl [H0]
  · iexists f; iapply (entails_of_eq (isP_eq c 0 f).symm); iexact H0
  · iexists f; iapply (entails_of_eq (isP_eq c 1 f).symm); iexact H1
theorem i_join : iprop((∃ f, isP c 0 f) ∗ ∃ f, isP c 1 f)
      ⊢ (iprop(∃ f : Buf (Elt F) ((c : Thread nD τ).loc cc0_scratch4), ((c : Thread nD τ).loc cc0_scratch4) ↦{fullShare} f) : sProp 𝕄) := by
  iintro ⟨⟨%f0, H0⟩, ⟨%f1, H1⟩⟩
  iapply (Ring.pointsTo_blocks_join_exists (ℓ := (c : Thread nD τ).loc cc0_scratch4) I2 I2_disjoint I2_cover f0)
  irw [sep_fin2]
  isplitl [H0]
  · iexists f0; iapply (entails_of_eq (isP_eq c 0 f0)); iexact H0
  · iexists f1; iapply (entails_of_eq (isP_eq c 1 f1)); iexact H1
theorem p_split : iprop(∃ f : Buf (Elt F) ((c : Thread nD τ).loc cc0_scratch12), ((c : Thread nD τ).loc cc0_scratch12) ↦{fullShare} f)
      ⊢ (iprop((∃ f, pP c 0 f) ∗ ∃ f, pP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch12) P2 P2_disjoint P2_cover f).trans (sep_fin2 _))) $$ H
  icases H2 with ⟨H0, H1⟩
  isplitl [H0]
  · iexists f; iapply (entails_of_eq (pP_eq c 0 f).symm); iexact H0
  · iexists f; iapply (entails_of_eq (pP_eq c 1 f).symm); iexact H1
theorem p_join : iprop((∃ f, pP c 0 f) ∗ ∃ f, pP c 1 f)
      ⊢ (iprop(∃ f : Buf (Elt F) ((c : Thread nD τ).loc cc0_scratch12), ((c : Thread nD τ).loc cc0_scratch12) ↦{fullShare} f) : sProp 𝕄) := by
  iintro ⟨⟨%f0, H0⟩, ⟨%f1, H1⟩⟩
  iapply (Ring.pointsTo_blocks_join_exists (ℓ := (c : Thread nD τ).loc cc0_scratch12) P2 P2_disjoint P2_cover f0)
  irw [sep_fin2]
  isplitl [H0]
  · iexists f0; iapply (entails_of_eq (pP_eq c 0 f0)); iexact H0
  · iexists f1; iapply (entails_of_eq (pP_eq c 1 f1)); iexact H1

variable (XK : Buf (Elt F) (dkM.view.loc (c : Thread nD τ))) (XV : Buf (Elt F) (dvM.view.loc (c : Thread nD τ)))

theorem dk_eq : (((c : Thread nD τ).loc main_arg0) ↦{fullShare} XK : sProp 𝕄) = bigSep Finset.univ (dkH c XK) := by
  rw [Ring.pointsTo_blocks (ℓ := (c : Thread nD τ).loc main_arg0) B5 B5_disjoint B5_cover]
  exact bigSep_congr fun b _ => by rw [← dkB_set]; rfl
theorem dv_eq : (((c : Thread nD τ).loc main_arg1) ↦{fullShare} XV : sProp 𝕄) = bigSep Finset.univ (dvH c XV) := by
  rw [Ring.pointsTo_blocks (ℓ := (c : Thread nD τ).loc main_arg1) B5 B5_disjoint B5_cover]
  exact bigSep_congr fun b _ => by rw [← dvB_set]; rfl

theorem assoc (P Q R : sProp 𝕄) : iprop((P ∗ Q) ∗ R) = iprop(P ∗ Q ∗ R) :=
  Idealize.SL.BI.Entails.antisymm Idealize.SL.BI.sep_assoc Idealize.SL.BI.sep_assoc'
theorem sep_assoc5 (a b c d e f : sProp 𝕄) : iprop((a ∗ b ∗ c ∗ d ∗ e) ∗ f) = iprop(a ∗ b ∗ c ∗ d ∗ e ∗ f) := by
  rw [assoc, assoc, assoc, assoc]
theorem sep_assoc4 (a b c d f : sProp 𝕄) : iprop((a ∗ b ∗ c ∗ d) ∗ f) = iprop(a ∗ b ∗ c ∗ d ∗ f) := by
  rw [assoc, assoc, assoc]

/-- The two gradients whole are their ten blocks at home. -/
theorem homes_eq : bigSep Finset.univ (home c XK XV)
    = iprop((((c : Thread nD τ).loc main_arg0) ↦{fullShare} XK) ∗ (((c : Thread nD τ).loc main_arg1) ↦{fullShare} XV) : sProp 𝕄) := by
  rw [dk_eq, dv_eq, sep_fin5, sep_fin5, sep_assoc5, sep_fin10]
  rfl

variable (rk rv : S768x32x128.Idx → Elt F .f32)

theorem wk_eq (f : Buf (Elt F) (wkM.view.loc (c : Thread nD τ))) :
    (((c : Thread nD τ).loc main_v1_1) ↦{fullShare} f : sProp 𝕄) = bigSep Finset.univ (fun g : Fin 4 => wkP c g f) := by
  rw [Ring.pointsTo_blocks (ℓ := (c : Thread nD τ).loc main_v1_1) G4 G4_disjoint G4_cover]
  exact bigSep_congr fun b _ => by rw [← wkG_set]; rfl
theorem wv_eq (f : Buf (Elt F) (wvM.view.loc (c : Thread nD τ))) :
    (((c : Thread nD τ).loc main_v1_2) ↦{fullShare} f : sProp 𝕄) = bigSep Finset.univ (fun g : Fin 4 => wvP c g f) := by
  rw [Ring.pointsTo_blocks (ℓ := (c : Thread nD τ).loc main_v1_2) G4 G4_disjoint G4_cover]
  exact bigSep_congr fun b _ => by rw [← wvG_set]; rfl

/-- The eight places of the products are the two results whole; -/
theorem outs_in (f : Buf (Elt F) (wkM.view.loc (c : Thread nD τ))) (h : Buf (Elt F) (wvM.view.loc (c : Thread nD τ))) :
    iprop((((c : Thread nD τ).loc main_v1_1) ↦{fullShare} f) ∗ (((c : Thread nD τ).loc main_v1_2) ↦{fullShare} h)) ⊢ (bigSep Finset.univ (outI (F := F) c) : sProp 𝕄) := by
  rw [wk_eq, wv_eq, sep_fin4, sep_fin4, sep_assoc4, sep_fin8]
  iintro ⟨H0, H1, H2, H3, H4, H5, H6, H7⟩
  isplitl [H0]; · iapply (entails_of_eq (outI_wk c (n := 0) 0 rfl (by decide)).symm); iexists f; iexact H0
  isplitl [H1]; · iapply (entails_of_eq (outI_wk c (n := 1) 1 rfl (by decide)).symm); iexists f; iexact H1
  isplitl [H2]; · iapply (entails_of_eq (outI_wk c (n := 2) 2 rfl (by decide)).symm); iexists f; iexact H2
  isplitl [H3]; · iapply (entails_of_eq (outI_wk c (n := 3) 3 rfl (by decide)).symm); iexists f; iexact H3
  isplitl [H4]; · iapply (entails_of_eq (outI_wv c (n := 4) 0 rfl).symm); iexists h; iexact H4
  isplitl [H5]; · iapply (entails_of_eq (outI_wv c (n := 5) 1 rfl).symm); iexists h; iexact H5
  isplitl [H6]; · iapply (entails_of_eq (outI_wv c (n := 6) 2 rfl).symm); iexists h; iexact H6
  iapply (entails_of_eq (outI_wv c (n := 7) 3 rfl).symm); iexists h; iexact H7
/-- delivered, at the two products. -/
theorem outs_out : (bigSep Finset.univ (outD c rk rv) : sProp 𝕄)
    = iprop((((c : Thread nD τ).loc main_v1_1) ↦{fullShare} wkR c rk) ∗ (((c : Thread nD τ).loc main_v1_2) ↦{fullShare} wvR c rv)) := by
  rw [wk_eq, wv_eq, sep_fin4, sep_fin4, sep_assoc4, sep_fin8]
  rfl

variable (rd : S5x384x768.Idx → Elt F .bf16)

theorem dc_eq (f : Buf (Elt F) (dcM.view.loc (c : Thread nD τ))) :
    (((c : Thread nD τ).loc main_v1_0) ↦{fullShare} f : sProp 𝕄) = bigSep Finset.univ (fun b : Fin 5 => dcP c b f) := by
  rw [Ring.pointsTo_blocks (ℓ := (c : Thread nD τ).loc main_v1_0) D5 D5_disjoint D5_cover]
  exact bigSep_congr fun b _ => by rw [← dcB_set]; rfl
theorem sentI_of (b : Fin 5) (f : Buf (Elt F) ((dcB b).view.loc (c : Thread nD τ))) : dcP c b f ⊢ (sentI (F := F) c b : sProp 𝕄) := by
  unfold sentI
  iintro H
  iexists f
  iexact H

/-- The five places of the latent's gradient are that result whole; -/
theorem sents_in (f : Buf (Elt F) (dcM.view.loc (c : Thread nD τ))) :
    (((c : Thread nD τ).loc main_v1_0) ↦{fullShare} f) ⊢ (bigSep Finset.univ (sentI (F := F) c) : sProp 𝕄) := by
  rw [dc_eq, sep_fin5, sep_fin5]
  iintro ⟨H0, H1, H2, H3, H4⟩
  isplitl [H0]; · iapply (sentI_of c 0 f); iexact H0
  isplitl [H1]; · iapply (sentI_of c 1 f); iexact H1
  isplitl [H2]; · iapply (sentI_of c 2 f); iexact H2
  isplitl [H3]; · iapply (sentI_of c 3 f); iexact H3
  iapply (sentI_of c 4 f); iexact H4
/-- delivered, at the gradient. -/
theorem sents_out : (bigSep Finset.univ (sentD c rd) : sProp 𝕄) = (((c : Thread nD τ).loc main_v1_0) ↦{fullShare} dcR c rd) := by
  rw [dc_eq]
  rfl

abbrev osem : Fin 11 → SemLoc sig := ![.dma (xsm 0).sem, .dma (xsm 1).sem, .dma hsm.sem, .dma (ism 0).sem, .dma (ism 1).sem, .dma (csm 0).sem, .dma (csm 1).sem,
  .dma (psm 0).sem, .dma (psm 1).sem, .dma (osm 0).sem, .dma (osm 1).sem]
theorem ownSemFacts : Pipeline.OwnSemFacts (cfg0.spec) osem := by decide
theorem ownSems0_eq : (Pipeline.ownSems0 (Ix := Unit) (Name := ℕ) (U := UU nD τ) (Lvl := ℕ) (Val := Elt F) (τ := τ) osem c : sProp 𝕄)
    = iprop(xC (F := F) c 0 ∗ xC (F := F) c 1 ∗ hC (F := F) c ∗ iC (F := F) c 0 ∗ iC (F := F) c 1 ∗ cC (F := F) c 0 ∗ cC (F := F) c 1
        ∗ pC (F := F) c 0 ∗ pC (F := F) c 1 ∗ oC (F := F) c 0 ∗ oC (F := F) c 1) := by
  unfold Pipeline.ownSems0; rw [sep_fin11]; rfl
end Pieces

end Cert.Proof.Kernel

end
-- ==== Proof.Kernel.Launch.lean ====
/-
  The launch: what the program leaves in its three results.
-/
module

public import proofs.«01_k».proof.Proof.Kernel.Pieces
public import proofs.«01_k».proof.Proof.Gen.Kernel.Frame
public import Idealize.ShloMosaic.Lib.Pipeline.FrameValue

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

theorem ccP_eq (c : Dev nD) (f) : ccP c f = (((c : Thread nD τ).loc main_arg2) ↦{fullShare} f : sProp 𝕄) := congrArg (fun S => (_ ↦[S]{fullShare} f : sProp 𝕄)) (View.set_whole _)
theorem csP_eq (c : Dev nD) (f) : csP c f = (((c : Thread nD τ).loc main_v0) ↦{fullShare} f : sProp 𝕄) := congrArg (fun S => (_ ↦[S]{fullShare} f : sProp 𝕄)) (View.set_whole _)
theorem ukP_eq (c : Dev nD) (f) : ukP c f = (((c : Thread nD τ).loc main_arg4) ↦{fullShare} f : sProp 𝕄) := congrArg (fun S => (_ ↦[S]{fullShare} f : sProp 𝕄)) (View.set_whole _)
theorem usP_eq (c : Dev nD) (f) : usP c f = (((c : Thread nD τ).loc main_arg5) ↦{fullShare} f : sProp 𝕄) := congrArg (fun S => (_ ↦[S]{fullShare} f : sProp 𝕄)) (View.set_whole _)
theorem uvP_eq (c : Dev nD) (f) : uvP c f = (((c : Thread nD τ).loc main_arg6) ↦{fullShare} f : sProp 𝕄) := congrArg (fun S => (_ ↦[S]{fullShare} f : sProp 𝕄)) (View.set_whole _)
theorem vsP_eq (c : Dev nD) (f) : vsP c f = (((c : Thread nD τ).loc main_arg7) ↦{fullShare} f : sProp 𝕄) := congrArg (fun S => (_ ↦[S]{fullShare} f : sProp 𝕄)) (View.set_whole _)
theorem sP_eq (c : Dev nD) (f) : sP c f = (((c : Thread nD τ).loc cc0_scratch1) ↦{fullShare} f : sProp 𝕄) := congrArg (fun S => (_ ↦[S]{fullShare} f : sProp 𝕄)) (View.set_whole _)
theorem gP_eq (c : Dev nD) (f) : gP c f = (((c : Thread nD τ).loc cc0_scratch2) ↦{fullShare} f : sProp 𝕄) := congrArg (fun S => (_ ↦[S]{fullShare} f : sProp 𝕄)) (View.set_whole _)
theorem hP_eq (c : Dev nD) (f) : hP c f = (((c : Thread nD τ).loc cc0_scratch3) ↦{fullShare} f : sProp 𝕄) := congrArg (fun S => (_ ↦[S]{fullShare} f : sProp 𝕄)) (View.set_whole _)
theorem nP_eq (c : Dev nD) (f) : nP c f = (((c : Thread nD τ).loc cc0_scratch5) ↦{fullShare} f : sProp 𝕄) := congrArg (fun S => (_ ↦[S]{fullShare} f : sProp 𝕄)) (View.set_whole _)
theorem swP_eq (c : Dev nD) (f) : swP c f = (((c : Thread nD τ).loc cc0_scratch6) ↦{fullShare} f : sProp 𝕄) := congrArg (fun S => (_ ↦[S]{fullShare} f : sProp 𝕄)) (View.set_whole _)
theorem wP_eq (c : Dev nD) (f) : wP c f = (((c : Thread nD τ).loc cc0_scratch7) ↦{fullShare} f : sProp 𝕄) := congrArg (fun S => (_ ↦[S]{fullShare} f : sProp 𝕄)) (View.set_whole _)
theorem rP_eq (c : Dev nD) (f) : rP c f = (((c : Thread nD τ).loc cc0_scratch8) ↦{fullShare} f : sProp 𝕄) := congrArg (fun S => (_ ↦[S]{fullShare} f : sProp 𝕄)) (View.set_whole _)
theorem lP_eq (c : Dev nD) (f) : lP c f = (((c : Thread nD τ).loc cc0_scratch9) ↦{fullShare} f : sProp 𝕄) := congrArg (fun S => (_ ↦[S]{fullShare} f : sProp 𝕄)) (View.set_whole _)
theorem tP_eq (c : Dev nD) (f) : tP c f = (((c : Thread nD τ).loc cc0_scratch10) ↦{fullShare} f : sProp 𝕄) := congrArg (fun S => (_ ↦[S]{fullShare} f : sProp 𝕄)) (View.set_whole _)
theorem aP_eq (c : Dev nD) (f) : aP c f = (((c : Thread nD τ).loc cc0_scratch11) ↦{fullShare} f : sProp 𝕄) := congrArg (fun S => (_ ↦[S]{fullShare} f : sProp 𝕄)) (View.set_whole _)

set_option maxRecDepth 16384

section Launch
variable (m : (ℓ : Loc nD τ sig) → Buf (Elt F) ℓ) (ρ : Dev nD → PrngReg)

/-- The operands as the kernel finds them, and the three results it leaves. -/
abbrev XKm (c : Dev nD) : Buf (Elt F) (dkM.view.loc (c : Thread nD τ)) := V m c main_arg0
abbrev XVm (c : Dev nD) : Buf (Elt F) (dvM.view.loc (c : Thread nD τ)) := V m c main_arg1
abbrev CCm (c : Dev nD) : Buf (Elt F) (ccM.view.loc (c : Thread nD τ)) := V m c main_arg2
abbrev CSm (c : Dev nD) : Buf (Elt F) (csM.view.loc (c : Thread nD τ)) := V m c main_v0
abbrev UKm (c : Dev nD) : Buf (Elt F) (ukM.view.loc (c : Thread nD τ)) := V m c main_arg4
abbrev USm (c : Dev nD) : Buf (Elt F) (usM.view.loc (c : Thread nD τ)) := V m c main_arg5
abbrev UVm (c : Dev nD) : Buf (Elt F) (uvM.view.loc (c : Thread nD τ)) := V m c main_arg6
abbrev VSm (c : Dev nD) : Buf (Elt F) (vsM.view.loc (c : Thread nD τ)) := V m c main_arg7
abbrev RKm (c : Dev nD) : S768x32x128.Idx → Elt F .f32 := RK c (XKm m c) (XVm m c) (CCm m c) (CSm m c)
abbrev RVm (c : Dev nD) : S768x32x128.Idx → Elt F .f32 := RV c (XKm m c) (XVm m c) (CCm m c) (CSm m c)
abbrev RCm (c : Dev nD) : S5x384x768.Idx → Elt F .bf16 := RC c (XKm m c) (XVm m c) (UKm m c) (USm m c) (UVm m c) (VSm m c)

abbrev HH : Finset (Ref sig .tc) := {main_arg0, main_arg1, main_arg2, main_v0, main_arg4, main_arg5, main_arg6, main_arg7}
abbrev RR : Finset (Ref sig .tc) := {main_v1_0, main_v1_1, main_v1_2}

/-- What the written buffers hold at the end. -/
def endV (c : Dev nD) : (b : Ref sig .tc) → Buf (Elt F) ((c : Thread nD τ).loc b) :=
  Function.update (Function.update (Function.update (V m c) main_v1_0 (dcR c (RCm m c))) main_v1_1 (wkR c (RKm m c))) main_v1_2 (wvR c (RVm m c))
theorem endV_dc (c : Dev nD) : endV m c main_v1_0 = dcR c (RCm m c) := by
  unfold endV; rw [Function.update_of_ne (by decide), Function.update_of_ne (by decide), Function.update_self]
theorem endV_wk (c : Dev nD) : endV m c main_v1_1 = wkR c (RKm m c) := by
  unfold endV; rw [Function.update_of_ne (by decide), Function.update_self]
theorem endV_wv (c : Dev nD) : endV m c main_v1_2 = wvR c (RVm m c) := by
  unfold endV; rw [Function.update_self]

/-- The invariant's conjuncts. -/
theorem end_eq (G : (c : Dev nD) → (b : Ref sig .tc) → Buf (Elt F) ((c : Thread nD τ).loc b)) (c : Dev nD) :
    (Pipeline.ΦDRG osem (cfg0.spec) HH RR (V m) G c : sProp 𝕄)
      = iprop(Pipeline.scopedRest (Ix := Unit) (Name := ℕ) (U := UU nD τ) (Lvl := ℕ) (Val := Elt F) (cfg0.spec) c ∗ (∃ r, prngReg c r)
          ∗ Pipeline.ownSems0 (Ix := Unit) (Name := ℕ) (U := UU nD τ) (Lvl := ℕ) (Val := Elt F) (τ := τ) osem c
          ∗ ((((c : Thread nD τ).loc main_arg0) ↦{fullShare} V m c main_arg0) ∗ (((c : Thread nD τ).loc main_arg1) ↦{fullShare} V m c main_arg1)
            ∗ (((c : Thread nD τ).loc main_arg2) ↦{fullShare} V m c main_arg2) ∗ (((c : Thread nD τ).loc main_v0) ↦{fullShare} V m c main_v0)
            ∗ (((c : Thread nD τ).loc main_arg4) ↦{fullShare} V m c main_arg4) ∗ (((c : Thread nD τ).loc main_arg5) ↦{fullShare} V m c main_arg5)
            ∗ (((c : Thread nD τ).loc main_arg6) ↦{fullShare} V m c main_arg6) ∗ (((c : Thread nD τ).loc main_arg7) ↦{fullShare} V m c main_arg7))
          ∗ ((((c : Thread nD τ).loc main_v1_0) ↦{fullShare} G c main_v1_0) ∗ (((c : Thread nD τ).loc main_v1_1) ↦{fullShare} G c main_v1_1) ∗ (((c : Thread nD τ).loc main_v1_2) ↦{fullShare} G c main_v1_2))) := by
  rw [Pipeline.ΦDRG_eq]
  unfold Pipeline.routed
  rw [bigSep_eq_bigSepL_of_eq [main_arg0, main_arg1, main_arg2, main_v0, main_arg4, main_arg5, main_arg6, main_arg7] (by decide) (by decide),
    bigSep_eq_bigSepL_of_eq [main_v1_0, main_v1_1, main_v1_2] (by decide) (by decide)]
  rfl

theorem enter (c : Dev nD) : (Pipeline.ΦDRG osem (cfg0.spec) HH RR (V m) (V m) c : sProp 𝕄)
    ⊢ PRE c (XKm m c) (XVm m c) (CCm m c) (CSm m c) (UKm m c) (USm m c) (UVm m c) (VSm m c) ∗ (∃ r, prngReg c r) := by
  rw [end_eq, scopedRest0_eq, ownSems0_eq]
  unfold PRE argsP rest
  rw [homes_eq]
  iintro ⟨⟨HX, HS, HG, HH, HIM, HN, HSW, HWT, HR, HL, HT, HA, HPM, HO⟩, HP, ⟨Hx0, Hx1, Hh, Hi0, Hi1, Hc0, Hc1, Hp0, Hp1, Ho0, Ho1⟩, ⟨HA0, HA1, HA2, HA3, HA4, HA5, HA6, HA7⟩, ⟨HD, HK, HV⟩⟩
  isplitr [HP]
  · isplitl [HA0 HA1 HA2 HA3 HA4 HA5 HA6 HA7]
    · isplitl [HA0 HA1]
      · isplitl [HA0]; · iexact HA0
        iexact HA1
      isplitl [HA2]; · iapply (entails_of_eq (ccP_eq c _).symm); iexact HA2
      isplitl [HA3]; · iapply (entails_of_eq (csP_eq c _).symm); iexact HA3
      isplitl [HA4]; · iapply (entails_of_eq (ukP_eq c _).symm); iexact HA4
      isplitl [HA5]; · iapply (entails_of_eq (usP_eq c _).symm); iexact HA5
      isplitl [HA6]; · iapply (entails_of_eq (uvP_eq c _).symm); iexact HA6
      iapply (entails_of_eq (vsP_eq c _).symm); iexact HA7
    isplitl [HK HV]
    · iapply (outs_in c (V m c main_v1_1) (V m c main_v1_2))
      isplitl [HK]; · iexact HK
      iexact HV
    isplitl [HD]
    · iapply (sents_in c (V m c main_v1_0))
      iexact HD
    ihave HX' := (x_split c) $$ HX
    icases HX' with ⟨HX0, HX1⟩
    ihave HIM' := (i_split c) $$ HIM
    icases HIM' with ⟨HI0, HI1⟩
    ihave HPM' := (p_split c) $$ HPM
    icases HPM' with ⟨HP0, HP1⟩
    ihave HO' := (o_split c) $$ HO
    icases HO' with ⟨HO0, HO1⟩
    isplitl [HX0]; · iexact HX0
    isplitl [HX1]; · iexact HX1
    isplitl [HS]; · icases HS with ⟨%f, HS⟩; iexists f; iapply (entails_of_eq (sP_eq c f).symm); iexact HS
    isplitl [HG]; · icases HG with ⟨%f, HG⟩; iexists f; iapply (entails_of_eq (gP_eq c f).symm); iexact HG
    isplitl [HH]; · icases HH with ⟨%f, HH⟩; iexists f; iapply (entails_of_eq (hP_eq c f).symm); iexact HH
    isplitl [HI0]; · iexact HI0
    isplitl [HI1]; · iexact HI1
    isplitl [HN]; · icases HN with ⟨%f, HN⟩; iexists f; iapply (entails_of_eq (nP_eq c f).symm); iexact HN
    isplitl [HSW]; · icases HSW with ⟨%f, HSW⟩; iexists f; iapply (entails_of_eq (swP_eq c f).symm); iexact HSW
    isplitl [HWT]; · icases HWT with ⟨%f, HWT⟩; iexists f; iapply (entails_of_eq (wP_eq c f).symm); iexact HWT
    isplitl [HR]; · icases HR with ⟨%f, HR⟩; iexists f; iapply (entails_of_eq (rP_eq c f).symm); iexact HR
    isplitl [HL]; · icases HL with ⟨%f, HL⟩; iexists f; iapply (entails_of_eq (lP_eq c f).symm); iexact HL
    isplitl [HT]; · icases HT with ⟨%f, HT⟩; iexists f; iapply (entails_of_eq (tP_eq c f).symm); iexact HT
    isplitl [HA]; · icases HA with ⟨%f, HA⟩; iexists f; iapply (entails_of_eq (aP_eq c f).symm); iexact HA
    isplitl [HP0]; · iexact HP0
    isplitl [HP1]; · iexact HP1
    isplitl [HO0]; · iexact HO0
    isplitl [HO1]; · iexact HO1
    isplitl [Hx0]; · iexact Hx0
    isplitl [Hx1]; · iexact Hx1
    isplitl [Hh]; · iexact Hh
    isplitl [Hi0]; · iexact Hi0
    isplitl [Hi1]; · iexact Hi1
    isplitl [Hc0]; · iexact Hc0
    isplitl [Hc1]; · iexact Hc1
    isplitl [Hp0]; · iexact Hp0
    isplitl [Hp1]; · iexact Hp1
    isplitl [Ho0]; · iexact Ho0
    iexact Ho1
  iexact HP

theorem leave (c : Dev nD) : iprop(POST c (XKm m c) (XVm m c) (CCm m c) (CSm m c) (UKm m c) (USm m c) (UVm m c) (VSm m c) ∗ (∃ r, prngReg c r))
    ⊢ (Pipeline.ΦDRG osem (cfg0.spec) HH RR (V m) (endV m) c : sProp 𝕄) := by
  rw [end_eq, scopedRest0_eq, ownSems0_eq, endV_dc, endV_wk, endV_wv]
  unfold POST argsP rest
  rw [homes_eq, outs_out, sents_out]
  iintro ⟨⟨⟨⟨HA0, HA1⟩, HA2, HA3, HA4, HA5, HA6, HA7⟩, ⟨HK, HV⟩, HD, HX0, HX1, HS, HG, HH, HI0, HI1, HN, HSW, HWT, HR, HL, HT, HA, HP0, HP1, HO0, HO1, Hx0, Hx1, Hh, Hi0, Hi1, Hc0, Hc1, Hp0, Hp1, Ho0, Ho1⟩, HP⟩
  isplitl [HX0 HX1 HS HG HH HI0 HI1 HN HSW HWT HR HL HT HA HP0 HP1 HO0 HO1]
  · isplitl [HX0 HX1]
    · iapply (x_join c)
      isplitl [HX0]; · iexact HX0
      iexact HX1
    isplitl [HS]; · icases HS with ⟨%f, HS⟩; iexists f; iapply (entails_of_eq (sP_eq c f)); iexact HS
    isplitl [HG]; · icases HG with ⟨%f, HG⟩; iexists f; iapply (entails_of_eq (gP_eq c f)); iexact HG
    isplitl [HH]; · icases HH with ⟨%f, HH⟩; iexists f; iapply (entails_of_eq (hP_eq c f)); iexact HH
    isplitl [HI0 HI1]
    · iapply (i_join c)
      isplitl [HI0]; · iexact HI0
      iexact HI1
    isplitl [HN]; · icases HN with ⟨%f, HN⟩; iexists f; iapply (entails_of_eq (nP_eq c f)); iexact HN
    isplitl [HSW]; · icases HSW with ⟨%f, HSW⟩; iexists f; iapply (entails_of_eq (swP_eq c f)); iexact HSW
    isplitl [HWT]; · icases HWT with ⟨%f, HWT⟩; iexists f; iapply (entails_of_eq (wP_eq c f)); iexact HWT
    isplitl [HR]; · icases HR with ⟨%f, HR⟩; iexists f; iapply (entails_of_eq (rP_eq c f)); iexact HR
    isplitl [HL]; · icases HL with ⟨%f, HL⟩; iexists f; iapply (entails_of_eq (lP_eq c f)); iexact HL
    isplitl [HT]; · icases HT with ⟨%f, HT⟩; iexists f; iapply (entails_of_eq (tP_eq c f)); iexact HT
    isplitl [HA]; · icases HA with ⟨%f, HA⟩; iexists f; iapply (entails_of_eq (aP_eq c f)); iexact HA
    isplitl [HP0 HP1]
    · iapply (p_join c)
      isplitl [HP0]; · iexact HP0
      iexact HP1
    iapply (o_join c)
    isplitl [HO0]; · iexact HO0
    iexact HO1
  isplitl [HP]; · iexact HP
  isplitl [Hx0 Hx1 Hh Hi0 Hi1 Hc0 Hc1 Hp0 Hp1 Ho0 Ho1]
  · isplitl [Hx0]; · iexact Hx0
    isplitl [Hx1]; · iexact Hx1
    isplitl [Hh]; · iexact Hh
    isplitl [Hi0]; · iexact Hi0
    isplitl [Hi1]; · iexact Hi1
    isplitl [Hc0]; · iexact Hc0
    isplitl [Hc1]; · iexact Hc1
    isplitl [Hp0]; · iexact Hp0
    isplitl [Hp1]; · iexact Hp1
    isplitl [Ho0]; · iexact Ho0
    iexact Ho1
  isplitr [HD HK HV]
  · isplitl [HA0]; · iexact HA0
    isplitl [HA1]; · iexact HA1
    isplitl [HA2]; · iapply (entails_of_eq (ccP_eq c _)); iexact HA2
    isplitl [HA3]; · iapply (entails_of_eq (csP_eq c _)); iexact HA3
    isplitl [HA4]; · iapply (entails_of_eq (ukP_eq c _)); iexact HA4
    isplitl [HA5]; · iapply (entails_of_eq (usP_eq c _)); iexact HA5
    isplitl [HA6]; · iapply (entails_of_eq (uvP_eq c _)); iexact HA6
    iapply (entails_of_eq (vsP_eq c _)); iexact HA7
  isplitl [HD]; · iexact HD
  isplitl [HK]; · iexact HK
  iexact HV

/-! ## The proof data and the body's obligation -/

def dats (_ : Fin 1) (c : Dev nD) : Pipeline.Dat τ (Elt F) Unit ℕ (UU nD τ) ℕ cfg0 c where
  A w := w.elim0
  after w := w.elim0
  Φ t := if t.val = 0 then Pipeline.ΦDRG osem (cfg0.spec) HH RR (V m) (V m) c else Pipeline.ΦDRG osem (cfg0.spec) HH RR (V m) (endV m) c
  q w := w.elim0
  owed _ := 0

theorem defs_tc : (defs₀ (F := F)) .tc cfg0.body = fun a => bodyG := rfl
theorem prog_eq (t : Fin cfg0.N) : (defs₀ (F := F)) .tc cfg0.body (cfg0.bodyArgs t (cfg0.slots t)) = bodyG :=
  (congrFun defs_tc _).trans rfl

theorem W_empty (Φ : Fin cfg0.W → sProp 𝕄) : bigSep Finset.univ Φ = (BI.emp : sProp 𝕄) :=
  (congrArg (fun s => bigSep s Φ) (by decide : (Finset.univ : Finset (Fin cfg0.W)) = ∅)).trans BI.bigSep_empty

set_option backward.isDefEq.respectTransparency.types false in
theorem body_obligation (c : Dev nD) : Pipeline.BodyObligationLoose (dats (F := F) m 0 c) (defs₀ (F := F)) 𝒱₀ () Set.univ := fun t => by
  obtain rfl : t = t0_0 := fin_N0 t
  rw [W_empty, W_empty]
  rw [show (dats m 0 c).Φ (Fin.castSucc t0_0) = Pipeline.ΦDRG osem (cfg0.spec) HH RR (V m) (V m) c from rfl,
    show (dats m 0 c).Φ (Fin.succ t0_0) = Pipeline.ΦDRG osem (cfg0.spec) HH RR (V m) (endV m) c from rfl]
  unfold Pipeline.Dat.owesAt Pipeline.owesWithin
  rw [show (dats m 0 c).owed (Fin.castSucc t0_0) = 0 from rfl, show (dats m 0 c).owed (Fin.succ t0_0) = 0 from rfl]
  iintro ⟨HΦ, ⟨%W, -, HW⟩, -⟩
  ihave HE := (enter m c) $$ HΦ
  icases HE with ⟨HB, HP⟩
  sl_rw [prog_eq t0_0]
  iapply (bodyRun c (XKm m c) (XVm m c) (CCm m c) (CSm m c) (UKm m c) (USm m c) (UVm m c) (VSm m c))
  isplitl [HB HW]
  · isplitl [HB]; · iexact HB
    iexists W; iexact HW
  iintro ⟨HB, ⟨%W', HW⟩⟩
  isplitl [HB HP]
  · iapply (leave m c)
    isplitl [HB]; · iexact HB
    iexact HP
  isplitl [HW]
  · iexists W'; isplitr; · ipureintro; exact fun _ _ => Or.inl trivial
    iexact HW
  iempintro

/-! ## The run -/

/-- Every run ends with the three results at their values, every argument unchanged, every semaphore at zero. -/
theorem run_main : θ_run (defs (F := F)) (onTc (τ := τ) (main (F := F))) (s₀ m ρ) (fun r =>
    (∀ c : Dev nD, r.2.mem ((c : Thread nD τ).loc main_v1_0) = dcR c (RCm m c)
      ∧ r.2.mem ((c : Thread nD τ).loc main_v1_1) = wkR c (RKm m c) ∧ r.2.mem ((c : Thread nD τ).loc main_v1_2) = wvR c (RVm m c)
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4) ∧ r.2.mem ((c : Thread nD τ).loc main_arg5) = m ((c : Thread nD τ).loc main_arg5)
      ∧ r.2.mem ((c : Thread nD τ).loc main_arg6) = m ((c : Thread nD τ).loc main_arg6) ∧ r.2.mem ((c : Thread nD τ).loc main_arg7) = m ((c : Thread nD τ).loc main_arg7))
    ∧ r.2.sem = fun _ => 0) :=
  Pipeline.θ_run_frame_dmaRG cfgs (dats m) 0 launch0 osem defs₀ 𝒱₀ ownSemFacts HH RR (by decide) (by decide) m ρ main
    (fun c => body_obligation m c) (fun _ w => w.elim0) (fun _ _ => rfl) (V m)
    (Pipeline.hmain_prefix cfgs 0 defs₀ 𝒱₀ m main hostOps0 hostOps0_sub hostOps0_fresh main_chain)
    (fun _ w => w.elim0) (endV m) (fun _ => .rfl) (fun _ => .rfl) _
    (fun r h => ⟨fun c => by
      have hr : ∀ (b : Ref sig .tc), b ∈ Pipeline.restRefs sig (cfg0.spec) \ RR → r.2.mem ((c : Thread nD τ).loc b) = V m c b := (h.1.toR c).2
      exact ⟨(h.1.written c (b := main_v1_0) (by decide)).trans (endV_dc m c), (h.1.written c (b := main_v1_1) (by decide)).trans (endV_wk m c), (h.1.written c (b := main_v1_2) (by decide)).trans (endV_wv m c),
        (hr main_arg0 (by decide)).trans (V_main_arg0 m c), (hr main_arg1 (by decide)).trans (V_main_arg1 m c),
        (hr main_arg2 (by decide)).trans (V_main_arg2 m c), (hr main_arg3 (by decide)).trans (V_main_arg3 m c),
        (hr main_arg4 (by decide)).trans (V_main_arg4 m c), (hr main_arg5 (by decide)).trans (V_main_arg5 m c),
        (hr main_arg6 (by decide)).trans (V_main_arg6 m c), (hr main_arg7 (by decide)).trans (V_main_arg7 m c)⟩, h.2⟩)
end Launch

end Cert.Proof.Kernel

end
-- ==== Proof.Values.Core.lean ====
/-
  The products at exact values, of the reference and of the kernel: an element of a weight's gradient as one sum over the
  1920 tokens, and an element of the latent's gradient as two sums over the 4096 columns of heads and dimensions.
-/
module

public import proofs.«01_k».proof.Proof.Kernel.Inv
public import proofs.«01_k».proof.Proof.Kernel.Scale
public import proofs.«01_k».proof.Proof.Gen.ReferenceIdeal.Value
public import Idealize.ShloMosaic.Lib.Pipeline.ValueKit

@[expose] public section

noncomputable section

namespace Cert.Proof.Values

open Idealize.ShloMosaic
open Idealize.ShloMosaic.TcCoe Idealize.ShloMosaic.Tactic

set_option maxRecDepth 16384

/-- The widened latent at token `k` (batch `k / 384`, position `k % 384`) and rank `r`. -/
def lat (CC : Vec Ideal Cert.Kernel.S5x384x768 .fp8e4m3) (CS : Vec Ideal Cert.ReferenceIdeal.S5x384x6 .f32) (k : Fin 1920) (r : Fin 768) : Elt Ideal .bf16 :=
  FloatOps.mulf (F := Ideal) (φ := .bf16)
    (FloatOps.extf .bf16 Cert.ReferenceIdeal.Gen.bitsLt_fp8e4m3_bf16 (CC (ix3 ⟨k.val / 384, by omega⟩ ⟨k.val % 384, by omega⟩ r)))
    (FloatOps.truncf .bf16 Cert.ReferenceIdeal.Gen.bitsLt_bf16_f32 (CS (ix3 ⟨k.val / 384, by omega⟩ ⟨k.val % 384, by omega⟩ ⟨r.val / 128, by omega⟩)))

/-- The gradient at token `k`, head `h` and dimension `d`. -/
def grad (X : Vec Ideal Cert.ReferenceIdeal.S5x384x32x128 .bf16) (k : Fin 1920) (h : Fin 32) (d : Fin 128) : Elt Ideal .bf16 :=
  X (ix4 ⟨k.val / 384, by omega⟩ ⟨k.val % 384, by omega⟩ h d)

/-- The widened weight at rank `r` and column `q` (head `q / 128`, dimension `q % 128`). -/
def wt (W : Vec Ideal Cert.ReferenceIdeal.S768x32x128 .fp8e4m3) (S : Vec Ideal Cert.ReferenceIdeal.S6x32 .f32) (r : Fin 768) (q : Fin 4096) : Elt Ideal .bf16 :=
  FloatOps.mulf (F := Ideal) (φ := .bf16)
    (FloatOps.extf .bf16 Cert.ReferenceIdeal.Gen.bitsLt_fp8e4m3_bf16 (W (ix3 r ⟨q.val / 128, by omega⟩ ⟨q.val % 128, by omega⟩)))
    (FloatOps.truncf .bf16 Cert.ReferenceIdeal.Gen.bitsLt_bf16_f32 (S (ix2 ⟨r.val / 128, by omega⟩ ⟨q.val / 128, by omega⟩)))

/-- A gradient times a widened weight: their product at token `s` of batch `b` and rank `r`. -/
def back (X : Vec Ideal Cert.ReferenceIdeal.S5x384x32x128 .bf16) (W : Vec Ideal Cert.ReferenceIdeal.S768x32x128 .fp8e4m3) (S : Vec Ideal Cert.ReferenceIdeal.S6x32 .f32)
    (b : Fin 5) (s : Fin 384) (r : Fin 768) : Elt Ideal .f32 :=
  ∑ q : Fin 4096, (X (ix4 b s ⟨q.val / 128, by omega⟩ ⟨q.val % 128, by omega⟩) * wt W S r q : EReal)

section Reference
open Cert.ReferenceIdeal Cert.ReferenceIdeal.Gen

theorem lat_eq (CC : Vec Ideal S5x384x768 .fp8e4m3) (CS : Vec Ideal S5x384x6 .f32) (k : Fin 1920) (r : Fin 768) :
    k0_pay2 CC CS (ix2 k r) = lat CC CS k r := by
  unfold lat
  pointwise [k0_pay2]

theorem grad_eq (X : Vec Ideal S5x384x32x128 .bf16) (h' : S5x384x32x128.ShapeCasts S1920x4096) (k : Fin 1920) (h : Fin 32) (d : Fin 128) :
    shapeCast S1920x4096 X h' (ix2 k ⟨h.val * 128 + d.val, by omega⟩) = grad X k h d := by
  unfold grad
  pointwise

theorem mm_ref (A : FVec Ideal S1920x768 .bf16) (B : FVec Ideal S1920x4096 .bf16) (r : Fin 768) (q : Fin 4096) :
    matmul dot_S1920x768_S1920x4096_S768x4096_0_0_1_1_n_n none A B (constant S768x4096 .f32 0x00000000#32) (ix2 r q)
      = ∑ k : Fin 1920, (A (ix2 k r) * B (ix2 k q) : EReal) := by
  pointwise

theorem cast_out {α : Type} (v : S768x4096.Idx → α) (h') (r : Fin 768) (h : Fin 32) (d : Fin 128) :
    shapeCast S768x32x128 v h' (ix3 r h d) = v (ix2 r ⟨h.val * 128 + d.val, by omega⟩) := by
  pointwise

theorem ref_at (CC : Vec Ideal S5x384x768 .fp8e4m3) (CS : Vec Ideal S5x384x6 .f32) (X : Vec Ideal S5x384x32x128 .bf16) (r : Fin 768) (h : Fin 32) (d : Fin 128) :
    k0_pay4 CC CS X (ix3 r h d) = ∑ k : Fin 1920, (lat CC CS k r * grad X k h d : EReal) := by
  unfold k0_pay4 k0_pay3
  refine (cast_out _ _ _ _ _).trans ((mm_ref _ _ _ _).trans (Finset.sum_congr rfl fun k _ => ?_))
  rw [lat_eq, grad_eq]

theorem ref_at' (CC : Vec Ideal S5x384x768 .fp8e4m3) (CS : Vec Ideal S5x384x6 .f32) (X : Vec Ideal S5x384x32x128 .bf16) : k0_pay7 CC CS X = k0_pay4 CC CS X := rfl

theorem wt_eq (W : Vec Ideal S768x32x128 .fp8e4m3) (S : Vec Ideal S6x32 .f32) (h₁ h₂ h₃ h₄) (r : Fin 768) (q : Fin 4096) :
    shapeCast S768x4096 (mulf (F := Ideal) (φ := .bf16) (shapeCast S6x128x32x128 (extf (F := Ideal) .bf16 W bitsLt_fp8e4m3_bf16) h₁)
      (broadcastTo S6x128x32x128 (shapeCast S6x1x32x1 (truncf (F := Ideal) .bf16 S bitsLt_bf16_f32) h₂) h₃)) h₄ (ix2 r q) = wt W S r q := by
  unfold wt
  pointwise

theorem mm_back (A : FVec Ideal S1920x4096 .bf16) (B : FVec Ideal S768x4096 .bf16) (k : Fin 1920) (r : Fin 768) :
    matmul dot_S1920x4096_S768x4096_S1920x768_1_1_0_0_n_n none A B (constant S1920x768 .f32 0x00000000#32) (ix2 k r)
      = ∑ q : Fin 4096, (A (ix2 k q) * B (ix2 r q) : EReal) := by
  pointwise

theorem cast_dc {α : Type} (v : S1920x768.Idx → α) (h') (b : Fin 5) (s : Fin 384) (r : Fin 768) :
    shapeCast S5x384x768 v h' (ix3 b s r) = v (ix2 ⟨b.val * 384 + s.val, by omega⟩ r) := by
  pointwise

theorem grad_at {α : Type} (v : S5x384x32x128.Idx → α) (h') (b : Fin 5) (s : Fin 384) (q : Fin 4096) :
    shapeCast S1920x4096 v h' (ix2 ⟨b.val * 384 + s.val, by omega⟩ q) = v (ix4 b s ⟨q.val / 128, by omega⟩ ⟨q.val % 128, by omega⟩) := by
  pointwise

/-- The reference's element of the latent's gradient. -/
theorem ref_dc (XK XV : Vec Ideal S5x384x32x128 .bf16) (WK WV : Vec Ideal S768x32x128 .fp8e4m3) (SK SV : Vec Ideal S6x32 .f32) (b : Fin 5) (s : Fin 384) (r : Fin 768) :
    k0_pay1 (k0_pay5 XK WK SK) (k0_pay6 XV) WV SV (ix3 b s r)
      = FloatOps.truncf (F := Ideal) .bf16 bitsLt_bf16_f32 (FloatOps.addf (F := Ideal) (φ := .f32) (back XK WK SK b s r) (back XV WV SV b s r)) := by
  unfold k0_pay1 k0_pay5 k0_pay6 k0_pay3
  refine (cast_dc _ _ _ _ _).trans (congrArg (FloatOps.truncf (F := Ideal) .bf16 bitsLt_bf16_f32) (congrArg₂ (FloatOps.addf (F := Ideal) (φ := .f32)) ?_ ?_))
  · refine (mm_back _ _ _ _).trans (Finset.sum_congr rfl fun q _ => congrArg₂ (fun a b : EReal => a * b) (grad_at _ _ _ _ _) (wt_eq _ _ _ _ _ _ _ _))
  · refine (mm_back _ _ _ _).trans (Finset.sum_congr rfl fun q _ => congrArg₂ (fun a b : EReal => a * b) (grad_at _ _ _ _ _) (wt_eq _ _ _ _ _ _ _ _))

end Reference

section Kernel
open Cert.Kernel Cert.Kernel.Gen Cert.Proof.Kernel
variable (c : Dev nD)

theorem mm_ker (A : FVec Ideal S768x1920 .bf16) (B : FVec Ideal S1920x256 .bf16) (r : Fin 768) (q : Fin 256) :
    matmul dot_S768x1920_S1920x256_S768x256_1_0_0_1_n_n none A B (constant S768x256 .f32 0x00000000#32) (ix2 r q)
      = ∑ k : Fin 1920, (A (ix2 r k) * B (ix2 k q) : EReal) := by
  pointwise

variable (XK : Buf (Elt Ideal) (dkM.view.loc (c : Thread nD τ))) (XV : Buf (Elt Ideal) (dvM.view.loc (c : Thread nD τ)))
variable (fr : Buf (Elt Ideal) (rM.view.loc (c : Thread nD τ))) (fl : Buf (Elt Ideal) (lM.view.loc (c : Thread nD τ)))
variable (CC : Vec Ideal Cert.Kernel.S5x384x768 .fp8e4m3) (CS : Vec Ideal Cert.ReferenceIdeal.S5x384x6 .f32)
  (X : Vec Ideal Cert.ReferenceIdeal.S5x384x32x128 .bf16)

/-- The kernel's element of a weight's gradient, given what its buffers and blocks hold. -/
theorem ker_at (o : ℕ) (hr : rM.view.read (Elt Ideal) fr = CC)
    (hl : ∀ (b : Fin 5) (g : Fin 6) (s : Fin 384), lM.view.read (Elt Ideal) fl (ix3 b g s) = CS (ix3 b s g))
    (hx : ∀ (b : Fin 5) (s : Fin 384) (h : Fin 32) (d : Fin 128), blk c XK XV (Ring.bk 10 (o + b.val)) (ix3 s h d) = X (ix4 b s h d))
    (r : Fin 768) (h : Fin 32) (d : Fin 128) :
    RW c XK XV fr fl o (ix3 r h d) = ∑ k : Fin 1920, (lat CC CS k r * grad X k h d : EReal) := by
  unfold RW
  refine (mm_ker _ _ _ _).trans (Finset.sum_congr rfl fun k _ => ?_)
  have hk := k.isLt
  have hd := d.isLt
  refine congrArg₂ (fun a b : EReal => a * b) ?_ ?_
  · unfold lat TT
    refine congrArg₂ (FloatOps.mulf (F := Ideal) (φ := .bf16))
      (congrArg (FloatOps.extf .bf16 _) ((congrFun hr _).trans (congrArg CC (funext fun a => Fin.ext ?_))))
      (congrArg (FloatOps.truncf .bf16 _) ((hl _ _ _).trans (congrArg CS (funext fun a => Fin.ext ?_))))
    · fin_cases a
      · show k.val / 128 / 3 = k.val / 384; omega
      · show 128 * (k.val / 128 % 3) + k.val % 128 = k.val % 384; omega
      · rfl
    · fin_cases a
      · show k.val / 128 / 3 = k.val / 384; omega
      · show 128 * (k.val / 128 % 3) + k.val % 128 = k.val % 384; omega
      · rfl
  · unfold grad GV
    refine (hx ⟨k.val / 384, by omega⟩ _ _ _).trans (congrArg X (funext fun a => Fin.ext ?_))
    fin_cases a
    · rfl
    · rfl
    · show 2 * (h.val / 2) + (128 * (h.val % 2) + d.val) / 128 = h.val; omega
    · show (128 * (h.val % 2) + d.val) % 128 = d.val; omega

/-- The masked sum over a row of scales picks the scale of head `h`, and puts it in every lane. -/
theorem diag_at (v : Vec Ideal S1x1x32 .f32) (h : Fin 32) (d : Fin 128) :
    k0_pay409 v (ix4 0 0 h d) = FloatOps.truncf (F := Ideal) .bf16 bitsLt_bf16_f32 (v (ix3 0 0 h)) := by
  pointwise [k0_pay409]
  refine (Finset.sum_eq_single h (fun x _ hx => ?_) (fun hn => absurd (Finset.mem_univ h) hn)).trans ?_
  · have e : IntOp.cmpi CmpIPredicate.eq (BitVec.ofNat 32 h.val) (BitVec.ofNat 32 x.val) = 0#1 := by
      revert hx; revert x; revert h; decide
    rw [e]; rfl
  · have e : IntOp.cmpi CmpIPredicate.eq (BitVec.ofNat 32 h.val) (BitVec.ofNat 32 h.val) = 1#1 := by
      revert h; decide
    rw [e]; rfl

theorem mm_dc (A : FVec Ideal S384x4096 .bf16) (B : FVec Ideal S768x4096 .bf16) (s : Fin 384) (r : Fin 768) :
    matmul dot_S384x4096_S768x4096_S384x768_1_1_0_0_n_n none A B (constant S384x768 .f32 0x00000000#32) (ix2 s r)
      = ∑ q : Fin 4096, (A (ix2 s q) * B (ix2 r q) : EReal) := by
  pointwise

/-- A column of the kernel's widened weight, given what its buffers of codes and scales hold. -/
theorem ww_at (fh : Buf (Elt Ideal) (hM.view.loc (c : Thread nD τ))) (fn : Buf (Elt Ideal) (nM.view.loc (c : Thread nD τ))) (kv : Fin 2)
    (W : Vec Ideal Cert.ReferenceIdeal.S768x32x128 .fp8e4m3) (us vs S : Vec Ideal Cert.ReferenceIdeal.S6x32 .f32)
    (hh : hM.view.read (Elt Ideal) fh = W) (hn : nM.view.read (Elt Ideal) fn = NW us vs) (hS : (if kv.val = 0 then us else vs) = S)
    (r : Fin 768) (q : Fin 4096) :
    wmatOf (WW c fh fn kv) (ix2 r q) = wt W S r q := by
  unfold wmatOf WW wt
  refine congrArg₂ (FloatOps.mulf (F := Ideal) (φ := .bf16)) (congrArg (FloatOps.extf .bf16 _) (congrFun hh _)) ((congrFun hn _).trans ?_)
  subst hS
  exact diag_at (srow (if kv.val = 0 then us else vs) ⟨r.val / 128, by omega⟩) _ _

/-- The kernel's product of a gradient and a widened weight, given what it reads. -/
theorem dp_at (o : ℕ) (hx : ∀ (b : Fin 5) (s : Fin 384) (h : Fin 32) (d : Fin 128), blk c XK XV (Ring.bk 10 (o + b.val)) (ix3 s h d) = X (ix4 b s h d))
    (B : S32x768x128.Idx → Elt Ideal .bf16) (W : Vec Ideal Cert.ReferenceIdeal.S768x32x128 .fp8e4m3) (S : Vec Ideal Cert.ReferenceIdeal.S6x32 .f32)
    (hB : ∀ (r : Fin 768) (q : Fin 4096), wmatOf B (ix2 r q) = wt W S r q) (b : Fin 5) (s : Fin 384) (r : Fin 768) :
    DP c XK XV o B (ix3 b s r) = back X W S b s r := by
  unfold DP back
  exact (mm_dc _ _ _ _).trans (Finset.sum_congr rfl fun q _ => congrArg₂ (fun a b : EReal => a * b) (hx b s _ _) (hB r q))

end Kernel

end Cert.Proof.Values

end
-- ==== Proof.Values.Result.lean ====
/-
  The kernel's three results at exact values are the reference's.
-/
module

public import proofs.«01_k».proof.Proof.Values.Core
public import proofs.«01_k».proof.Proof.Kernel.Launch

@[expose] public section

noncomputable section

namespace Cert.Proof.Values

open Cert.Kernel Cert.Kernel.Gen Cert.Proof.Kernel
open Idealize.ShloMosaic
open Idealize.ShloMosaic.TcCoe Idealize.ShloMosaic.Tactic

set_option maxRecDepth 16384

variable (m : (ℓ : Loc nD τ sig) → Buf (Elt Ideal) ℓ) (c : Dev nD)

theorem cast_block {α : Type} (v : S1x384x32x128.Idx → α) (h') (s : Fin 384) (h : Fin 32) (d : Fin 128) :
    shapeCast S384x32x128 v h' (ix3 s h d) = v (ix4 0 s h d) := by
  pointwise

theorem block_casts : S1x384x32x128.ShapeCasts S384x32x128 := by decide

theorem read_dkB (b : Fin 5) (X : Buf (Elt Ideal) (dkM.view.loc (c : Thread nD τ))) (s : Fin 384) (h : Fin 32) (d : Fin 128) :
    (dkB b).view.read (Elt Ideal) X (ix3 s h d) = dkM.view.read (Elt Ideal) X (ix4 b s h d) := by
  refine Eq.trans (show _ = shapeCast S384x32x128 ((dkM.slice (Rect.unit (s := S5x384x32x128) (blkOff b) S1x384x32x128.size (blkOff_inb b)) (fun _ => rfl)).view.read (Elt Ideal) X)
    block_casts (ix3 s h d) from rfl) ((cast_block _ _ _ _ _).trans ?_)
  refine congrArg (dkM.view.read (Elt Ideal) X) (funext fun a => Fin.ext ?_)
  fin_cases a
  · show b.val + 1 * 0 = b.val; omega
  · show 0 + 1 * s.val = s.val; omega
  · show 0 + 1 * h.val = h.val; omega
  · show 0 + 1 * d.val = d.val; omega

theorem read_dvB (b : Fin 5) (X : Buf (Elt Ideal) (dvM.view.loc (c : Thread nD τ))) (s : Fin 384) (h : Fin 32) (d : Fin 128) :
    (dvB b).view.read (Elt Ideal) X (ix3 s h d) = dvM.view.read (Elt Ideal) X (ix4 b s h d) := by
  refine Eq.trans (show _ = shapeCast S384x32x128 ((dvM.slice (Rect.unit (s := S5x384x32x128) (blkOff b) S1x384x32x128.size (blkOff_inb b)) (fun _ => rfl)).view.read (Elt Ideal) X)
    block_casts (ix3 s h d) from rfl) ((cast_block _ _ _ _ _).trans ?_)
  refine congrArg (dvM.view.read (Elt Ideal) X) (funext fun a => Fin.ext ?_)
  fin_cases a
  · show b.val + 1 * 0 = b.val; omega
  · show 0 + 1 * s.val = s.val; omega
  · show 0 + 1 * h.val = h.val; omega
  · show 0 + 1 * d.val = d.val; omega

theorem ring_lt {N n : ℕ} [NeZero N] (h : n < N) : (Ring.bk N n).val = n := Nat.mod_eq_of_lt h

theorem blk_k (b : Fin 5) (s : Fin 384) (h : Fin 32) (d : Fin 128) :
    blk c (XKm m c) (XVm m c) (Ring.bk 10 (0 + b.val)) (ix3 s h d) = m ((c : Thread nD τ).loc main_arg0) (ix4 b s h d) := by
  have hb := b.isLt
  rw [blk_dk c (XKm m c) (XVm m c) (n := Ring.bk 10 (0 + b.val)) b.val ((ring_lt (by omega)).trans (Nat.zero_add _)) hb,
    show Ring.bk 5 b.val = b from Fin.ext (ring_lt hb)]
  exact (read_dkB c b _ s h d).trans (congrFun (V_main_arg0 m c) _)

theorem blk_v (b : Fin 5) (s : Fin 384) (h : Fin 32) (d : Fin 128) :
    blk c (XKm m c) (XVm m c) (Ring.bk 10 (5 + b.val)) (ix3 s h d) = m ((c : Thread nD τ).loc main_arg1) (ix4 b s h d) := by
  have hb := b.isLt
  rw [blk_dv c (XKm m c) (XVm m c) (n := Ring.bk 10 (5 + b.val)) b.val ((ring_lt (by omega)).trans (Nat.add_comm _ _)),
    show Ring.bk 5 b.val = b from Fin.ext (ring_lt hb)]
  exact (read_dvB c b _ s h d).trans (congrFun (V_main_arg1 m c) _)

theorem codes : rM.view.read (Elt Ideal) (FR c (CCm m c)) = m ((c : Thread nD τ).loc main_arg2) :=
  (View.read_rep rM.view _).trans (V_main_arg2 m c)

theorem scales_in : CSm m c = transpose S5x6x384 [0, 2, 1] (m ((c : Thread nD τ).loc main_arg3)) transposes_S5x384x6_S5x6x384_0_2_1 := by
  show V m c main_v0 = _
  entry_read
  rfl

theorem transpose_at {α : Type} (v : S5x384x6.Idx → α) (h') (b : Fin 5) (g : Fin 6) (s : Fin 384) :
    transpose S5x6x384 [0, 2, 1] v h' (ix3 b g s) = v (ix3 b s g) := by
  pointwise

theorem scales (b : Fin 5) (g : Fin 6) (s : Fin 384) :
    lM.view.read (Elt Ideal) (FL c (CSm m c)) (ix3 b g s) = m ((c : Thread nD τ).loc main_arg3) (ix3 b s g) :=
  (congrFun (View.read_rep lM.view _) _).trans ((congrFun (scales_in m c) _).trans (transpose_at _ _ _ _ _))

theorem wkR_eq (x : S768x32x128.Idx → Elt Ideal .f32) : wkR c x = x := by
  have e : wkM.view.read (Elt Ideal) (wkR c x) = x := by
    unfold wkR
    exact View.read_rep wkM.view x
  have e' : wkM.view.read (Elt Ideal) (wkR c x) = wkR c x := View.read_whole main_v1_1 (wkR c x)
  exact e'.symm.trans e
theorem wvR_eq (x : S768x32x128.Idx → Elt Ideal .f32) : wvR c x = x := by
  have e : wvM.view.read (Elt Ideal) (wvR c x) = x := by
    unfold wvR
    exact View.read_rep wvM.view x
  have e' : wvM.view.read (Elt Ideal) (wvR c x) = wvR c x := View.read_whole main_v1_2 (wvR c x)
  exact e'.symm.trans e
theorem dcR_eq (x : S5x384x768.Idx → Elt Ideal .bf16) : dcR c x = x := by
  have e : dcM.view.read (Elt Ideal) (dcR c x) = x := by
    unfold dcR
    exact View.read_rep dcM.view x
  have e' : dcM.view.read (Elt Ideal) (dcR c x) = dcR c x := View.read_whole main_v1_0 (dcR c x)
  exact e'.symm.trans e

theorem wcodes_k : hM.view.read (Elt Ideal) (FH0 c (UKm m c)) = m ((c : Thread nD τ).loc main_arg4) :=
  (View.read_rep hM.view _).trans (V_main_arg4 m c)

theorem wcodes_v : hM.view.read (Elt Ideal) (FH1 c (UVm m c)) = m ((c : Thread nD τ).loc main_arg6) :=
  (View.read_rep hM.view _).trans (V_main_arg6 m c)

theorem wscales : nM.view.read (Elt Ideal) (FN c (USm m c) (VSm m c)) = NW (m ((c : Thread nD τ).loc main_arg5)) (m ((c : Thread nD τ).loc main_arg7)) :=
  (View.read_rep nM.view _).trans (congrArg₂ (fun a b => NW a b) (V_main_arg5 m c) (V_main_arg7 m c))

/-- The gradient of the first weight is the reference's, element by element; -/
theorem wk_eq_ref : wkR c (RKm m c) = Cert.ReferenceIdeal.Value.G9 (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) := by
  refine (wkR_eq c (RKm m c)).trans (funext fun y => ?_)
  idx_vars y
  exact (ker_at c _ _ _ _ _ _ (m ((c : Thread nD τ).loc main_arg0)) 0 (codes m c) (scales m c) (blk_k m c) _ _ _).trans (ref_at _ _ _ _ _ _).symm

/-- so is that of the second; -/
theorem wv_eq_ref : wvR c (RVm m c) = Cert.ReferenceIdeal.Value.G10 (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) := by
  refine (wvR_eq c (RVm m c)).trans (funext fun y => ?_)
  idx_vars y
  exact (ker_at c _ _ _ _ _ _ (m ((c : Thread nD τ).loc main_arg1)) 5 (codes m c) (scales m c) (blk_v m c) _ _ _).trans (ref_at _ _ _ _ _ _).symm

/-- and so is the gradient of the latent. -/
theorem dc_eq_ref : dcR c (RCm m c) = Cert.ReferenceIdeal.Value.G8 (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) := by
  refine (dcR_eq c (RCm m c)).trans (funext fun y => ?_)
  idx_vars y
  refine Eq.trans ?_ (ref_dc _ _ _ _ _ _ _ _ _).symm
  exact congrArg (FloatOps.truncf (F := Ideal) .bf16 bitsLt_bf16_f32) (congrArg₂ (FloatOps.addf (F := Ideal) (φ := .f32))
    (dp_at c _ _ _ 0 (blk_k m c) _ _ _ (ww_at c _ _ 0 _ _ _ _ (wcodes_k m c) (wscales m c) rfl) _ _ _)
    (dp_at c _ _ _ 5 (blk_v m c) _ _ _ (ww_at c _ _ 1 _ _ _ _ (wcodes_v m c) (wscales m c) rfl) _ _ _))

end Cert.Proof.Values

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import proofs.«01_k».proof.Proof.Kernel.Launch
public import proofs.«01_k».proof.Proof.Values.Result

@[expose] public section

noncomputable section

namespace Cert.Proof

open Idealize.ShloMosaic Idealize.SL.Sem

/-- The five claims: three frames, the idealization, and the values. The ideal program is the kernel's own text, so the run of
    the kernel, proved at any float type, is its run too. -/
theorem claim : Cert.Claim := by
  refine ⟨Cert.Kernel.Gen.facts, Cert.KernelIdeal.Gen.facts, Cert.ReferenceIdeal.Gen.facts, ?_, ?_, ?_, trivial, ?_⟩
  · intro m g _
    exact (θ_run _ _ _).mono (fun r h => ⟨fun c => (h.1 c).2.2.2, h.2⟩) (Cert.Proof.Kernel.run_main m g)
  · intro m g _
    exact (θ_run _ _ _).mono (fun r h => ⟨fun c => (h.1 c).2.2.2, h.2⟩) (Cert.Proof.Kernel.run_main m g)
  · exact fun m g _ => Cert.ReferenceIdeal.Gen.frame m g
  · intro m g m' g' _ hargs
    refine ⟨fun c => Cert.Proof.Kernel.dcR c (Cert.Proof.Kernel.RCm m c), fun c => Cert.Proof.Kernel.wkR c (Cert.Proof.Kernel.RKm m c), fun c => Cert.Proof.Kernel.wvR c (Cert.Proof.Kernel.RVm m c), ?_, ?_⟩
    · exact (θ_run _ _ _).mono (fun r h => h.1) (Cert.Proof.Kernel.run_main m g)
    · refine (θ_run _ _ _).mono (fun r h c => ?_) (Cert.ReferenceIdeal.Value.run m' g')
      obtain ⟨h0, h1, h2, hk⟩ := h c
      obtain ⟨e0, e1, e2, e3, e4, e5, e6, e7⟩ := hargs c
      refine ⟨h0.trans ?_, h1.trans ?_, h2.trans ?_, hk⟩
      · rw [e0, e1, e2, e3, e4, e5, e6, e7]; exact (Cert.Proof.Values.dc_eq_ref m c).symm
      · rw [e0, e1, e2, e3, e4, e5, e6, e7]; exact (Cert.Proof.Values.wk_eq_ref m c).symm
      · rw [e0, e1, e2, e3, e4, e5, e6, e7]; exact (Cert.Proof.Values.wv_eq_ref m c).symm

end Cert.Proof

end
